-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16)
      ∧ r.2.mem ((c.tc : Thread Cert.Kernel4.nD Cert.Kernel4.τ).loc Cert.Kernel4.main_arg17) = m ((c.tc : Thread Cert.Kernel4.nD Cert.Kernel4.τ).loc Cert.Kernel4.main_arg17)
      ∧ r.2.mem ((c.tc : Thread Cert.Kernel4.nD Cert.Kernel4.τ).loc Cert.Kernel4.main_arg18) = m ((c.tc : Thread Cert.Kernel4.nD Cert.Kernel4.τ).loc Cert.Kernel4.main_arg18)
      ∧ r.2.mem ((c.tc : Thread Cert.Kernel4.nD Cert.Kernel4.τ).loc Cert.Kernel4.main_arg19) = m ((c.tc : Thread Cert.Kernel4.nD Cert.Kernel4.τ).loc Cert.Kernel4.main_arg19))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
      ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
      ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
      ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18)
      ∧ r.2.mem ((c.tc : Thread Cert.Reference4Ideal.nD Cert.Reference4Ideal.τ).loc Cert.Reference4Ideal.main_arg19) = m ((c.tc : Thread Cert.Reference4Ideal.nD Cert.Reference4Ideal.τ).loc Cert.Reference4Ideal.main_arg19))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_v175) = v1 c
          ∧ r.2.mem ((c.tc : Thread Cert.ReferenceIdeal.nD Cert.ReferenceIdeal.τ).loc Cert.ReferenceIdeal.main_v176) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)
      ∧ m' ((c.tc : Thread Cert.Reference4Ideal.nD Cert.Reference4Ideal.τ).loc Cert.Reference4Ideal.main_arg17) = m ((c.tc : Thread Cert.Kernel4Ideal.nD Cert.Kernel4Ideal.τ).loc Cert.Kernel4Ideal.main_arg17)
      ∧ m' ((c.tc : Thread Cert.Reference4Ideal.nD Cert.Reference4Ideal.τ).loc Cert.Reference4Ideal.main_arg18) = m ((c.tc : Thread Cert.Kernel4Ideal.nD Cert.Kernel4Ideal.τ).loc Cert.Kernel4Ideal.main_arg18)
      ∧ m' ((c.tc : Thread Cert.Reference4Ideal.nD Cert.Reference4Ideal.τ).loc Cert.Reference4Ideal.main_arg19) = m ((c.tc : Thread Cert.Kernel4Ideal.nD Cert.Kernel4Ideal.τ).loc Cert.Kernel4Ideal.main_arg19)) →
    ∃ (v0 : (c : Dev Cert.Kernel4Ideal.nD) → Buf (Elt Ideal) ((c.tc : Thread Cert.Kernel4Ideal.nD Cert.Kernel4Ideal.τ).loc Cert.Kernel4Ideal.main_v74_2)) (v1 : (c : Dev Cert.Kernel4Ideal.nD) → Buf (Elt Ideal) ((c.tc : Thread Cert.Kernel4Ideal.nD Cert.Kernel4Ideal.τ).loc Cert.Kernel4Ideal.main_v74_3)) (v2 : (c : Dev Cert.Kernel4Ideal.nD) → Buf (Elt Ideal) ((c.tc : Thread Cert.Kernel4Ideal.nD Cert.Kernel4Ideal.τ).loc Cert.Kernel4Ideal.main_v74_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v74_2) = v0 c
          ∧ r.2.mem ((c.tc : Thread Cert.Kernel4Ideal.nD Cert.Kernel4Ideal.τ).loc Cert.Kernel4Ideal.main_v74_3) = v1 c
          ∧ r.2.mem ((c.tc : Thread Cert.Kernel4Ideal.nD Cert.Kernel4Ideal.τ).loc Cert.Kernel4Ideal.main_v74_4) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
          ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
          ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
          ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v66) = v0 c
          ∧ r.2.mem ((c.tc : Thread Cert.Reference4Ideal.nD Cert.Reference4Ideal.τ).loc Cert.Reference4Ideal.main_v67) = v1 c
          ∧ r.2.mem ((c.tc : Thread Cert.Reference4Ideal.nD Cert.Reference4Ideal.τ).loc Cert.Reference4Ideal.main_v68) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16)
          ∧ r.2.mem ((c.tc : Thread Cert.Reference4Ideal.nD Cert.Reference4Ideal.τ).loc Cert.Reference4Ideal.main_arg17) = m' ((c.tc : Thread Cert.Reference4Ideal.nD Cert.Reference4Ideal.τ).loc Cert.Reference4Ideal.main_arg17)
          ∧ r.2.mem ((c.tc : Thread Cert.Reference4Ideal.nD Cert.Reference4Ideal.τ).loc Cert.Reference4Ideal.main_arg18) = m' ((c.tc : Thread Cert.Reference4Ideal.nD Cert.Reference4Ideal.τ).loc Cert.Reference4Ideal.main_arg18)
          ∧ r.2.mem ((c.tc : Thread Cert.Reference4Ideal.nD Cert.Reference4Ideal.τ).loc Cert.Reference4Ideal.main_arg19) = m' ((c.tc : Thread Cert.Reference4Ideal.nD Cert.Reference4Ideal.τ).loc Cert.Reference4Ideal.main_arg19))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S8192x2048 : Shape := ⟨2, ![8192, 2048]⟩
abbrev S2048 : Shape := ⟨1, ![2048]⟩
abbrev S136x18432 : Shape := ⟨2, ![136, 18432]⟩
abbrev S2048x2048 : Shape := ⟨2, ![2048, 2048]⟩
abbrev S4x256x256 : Shape := ⟨3, ![4, 256, 256]⟩
abbrev S4x256 : Shape := ⟨2, ![4, 256]⟩
abbrev S1024 : Shape := ⟨1, ![1024]⟩
abbrev S1x2048 : Shape := ⟨2, ![1, 2048]⟩
abbrev S1x1024 : Shape := ⟨2, ![1, 1024]⟩
abbrev S256x4x8x1024 : Shape := ⟨4, ![256, 4, 8, 1024]⟩
abbrev S8192x1024 : Shape := ⟨2, ![8192, 1024]⟩
abbrev S4x16x1024 : Shape := ⟨3, ![4, 16, 1024]⟩
abbrev S1024x2048 : Shape := ⟨2, ![1024, 2048]⟩
abbrev S8x2048 : Shape := ⟨2, ![8, 2048]⟩
abbrev S128x1x8x1024 : Shape := ⟨4, ![128, 1, 8, 1024]⟩
abbrev S1024x1024 : Shape := ⟨2, ![1024, 1024]⟩
abbrev S1x16x1024 : Shape := ⟨3, ![1, 16, 1024]⟩
abbrev S16x1024 : Shape := ⟨2, ![16, 1024]⟩
abbrev S32x2048 : Shape := ⟨2, ![32, 2048]⟩
abbrev S32 : Shape := ⟨1, ![32]⟩
abbrev S32x1 : Shape := ⟨2, ![32, 1]⟩
abbrev S512x2048 : Shape := ⟨2, ![512, 2048]⟩
abbrev S2048x1024 : Shape := ⟨2, ![2048, 1024]⟩
abbrev S512x1024 : Shape := ⟨2, ![512, 1024]⟩
abbrev S64x8x1024 : Shape := ⟨3, ![64, 8, 1024]⟩
abbrev S64x1x8x1024 : Shape := ⟨4, ![64, 1, 8, 1024]⟩
abbrev S1040x256 : Shape := ⟨2, ![1040, 256]⟩
abbrev S1024x256 : Shape := ⟨2, ![1024, 256]⟩
abbrev S16x256 : Shape := ⟨2, ![16, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 15
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S136x18432, .f32⟩
  | .hbm, ⟨3, _⟩ => ⟨S2048x2048, .f32⟩
  | .hbm, ⟨4, _⟩ => ⟨S4x256x256, .f32⟩
  | .hbm, ⟨5, _⟩ => ⟨S4x256, .f32⟩
  | .hbm, ⟨6, _⟩ => ⟨S1024, .f32⟩
  | .hbm, ⟨7, _⟩ => ⟨S2048x2048, .bf16⟩
  | .hbm, ⟨8, _⟩ => ⟨S4x256x256, .bf16⟩
  | .hbm, ⟨9, _⟩ => ⟨S1x2048, .f32⟩
  | .hbm, ⟨10, _⟩ => ⟨S1x1024, .f32⟩
  | .hbm, ⟨11, _⟩ => ⟨S1x1024, .f32⟩
  | .hbm, ⟨12, _⟩ => ⟨S256x4x8x1024, .f32⟩
  | .hbm, ⟨13, _⟩ => ⟨S8192x1024, .bf16⟩
  | .hbm, ⟨14, _⟩ => ⟨S4x16x1024, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S8x2048, .f32⟩
  | .local _ .vmem, ⟨4, _⟩ => ⟨S8x2048, .f32⟩
  | .local _ .vmem, ⟨5, _⟩ => ⟨S2048x2048, .bf16⟩
  | .local _ .vmem, ⟨6, _⟩ => ⟨S4x256x256, .bf16⟩
  | .local _ .vmem, ⟨7, _⟩ => ⟨S1x1024, .f32⟩
  | .local _ .vmem, ⟨8, _⟩ => ⟨S1x1024, .f32⟩
  | .local _ .vmem, ⟨9, _⟩ => ⟨S128x1x8x1024, .f32⟩
  | .local _ .vmem, ⟨10, _⟩ => ⟨S128x1x8x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x16x1024, .f32⟩
  | .local _ .vmem, ⟨14, _⟩ => ⟨S1x16x1024, .f32⟩
  | .local _ .vmem, ⟨15, _⟩ => ⟨S16x1024, .f32⟩
  | .local _ .vmem, ⟨16, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c2_i32_3 : BitVec 32 := 2#32
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let v10 : BitVec 32 := Scalar.divsi arg0 c2_i32_3
  let c1_i32_9 : BitVec 32 := 1#32
  let v25 : BitVec 32 := Scalar.subi v10 c1_i32_9
  let v26 : BitVec 32 := Scalar.select v24 v25 v10
  let v27 : Index := Scalar.indexCast v26
  let c0 : Index := 0#32
  ![v27.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c16_i32 : BitVec 32 := 16#32
  let c3_i32 : BitVec 32 := 3#32
  let c0_i32 : BitVec 32 := 0#32
  ![c16_i32.toNat, c3_i32.toNat]

def cc0_transform_3 (i : grid0.Coords) : Fin 2 → Nat :=
  let arg0 : BitVec 32 := BitVec.ofNat 32 (i 0).val
  let c16_i32 : BitVec 32 := 16#32
  let c4_i32 : BitVec 32 := 4#32
  let c0_i32 : BitVec 32 := 0#32
  ![c16_i32.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  ![v9.toNat, v26.toNat, c0_i32_10.toNat, c0_i32_11.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8192x2048 : Shape := ⟨2, ![8192, 2048]⟩
abbrev S2048 : Shape := ⟨1, ![2048]⟩
abbrev S136x18432 : Shape := ⟨2, ![136, 18432]⟩
abbrev S2048x2048 : Shape := ⟨2, ![2048, 2048]⟩
abbrev S4x256x256 : Shape := ⟨3, ![4, 256, 256]⟩
abbrev S4x256 : Shape := ⟨2, ![4, 256]⟩
abbrev S1024 : Shape := ⟨1, ![1024]⟩
abbrev S4x18432 : Shape := ⟨2, ![4, 18432]⟩
abbrev S4x3x3x1x2048 : Shape := ⟨5, ![4, 3, 3, 1, 2048]⟩
abbrev S4x1x1x1x2048 : Shape := ⟨5, ![4, 1, 1, 1, 2048]⟩
abbrev S4x1x2048 : Shape := ⟨3, ![4, 1, 2048]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x1024 : Shape := ⟨3, ![4, 2048, 1024]⟩
abbrev S4x15x1024 : Shape := ⟨3, ![4, 15, 1024]⟩
abbrev S4x2063x1024 : Shape := ⟨3, ![4, 2063, 1024]⟩
abbrev S4x2063x256 : Shape := ⟨3, ![4, 2063, 256]⟩
abbrev S4x2048x256 : Shape := ⟨3, ![4, 2048, 256]⟩
abbrev S1x2048x1 : Shape := ⟨3, ![1, 2048, 1]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x1x256 : Shape := ⟨3, ![1, 1, 256]⟩
abbrev S1x1x1024 : Shape := ⟨3, ![1, 1, 1024]⟩
abbrev S4x256x8x1024 : Shape := ⟨4, ![4, 256, 8, 1024]⟩
abbrev S256x4x8x1024 : Shape := ⟨4, ![256, 4, 8, 1024]⟩
abbrev S8192x1024 : Shape := ⟨2, ![8192, 1024]⟩
abbrev S4x16x1024 : Shape := ⟨3, ![4, 16, 1024]⟩

abbrev nBuf : Space → Nat
  | .hbm => 225
  | .vmem => 0
  | .smem => 0
  | _ => 0

abbrev hbmTy0_0 (i : Nat) : BufTy := match i % 128 with
  | 0 => ⟨S8192x2048, .f32⟩
  | 1 => ⟨S2048, .f32⟩
  | 2 => ⟨S136x18432, .f32⟩
  | 3 => ⟨S2048x2048, .f32⟩
  | 4 => ⟨S4x256x256, .f32⟩
  | 5 => ⟨S4x256, .f32⟩
  | 6 => ⟨S1024, .f32⟩
  | 7 => ⟨S4x18432, .f32⟩
  | 8 => ⟨S4x3x3x1x2048, .f32⟩
  | 9 => ⟨S4x1x1x1x2048, .f32⟩
  | 10 => ⟨S4x1x2048, .f32⟩
  | 11 => ⟨S4x1x1x1x2048, .f32⟩
  | 12 => ⟨S4x1x2048, .f32⟩
  | 13 => ⟨S4x2048x2048, .f32⟩
  | 14 => ⟨S4x2048x2048, .f32⟩
  | 15 => ⟨S_, .f32⟩
  | 16 => ⟨S4x2048, .f32⟩
  | 17 => ⟨S4x2048x1, .f32⟩
  | 18 => ⟨S_, .f32⟩
  | 19 => ⟨S4x2048x1, .f32⟩
  | 20 => ⟨S4x2048x1, .f32⟩
  | 21 => ⟨S_, .f32⟩
  | 22 => ⟨S4x2048x1, .f32⟩
  | 23 => ⟨S4x2048x1, .f32⟩
  | 24 => ⟨S4x2048x1, .f32⟩
  | 25 => ⟨S4x2048x2048, .f32⟩
  | 26 => ⟨S4x2048x2048, .f32⟩
  | 27 => ⟨S1x1x2048, .f32⟩
  | 28 => ⟨S4x2048x2048, .f32⟩
  | 29 => ⟨S4x2048x2048, .f32⟩
  | 30 => ⟨S_, .f32⟩
  | 31 => ⟨S4x1x2048, .f32⟩
  | 32 => ⟨S4x1x2048, .f32⟩
  | 33 => ⟨S4x2048x2048, .f32⟩
  | 34 => ⟨S4x2048x2048, .f32⟩
  | 35 => ⟨S4x2048x2048, .f32⟩
  | 36 => ⟨S4x2048x2048, .f32⟩
  | 37 => ⟨S4x2048x2048, .f32⟩
  | 38 => ⟨S4x2048x1024, .f32⟩
  | 39 => ⟨S4x2048x1024, .f32⟩
  | 40 => ⟨S_, .f32⟩
  | 41 => ⟨S4x15x1024, .f32⟩
  | 42 => ⟨S4x2063x1024, .f32⟩
  | 43 => ⟨S2048, .i32⟩
  | 44 => ⟨S4x2063x256, .f32⟩
  | 45 => ⟨S4x2048x256, .f32⟩
  | 46 => ⟨S_, .f32⟩
  | 47 => ⟨S4x2048x256, .f32⟩
  | 48 => ⟨S4x2048x256, .f32⟩
  | 49 => ⟨S4x2048x256, .f32⟩
  | 50 => ⟨S4x2048x256, .f32⟩
  | 51 => ⟨S_, .i32⟩
  | 52 => ⟨S2048, .i32⟩
  | 53 => ⟨S2048, .i32⟩
  | 54 => ⟨S_, .i32⟩
  | 55 => ⟨S_, .i32⟩
  | 56 => ⟨S_, .i32⟩
  | 57 => ⟨S2048, .i32⟩
  | 58 => ⟨S2048, .i32⟩
  | 59 => ⟨S_, .i32⟩
  | 60 => ⟨S2048, .i32⟩
  | 61 => ⟨S2048, .i32⟩
  | 62 => ⟨S2048, .f32⟩
  | 63 => ⟨S1x2048x1, .f32⟩
  | 64 => ⟨S4x2048x256, .f32⟩
  | 65 => ⟨S4x2048x256, .f32⟩
  | 66 => ⟨S4x2048x256, .f32⟩
  | 67 => ⟨S4x2048x256, .f32⟩
  | 68 => ⟨S1x256x256, .f32⟩
  | 69 => ⟨S256x256, .f32⟩
  | 70 => ⟨S4x2048x256, .f32⟩
  | 71 => ⟨S1x256, .f32⟩
  | 72 => ⟨S256, .f32⟩
  | 73 => ⟨S1x1x256, .f32⟩
  | 74 => ⟨S4x2048x256, .f32⟩
  | 75 => ⟨S4x2048x256, .f32⟩
  | 76 => ⟨S4x2063x256, .f32⟩
  | 77 => ⟨S4x2048x256, .f32⟩
  | 78 => ⟨S_, .f32⟩
  | 79 => ⟨S4x2048x256, .f32⟩
  | 80 => ⟨S4x2048x256, .f32⟩
  | 81 => ⟨S4x2048x256, .f32⟩
  | 82 => ⟨S4x2048x256, .f32⟩
  | 83 => ⟨S4x2048x256, .f32⟩
  | 84 => ⟨S4x2048x256, .f32⟩
  | 85 => ⟨S4x2048x256, .f32⟩
  | 86 => ⟨S4x2048x256, .f32⟩
  | 87 => ⟨S_, .i32⟩
  | 88 => ⟨S2048, .i32⟩
  | 89 => ⟨S2048, .i32⟩
  | 90 => ⟨S_, .i32⟩
  | 91 => ⟨S_, .i32⟩
  | 92 => ⟨S_, .i32⟩
  | 93 => ⟨S2048, .i32⟩
  | 94 => ⟨S2048, .i32⟩
  | 95 => ⟨S_, .i32⟩
  | 96 => ⟨S2048, .i32⟩
  | 97 => ⟨S2048, .i32⟩
  | 98 => ⟨S2048, .f32⟩
  | 99 => ⟨S1x2048x1, .f32⟩
  | 100 => ⟨S4x2048x256, .f32⟩
  | 101 => ⟨S4x2048x256, .f32⟩
  | 102 => ⟨S4x2048x256, .f32⟩
  | 103 => ⟨S4x2048x256, .f32⟩
  | 104 => ⟨S1x256x256, .f32⟩
  | 105 => ⟨S256x256, .f32⟩
  | 106 => ⟨S4x2048x256, .f32⟩
  | 107 => ⟨S1x256, .f32⟩
  | 108 => ⟨S256, .f32⟩
  | 109 => ⟨S1x1x256, .f32⟩
  | 110 => ⟨S4x2048x256, .f32⟩
  | 111 => ⟨S4x2048x256, .f32⟩
  | 112 => ⟨S4x2063x256, .f32⟩
  | 113 => ⟨S4x2048x256, .f32⟩
  | 114 => ⟨S_, .f32⟩
  | 115 => ⟨S4x2048x256, .f32⟩
  | 116 => ⟨S4x2048x256, .f32⟩
  | 117 => ⟨S4x2048x256, .f32⟩
  | 118 => ⟨S4x2048x256, .f32⟩
  | 119 => ⟨S4x2048x256, .f32⟩
  | 120 => ⟨S4x2048x256, .f32⟩
  | 121 => ⟨S4x2048x256, .f32⟩
  | 122 => ⟨S4x2048x256, .f32⟩
  | 123 => ⟨S4x2048x256, .f32⟩
  | 124 => ⟨S4x2048x256, .f32⟩
  | 125 => ⟨S4x2048x256, .f32⟩
  | 126 => ⟨S4x2048x256, .f32⟩
  | 127 => ⟨S4x2048x256, .f32⟩
  | _ => ⟨S8192x2048, .f32⟩

abbrev hbmTy0_1 (i : Nat) : BufTy := match i % 128 with
  | 0 => ⟨S4x2048x256, .f32⟩
  | 1 => ⟨S4x2048x256, .f32⟩
  | 2 => ⟨S4x2048x256, .f32⟩
  | 3 => ⟨S_, .i32⟩
  | 4 => ⟨S2048, .i32⟩
  | 5 => ⟨S2048, .i32⟩
  | 6 => ⟨S_, .i32⟩
  | 7 => ⟨S_, .i32⟩
  | 8 => ⟨S_, .i32⟩
  | 9 => ⟨S2048, .i32⟩
  | 10 => ⟨S2048, .i32⟩
  | 11 => ⟨S_, .i32⟩
  | 12 => ⟨S2048, .i32⟩
  | 13 => ⟨S2048, .i32⟩
  | 14 => ⟨S2048, .f32⟩
  | 15 => ⟨S1x2048x1, .f32⟩
  | 16 => ⟨S4x2048x256, .f32⟩
  | 17 => ⟨S4x2048x256, .f32⟩
  | 18 => ⟨S4x2048x256, .f32⟩
  | 19 => ⟨S4x2048x256, .f32⟩
  | 20 => ⟨S1x256x256, .f32⟩
  | 21 => ⟨S256x256, .f32⟩
  | 22 => ⟨S4x2048x256, .f32⟩
  | 23 => ⟨S1x256, .f32⟩
  | 24 => ⟨S256, .f32⟩
  | 25 => ⟨S1x1x256, .f32⟩
  | 26 => ⟨S4x2048x256, .f32⟩
  | 27 => ⟨S4x2048x256, .f32⟩
  | 28 => ⟨S4x2063x256, .f32⟩
  | 29 => ⟨S4x2048x256, .f32⟩
  | 30 => ⟨S_, .f32⟩
  | 31 => ⟨S4x2048x256, .f32⟩
  | 32 => ⟨S4x2048x256, .f32⟩
  | 33 => ⟨S4x2048x256, .f32⟩
  | 34 => ⟨S4x2048x256, .f32⟩
  | 35 => ⟨S4x2048x256, .f32⟩
  | 36 => ⟨S4x2048x256, .f32⟩
  | 37 => ⟨S4x2048x256, .f32⟩
  | 38 => ⟨S4x2048x256, .f32⟩
  | 39 => ⟨S4x2048x256, .f32⟩
  | 40 => ⟨S4x2048x256, .f32⟩
  | 41 => ⟨S4x2048x256, .f32⟩
  | 42 => ⟨S4x2048x256, .f32⟩
  | 43 => ⟨S4x2048x256, .f32⟩
  | 44 => ⟨S4x2048x256, .f32⟩
  | 45 => ⟨S4x2048x256, .f32⟩
  | 46 => ⟨S4x2048x256, .f32⟩
  | 47 => ⟨S4x2048x256, .f32⟩
  | 48 => ⟨S4x2048x256, .f32⟩
  | 49 => ⟨S4x2048x256, .f32⟩
  | 50 => ⟨S4x2048x256, .f32⟩
  | 51 => ⟨S4x2048x256, .f32⟩
  | 52 => ⟨S4x2048x256, .f32⟩
  | 53 => ⟨S4x2048x256, .f32⟩
  | 54 => ⟨S4x2048x256, .f32⟩
  | 55 => ⟨S4x2048x256, .f32⟩
  | 56 => ⟨S4x2048x256, .f32⟩
  | 57 => ⟨S4x2048x256, .f32⟩
  | 58 => ⟨S4x2048x256, .f32⟩
  | 59 => ⟨S4x2048x256, .f32⟩
  | 60 => ⟨S4x2048x256, .f32⟩
  | 61 => ⟨S4x2048x256, .f32⟩
  | 62 => ⟨S4x2048x256, .f32⟩
  | 63 => ⟨S_, .i32⟩
  | 64 => ⟨S2048, .i32⟩
  | 65 => ⟨S2048, .i32⟩
  | 66 => ⟨S_, .i32⟩
  | 67 => ⟨S_, .i32⟩
  | 68 => ⟨S_, .i32⟩
  | 69 => ⟨S2048, .i32⟩
  | 70 => ⟨S2048, .i32⟩
  | 71 => ⟨S_, .i32⟩
  | 72 => ⟨S2048, .i32⟩
  | 73 => ⟨S2048, .i32⟩
  | 74 => ⟨S2048, .f32⟩
  | 75 => ⟨S1x2048x1, .f32⟩
  | 76 => ⟨S4x2048x256, .f32⟩
  | 77 => ⟨S4x2048x256, .f32⟩
  | 78 => ⟨S4x2048x256, .f32⟩
  | 79 => ⟨S4x2048x256, .f32⟩
  | 80 => ⟨S1x256x256, .f32⟩
  | 81 => ⟨S256x256, .f32⟩
  | 82 => ⟨S4x2048x256, .f32⟩
  | 83 => ⟨S1x256, .f32⟩
  | 84 => ⟨S256, .f32⟩
  | 85 => ⟨S1x1x256, .f32⟩
  | 86 => ⟨S4x2048x256, .f32⟩
  | 87 => ⟨S4x2048x256, .f32⟩
  | 88 => ⟨S4x2048x1024, .f32⟩
  | 89 => ⟨S1x1x1024, .f32⟩
  | 90 => ⟨S4x2048x1024, .f32⟩
  | 91 => ⟨S4x2048x1024, .f32⟩
  | 92 => ⟨S4x256x8x1024, .f32⟩
  | 93 => ⟨S256x4x8x1024, .f32⟩
  | 94 => ⟨S8192x1024, .f32⟩
  | 95 => ⟨S8192x1024, .bf16⟩
  | 96 => ⟨S4x16x1024, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c : Ref sig .tc := ⟨.hbm, 51, rfl⟩
abbrev main_v38 : Ref sig .tc := ⟨.hbm, 52, rfl⟩
abbrev main_v39 : Ref sig .tc := ⟨.hbm, 53, rfl⟩
abbrev main_c_5 : Ref sig .tc := ⟨.hbm, 54, rfl⟩
abbrev main_c_6 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_7 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_8 : Ref sig .tc := ⟨.hbm, 87, rfl⟩
abbrev main_v65 : Ref sig .tc := ⟨.hbm, 88, rfl⟩
abbrev main_v66 : Ref sig .tc := ⟨.hbm, 89, rfl⟩
abbrev main_c_9 : Ref sig .tc := ⟨.hbm, 90, rfl⟩
abbrev main_c_10 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_11 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_c_12 : Ref sig .tc := ⟨.hbm, 131, rfl⟩
abbrev main_v100 : Ref sig .tc := ⟨.hbm, 132, rfl⟩
abbrev main_v101 : Ref sig .tc := ⟨.hbm, 133, rfl⟩
abbrev main_c_13 : Ref sig .tc := ⟨.hbm, 134, rfl⟩
abbrev main_c_14 : Ref sig .tc := ⟨.hbm, 135, rfl⟩
abbrev main_call2_v0 : Ref sig .tc := ⟨.hbm, 136, rfl⟩
abbrev main_call2_v1 : Ref sig .tc := ⟨.hbm, 137, rfl⟩
abbrev main_call2_v2 : Ref sig .tc := ⟨.hbm, 138, rfl⟩
abbrev main_call2_v3 : Ref sig .tc := ⟨.hbm, 139, rfl⟩
abbrev main_call2_v4 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_cst_15 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_c_16 : Ref sig .tc := ⟨.hbm, 191, rfl⟩
abbrev main_v151 : Ref sig .tc := ⟨.hbm, 192, rfl⟩
abbrev main_v152 : Ref sig .tc := ⟨.hbm, 193, rfl⟩
abbrev main_c_17 : Ref sig .tc := ⟨.hbm, 194, rfl⟩
abbrev main_c_18 : Ref sig .tc := ⟨.hbm, 195, rfl⟩
abbrev main_call3_v0 : Ref sig .tc := ⟨.hbm, 196, rfl⟩
abbrev main_call3_v1 : Ref sig .tc := ⟨.hbm, 197, rfl⟩
abbrev main_call3_v2 : Ref sig .tc := ⟨.hbm, 198, rfl⟩
abbrev main_call3_v3 : Ref sig .tc := ⟨.hbm, 199, rfl⟩
abbrev main_call3_v4 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩

abbrev nD : Nat := 1
abbrev τ : Topo := Topo.v7x

variable {F : FTy → Type} [FloatOps F]
-- ==== Kernel2.lean ====
abbrev S8192x2048 : Shape := ⟨2, ![8192, 2048]⟩
abbrev S2048 : Shape := ⟨1, ![2048]⟩
abbrev S136x18432 : Shape := ⟨2, ![136, 18432]⟩
abbrev S2048x5632 : Shape := ⟨2, ![2048, 5632]⟩
abbrev S5632x2048 : Shape := ⟨2, ![5632, 2048]⟩
abbrev S1024x2048 : Shape := ⟨2, ![1024, 2048]⟩
abbrev S1x2048 : Shape := ⟨2, ![1, 2048]⟩
abbrev S8x2048 : Shape := ⟨2, ![8, 2048]⟩
abbrev S2048x512 : Shape := ⟨2, ![2048, 512]⟩
abbrev S512x2048 : Shape := ⟨2, ![512, 2048]⟩
abbrev S32x2048 : Shape := ⟨2, ![32, 2048]⟩
abbrev S32 : Shape := ⟨1, ![32]⟩
abbrev S32x1 : Shape := ⟨2, ![32, 1]⟩
abbrev S512x512 : Shape := ⟨2, ![512, 512]⟩

abbrev nBuf : Space → Nat
  | .hbm => 14
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S136x18432, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S2048, .f32⟩
  | .hbm, ⟨7, _⟩ => ⟨S1024x2048, .f32⟩
  | .hbm, ⟨8, _⟩ => ⟨S2048x5632, .bf16⟩
  | .hbm, ⟨9, _⟩ => ⟨S2048x5632, .bf16⟩
  | .hbm, ⟨10, _⟩ => ⟨S5632x2048, .bf16⟩
  | .hbm, ⟨11, _⟩ => ⟨S1x2048, .f32⟩
  | .hbm, ⟨12, _⟩ => ⟨S1x2048, .f32⟩
  | .hbm, ⟨13, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S1x2048, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | .local _ .vmem, ⟨13, _⟩ => ⟨S1024x2048, .f32⟩
  | .local _ .vmem, ⟨14, _⟩ => ⟨S1024x2048, .f32⟩
  | .local _ .vmem, ⟨15, _⟩ => ⟨S1024x2048, .f32⟩
  | .local _ .vmem, ⟨16, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![78], ![false]⟩

def k0_cond2 (i : grid0.Coords) : BitVec 1 :=
  let arg0 : BitVec 32 := BitVec.ofNat 32 (i 0).val
  let c1_i32_12 : BitVec 32 := 1#32
  let v29 : BitVec 1 := Scalar.cmpi .sge arg0 c1_i32_12
  let c1_i32 : BitVec 32 := 1#32
  let v0 : BitVec 32 := Scalar.subi arg0 c1_i32
  let c0_i32 : BitVec 32 := 0#32
  let v1 : BitVec 32 := Scalar.maxsi v0 c0_i32
  let c11_i32_6 : BitVec 32 := 11#32
  let c0_i32_7 : BitVec 32 := 0#32
  let v19 : BitVec 1 := Scalar.cmpi .eq c11_i32_6 c0_i32_7
  let c1_i32_8 : BitVec 32 := 1#32
  let v20 : BitVec 32 := Scalar.select v19 c1_i32_8 c11_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let c0_i32_15 : BitVec 32 := 0#32
  let v33 : BitVec 1 := Scalar.cmpi .eq v28 c0_i32_15
  let v34 : BitVec 1 := Scalar.andi v29 v33
  let v35 : BitVec 32 := Scalar.extui v34
  let c0_i32_16 : BitVec 32 := 0#32
  let v36 : BitVec 1 := Scalar.cmpi .ne v35 c0_i32_16
  v36

def k0_off1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c11_i32 : BitVec 32 := 11#32
  let c0_i32_2 : BitVec 32 := 0#32
  let v8 : BitVec 1 := Scalar.cmpi .sgt c11_i32 c0_i32_2
  let v9 : BitVec 32 := Scalar.extui v8
  let c0_i32_3 : BitVec 32 := 0#32
  let v10 : BitVec 1 := Scalar.cmpi .slt c11_i32 c0_i32_3
  let v11 : BitVec 32 := Scalar.extui v10
  let v12 : BitVec 32 := Scalar.subi v9 v11
  let v13 : BitVec 1 := Scalar.cmpi .ne v7 v12
  let v14 : BitVec 32 := Scalar.remsi v1 c11_i32
  let c0_i32_4 : BitVec 32 := 0#32
  let v15 : BitVec 1 := Scalar.cmpi .ne v14 c0_i32_4
  let v16 : BitVec 1 := Scalar.andi v13 v15
  let v2 : BitVec 32 := Scalar.divsi v1 c11_i32
  let c1_i32_5 : BitVec 32 := 1#32
  let v17 : BitVec 32 := Scalar.subi v2 c1_i32_5
  let v18 : BitVec 32 := Scalar.select v16 v17 v2
  let c1_i32_24 : BitVec 32 := 1#32
  let v48 : BitVec 32 := Scalar.addi v18 c1_i32_24
  let c0_i32_25 : BitVec 32 := 0#32
  let v50 : BitVec 1 := Scalar.cmpi .sgt v48 c0_i32_25
  let v51 : BitVec 32 := Scalar.extui v50
  let c0_i32_26 : BitVec 32 := 0#32
  let v52 : BitVec 1 := Scalar.cmpi .slt v48 c0_i32_26
  let v53 : BitVec 32 := Scalar.extui v52
  let v54 : BitVec 32 := Scalar.subi v51 v53
  let c2_i32 : BitVec 32 := 2#32
  let c0_i32_27 : BitVec 32 := 0#32
  let v55 : BitVec 1 := Scalar.cmpi .sgt c2_i32 c0_i32_27
  let v56 : BitVec 32 := Scalar.extui v55
  let c0_i32_28 : BitVec 32 := 0#32
  let v57 : BitVec 1 := Scalar.cmpi .slt c2_i32 c0_i32_28
  let v58 : BitVec 32 := Scalar.extui v57
  let v59 : BitVec 32 := Scalar.subi v56 v58
  let v60 : BitVec 1 := Scalar.cmpi .ne v54 v59
  let v61 : BitVec 32 := Scalar.remsi v48 c2_i32
  let c0_i32_29 : BitVec 32 := 0#32
  let v62 : BitVec 1 := Scalar.cmpi .ne v61 c0_i32_29
  let v63 : BitVec 1 := Scalar.andi v60 v62
  let v49 : BitVec 32 := Scalar.divsi v48 c2_i32
  let c1_i32_30 : BitVec 32 := 1#32
  let v64 : BitVec 32 := Scalar.subi v49 c1_i32_30
  let v65 : BitVec 32 := Scalar.select v63 v64 v49
  let v66 : Index := Scalar.indexCast v65
  let c0_31 : Index := 0#32
  ![v66.toNat, 0]
def k0_cond4 (i : grid0.Coords) : BitVec 1 :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32_6 : BitVec 32 := 11#32
  let c0_i32_7 : BitVec 32 := 0#32
  let v19 : BitVec 1 := Scalar.cmpi .eq c11_i32_6 c0_i32_7
  let c1_i32_8 : BitVec 32 := 1#32
  let v20 : BitVec 32 := Scalar.select v19 c1_i32_8 c11_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let c10_i32_19 : BitVec 32 := 10#32
  let v42 : BitVec 1 := Scalar.cmpi .eq v28 c10_i32_19
  let v43 : BitVec 32 := Scalar.extui v42
  let c0_i32_20 : BitVec 32 := 0#32
  let v44 : BitVec 1 := Scalar.cmpi .ne v43 c0_i32_20
  v44

def k0_off2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c11_i32 : BitVec 32 := 11#32
  let c0_i32_2 : BitVec 32 := 0#32
  let v8 : BitVec 1 := Scalar.cmpi .sgt c11_i32 c0_i32_2
  let v9 : BitVec 32 := Scalar.extui v8
  let c0_i32_3 : BitVec 32 := 0#32
  let v10 : BitVec 1 := Scalar.cmpi .slt c11_i32 c0_i32_3
  let v11 : BitVec 32 := Scalar.extui v10
  let v12 : BitVec 32 := Scalar.subi v9 v11
  let v13 : BitVec 1 := Scalar.cmpi .ne v7 v12
  let v14 : BitVec 32 := Scalar.remsi v1 c11_i32
  let c0_i32_4 : BitVec 32 := 0#32
  let v15 : BitVec 1 := Scalar.cmpi .ne v14 c0_i32_4
  let v16 : BitVec 1 := Scalar.andi v13 v15
  let v2 : BitVec 32 := Scalar.divsi v1 c11_i32
  let c1_i32_5 : BitVec 32 := 1#32
  let v17 : BitVec 32 := Scalar.subi v2 c1_i32_5
  let v18 : BitVec 32 := Scalar.select v16 v17 v2
  let c1_i32_34 : BitVec 32 := 1#32
  let v63 : BitVec 32 := Scalar.addi v18 c1_i32_34
  let c0_i32_35 : BitVec 32 := 0#32
  let v65 : BitVec 1 := Scalar.cmpi .sgt v63 c0_i32_35
  let v66 : BitVec 32 := Scalar.extui v65
  let c0_i32_36 : BitVec 32 := 0#32
  let v67 : BitVec 1 := Scalar.cmpi .slt v63 c0_i32_36
  let v68 : BitVec 32 := Scalar.extui v67
  let v69 : BitVec 32 := Scalar.subi v66 v68
  let c2_i32 : BitVec 32 := 2#32
  let c0_i32_37 : BitVec 32 := 0#32
  let v70 : BitVec 1 := Scalar.cmpi .sgt c2_i32 c0_i32_37
  let v71 : BitVec 32 := Scalar.extui v70
  let c0_i32_38 : BitVec 32 := 0#32
  let v72 : BitVec 1 := Scalar.cmpi .slt c2_i32 c0_i32_38
  let v73 : BitVec 32 := Scalar.extui v72
  let v74 : BitVec 32 := Scalar.subi v71 v73
  let v75 : BitVec 1 := Scalar.cmpi .ne v69 v74
  let v76 : BitVec 32 := Scalar.remsi v63 c2_i32
  let c0_i32_39 : BitVec 32 := 0#32
  let v77 : BitVec 1 := Scalar.cmpi .ne v76 c0_i32_39
  let v78 : BitVec 1 := Scalar.andi v75 v77
  let v64 : BitVec 32 := Scalar.divsi v63 c2_i32
  let c1_i32_40 : BitVec 32 := 1#32
  let v79 : BitVec 32 := Scalar.subi v64 c1_i32_40
  let v80 : BitVec 32 := Scalar.select v78 v79 v64
  let v81 : Index := Scalar.indexCast v80
  let c0_41 : Index := 0#32
  ![v81.toNat, 0]
def k0_cond1 (i : grid0.Coords) : BitVec 1 :=
  let arg0 : BitVec 32 := BitVec.ofNat 32 (i 0).val
  let c0_i32_13 : BitVec 32 := 0#32
  let v30 : BitVec 1 := Scalar.cmpi .eq arg0 c0_i32_13
  let v31 : BitVec 32 := Scalar.extui v30
  let c0_i32_14 : BitVec 32 := 0#32
  let v32 : BitVec 1 := Scalar.cmpi .ne v31 c0_i32_14
  v32

def k0_cond3 (i : grid0.Coords) : BitVec 1 :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32_6 : BitVec 32 := 11#32
  let c0_i32_7 : BitVec 32 := 0#32
  let v19 : BitVec 1 := Scalar.cmpi .eq c11_i32_6 c0_i32_7
  let c1_i32_8 : BitVec 32 := 1#32
  let v20 : BitVec 32 := Scalar.select v19 c1_i32_8 c11_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let c0_i32_17 : BitVec 32 := 0#32
  let v37 : BitVec 1 := Scalar.cmpi .sgt v28 c0_i32_17
  let c10_i32 : BitVec 32 := 10#32
  let v38 : BitVec 1 := Scalar.cmpi .slt v28 c10_i32
  let v39 : BitVec 1 := Scalar.andi v37 v38
  let v40 : BitVec 32 := Scalar.extui v39
  let c0_i32_18 : BitVec 32 := 0#32
  let v41 : BitVec 1 := Scalar.cmpi .ne v40 c0_i32_18
  v41

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32 : BitVec 32 := 11#32
  let v2 : BitVec 32 := Scalar.divsi v1 c11_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c11_i32 c0_i32_2
  let v9 : BitVec 32 := Scalar.extui v8
  let c0_i32_3 : BitVec 32 := 0#32
  let v10 : BitVec 1 := Scalar.cmpi .slt c11_i32 c0_i32_3
  let v11 : BitVec 32 := Scalar.extui v10
  let v12 : BitVec 32 := Scalar.subi v9 v11
  let v13 : BitVec 1 := Scalar.cmpi .ne v7 v12
  let v14 : BitVec 32 := Scalar.remsi v1 c11_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c11_i32_6 : BitVec 32 := 11#32
  let c0_i32_7 : BitVec 32 := 0#32
  let v19 : BitVec 1 := Scalar.cmpi .eq c11_i32_6 c0_i32_7
  let c1_i32_8 : BitVec 32 := 1#32
  let v20 : BitVec 32 := Scalar.select v19 c1_i32_8 c11_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1_i32_12 : BitVec 32 := 1#32
  let v29 : BitVec 32 := Scalar.addi v18 c1_i32_12
  let c0_i32_13 : BitVec 32 := 0#32
  let c0_i32_14 : BitVec 32 := 0#32
  ![v29.toNat, c0_i32_13.toNat]

def cc0_transform_1 (i : grid0.Coords) : Fin 2 → Nat :=
  let arg0 : BitVec 32 := BitVec.ofNat 32 (i 0).val
  let c16_i32 : BitVec 32 := 16#32
  let c6_i32 : BitVec 32 := 6#32
  let c0_i32 : BitVec 32 := 0#32
  ![c16_i32.toNat, c6_i32.toNat]

def cc0_transform_2 (i : grid0.Coords) : Fin 2 → Nat :=
  let arg0 : BitVec 32 := BitVec.ofNat 32 (i 0).val
  let c16_i32 : BitVec 32 := 16#32
  let c7_i32 : BitVec 32 := 7#32
  let c0_i32 : BitVec 32 := 0#32
  ![c16_i32.toNat, c7_i32.toNat]

def cc0_transform_3 (i : grid0.Coords) : Fin 2 → Nat :=
  let arg0 : BitVec 32 := BitVec.ofNat 32 (i 0).val
  let c16_i32 : BitVec 32 := 16#32
  let c8_i32 : BitVec 32 := 8#32
  let c0_i32 : BitVec 32 := 0#32
  ![c16_i32.toNat, c8_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32 : BitVec 32 := 11#32
  let v2 : BitVec 32 := Scalar.divsi v1 c11_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c11_i32 c0_i32_2
  let v9 : BitVec 32 := Scalar.extui v8
  let c0_i32_3 : BitVec 32 := 0#32
  let v10 : BitVec 1 := Scalar.cmpi .slt c11_i32 c0_i32_3
  let v11 : BitVec 32 := Scalar.extui v10
  let v12 : BitVec 32 := Scalar.subi v9 v11
  let v13 : BitVec 1 := Scalar.cmpi .ne v7 v12
  let v14 : BitVec 32 := Scalar.remsi v1 c11_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c11_i32_6 : BitVec 32 := 11#32
  let c0_i32_7 : BitVec 32 := 0#32
  let v19 : BitVec 1 := Scalar.cmpi .eq c11_i32_6 c0_i32_7
  let c1_i32_8 : BitVec 32 := 1#32
  let v20 : BitVec 32 := Scalar.select v19 c1_i32_8 c11_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![c0_i32_12.toNat, v28.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32 : BitVec 32 := 11#32
  let v2 : BitVec 32 := Scalar.divsi v1 c11_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c11_i32 c0_i32_2
  let v9 : BitVec 32 := Scalar.extui v8
  let c0_i32_3 : BitVec 32 := 0#32
  let v10 : BitVec 1 := Scalar.cmpi .slt c11_i32 c0_i32_3
  let v11 : BitVec 32 := Scalar.extui v10
  let v12 : BitVec 32 := Scalar.subi v9 v11
  let v13 : BitVec 1 := Scalar.cmpi .ne v7 v12
  let v14 : BitVec 32 := Scalar.remsi v1 c11_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c11_i32_6 : BitVec 32 := 11#32
  let c0_i32_7 : BitVec 32 := 0#32
  let v19 : BitVec 1 := Scalar.cmpi .eq c11_i32_6 c0_i32_7
  let c1_i32_8 : BitVec 32 := 1#32
  let v20 : BitVec 32 := Scalar.select v19 c1_i32_8 c11_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![c0_i32_12.toNat, v28.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32 : BitVec 32 := 11#32
  let v2 : BitVec 32 := Scalar.divsi v1 c11_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c11_i32 c0_i32_2
  let v9 : BitVec 32 := Scalar.extui v8
  let c0_i32_3 : BitVec 32 := 0#32
  let v10 : BitVec 1 := Scalar.cmpi .slt c11_i32 c0_i32_3
  let v11 : BitVec 32 := Scalar.extui v10
  let v12 : BitVec 32 := Scalar.subi v9 v11
  let v13 : BitVec 1 := Scalar.cmpi .ne v7 v12
  let v14 : BitVec 32 := Scalar.remsi v1 c11_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c11_i32_6 : BitVec 32 := 11#32
  let c0_i32_7 : BitVec 32 := 0#32
  let v19 : BitVec 1 := Scalar.cmpi .eq c11_i32_6 c0_i32_7
  let c1_i32_8 : BitVec 32 := 1#32
  let v20 : BitVec 32 := Scalar.select v19 c1_i32_8 c11_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v28.toNat, c0_i32_12.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32 : BitVec 32 := 11#32
  let v2 : BitVec 32 := Scalar.divsi v1 c11_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c11_i32 c0_i32_2
  let v9 : BitVec 32 := Scalar.extui v8
  let c0_i32_3 : BitVec 32 := 0#32
  let v10 : BitVec 1 := Scalar.cmpi .slt c11_i32 c0_i32_3
  let v11 : BitVec 32 := Scalar.extui v10
  let v12 : BitVec 32 := Scalar.subi v9 v11
  let v13 : BitVec 1 := Scalar.cmpi .ne v7 v12
  let v14 : BitVec 32 := Scalar.remsi v1 c11_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c11_i32_6 : BitVec 32 := 11#32
  let c0_i32_7 : BitVec 32 := 0#32
  let v19 : BitVec 1 := Scalar.cmpi .eq c11_i32_6 c0_i32_7
  let c1_i32_8 : BitVec 32 := 1#32
  let v20 : BitVec 32 := Scalar.select v19 c1_i32_8 c11_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1_i32_12 : BitVec 32 := 1#32
  let v29 : BitVec 32 := Scalar.addi v18 c1_i32_12
  let c0_i32_13 : BitVec 32 := 0#32
  let v30 : BitVec 1 := Scalar.cmpi .eq arg0 c0_i32_13
  let c0_i32_14 : BitVec 32 := 0#32
  let v31 : BitVec 32 := Scalar.select v30 c0_i32_14 v29
  let c0_i32_15 : BitVec 32 := 0#32
  let c0_i32_16 : BitVec 32 := 0#32
  ![v31.toNat, c0_i32_15.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S8192x2048 : Shape := ⟨2, ![8192, 2048]⟩
abbrev S2048 : Shape := ⟨1, ![2048]⟩
abbrev S136x18432 : Shape := ⟨2, ![136, 18432]⟩
abbrev S2048x5632 : Shape := ⟨2, ![2048, 5632]⟩
abbrev S5632x2048 : Shape := ⟨2, ![5632, 2048]⟩
abbrev S1024x2048 : Shape := ⟨2, ![1024, 2048]⟩
abbrev S4x18432 : Shape := ⟨2, ![4, 18432]⟩
abbrev S4x3x3x1x2048 : Shape := ⟨5, ![4, 3, 3, 1, 2048]⟩
abbrev S4x1x1x1x2048 : Shape := ⟨5, ![4, 1, 1, 1, 2048]⟩
abbrev S4x1x2048 : Shape := ⟨3, ![4, 1, 2048]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x5632 : Shape := ⟨3, ![4, 2048, 5632]⟩
abbrev S7168x2048 : Shape := ⟨2, ![7168, 2048]⟩

abbrev nBuf : Space → Nat
  | .hbm => 78
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S136x18432, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S2048, .f32⟩
  | .hbm, ⟨7, _⟩ => ⟨S1024x2048, .f32⟩
  | .hbm, ⟨8, _⟩ => ⟨S4x18432, .f32⟩
  | .hbm, ⟨9, _⟩ => ⟨S4x3x3x1x2048, .f32⟩
  | .hbm, ⟨10, _⟩ => ⟨S4x1x1x1x2048, .f32⟩
  | .hbm, ⟨11, _⟩ => ⟨S4x1x2048, .f32⟩
  | .hbm, ⟨12, _⟩ => ⟨S4x1x1x1x2048, .f32⟩
  | .hbm, ⟨13, _⟩ => ⟨S4x1x2048, .f32⟩
  | .hbm, ⟨14, _⟩ => ⟨S4x1x1x1x2048, .f32⟩
  | .hbm, ⟨15, _⟩ => ⟨S4x1x2048, .f32⟩
  | .hbm, ⟨16, _⟩ => ⟨S4x2048x2048, .f32⟩
  | .hbm, ⟨17, _⟩ => ⟨S4x2048x2048, .f32⟩
  | .hbm, ⟨18, _⟩ => ⟨S_, .f32⟩
  | .hbm, ⟨19, _⟩ => ⟨S4x2048, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1, .f32⟩
  | .hbm, ⟨28, _⟩ => ⟨S4x2048x2048, .f32⟩
  | .hbm, ⟨29, _⟩ => ⟨S4x2048x2048, .f32⟩
  | .hbm, ⟨30, _⟩ => ⟨S1x1x2048, .f32⟩
  | .hbm, ⟨31, _⟩ => ⟨S4x2048x2048, .f32⟩
  | .hbm, ⟨32, _⟩ => ⟨S4x2048x2048, .f32⟩
  | .hbm, ⟨33, _⟩ => ⟨S_, .f32⟩
  | .hbm, ⟨34, _⟩ => ⟨S4x1x2048, .f32⟩
  | .hbm, ⟨35, _⟩ => ⟨S4x1x2048, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S4x2048x2048, .f32⟩
  | .hbm, ⟨40, _⟩ => ⟨S_, .f32⟩
  | .hbm, ⟨41, _⟩ => ⟨S4x1x2048, .f32⟩
  | .hbm, ⟨42, _⟩ => ⟨S4x1x2048, .f32⟩
  | .hbm, ⟨43, _⟩ => ⟨S4x2048x5632, .f32⟩
  | .hbm, ⟨44, _⟩ => ⟨S4x2048x5632, .f32⟩
  | .hbm, ⟨45, _⟩ => ⟨S4x2048x5632, .f32⟩
  | .hbm, ⟨46, _⟩ => ⟨S_, .f32⟩
  | .hbm, ⟨47, _⟩ => ⟨S4x2048x5632, .f32⟩
  | .hbm, ⟨48, _⟩ => ⟨S4x2048x5632, .f32⟩
  | .hbm, ⟨49, _⟩ => ⟨S_, .f32⟩
  | .hbm, ⟨50, _⟩ => ⟨S4x2048x5632, .f32⟩
  | .hbm, ⟨51, _⟩ => ⟨S4x2048x5632, .f32⟩
  | .hbm, ⟨52, _⟩ => ⟨S4x2048x5632, .f32⟩
  | .hbm, ⟨53, _⟩ => ⟨S4x2048x5632, .f32⟩
  | .hbm, ⟨54, _⟩ => ⟨S4x2048x5632, .f32⟩
  | .hbm, ⟨55, _⟩ => ⟨S4x2048x2048, .f32⟩
  | .hbm, ⟨56, _⟩ => ⟨S4x2048x2048, .f32⟩
  | .hbm, ⟨57, _⟩ => ⟨S4x2048x2048, .f32⟩
  | .hbm, ⟨58, _⟩ => ⟨S4x2048x2048, .f32⟩
  | .hbm, ⟨59, _⟩ => ⟨S4x2048x2048, .f32⟩
  | .hbm, ⟨60, _⟩ => ⟨S_, .f32⟩
  | .hbm, ⟨61, _⟩ => ⟨S4x2048, .f32⟩
  | .hbm, ⟨62, _⟩ => ⟨S4x2048x1, .f32⟩
  | .hbm, ⟨63, _⟩ => ⟨S_, .f32⟩
  | .hbm, ⟨64, _⟩ => ⟨S4x2048x1, .f32⟩
  | .hbm, ⟨65, _⟩ => ⟨S4x2048x1, .f32⟩
  | .hbm, ⟨66, _⟩ => ⟨S_, .f32⟩
  | .hbm, ⟨67, _⟩ => ⟨S4x2048x1, .f32⟩
  | .hbm, ⟨68, _⟩ => ⟨S4x2048x1, .f32⟩
  | .hbm, ⟨69, _⟩ => ⟨S4x2048x1, .f32⟩
  | .hbm, ⟨70, _⟩ => ⟨S4x2048x2048, .f32⟩
  | .hbm, ⟨71, _⟩ => ⟨S4x2048x2048, .f32⟩
  | .hbm, ⟨72, _⟩ => ⟨S1x1x2048, .f32⟩
  | .hbm, ⟨73, _⟩ => ⟨S4x2048x2048, .f32⟩
  | .hbm, ⟨74, _⟩ => ⟨S4x2048x2048, .f32⟩
  | .hbm, ⟨75, _⟩ => ⟨S8192x2048, .f32⟩
  | .hbm, ⟨76, _⟩ => ⟨S7168x2048, .f32⟩
  | .hbm, ⟨77, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_4 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩

abbrev nD : Nat := 1
abbrev τ : Topo := Topo.v7x

variable {F : FTy → Type} [FloatOps F]
-- ==== Kernel3.lean ====
abbrev S8192x2048 : Shape := ⟨2, ![8192, 2048]⟩
abbrev S2048 : Shape := ⟨1, ![2048]⟩
abbrev S136x18432 : Shape := ⟨2, ![136, 18432]⟩
abbrev S2048x5632 : Shape := ⟨2, ![2048, 5632]⟩
abbrev S5632x2048 : Shape := ⟨2, ![5632, 2048]⟩
abbrev S1024x2048 : Shape := ⟨2, ![1024, 2048]⟩
abbrev S1x2048 : Shape := ⟨2, ![1, 2048]⟩
abbrev S8x2048 : Shape := ⟨2, ![8, 2048]⟩
abbrev S2048x512 : Shape := ⟨2, ![2048, 512]⟩
abbrev S512x2048 : Shape := ⟨2, ![512, 2048]⟩
abbrev S32x2048 : Shape := ⟨2, ![32, 2048]⟩
abbrev S32 : Shape := ⟨1, ![32]⟩
abbrev S32x1 : Shape := ⟨2, ![32, 1]⟩
abbrev S512x512 : Shape := ⟨2, ![512, 512]⟩

abbrev nBuf : Space → Nat
  | .hbm => 14
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S136x18432, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S2048, .f32⟩
  | .hbm, ⟨7, _⟩ => ⟨S1024x2048, .f32⟩
  | .hbm, ⟨8, _⟩ => ⟨S2048x5632, .bf16⟩
  | .hbm, ⟨9, _⟩ => ⟨S2048x5632, .bf16⟩
  | .hbm, ⟨10, _⟩ => ⟨S5632x2048, .bf16⟩
  | .hbm, ⟨11, _⟩ => ⟨S1x2048, .f32⟩
  | .hbm, ⟨12, _⟩ => ⟨S1x2048, .f32⟩
  | .hbm, ⟨13, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S1x2048, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | .local _ .vmem, ⟨13, _⟩ => ⟨S1024x2048, .f32⟩
  | .local _ .vmem, ⟨14, _⟩ => ⟨S1024x2048, .f32⟩
  | .local _ .vmem, ⟨15, _⟩ => ⟨S1024x2048, .f32⟩
  | .local _ .vmem, ⟨16, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![78], ![false]⟩

def k0_cond2 (i : grid0.Coords) : BitVec 1 :=
  let arg0 : BitVec 32 := BitVec.ofNat 32 (i 0).val
  let c1_i32_12 : BitVec 32 := 1#32
  let v29 : BitVec 1 := Scalar.cmpi .sge arg0 c1_i32_12
  let c1_i32 : BitVec 32 := 1#32
  let v0 : BitVec 32 := Scalar.subi arg0 c1_i32
  let c0_i32 : BitVec 32 := 0#32
  let v1 : BitVec 32 := Scalar.maxsi v0 c0_i32
  let c11_i32_6 : BitVec 32 := 11#32
  let c0_i32_7 : BitVec 32 := 0#32
  let v19 : BitVec 1 := Scalar.cmpi .eq c11_i32_6 c0_i32_7
  let c1_i32_8 : BitVec 32 := 1#32
  let v20 : BitVec 32 := Scalar.select v19 c1_i32_8 c11_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let c0_i32_15 : BitVec 32 := 0#32
  let v33 : BitVec 1 := Scalar.cmpi .eq v28 c0_i32_15
  let v34 : BitVec 1 := Scalar.andi v29 v33
  let v35 : BitVec 32 := Scalar.extui v34
  let c0_i32_16 : BitVec 32 := 0#32
  let v36 : BitVec 1 := Scalar.cmpi .ne v35 c0_i32_16
  v36

def k0_off1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c11_i32 : BitVec 32 := 11#32
  let c0_i32_2 : BitVec 32 := 0#32
  let v8 : BitVec 1 := Scalar.cmpi .sgt c11_i32 c0_i32_2
  let v9 : BitVec 32 := Scalar.extui v8
  let c0_i32_3 : BitVec 32 := 0#32
  let v10 : BitVec 1 := Scalar.cmpi .slt c11_i32 c0_i32_3
  let v11 : BitVec 32 := Scalar.extui v10
  let v12 : BitVec 32 := Scalar.subi v9 v11
  let v13 : BitVec 1 := Scalar.cmpi .ne v7 v12
  let v14 : BitVec 32 := Scalar.remsi v1 c11_i32
  let c0_i32_4 : BitVec 32 := 0#32
  let v15 : BitVec 1 := Scalar.cmpi .ne v14 c0_i32_4
  let v16 : BitVec 1 := Scalar.andi v13 v15
  let v2 : BitVec 32 := Scalar.divsi v1 c11_i32
  let c1_i32_5 : BitVec 32 := 1#32
  let v17 : BitVec 32 := Scalar.subi v2 c1_i32_5
  let v18 : BitVec 32 := Scalar.select v16 v17 v2
  let c1_i32_24 : BitVec 32 := 1#32
  let v48 : BitVec 32 := Scalar.addi v18 c1_i32_24
  let c0_i32_25 : BitVec 32 := 0#32
  let v50 : BitVec 1 := Scalar.cmpi .sgt v48 c0_i32_25
  let v51 : BitVec 32 := Scalar.extui v50
  let c0_i32_26 : BitVec 32 := 0#32
  let v52 : BitVec 1 := Scalar.cmpi .slt v48 c0_i32_26
  let v53 : BitVec 32 := Scalar.extui v52
  let v54 : BitVec 32 := Scalar.subi v51 v53
  let c2_i32 : BitVec 32 := 2#32
  let c0_i32_27 : BitVec 32 := 0#32
  let v55 : BitVec 1 := Scalar.cmpi .sgt c2_i32 c0_i32_27
  let v56 : BitVec 32 := Scalar.extui v55
  let c0_i32_28 : BitVec 32 := 0#32
  let v57 : BitVec 1 := Scalar.cmpi .slt c2_i32 c0_i32_28
  let v58 : BitVec 32 := Scalar.extui v57
  let v59 : BitVec 32 := Scalar.subi v56 v58
  let v60 : BitVec 1 := Scalar.cmpi .ne v54 v59
  let v61 : BitVec 32 := Scalar.remsi v48 c2_i32
  let c0_i32_29 : BitVec 32 := 0#32
  let v62 : BitVec 1 := Scalar.cmpi .ne v61 c0_i32_29
  let v63 : BitVec 1 := Scalar.andi v60 v62
  let v49 : BitVec 32 := Scalar.divsi v48 c2_i32
  let c1_i32_30 : BitVec 32 := 1#32
  let v64 : BitVec 32 := Scalar.subi v49 c1_i32_30
  let v65 : BitVec 32 := Scalar.select v63 v64 v49
  let v66 : Index := Scalar.indexCast v65
  let c0_31 : Index := 0#32
  ![v66.toNat, 0]
def k0_cond4 (i : grid0.Coords) : BitVec 1 :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32_6 : BitVec 32 := 11#32
  let c0_i32_7 : BitVec 32 := 0#32
  let v19 : BitVec 1 := Scalar.cmpi .eq c11_i32_6 c0_i32_7
  let c1_i32_8 : BitVec 32 := 1#32
  let v20 : BitVec 32 := Scalar.select v19 c1_i32_8 c11_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let c10_i32_19 : BitVec 32 := 10#32
  let v42 : BitVec 1 := Scalar.cmpi .eq v28 c10_i32_19
  let v43 : BitVec 32 := Scalar.extui v42
  let c0_i32_20 : BitVec 32 := 0#32
  let v44 : BitVec 1 := Scalar.cmpi .ne v43 c0_i32_20
  v44

def k0_off2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c11_i32 : BitVec 32 := 11#32
  let c0_i32_2 : BitVec 32 := 0#32
  let v8 : BitVec 1 := Scalar.cmpi .sgt c11_i32 c0_i32_2
  let v9 : BitVec 32 := Scalar.extui v8
  let c0_i32_3 : BitVec 32 := 0#32
  let v10 : BitVec 1 := Scalar.cmpi .slt c11_i32 c0_i32_3
  let v11 : BitVec 32 := Scalar.extui v10
  let v12 : BitVec 32 := Scalar.subi v9 v11
  let v13 : BitVec 1 := Scalar.cmpi .ne v7 v12
  let v14 : BitVec 32 := Scalar.remsi v1 c11_i32
  let c0_i32_4 : BitVec 32 := 0#32
  let v15 : BitVec 1 := Scalar.cmpi .ne v14 c0_i32_4
  let v16 : BitVec 1 := Scalar.andi v13 v15
  let v2 : BitVec 32 := Scalar.divsi v1 c11_i32
  let c1_i32_5 : BitVec 32 := 1#32
  let v17 : BitVec 32 := Scalar.subi v2 c1_i32_5
  let v18 : BitVec 32 := Scalar.select v16 v17 v2
  let c1_i32_34 : BitVec 32 := 1#32
  let v63 : BitVec 32 := Scalar.addi v18 c1_i32_34
  let c0_i32_35 : BitVec 32 := 0#32
  let v65 : BitVec 1 := Scalar.cmpi .sgt v63 c0_i32_35
  let v66 : BitVec 32 := Scalar.extui v65
  let c0_i32_36 : BitVec 32 := 0#32
  let v67 : BitVec 1 := Scalar.cmpi .slt v63 c0_i32_36
  let v68 : BitVec 32 := Scalar.extui v67
  let v69 : BitVec 32 := Scalar.subi v66 v68
  let c2_i32 : BitVec 32 := 2#32
  let c0_i32_37 : BitVec 32 := 0#32
  let v70 : BitVec 1 := Scalar.cmpi .sgt c2_i32 c0_i32_37
  let v71 : BitVec 32 := Scalar.extui v70
  let c0_i32_38 : BitVec 32 := 0#32
  let v72 : BitVec 1 := Scalar.cmpi .slt c2_i32 c0_i32_38
  let v73 : BitVec 32 := Scalar.extui v72
  let v74 : BitVec 32 := Scalar.subi v71 v73
  let v75 : BitVec 1 := Scalar.cmpi .ne v69 v74
  let v76 : BitVec 32 := Scalar.remsi v63 c2_i32
  let c0_i32_39 : BitVec 32 := 0#32
  let v77 : BitVec 1 := Scalar.cmpi .ne v76 c0_i32_39
  let v78 : BitVec 1 := Scalar.andi v75 v77
  let v64 : BitVec 32 := Scalar.divsi v63 c2_i32
  let c1_i32_40 : BitVec 32 := 1#32
  let v79 : BitVec 32 := Scalar.subi v64 c1_i32_40
  let v80 : BitVec 32 := Scalar.select v78 v79 v64
  let v81 : Index := Scalar.indexCast v80
  let c0_41 : Index := 0#32
  ![v81.toNat, 0]
def k0_cond1 (i : grid0.Coords) : BitVec 1 :=
  let arg0 : BitVec 32 := BitVec.ofNat 32 (i 0).val
  let c0_i32_13 : BitVec 32 := 0#32
  let v30 : BitVec 1 := Scalar.cmpi .eq arg0 c0_i32_13
  let v31 : BitVec 32 := Scalar.extui v30
  let c0_i32_14 : BitVec 32 := 0#32
  let v32 : BitVec 1 := Scalar.cmpi .ne v31 c0_i32_14
  v32

def k0_cond3 (i : grid0.Coords) : BitVec 1 :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32_6 : BitVec 32 := 11#32
  let c0_i32_7 : BitVec 32 := 0#32
  let v19 : BitVec 1 := Scalar.cmpi .eq c11_i32_6 c0_i32_7
  let c1_i32_8 : BitVec 32 := 1#32
  let v20 : BitVec 32 := Scalar.select v19 c1_i32_8 c11_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let c0_i32_17 : BitVec 32 := 0#32
  let v37 : BitVec 1 := Scalar.cmpi .sgt v28 c0_i32_17
  let c10_i32 : BitVec 32 := 10#32
  let v38 : BitVec 1 := Scalar.cmpi .slt v28 c10_i32
  let v39 : BitVec 1 := Scalar.andi v37 v38
  let v40 : BitVec 32 := Scalar.extui v39
  let c0_i32_18 : BitVec 32 := 0#32
  let v41 : BitVec 1 := Scalar.cmpi .ne v40 c0_i32_18
  v41

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32 : BitVec 32 := 11#32
  let v2 : BitVec 32 := Scalar.divsi v1 c11_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c11_i32 c0_i32_2
  let v9 : BitVec 32 := Scalar.extui v8
  let c0_i32_3 : BitVec 32 := 0#32
  let v10 : BitVec 1 := Scalar.cmpi .slt c11_i32 c0_i32_3
  let v11 : BitVec 32 := Scalar.extui v10
  let v12 : BitVec 32 := Scalar.subi v9 v11
  let v13 : BitVec 1 := Scalar.cmpi .ne v7 v12
  let v14 : BitVec 32 := Scalar.remsi v1 c11_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c11_i32_6 : BitVec 32 := 11#32
  let c0_i32_7 : BitVec 32 := 0#32
  let v19 : BitVec 1 := Scalar.cmpi .eq c11_i32_6 c0_i32_7
  let c1_i32_8 : BitVec 32 := 1#32
  let v20 : BitVec 32 := Scalar.select v19 c1_i32_8 c11_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1_i32_12 : BitVec 32 := 1#32
  let v29 : BitVec 32 := Scalar.addi v18 c1_i32_12
  let c0_i32_13 : BitVec 32 := 0#32
  let c0_i32_14 : BitVec 32 := 0#32
  ![v29.toNat, c0_i32_13.toNat]

def cc0_transform_1 (i : grid0.Coords) : Fin 2 → Nat :=
  let arg0 : BitVec 32 := BitVec.ofNat 32 (i 0).val
  let c16_i32 : BitVec 32 := 16#32
  let c0_i32 : BitVec 32 := 0#32
  let c0_i32_0 : BitVec 32 := 0#32
  ![c16_i32.toNat, c0_i32.toNat]

def cc0_transform_2 (i : grid0.Coords) : Fin 2 → Nat :=
  let arg0 : BitVec 32 := BitVec.ofNat 32 (i 0).val
  let c16_i32 : BitVec 32 := 16#32
  let c1_i32 : BitVec 32 := 1#32
  let c0_i32 : BitVec 32 := 0#32
  ![c16_i32.toNat, c1_i32.toNat]

def cc0_transform_3 (i : grid0.Coords) : Fin 2 → Nat :=
  let arg0 : BitVec 32 := BitVec.ofNat 32 (i 0).val
  let c16_i32 : BitVec 32 := 16#32
  let c2_i32 : BitVec 32 := 2#32
  let c0_i32 : BitVec 32 := 0#32
  ![c16_i32.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32 : BitVec 32 := 11#32
  let v2 : BitVec 32 := Scalar.divsi v1 c11_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c11_i32 c0_i32_2
  let v9 : BitVec 32 := Scalar.extui v8
  let c0_i32_3 : BitVec 32 := 0#32
  let v10 : BitVec 1 := Scalar.cmpi .slt c11_i32 c0_i32_3
  let v11 : BitVec 32 := Scalar.extui v10
  let v12 : BitVec 32 := Scalar.subi v9 v11
  let v13 : BitVec 1 := Scalar.cmpi .ne v7 v12
  let v14 : BitVec 32 := Scalar.remsi v1 c11_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c11_i32_6 : BitVec 32 := 11#32
  let c0_i32_7 : BitVec 32 := 0#32
  let v19 : BitVec 1 := Scalar.cmpi .eq c11_i32_6 c0_i32_7
  let c1_i32_8 : BitVec 32 := 1#32
  let v20 : BitVec 32 := Scalar.select v19 c1_i32_8 c11_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![c0_i32_12.toNat, v28.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32 : BitVec 32 := 11#32
  let v2 : BitVec 32 := Scalar.divsi v1 c11_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c11_i32 c0_i32_2
  let v9 : BitVec 32 := Scalar.extui v8
  let c0_i32_3 : BitVec 32 := 0#32
  let v10 : BitVec 1 := Scalar.cmpi .slt c11_i32 c0_i32_3
  let v11 : BitVec 32 := Scalar.extui v10
  let v12 : BitVec 32 := Scalar.subi v9 v11
  let v13 : BitVec 1 := Scalar.cmpi .ne v7 v12
  let v14 : BitVec 32 := Scalar.remsi v1 c11_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c11_i32_6 : BitVec 32 := 11#32
  let c0_i32_7 : BitVec 32 := 0#32
  let v19 : BitVec 1 := Scalar.cmpi .eq c11_i32_6 c0_i32_7
  let c1_i32_8 : BitVec 32 := 1#32
  let v20 : BitVec 32 := Scalar.select v19 c1_i32_8 c11_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![c0_i32_12.toNat, v28.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32 : BitVec 32 := 11#32
  let v2 : BitVec 32 := Scalar.divsi v1 c11_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c11_i32 c0_i32_2
  let v9 : BitVec 32 := Scalar.extui v8
  let c0_i32_3 : BitVec 32 := 0#32
  let v10 : BitVec 1 := Scalar.cmpi .slt c11_i32 c0_i32_3
  let v11 : BitVec 32 := Scalar.extui v10
  let v12 : BitVec 32 := Scalar.subi v9 v11
  let v13 : BitVec 1 := Scalar.cmpi .ne v7 v12
  let v14 : BitVec 32 := Scalar.remsi v1 c11_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c11_i32_6 : BitVec 32 := 11#32
  let c0_i32_7 : BitVec 32 := 0#32
  let v19 : BitVec 1 := Scalar.cmpi .eq c11_i32_6 c0_i32_7
  let c1_i32_8 : BitVec 32 := 1#32
  let v20 : BitVec 32 := Scalar.select v19 c1_i32_8 c11_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v28.toNat, c0_i32_12.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32 : BitVec 32 := 11#32
  let v2 : BitVec 32 := Scalar.divsi v1 c11_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c11_i32 c0_i32_2
  let v9 : BitVec 32 := Scalar.extui v8
  let c0_i32_3 : BitVec 32 := 0#32
  let v10 : BitVec 1 := Scalar.cmpi .slt c11_i32 c0_i32_3
  let v11 : BitVec 32 := Scalar.extui v10
  let v12 : BitVec 32 := Scalar.subi v9 v11
  let v13 : BitVec 1 := Scalar.cmpi .ne v7 v12
  let v14 : BitVec 32 := Scalar.remsi v1 c11_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c11_i32_6 : BitVec 32 := 11#32
  let c0_i32_7 : BitVec 32 := 0#32
  let v19 : BitVec 1 := Scalar.cmpi .eq c11_i32_6 c0_i32_7
  let c1_i32_8 : BitVec 32 := 1#32
  let v20 : BitVec 32 := Scalar.select v19 c1_i32_8 c11_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1_i32_12 : BitVec 32 := 1#32
  let v29 : BitVec 32 := Scalar.addi v18 c1_i32_12
  let c0_i32_13 : BitVec 32 := 0#32
  let v30 : BitVec 1 := Scalar.cmpi .eq arg0 c0_i32_13
  let c0_i32_14 : BitVec 32 := 0#32
  let v31 : BitVec 32 := Scalar.select v30 c0_i32_14 v29
  let c0_i32_15 : BitVec 32 := 0#32
  let c0_i32_16 : BitVec 32 := 0#32
  ![v31.toNat, c0_i32_15.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S8192x2048 : Shape := ⟨2, ![8192, 2048]⟩
abbrev S2048 : Shape := ⟨1, ![2048]⟩
abbrev S136x18432 : Shape := ⟨2, ![136, 18432]⟩
abbrev S2048x5632 : Shape := ⟨2, ![2048, 5632]⟩
abbrev S5632x2048 : Shape := ⟨2, ![5632, 2048]⟩
abbrev S1024x2048 : Shape := ⟨2, ![1024, 2048]⟩
abbrev S4x18432 : Shape := ⟨2, ![4, 18432]⟩
abbrev S4x3x3x1x2048 : Shape := ⟨5, ![4, 3, 3, 1, 2048]⟩
abbrev S4x1x1x1x2048 : Shape := ⟨5, ![4, 1, 1, 1, 2048]⟩
abbrev S4x1x2048 : Shape := ⟨3, ![4, 1, 2048]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x5632 : Shape := ⟨3, ![4, 2048, 5632]⟩
abbrev S7168x2048 : Shape := ⟨2, ![7168, 2048]⟩

abbrev nBuf : Space → Nat
  | .hbm => 62
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S136x18432, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S2048, .f32⟩
  | .hbm, ⟨7, _⟩ => ⟨S1024x2048, .f32⟩
  | .hbm, ⟨8, _⟩ => ⟨S4x18432, .f32⟩
  | .hbm, ⟨9, _⟩ => ⟨S4x3x3x1x2048, .f32⟩
  | .hbm, ⟨10, _⟩ => ⟨S4x1x1x1x2048, .f32⟩
  | .hbm, ⟨11, _⟩ => ⟨S4x1x2048, .f32⟩
  | .hbm, ⟨12, _⟩ => ⟨S4x1x1x1x2048, .f32⟩
  | .hbm, ⟨13, _⟩ => ⟨S4x1x2048, .f32⟩
  | .hbm, ⟨14, _⟩ => ⟨S4x1x1x1x2048, .f32⟩
  | .hbm, ⟨15, _⟩ => ⟨S4x1x2048, .f32⟩
  | .hbm, ⟨16, _⟩ => ⟨S4x2048x2048, .f32⟩
  | .hbm, ⟨17, _⟩ => ⟨S4x2048x2048, .f32⟩
  | .hbm, ⟨18, _⟩ => ⟨S_, .f32⟩
  | .hbm, ⟨19, _⟩ => ⟨S4x2048, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1, .f32⟩
  | .hbm, ⟨28, _⟩ => ⟨S4x2048x2048, .f32⟩
  | .hbm, ⟨29, _⟩ => ⟨S4x2048x2048, .f32⟩
  | .hbm, ⟨30, _⟩ => ⟨S1x1x2048, .f32⟩
  | .hbm, ⟨31, _⟩ => ⟨S4x2048x2048, .f32⟩
  | .hbm, ⟨32, _⟩ => ⟨S4x2048x2048, .f32⟩
  | .hbm, ⟨33, _⟩ => ⟨S_, .f32⟩
  | .hbm, ⟨34, _⟩ => ⟨S4x1x2048, .f32⟩
  | .hbm, ⟨35, _⟩ => ⟨S4x1x2048, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S4x2048x2048, .f32⟩
  | .hbm, ⟨40, _⟩ => ⟨S_, .f32⟩
  | .hbm, ⟨41, _⟩ => ⟨S4x1x2048, .f32⟩
  | .hbm, ⟨42, _⟩ => ⟨S4x1x2048, .f32⟩
  | .hbm, ⟨43, _⟩ => ⟨S4x2048x5632, .f32⟩
  | .hbm, ⟨44, _⟩ => ⟨S4x2048x5632, .f32⟩
  | .hbm, ⟨45, _⟩ => ⟨S4x2048x5632, .f32⟩
  | .hbm, ⟨46, _⟩ => ⟨S_, .f32⟩
  | .hbm, ⟨47, _⟩ => ⟨S4x2048x5632, .f32⟩
  | .hbm, ⟨48, _⟩ => ⟨S4x2048x5632, .f32⟩
  | .hbm, ⟨49, _⟩ => ⟨S_, .f32⟩
  | .hbm, ⟨50, _⟩ => ⟨S4x2048x5632, .f32⟩
  | .hbm, ⟨51, _⟩ => ⟨S4x2048x5632, .f32⟩
  | .hbm, ⟨52, _⟩ => ⟨S4x2048x5632, .f32⟩
  | .hbm, ⟨53, _⟩ => ⟨S4x2048x5632, .f32⟩
  | .hbm, ⟨54, _⟩ => ⟨S4x2048x5632, .f32⟩
  | .hbm, ⟨55, _⟩ => ⟨S4x2048x2048, .f32⟩
  | .hbm, ⟨56, _⟩ => ⟨S4x2048x2048, .f32⟩
  | .hbm, ⟨57, _⟩ => ⟨S4x2048x2048, .f32⟩
  | .hbm, ⟨58, _⟩ => ⟨S4x2048x2048, .f32⟩
  | .hbm, ⟨59, _⟩ => ⟨S8192x2048, .f32⟩
  | .hbm, ⟨60, _⟩ => ⟨S7168x2048, .f32⟩
  | .hbm, ⟨61, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== Kernel4.lean ====
abbrev S128x2048 : Shape := ⟨2, ![128, 2048]⟩
abbrev S136x18432 : Shape := ⟨2, ![136, 18432]⟩
abbrev S2048x2048 : Shape := ⟨2, ![2048, 2048]⟩
abbrev S128x64x64 : Shape := ⟨3, ![128, 64, 64]⟩
abbrev S128x15x1024 : Shape := ⟨3, ![128, 15, 1024]⟩
abbrev S64x64 : Shape := ⟨2, ![64, 64]⟩
abbrev S64 : Shape := ⟨1, ![64]⟩
abbrev S64x64x16 : Shape := ⟨3, ![64, 64, 16]⟩
abbrev S8x896x1024 : Shape := ⟨3, ![8, 896, 1024]⟩
abbrev S8x1024x1152 : Shape := ⟨3, ![8, 1024, 1152]⟩
abbrev S64x16 : Shape := ⟨2, ![64, 16]⟩
abbrev S8x256x256 : Shape := ⟨3, ![8, 256, 256]⟩
abbrev S4x256x256 : Shape := ⟨3, ![4, 256, 256]⟩
abbrev S4x256 : Shape := ⟨2, ![4, 256]⟩
abbrev S1024 : Shape := ⟨1, ![1024]⟩
abbrev S64x1 : Shape := ⟨2, ![64, 1]⟩
abbrev S_ : Shape := ⟨0, ![]⟩
abbrev S64x64x1 : Shape := ⟨3, ![64, 64, 1]⟩
abbrev S8x8x64x16 : Shape := ⟨4, ![8, 8, 64, 16]⟩
abbrev S8x8x16x64 : Shape := ⟨4, ![8, 8, 16, 64]⟩
abbrev S8x8 : Shape := ⟨2, ![8, 8]⟩
abbrev S1x8x1x8x1 : Shape := ⟨5, ![1, 8, 1, 8, 1]⟩
abbrev S8x8x16x1x64 : Shape := ⟨5, ![8, 8, 16, 1, 64]⟩
abbrev S8x8x16x8x64 : Shape := ⟨5, ![8, 8, 16, 8, 64]⟩
abbrev S8x128x512 : Shape := ⟨3, ![8, 128, 512]⟩
abbrev S8x128x1024 : Shape := ⟨3, ![8, 128, 1024]⟩
abbrev S8x1024x1024 : Shape := ⟨3, ![8, 1024, 1024]⟩
abbrev S8x1x512 : Shape := ⟨3, ![8, 1, 512]⟩
abbrev S8x4x512 : Shape := ⟨3, ![8, 4, 512]⟩
abbrev S128x4096 : Shape := ⟨2, ![128, 4096]⟩
abbrev S15x128x1024 : Shape := ⟨3, ![15, 128, 1024]⟩
abbrev S8x1x128 : Shape := ⟨3, ![8, 1, 128]⟩
abbrev S1x1024 : Shape := ⟨2, ![1, 1024]⟩
abbrev S128x1024 : Shape := ⟨2, ![128, 1024]⟩
abbrev S2048x1024 : Shape := ⟨2, ![2048, 1024]⟩
abbrev S8x1024x128 : Shape := ⟨3, ![8, 1024, 128]⟩
abbrev S8x128x128 : Shape := ⟨3, ![8, 128, 128]⟩
abbrev S128x128 : Shape := ⟨2, ![128, 128]⟩
abbrev S1x128x1024 : Shape := ⟨3, ![1, 128, 1024]⟩
abbrev S1x1x512 : Shape := ⟨3, ![1, 1, 512]⟩
abbrev S1x512 : Shape := ⟨2, ![1, 512]⟩
abbrev S128x512 : Shape := ⟨2, ![128, 512]⟩
abbrev S1x512x128 : Shape := ⟨3, ![1, 512, 128]⟩
abbrev S512x128 : Shape := ⟨2, ![512, 128]⟩
abbrev S1x1x128 : Shape := ⟨3, ![1, 1, 128]⟩
abbrev S1x128 : Shape := ⟨2, ![1, 128]⟩
abbrev S1x128x128 : Shape := ⟨3, ![1, 128, 128]⟩
abbrev S14x128x1024 : Shape := ⟨3, ![14, 128, 1024]⟩
abbrev S128x256 : Shape := ⟨2, ![128, 256]⟩
abbrev S1x128x256 : Shape := ⟨3, ![1, 128, 256]⟩
abbrev S1x256x256 : Shape := ⟨3, ![1, 256, 256]⟩
abbrev S256x256 : Shape := ⟨2, ![256, 256]⟩
abbrev S1x256 : Shape := ⟨2, ![1, 256]⟩
abbrev S1024x1024 : Shape := ⟨2, ![1024, 1024]⟩

abbrev nBuf : Space → Nat
  | .hbm => 111
  | .vmem => 28
  | .smem => 0
  | _ => 0

abbrev bufTy : (tb : Table) → Fin (tcTables nBuf tb) → BufTy
  | .hbm, ⟨0, _⟩ => ⟨S128x2048, .f32⟩
  | .hbm, ⟨1, _⟩ => ⟨S136x18432, .f32⟩
  | .hbm, ⟨2, _⟩ => ⟨S2048x2048, .f32⟩
  | .hbm, ⟨3, _⟩ => ⟨S128x2048, .f32⟩
  | .hbm, ⟨4, _⟩ => ⟨S128x64x64, .f32⟩
  | .hbm, ⟨5, _⟩ => ⟨S128x64x64, .f32⟩
  | .hbm, ⟨6, _⟩ => ⟨S128x15x1024, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64x16, .f32⟩
  | .hbm, ⟨11, _⟩ => ⟨S64x64x16, .f32⟩
  | .hbm, ⟨12, _⟩ => ⟨S8x896x1024, .f32⟩
  | .hbm, ⟨13, _⟩ => ⟨S8x1024x1152, .f32⟩
  | .hbm, ⟨14, _⟩ => ⟨S64x16, .f32⟩
  | .hbm, ⟨15, _⟩ => ⟨S8x256x256, .f32⟩
  | .hbm, ⟨16, _⟩ => ⟨S64x16, .f32⟩
  | .hbm, ⟨17, _⟩ => ⟨S4x256x256, .f32⟩
  | .hbm, ⟨18, _⟩ => ⟨S4x256, .f32⟩
  | .hbm, ⟨19, _⟩ => ⟨S1024, .f32⟩
  | .hbm, ⟨20, _⟩ => ⟨S64x1, .f32⟩
  | .hbm, ⟨21, _⟩ => ⟨S_, .f32⟩
  | .hbm, ⟨22, _⟩ => ⟨S64x64, .f32⟩
  | .hbm, ⟨23, _⟩ => ⟨S64x64, .f32⟩
  | .hbm, ⟨24, _⟩ => ⟨S64x1, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S_, .f32⟩
  | .hbm, ⟨38, _⟩ => ⟨S64x64, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S64x64, .f32⟩
  | .hbm, ⟨47, _⟩ => ⟨S64x64, .f32⟩
  | .hbm, ⟨48, _⟩ => ⟨S64x64x1, .f32⟩
  | .hbm, ⟨49, _⟩ => ⟨S64x64x16, .f32⟩
  | .hbm, ⟨50, _⟩ => ⟨S64x64x16, .f32⟩
  | .hbm, ⟨51, _⟩ => ⟨S64x64x1, .f32⟩
  | .hbm, ⟨52, _⟩ => ⟨S64x64x16, .f32⟩
  | .hbm, ⟨53, _⟩ => ⟨S64x64x16, .f32⟩
  | .hbm, ⟨54, _⟩ => ⟨S64x64x16, .f32⟩
  | .hbm, ⟨55, _⟩ => ⟨S64x64x1, .f32⟩
  | .hbm, ⟨56, _⟩ => ⟨S64x64x16, .f32⟩
  | .hbm, ⟨57, _⟩ => ⟨S64x64x16, .f32⟩
  | .hbm, ⟨58, _⟩ => ⟨S64x64x1, .f32⟩
  | .hbm, ⟨59, _⟩ => ⟨S64x64x16, .f32⟩
  | .hbm, ⟨60, _⟩ => ⟨S64x64x16, .f32⟩
  | .hbm, ⟨61, _⟩ => ⟨S64x64x16, .f32⟩
  | .hbm, ⟨62, _⟩ => ⟨S8x8x64x16, .f32⟩
  | .hbm, ⟨63, _⟩ => ⟨S8x8x16x64, .f32⟩
  | .hbm, ⟨64, _⟩ => ⟨S8x8, .i32⟩
  | .hbm, ⟨65, _⟩ => ⟨S8x8, .i32⟩
  | .hbm, ⟨66, _⟩ => ⟨S8x8, .i1⟩
  | .hbm, ⟨67, _⟩ => ⟨S1x8x1x8x1, .i1⟩
  | .hbm, ⟨68, _⟩ => ⟨S8x8x16x1x64, .f32⟩
  | .hbm, ⟨69, _⟩ => ⟨S_, .f32⟩
  | .hbm, ⟨70, _⟩ => ⟨S_, .f32⟩
  | .hbm, ⟨71, _⟩ => ⟨S8x8x16x8x64, .i1⟩
  | .hbm, ⟨72, _⟩ => ⟨S8x8x16x8x64, .f32⟩
  | .hbm, ⟨73, _⟩ => ⟨S8x8x16x8x64, .f32⟩
  | .hbm, ⟨74, _⟩ => ⟨S8x8x16x8x64, .f32⟩
  | .hbm, ⟨75, _⟩ => ⟨S8x128x512, .f32⟩
  | .hbm, ⟨76, _⟩ => ⟨S8x8x64x16, .f32⟩
  | .hbm, ⟨77, _⟩ => ⟨S8x8x16x64, .f32⟩
  | .hbm, ⟨78, _⟩ => ⟨S8x8, .i32⟩
  | .hbm, ⟨79, _⟩ => ⟨S8x8, .i32⟩
  | .hbm, ⟨80, _⟩ => ⟨S8x8, .i1⟩
  | .hbm, ⟨81, _⟩ => ⟨S1x8x1x8x1, .i1⟩
  | .hbm, ⟨82, _⟩ => ⟨S8x8x16x1x64, .f32⟩
  | .hbm, ⟨83, _⟩ => ⟨S_, .f32⟩
  | .hbm, ⟨84, _⟩ => ⟨S_, .f32⟩
  | .hbm, ⟨85, _⟩ => ⟨S8x8x16x8x64, .i1⟩
  | .hbm, ⟨86, _⟩ => ⟨S8x8x16x8x64, .f32⟩
  | .hbm, ⟨87, _⟩ => ⟨S8x8x16x8x64, .f32⟩
  | .hbm, ⟨88, _⟩ => ⟨S8x8x16x8x64, .f32⟩
  | .hbm, ⟨89, _⟩ => ⟨S8x128x512, .f32⟩
  | .hbm, ⟨90, _⟩ => ⟨S8x128x1024, .f32⟩
  | .hbm, ⟨91, _⟩ => ⟨S8x1024x1024, .f32⟩
  | .hbm, ⟨92, _⟩ => ⟨S8x1024x1024, .bf16⟩
  | .hbm, ⟨93, _⟩ => ⟨S8x1x512, .f32⟩
  | .hbm, ⟨94, _⟩ => ⟨S8x1x512, .f32⟩
  | .hbm, ⟨95, _⟩ => ⟨S8x4x512, .f32⟩
  | .hbm, ⟨96, _⟩ => ⟨S128x4096, .f32⟩
  | .hbm, ⟨97, _⟩ => ⟨S128x4096, .f32⟩
  | .hbm, ⟨98, _⟩ => ⟨S15x128x1024, .f32⟩
  | .hbm, ⟨99, _⟩ => ⟨S8x1024x1152, .bf16⟩
  | .hbm, ⟨100, _⟩ => ⟨S8x256x256, .bf16⟩
  | .hbm, ⟨101, _⟩ => ⟨S4x256x256, .bf16⟩
  | .hbm, ⟨102, _⟩ => ⟨S8x1x128, .f32⟩
  | .hbm, ⟨103, _⟩ => ⟨S8x1x128, .f32⟩
  | .hbm, ⟨104, _⟩ => ⟨S1x1024, .f32⟩
  | .hbm, ⟨105, _⟩ => ⟨S1x1024, .f32⟩
  | .hbm, ⟨106, _⟩ => ⟨S128x2048, .f32⟩
  | .hbm, ⟨107, _⟩ => ⟨S2048x2048, .bf16⟩
  | .hbm, ⟨108, _⟩ => ⟨S128x4096, .f32⟩
  | .hbm, ⟨109, _⟩ => ⟨S128x4096, .f32⟩
  | .hbm, ⟨110, _⟩ => ⟨S15x128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S2048x1024, .f32⟩
  | .local _ .vmem, ⟨5, _⟩ => ⟨S2048x1024, .f32⟩
  | .local _ .vmem, ⟨6, _⟩ => ⟨S128x2048, .f32⟩
  | .local _ .vmem, ⟨7, _⟩ => ⟨S128x4096, .f32⟩
  | .local _ .vmem, ⟨8, _⟩ => ⟨S128x4096, .f32⟩
  | .local _ .vmem, ⟨9, _⟩ => ⟨S8x128x1024, .bf16⟩
  | .local _ .vmem, ⟨10, _⟩ => ⟨S8x1024x128, .bf16⟩
  | .local _ .vmem, ⟨11, _⟩ => ⟨S8x4x512, .f32⟩
  | .local _ .vmem, ⟨12, _⟩ => ⟨S8x1x128, .f32⟩
  | .local _ .vmem, ⟨13, _⟩ => ⟨S8x128x128, .bf16⟩
  | .local _ .vmem, ⟨14, _⟩ => ⟨S8x1x128, .f32⟩
  | .local _ .vmem, ⟨15, _⟩ => ⟨S15x128x1024, .f32⟩
  | .local _ .vmem, ⟨16, _⟩ => ⟨S4x256x256, .bf16⟩
  | .local _ .vmem, ⟨17, _⟩ => ⟨S1x1024, .f32⟩
  | .local _ .vmem, ⟨18, _⟩ => ⟨S1x1024, .f32⟩
  | .local _ .vmem, ⟨19, _⟩ => ⟨S128x1024, .f32⟩
  | .local _ .vmem, ⟨20, _⟩ => ⟨S128x1024, .f32⟩
  | .local _ .vmem, ⟨21, _⟩ => ⟨S2048x1024, .bf16⟩
  | .local _ .vmem, ⟨22, _⟩ => ⟨S2048x1024, .bf16⟩
  | .local _ .vmem, ⟨23, _⟩ => ⟨S128x4096, .f32⟩
  | .local _ .vmem, ⟨24, _⟩ => ⟨S128x4096, .f32⟩
  | .local _ .vmem, ⟨25, _⟩ => ⟨S15x128x1024, .f32⟩
  | .local _ .vmem, ⟨26, _⟩ => ⟨S128x1024, .bf16⟩
  | .local _ .vmem, ⟨27, _⟩ => ⟨S128x1024, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_cst : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_1 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_2 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74_0 : Ref sig .tc := ⟨.hbm, 106, rfl⟩
abbrev main_v74_1 : Ref sig .tc := ⟨.hbm, 107, rfl⟩
abbrev main_v74_2 : Ref sig .tc := ⟨.hbm, 108, rfl⟩
abbrev main_v74_3 : Ref sig .tc := ⟨.hbm, 109, rfl⟩
abbrev main_v74_4 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem19_0 : DmaSem sig := 24
abbrev cc0_sem20_0 : DmaSem sig := 25

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c7_i32 : BitVec 32 := 7#32
  let c0_i32_0 : BitVec 32 := 0#32
  let c0_i32_1 : BitVec 32 := 0#32
  ![c0_i32.toNat, c7_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x4x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S15x128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2048x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S128x4096 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x4096 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S15x128x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Reference4Ideal.lean ====
abbrev S128x2048 : Shape := ⟨2, ![128, 2048]⟩
abbrev S136x18432 : Shape := ⟨2, ![136, 18432]⟩
abbrev S2048x2048 : Shape := ⟨2, ![2048, 2048]⟩
abbrev S128x64x64 : Shape := ⟨3, ![128, 64, 64]⟩
abbrev S128x15x1024 : Shape := ⟨3, ![128, 15, 1024]⟩
abbrev S64x64 : Shape := ⟨2, ![64, 64]⟩
abbrev S64 : Shape := ⟨1, ![64]⟩
abbrev S64x64x16 : Shape := ⟨3, ![64, 64, 16]⟩
abbrev S8x896x1024 : Shape := ⟨3, ![8, 896, 1024]⟩
abbrev S8x1024x1152 : Shape := ⟨3, ![8, 1024, 1152]⟩
abbrev S64x16 : Shape := ⟨2, ![64, 16]⟩
abbrev S8x256x256 : Shape := ⟨3, ![8, 256, 256]⟩
abbrev S4x256x256 : Shape := ⟨3, ![4, 256, 256]⟩
abbrev S4x256 : Shape := ⟨2, ![4, 256]⟩
abbrev S1024 : Shape := ⟨1, ![1024]⟩
abbrev S_ : Shape := ⟨0, ![]⟩
abbrev S64x1 : Shape := ⟨2, ![64, 1]⟩
abbrev S64x64x1 : Shape := ⟨3, ![64, 64, 1]⟩
abbrev S128x1024 : Shape := ⟨2, ![128, 1024]⟩
abbrev S128x64x16 : Shape := ⟨3, ![128, 64, 16]⟩
abbrev S128x1x1024 : Shape := ⟨3, ![128, 1, 1024]⟩
abbrev S1x64x64 : Shape := ⟨3, ![1, 64, 64]⟩
abbrev S64x64x128 : Shape := ⟨3, ![64, 64, 128]⟩
abbrev S128x16x1024 : Shape := ⟨3, ![128, 16, 1024]⟩
abbrev S128x4096 : Shape := ⟨2, ![128, 4096]⟩
abbrev S15x128x1024 : Shape := ⟨3, ![15, 128, 1024]⟩

abbrev nBuf : Space → Nat
  | .hbm => 91
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S136x18432, .f32⟩
  | .hbm, ⟨2, _⟩ => ⟨S2048x2048, .f32⟩
  | .hbm, ⟨3, _⟩ => ⟨S128x2048, .f32⟩
  | .hbm, ⟨4, _⟩ => ⟨S128x64x64, .f32⟩
  | .hbm, ⟨5, _⟩ => ⟨S128x64x64, .f32⟩
  | .hbm, ⟨6, _⟩ => ⟨S128x15x1024, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64x16, .f32⟩
  | .hbm, ⟨11, _⟩ => ⟨S64x64x16, .f32⟩
  | .hbm, ⟨12, _⟩ => ⟨S8x896x1024, .f32⟩
  | .hbm, ⟨13, _⟩ => ⟨S8x1024x1152, .f32⟩
  | .hbm, ⟨14, _⟩ => ⟨S64x16, .f32⟩
  | .hbm, ⟨15, _⟩ => ⟨S8x256x256, .f32⟩
  | .hbm, ⟨16, _⟩ => ⟨S64x16, .f32⟩
  | .hbm, ⟨17, _⟩ => ⟨S4x256x256, .f32⟩
  | .hbm, ⟨18, _⟩ => ⟨S4x256, .f32⟩
  | .hbm, ⟨19, _⟩ => ⟨S1024, .f32⟩
  | .hbm, ⟨20, _⟩ => ⟨S_, .f32⟩
  | .hbm, ⟨21, _⟩ => ⟨S64x64, .f32⟩
  | .hbm, ⟨22, _⟩ => ⟨S64x64, .f32⟩
  | .hbm, ⟨23, _⟩ => ⟨S64, .f32⟩
  | .hbm, ⟨24, _⟩ => ⟨S64x1, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S_, .f32⟩
  | .hbm, ⟨38, _⟩ => ⟨S64x64, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S64x64, .f32⟩
  | .hbm, ⟨47, _⟩ => ⟨S64x64, .f32⟩
  | .hbm, ⟨48, _⟩ => ⟨S64x64x1, .f32⟩
  | .hbm, ⟨49, _⟩ => ⟨S64x64x16, .f32⟩
  | .hbm, ⟨50, _⟩ => ⟨S64x64x16, .f32⟩
  | .hbm, ⟨51, _⟩ => ⟨S64x64x1, .f32⟩
  | .hbm, ⟨52, _⟩ => ⟨S64x64x16, .f32⟩
  | .hbm, ⟨53, _⟩ => ⟨S64x64x16, .f32⟩
  | .hbm, ⟨54, _⟩ => ⟨S64x64x16, .f32⟩
  | .hbm, ⟨55, _⟩ => ⟨S64x64x1, .f32⟩
  | .hbm, ⟨56, _⟩ => ⟨S64x64x16, .f32⟩
  | .hbm, ⟨57, _⟩ => ⟨S64x64x16, .f32⟩
  | .hbm, ⟨58, _⟩ => ⟨S64x64x1, .f32⟩
  | .hbm, ⟨59, _⟩ => ⟨S64x64x16, .f32⟩
  | .hbm, ⟨60, _⟩ => ⟨S64x64x16, .f32⟩
  | .hbm, ⟨61, _⟩ => ⟨S64x64x16, .f32⟩
  | .hbm, ⟨62, _⟩ => ⟨S128x1024, .f32⟩
  | .hbm, ⟨63, _⟩ => ⟨S128x64x16, .f32⟩
  | .hbm, ⟨64, _⟩ => ⟨S128x1024, .f32⟩
  | .hbm, ⟨65, _⟩ => ⟨S128x1x1024, .f32⟩
  | .hbm, ⟨66, _⟩ => ⟨S1x64x64, .f32⟩
  | .hbm, ⟨67, _⟩ => ⟨S128x64x64, .f32⟩
  | .hbm, ⟨68, _⟩ => ⟨S128x64x64, .f32⟩
  | .hbm, ⟨69, _⟩ => ⟨S1x64x64, .f32⟩
  | .hbm, ⟨70, _⟩ => ⟨S128x64x64, .f32⟩
  | .hbm, ⟨71, _⟩ => ⟨S128x64x64, .f32⟩
  | .hbm, ⟨72, _⟩ => ⟨S128x64x64, .f32⟩
  | .hbm, ⟨73, _⟩ => ⟨S64x64x128, .f32⟩
  | .hbm, ⟨74, _⟩ => ⟨S128x64x64, .f32⟩
  | .hbm, ⟨75, _⟩ => ⟨S128x64x64, .f32⟩
  | .hbm, ⟨76, _⟩ => ⟨S1x64x64, .f32⟩
  | .hbm, ⟨77, _⟩ => ⟨S128x64x64, .f32⟩
  | .hbm, ⟨78, _⟩ => ⟨S128x64x64, .f32⟩
  | .hbm, ⟨79, _⟩ => ⟨S1x64x64, .f32⟩
  | .hbm, ⟨80, _⟩ => ⟨S128x64x64, .f32⟩
  | .hbm, ⟨81, _⟩ => ⟨S128x64x64, .f32⟩
  | .hbm, ⟨82, _⟩ => ⟨S128x64x64, .f32⟩
  | .hbm, ⟨83, _⟩ => ⟨S64x64x128, .f32⟩
  | .hbm, ⟨84, _⟩ => ⟨S128x64x64, .f32⟩
  | .hbm, ⟨85, _⟩ => ⟨S128x64x64, .f32⟩
  | .hbm, ⟨86, _⟩ => ⟨S128x16x1024, .f32⟩
  | .hbm, ⟨87, _⟩ => ⟨S128x15x1024, .f32⟩
  | .hbm, ⟨88, _⟩ => ⟨S128x4096, .f32⟩
  | .hbm, ⟨89, _⟩ => ⟨S128x4096, .f32⟩
  | .hbm, ⟨90, _⟩ => ⟨S15x128x1024, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩

abbrev nD : Nat := 1
abbrev τ : Topo := Topo.v7x

variable {F : FTy → Type} [FloatOps F]
-- ==== Proof.Window.lean ====
/-
  Trailing-window sums.

  `win w E r` is the sum of the `w` entries of the sequence `E` that end at position `r`, entries before the start
  counting as zero. One doubling step of the kernel, `s r + s (r - k)`, turns windows of `k` entries into windows of
  `2 k` entries, so four steps reach the widest window. The number of entries that a window really holds,
  `min w (p + 1)`, is computed by both programs on 32-bit words: `cntWord` reads it.
-/
module

public import Idealize.ShloMosaic.Lib.Pointwise
public import Idealize.ShloMosaic.Lib.ValueIdx
public import Idealize.ShloMosaic.PureOps.Ideal.Laws

@[expose] public section
noncomputable section
open Idealize.ShloMosaic

namespace Cert.Pool

/-- The sum of the `w` entries of `E` ending at position `r`; entries before position `0` count as zero. -/
def win (w : ℕ) (E : ℕ → EReal) (r : ℕ) : EReal := ∑ j ∈ Finset.range w, if j ≤ r then E (r - j) else 0

theorem win_one (E : ℕ → EReal) (r : ℕ) : win 1 E r = E r := by simp [win]

/-- One doubling step. -/
theorem win_double (k : ℕ) (E : ℕ → EReal) (r : ℕ) :
    win k E r + (if k ≤ r then win k E (r - k) else 0) = win (k + k) E r := by
  unfold win
  rw [Finset.sum_range_add]
  congr 1
  by_cases h : k ≤ r
  · rw [if_pos h]
    refine Finset.sum_congr rfl fun j _ => ?_
    by_cases hj : j ≤ r - k
    · rw [if_pos hj, if_pos (by omega)]; congr 1; omega
    · rw [if_neg hj, if_neg (by omega)]
  · rw [if_neg h]
    refine (Finset.sum_eq_zero fun j _ => if_neg (by omega)).symm

/-- A window only looks at the entries it holds. -/
theorem win_congr (w : ℕ) (E E' : ℕ → EReal) (r r' : ℕ)
    (h : ∀ j, j < w → (if j ≤ r then E (r - j) else 0) = if j ≤ r' then E' (r' - j) else 0) : win w E r = win w E' r' :=
  Finset.sum_congr rfl fun j hj => h j (Finset.mem_range.mp hj)

/-- The word that counts the entries of a window of `w` at position `p`. -/
theorem cntWord (p : ℕ) (hp : p < 2048) :
    (IntOp.minsi 2#32 (IntOp.maxsi 1#32 (IntOp.addi (BitVec.ofNat 32 p) 1#32)) = BitVec.ofNat 32 (min 2 (p + 1)))
    ∧ (IntOp.minsi 4#32 (IntOp.maxsi 1#32 (IntOp.addi (BitVec.ofNat 32 p) 1#32)) = BitVec.ofNat 32 (min 4 (p + 1)))
    ∧ (IntOp.minsi 8#32 (IntOp.maxsi 1#32 (IntOp.addi (BitVec.ofNat 32 p) 1#32)) = BitVec.ofNat 32 (min 8 (p + 1)))
    ∧ (IntOp.minsi 16#32 (IntOp.maxsi 1#32 (IntOp.addi (BitVec.ofNat 32 p) 1#32)) = BitVec.ofNat 32 (min 16 (p + 1))) :=
  (by decide +kernel : ∀ p : Fin 2048,
    (IntOp.minsi 2#32 (IntOp.maxsi 1#32 (IntOp.addi (BitVec.ofNat 32 p.val) 1#32)) = BitVec.ofNat 32 (min 2 (p.val + 1)))
    ∧ (IntOp.minsi 4#32 (IntOp.maxsi 1#32 (IntOp.addi (BitVec.ofNat 32 p.val) 1#32)) = BitVec.ofNat 32 (min 4 (p.val + 1)))
    ∧ (IntOp.minsi 8#32 (IntOp.maxsi 1#32 (IntOp.addi (BitVec.ofNat 32 p.val) 1#32)) = BitVec.ofNat 32 (min 8 (p.val + 1)))
    ∧ (IntOp.minsi 16#32 (IntOp.maxsi 1#32 (IntOp.addi (BitVec.ofNat 32 p.val) 1#32)) = BitVec.ofNat 32 (min 16 (p.val + 1))))
    ⟨p, hp⟩

/-- The pooled entry: the window's mean less the entry itself. -/
def mean (w : ℕ) (E : ℕ → EReal) (p : ℕ) : EReal :=
  Ideal.div (win w E p) (FloatOps.sitofp (F := Ideal) .f32 (BitVec.ofNat 32 (min w (p + 1)))) - E p

end Cert.Pool
-- ==== Proof.Spec.lean ====
/-
  What the input projection and the pooling mixer compute, entry by entry, as functions of the seven arguments:
  the adaptive normalisation of the rows (`hrow`, `hs`), their product with the projection matrix (`proj`), and the
  pooled, projected and scaled entries (`ypool`). Sequence `n` is one of four, position `p` one of 2048.
-/
module

public import proofs.«01_k».proof.Proof.Window

@[expose] public section
noncomputable section
open Idealize.ShloMosaic

namespace Cert.Spec

/-- One row, normalised by its root mean square, scaled by `g` and by `1 + sc`, shifted by `sh`. -/
def hrow (x g sc sh : Fin 2048 → EReal) (k : Fin 2048) : EReal :=
  x k * Ideal.rsqrt (Ideal.div (∑ j, x j * x j) (Ideal.ofBits FTy.f32 1157627904#32) + Ideal.ofBits FTy.f32 897988541#32)
    * g k * (1 + sc k) + sh k

variable (x0 : (⟨2, ![8192, 2048]⟩ : Shape).Idx → EReal) (x1 : (⟨1, ![2048]⟩ : Shape).Idx → EReal)
variable (x2 : (⟨2, ![136, 18432]⟩ : Shape).Idx → EReal) (x3 : (⟨2, ![2048, 2048]⟩ : Shape).Idx → EReal)
variable (x4 : (⟨3, ![4, 256, 256]⟩ : Shape).Idx → EReal) (x5 : (⟨2, ![4, 256]⟩ : Shape).Idx → EReal)
variable (x6 : (⟨1, ![1024]⟩ : Shape).Idx → EReal)

/-- The normalised row of position `p` of sequence `n`. -/
def hs (n : Fin 4) (p : Fin 2048) : Fin 2048 → EReal :=
  hrow (fun k => x0 (ix2 ⟨n.val * 2048 + p.val, by omega⟩ k)) (fun k => x1 (ix1 k))
    (fun k => x2 (ix2 ⟨128 + n.val, by omega⟩ ⟨8192 + k.val, by omega⟩))
    (fun k => x2 (ix2 ⟨128 + n.val, by omega⟩ ⟨6144 + k.val, by omega⟩))

/-- The projection's entry in column `c`. -/
def proj (n : Fin 4) (p c : Fin 2048) : EReal := ∑ k, hs x0 x1 x2 n p k * x3 (ix2 k c)

/-- Column `c` of the pooling half of the projection, as a sequence over the positions. -/
def vseq (n : Fin 4) (c : Fin 1024) (p : ℕ) : EReal :=
  if h : p < 2048 then proj x0 x1 x2 x3 n ⟨p, h⟩ ⟨1024 + c.val, by omega⟩ else 0

/-- Group `g` pools over a window of `2 ^ (g + 1)` positions. -/
def ypool (n : Fin 4) (p : Fin 2048) (g : Fin 4) (d : Fin 256) : EReal :=
  ((∑ q : Fin 256, Cert.Pool.mean (2 ^ (g.val + 1)) (vseq x0 x1 x2 x3 n ⟨g.val * 256 + q.val, by omega⟩) p.val
      * x4 (ix3 g q d)) + x5 (ix2 g d)) * x6 (ix1 ⟨g.val * 256 + d.val, by omega⟩)

end Cert.Spec
-- ==== Proof.Norm.lean ====
/-
  The normalised activations of one grid point. The body writes them thirty-two rows at a time; every one of those
  stores writes the same function of its rows (`pay3_apply`), so a load of them reads `Spec.hrow` of the row (`cov`).
-/
module

public import proofs.«01_k».proof.Proof.Gen.KernelIdeal.Value
public import proofs.«01_k».proof.Proof.Spec
public import Idealize.ShloMosaic.Lib.Pipeline.ValueKit.Tiles

@[expose] public section
set_option maxRecDepth 16384
noncomputable section
open Idealize.ShloMosaic Idealize.ShloMosaic.TcCoe Idealize.SL.Sem
namespace Cert.KernelIdeal.Blk
open Cert.KernelIdeal Cert.KernelIdeal.Gen

/-- One entry of the normalised block: row `r`, column `k`. -/
def hk (x0 : Vec Ideal S1024x2048 .f32) (x1 sc sh : Vec Ideal S1x2048 .f32) (r : Fin 1024) (k : Fin 2048) : EReal :=
  Spec.hrow (fun k => x0 (ix2 r k)) (fun k => x1 (ix2 0 k)) (fun k => sc (ix2 0 k)) (fun k => sh (ix2 0 k)) k

/-- The stored value of a chunk of rows, entry by entry. -/
theorem pay3_apply (sh sc : Vec Ideal S1x2048 .f32) (x : Vec Ideal S32x2048 .f32) (g : Vec Ideal S1x2048 .f32) (r : Fin 32) (k : Fin 2048) :
    k0_pay3 sh sc x g (ix2 r k)
      = Spec.hrow (fun k => x (ix2 r k)) (fun k => g (ix2 0 k)) (fun k => sc (ix2 0 k)) (fun k => sh (ix2 0 k)) k := by
  pointwise [k0_pay3]
  rfl

variable (a1 : Memref sig .tc .vmem S1024x2048 .f32) (h1 : a1.IsWhole) (a2 : Memref sig .tc .vmem S1x2048 .f32) (h2 : a2.IsWhole)
variable (a13 : Memref sig .tc .vmem S1024x2048 .bf16)
variable (x0 : Vec Ideal S1024x2048 .f32) (x1 sc sh : Vec Ideal S1x2048 .f32)

/-- Thirty-two rows of the block, loaded. -/
abbrev rows (o : ℕ) (hb : ∀ a, (![o, 0] : Fin 2 → ℕ) a + S32x2048.size a ≤ S1024x2048.size a) : Vec Ideal S32x2048 .f32 :=
  View.readAt (Elt Ideal) a1.view (Rect.unit (s := S1024x2048) ![o, 0] S32x2048.size hb).toLoadRect (h1.unread x0)

/-- The norm's weights, loaded. -/
abbrev row : Vec Ideal S1x2048 .f32 :=
  View.readAt (Elt Ideal) a2.view (Rect.unit (s := S1x2048) ![0, 0] S1x2048.size inb_S1x2048_S1x2048_0_0).toLoadRect (h2.unread x1)

theorem row_eq : row a2 h2 x1 = x1 := by
  unfold row
  rw [View.readAt_eq_ld, h2.read_unread]
  exact View.ld_unit_zero (by decide) _ _

/-- A chunk's stored value is the block's entry under it. -/
theorem chunk (o : ℕ) (hb : ∀ a, (![o, 0] : Fin 2 → ℕ) a + S32x2048.size a ≤ S1024x2048.size a) (x : S32x2048.Idx) :
    k0_pay3 sh sc (rows a1 h1 x0 o hb) (row a2 h2 x1) x
      = hk x0 x1 sc sh ((Rect.unit (s := S1024x2048) ![o, 0] S32x2048.size hb).emb x 0) ((Rect.unit (s := S1024x2048) ![o, 0] S32x2048.size hb).emb x 1) := by
  rw [row_eq]
  obtain ⟨r, k, rfl⟩ : ∃ r k, x = ix2 r k := ⟨x 0, x 1, eq_ix2 x⟩
  rw [pay3_apply]
  unfold hk rows
  rw [View.readAt_eq_ld, h1.read_unread]
  refine congrArg₂ (fun f k => Spec.hrow f (fun k => x1 (ix2 0 k)) (fun k => sc (ix2 0 k)) (fun k => sh (ix2 0 k)) k) ?_ ?_
  · funext k
    refine View.ld_unit_apply_of _ _ _ _ _ _ fun a => ?_
    match a with
    | ⟨0, _⟩ => show o + 1 * r.val = o + r.val; omega
    | ⟨1, _⟩ => exact (Nat.zero_add _).symm
  · exact Fin.ext (by show k.val = 0 + 1 * k.val; omega)

/-- The stores of the normalised block, last first. -/
def hPieces : List (View.Piece (Elt Ideal) S1024x2048 .bf16) :=
  [ ⟨Rect.unit (s := S1024x2048) ![992, 0] S32x2048.size inb_S1024x2048_S32x2048_992_0, k0_pay59 sh sc (rows a1 h1 x0 992 inb_S1024x2048_S32x2048_992_0) (k0_pay58 (row a2 h2 x1))⟩,
    ⟨Rect.unit (s := S1024x2048) ![960, 0] S32x2048.size inb_S1024x2048_S32x2048_960_0, k0_pay57 sh sc (rows a1 h1 x0 960 inb_S1024x2048_S32x2048_960_0) (row a2 h2 x1)⟩,
    ⟨Rect.unit (s := S1024x2048) ![928, 0] S32x2048.size inb_S1024x2048_S32x2048_928_0, k0_pay56 sh sc (rows a1 h1 x0 928 inb_S1024x2048_S32x2048_928_0) (k0_pay54 (row a2 h2 x1)) (k0_pay55 (rows a1 h1 x0 928 inb_S1024x2048_S32x2048_928_0))⟩,
    ⟨Rect.unit (s := S1024x2048) ![896, 0] S32x2048.size inb_S1024x2048_S32x2048_896_0, k0_pay53 sh sc (rows a1 h1 x0 896 inb_S1024x2048_S32x2048_896_0) (row a2 h2 x1)⟩,
    ⟨Rect.unit (s := S1024x2048) ![864, 0] S32x2048.size inb_S1024x2048_S32x2048_864_0, k0_pay52 (k0_pay51 sh sc (rows a1 h1 x0 864 inb_S1024x2048_S32x2048_864_0) (row a2 h2 x1))⟩,
    ⟨Rect.unit (s := S1024x2048) ![832, 0] S32x2048.size inb_S1024x2048_S32x2048_832_0, k0_pay50 sh sc (rows a1 h1 x0 832 inb_S1024x2048_S32x2048_832_0) (k0_pay49 (row a2 h2 x1))⟩,
    ⟨Rect.unit (s := S1024x2048) ![800, 0] S32x2048.size inb_S1024x2048_S32x2048_800_0, k0_pay48 sh sc (rows a1 h1 x0 800 inb_S1024x2048_S32x2048_800_0) (row a2 h2 x1)⟩,
    ⟨Rect.unit (s := S1024x2048) ![768, 0] S32x2048.size inb_S1024x2048_S32x2048_768_0, k0_pay47 sh sc (rows a1 h1 x0 768 inb_S1024x2048_S32x2048_768_0) (k0_pay45 (row a2 h2 x1)) (k0_pay46 (rows a1 h1 x0 768 inb_S1024x2048_S32x2048_768_0))⟩,
    ⟨Rect.unit (s := S1024x2048) ![736, 0] S32x2048.size inb_S1024x2048_S32x2048_736_0, k0_pay44 sh sc (rows a1 h1 x0 736 inb_S1024x2048_S32x2048_736_0) (row a2 h2 x1)⟩,
    ⟨Rect.unit (s := S1024x2048) ![704, 0] S32x2048.size inb_S1024x2048_S32x2048_704_0, k0_pay43 (k0_pay42 sh sc (rows a1 h1 x0 704 inb_S1024x2048_S32x2048_704_0) (row a2 h2 x1))⟩,
    ⟨Rect.unit (s := S1024x2048) ![672, 0] S32x2048.size inb_S1024x2048_S32x2048_672_0, k0_pay41 sh sc (rows a1 h1 x0 672 inb_S1024x2048_S32x2048_672_0) (k0_pay40 (row a2 h2 x1))⟩,
    ⟨Rect.unit (s := S1024x2048) ![640, 0] S32x2048.size inb_S1024x2048_S32x2048_640_0, k0_pay39 sh sc (rows a1 h1 x0 640 inb_S1024x2048_S32x2048_640_0) (row a2 h2 x1)⟩,
    ⟨Rect.unit (s := S1024x2048) ![608, 0] S32x2048.size inb_S1024x2048_S32x2048_608_0, k0_pay38 sh sc (rows a1 h1 x0 608 inb_S1024x2048_S32x2048_608_0) (k0_pay36 (row a2 h2 x1)) (k0_pay37 (rows a1 h1 x0 608 inb_S1024x2048_S32x2048_608_0))⟩,
    ⟨Rect.unit (s := S1024x2048) ![576, 0] S32x2048.size inb_S1024x2048_S32x2048_576_0, k0_pay35 sh sc (rows a1 h1 x0 576 inb_S1024x2048_S32x2048_576_0) (row a2 h2 x1)⟩,
    ⟨Rect.unit (s := S1024x2048) ![544, 0] S32x2048.size inb_S1024x2048_S32x2048_544_0, k0_pay34 (k0_pay33 sh sc (rows a1 h1 x0 544 inb_S1024x2048_S32x2048_544_0) (row a2 h2 x1))⟩,
    ⟨Rect.unit (s := S1024x2048) ![512, 0] S32x2048.size inb_S1024x2048_S32x2048_512_0, k0_pay32 sh sc (rows a1 h1 x0 512 inb_S1024x2048_S32x2048_512_0) (k0_pay31 (row a2 h2 x1))⟩,
    ⟨Rect.unit (s := S1024x2048) ![480, 0] S32x2048.size inb_S1024x2048_S32x2048_480_0, k0_pay30 sh sc (rows a1 h1 x0 480 inb_S1024x2048_S32x2048_480_0) (row a2 h2 x1)⟩,
    ⟨Rect.unit (s := S1024x2048) ![448, 0] S32x2048.size inb_S1024x2048_S32x2048_448_0, k0_pay29 sh sc (rows a1 h1 x0 448 inb_S1024x2048_S32x2048_448_0) (k0_pay27 (row a2 h2 x1)) (k0_pay28 (rows a1 h1 x0 448 inb_S1024x2048_S32x2048_448_0))⟩,
    ⟨Rect.unit (s := S1024x2048) ![416, 0] S32x2048.size inb_S1024x2048_S32x2048_416_0, k0_pay26 sh sc (rows a1 h1 x0 416 inb_S1024x2048_S32x2048_416_0) (row a2 h2 x1)⟩,
    ⟨Rect.unit (s := S1024x2048) ![384, 0] S32x2048.size inb_S1024x2048_S32x2048_384_0, k0_pay25 (k0_pay24 sh sc (rows a1 h1 x0 384 inb_S1024x2048_S32x2048_384_0) (row a2 h2 x1))⟩,
    ⟨Rect.unit (s := S1024x2048) ![352, 0] S32x2048.size inb_S1024x2048_S32x2048_352_0, k0_pay23 sh sc (rows a1 h1 x0 352 inb_S1024x2048_S32x2048_352_0) (k0_pay22 (row a2 h2 x1))⟩,
    ⟨Rect.unit (s := S1024x2048) ![320, 0] S32x2048.size inb_S1024x2048_S32x2048_320_0, k0_pay21 sh sc (rows a1 h1 x0 320 inb_S1024x2048_S32x2048_320_0) (row a2 h2 x1)⟩,
    ⟨Rect.unit (s := S1024x2048) ![288, 0] S32x2048.size inb_S1024x2048_S32x2048_288_0, k0_pay20 sh sc (rows a1 h1 x0 288 inb_S1024x2048_S32x2048_288_0) (k0_pay18 (row a2 h2 x1)) (k0_pay19 (rows a1 h1 x0 288 inb_S1024x2048_S32x2048_288_0))⟩,
    ⟨Rect.unit (s := S1024x2048) ![256, 0] S32x2048.size inb_S1024x2048_S32x2048_256_0, k0_pay17 sh sc (rows a1 h1 x0 256 inb_S1024x2048_S32x2048_256_0) (row a2 h2 x1)⟩,
    ⟨Rect.unit (s := S1024x2048) ![224, 0] S32x2048.size inb_S1024x2048_S32x2048_224_0, k0_pay16 (k0_pay15 sh sc (rows a1 h1 x0 224 inb_S1024x2048_S32x2048_224_0) (row a2 h2 x1))⟩,
    ⟨Rect.unit (s := S1024x2048) ![192, 0] S32x2048.size inb_S1024x2048_S32x2048_192_0, k0_pay14 sh sc (rows a1 h1 x0 192 inb_S1024x2048_S32x2048_192_0) (k0_pay13 (row a2 h2 x1))⟩,
    ⟨Rect.unit (s := S1024x2048) ![160, 0] S32x2048.size inb_S1024x2048_S32x2048_160_0, k0_pay12 sh sc (rows a1 h1 x0 160 inb_S1024x2048_S32x2048_160_0) (row a2 h2 x1)⟩,
    ⟨Rect.unit (s := S1024x2048) ![128, 0] S32x2048.size inb_S1024x2048_S32x2048_128_0, k0_pay11 sh sc (rows a1 h1 x0 128 inb_S1024x2048_S32x2048_128_0) (k0_pay9 (row a2 h2 x1)) (k0_pay10 (rows a1 h1 x0 128 inb_S1024x2048_S32x2048_128_0))⟩,
    ⟨Rect.unit (s := S1024x2048) ![96, 0] S32x2048.size inb_S1024x2048_S32x2048_96_0, k0_pay8 sh sc (rows a1 h1 x0 96 inb_S1024x2048_S32x2048_96_0) (row a2 h2 x1)⟩,
    ⟨Rect.unit (s := S1024x2048) ![64, 0] S32x2048.size inb_S1024x2048_S32x2048_64_0, k0_pay7 (k0_pay6 sh sc (rows a1 h1 x0 64 inb_S1024x2048_S32x2048_64_0) (row a2 h2 x1))⟩,
    ⟨Rect.unit (s := S1024x2048) ![32, 0] S32x2048.size inb_S1024x2048_S32x2048_32_0, k0_pay5 sh sc (rows a1 h1 x0 32 inb_S1024x2048_S32x2048_32_0) (k0_pay4 (row a2 h2 x1))⟩,
    ⟨Rect.unit (s := S1024x2048) ![0, 0] S32x2048.size inb_S1024x2048_S32x2048_0_0, k0_pay3 sh sc (rows a1 h1 x0 0 inb_S1024x2048_S32x2048_0_0) (row a2 h2 x1)⟩]

/-- Every store writes the block's entries. -/
theorem hPieces_apply : ∀ p ∈ hPieces a1 h1 a2 h2 x0 x1 sc sh, ∀ x : p.1.shape.Idx, p.2 x = hk x0 x1 sc sh (p.1.emb x 0) (p.1.emb x 1) := by
  unfold hPieces
  repeat' (refine List.forall_mem_cons.2 ⟨fun x => chunk a1 h1 a2 h2 x0 x1 sc sh _ _ x, ?_⟩)
  exact fun p hp => absurd hp List.not_mem_nil

/-- A load of any box of the block reads its entries. -/
theorem hPieces_cov (B : LoadRect S1024x2048) :
    a13.view.readCov (hPieces a1 h1 a2 h2 x0 x1 sc sh) B = fun j => hk x0 x1 sc sh (B.idx j 0) (B.idx j 1) := by
  rw [View.readCov_eq_canon']
  funext j
  exact View.canon_apply_of_pieces (fun i => hk x0 x1 sc sh (i 0) (i 1)) _ (hPieces_apply a1 h1 a2 h2 x0 x1 sc sh) _
    (View.cover_of_tiledL (hPieces a1 h1 a2 h2 x0 x1 sc sh) S32x2048.size (by sl_kernel_rfl) _)

end Cert.KernelIdeal.Blk
-- ==== Proof.Pool.lean ====
/-
  The pooling of one block of 1024 positions. The sixteen positions before the block stand in front of it; a window of
  `2 ^ g` positions is summed by doubling (`stp`), each time adding the running sum as many positions back. The sums are
  `Pool.win` of the extended block (`stp_apply`), hence of the whole sequence (`poolz_apply`).
-/
module

public import proofs.«01_k».proof.Proof.Gen.KernelIdeal.Value
public import proofs.«01_k».proof.Proof.Spec

@[expose] public section
set_option maxRecDepth 16384
noncomputable section
open Idealize.ShloMosaic Idealize.ShloMosaic.TcCoe Idealize.SL.Sem
namespace Cert.KernelIdeal.Blk
open Cert.KernelIdeal Cert.KernelIdeal.Gen

/-- The positions of the extended block. -/
abbrev rowNo : IVec S1040x256 32 := iota .tc S1040x256 32 [0] iota_S1040x256_d0_w32

/-- The block's columns with the sixteen positions before it in front. -/
def cat (t : Vec Ideal S16x256 .f32) (p : Vec Ideal S1024x256 .f32) : Vec Ideal S1040x256 .f32 :=
  concatenate S1040x256 0 [⟨S16x256, t⟩, ⟨S1024x256, p⟩] concatenates_S16x256_S1024x256_S1040x256_d0

/-- One doubling: the running sum plus itself `b` positions back, nothing where there are fewer positions. -/
def stp (b : BitVec 32) (v : Vec Ideal S1040x256 .f32) : Vec Ideal S1040x256 .f32 :=
  addf v (select (cmpi .sge rowNo (broadcast S1040x256 b)) (dynamicRotate 0 b none v rotates_S1040x256_d0)
    (broadcast S1040x256 (Scalar.ofBits (F := Ideal) .f32 0x00000000#32)))

/-- The window's mean less the entry. -/
def poolz (s : Vec Ideal S1040x256 .f32) (pos : IVec S1024x256 32) (p : Vec Ideal S1024x256 .f32) (w : BitVec 32) : Vec Ideal S1024x256 .bf16 :=
  truncf (F := Ideal) .bf16 (subf (F := Ideal) (divf (extractStridedSlice S1024x256 ![16, 0] s slices_S1040x256_o16_0_S1024x256)
    (sitofp .f32 (minsi (broadcast S1024x256 w) (maxsi (broadcast S1024x256 1#32) (addi pos (broadcast S1024x256 1#32)))))) p) bitsLt_bf16_f32

theorem cat_apply (t : Vec Ideal S16x256 .f32) (p : Vec Ideal S1024x256 .f32) (r : Fin 1040) (c : Fin 256) :
    cat t p (ix2 r c) = if h : r.val < 16 then t (ix2 ⟨r.val, h⟩ c) else p (ix2 ⟨r.val - 16, by omega⟩ c) := by
  pointwise [cat]

/-- The word that says whether there are `k` positions before. -/
theorem geWord : ∀ r : Fin 1040,
    (IntOp.cmpi .sge (BitVec.ofNat 32 r.val) 1#32 = if 1 ≤ r.val then 1#1 else 0#1)
    ∧ (IntOp.cmpi .sge (BitVec.ofNat 32 r.val) 2#32 = if 2 ≤ r.val then 1#1 else 0#1)
    ∧ (IntOp.cmpi .sge (BitVec.ofNat 32 r.val) 4#32 = if 4 ≤ r.val then 1#1 else 0#1)
    ∧ (IntOp.cmpi .sge (BitVec.ofNat 32 r.val) 8#32 = if 8 ≤ r.val then 1#1 else 0#1) := by
  decide +kernel

/-- One doubling, entry by entry. -/
theorem stp_apply_aux (k : ℕ) (b : BitVec 32) (v : Vec Ideal S1040x256 .f32) (r : Fin 1040) (c : Fin 256) (hk : k < 1040)
    (hb : b.toNat = k) (hw : IntOp.cmpi .sge (BitVec.ofNat 32 r.val) b = if k ≤ r.val then 1#1 else 0#1) :
    stp b v (ix2 r c) = v (ix2 r c) + if k ≤ r.val then v (ix2 ⟨r.val - k, by omega⟩ c) else 0 := by
  pointwise [stp]
  refine congrArg _ ?_
  rw [hw]
  by_cases hr : k ≤ r.val
  · rw [if_pos hr, if_pos hr]
    refine congrArg (fun r => v (ix2 r c)) (Fin.ext ?_)
    show (r.val + 1040 - b.toNat % 1040) % 1040 = r.val - k
    rw [hb]; omega
  · rw [if_neg hr, if_neg hr]; rfl

/-- The running sums are windows of `E`. -/
def IsWin (w : ℕ) (E : Fin 256 → ℕ → EReal) (s : Vec Ideal S1040x256 .f32) : Prop :=
  ∀ (r : Fin 1040) (c : Fin 256), s (ix2 r c) = Cert.Pool.win w (E c) r.val

theorem isWin_stp (k : ℕ) (b : BitVec 32) (E : Fin 256 → ℕ → EReal) (s : Vec Ideal S1040x256 .f32) (hk : k < 1040) (hb : b.toNat = k)
    (hw : ∀ r : Fin 1040, IntOp.cmpi .sge (BitVec.ofNat 32 r.val) b = if k ≤ r.val then 1#1 else 0#1) (h : IsWin k E s) :
    IsWin (k + k) E (stp b s) := fun r c => by
  rw [stp_apply_aux k b s r c hk hb (hw r), h r c, ← Cert.Pool.win_double k (E c) r.val]
  refine congrArg _ ?_
  by_cases hr : k ≤ r.val
  · rw [if_pos hr, if_pos hr, h]
  · rw [if_neg hr, if_neg hr]

theorem poolz_apply_aux (s : Vec Ideal S1040x256 .f32) (pos : IVec S1024x256 32) (p : Vec Ideal S1024x256 .f32) (w : BitVec 32)
    (r : Fin 1024) (c : Fin 256) :
    poolz s pos p w (ix2 r c) = Ideal.div (s (ix2 ⟨16 + r.val, by omega⟩ c))
      (FloatOps.sitofp (F := Ideal) .f32 (IntOp.minsi w (IntOp.maxsi 1#32 (IntOp.addi (pos (ix2 r c)) 1#32)))) - p (ix2 r c) := by
  pointwise [poolz]

/-- The first position of the block is `1024 · b`; `pos` holds the block's positions. -/
theorem pos_apply (b : Fin 2) (r : Fin 1024) (c : Fin 256) :
    k0_pay64 (BitVec.ofNat 32 b.val) (ix2 r c) = BitVec.ofNat 32 (b.val * 1024 + r.val) := by
  pointwise [k0_pay64]
  exact (by decide +kernel : ∀ (b : Fin 2) (r : Fin 1024), IntOp.addi (Scalar.muli (BitVec.ofNat 32 b.val) 1024#32) (BitVec.ofNat 32 r.val)
    = BitVec.ofNat 32 (b.val * 1024 + r.val)) b r

/-- The extended block holds the sequence `S` from sixteen positions before `1024 · b` on. -/
def Ext (b : Fin 2) (S : Fin 256 → ℕ → EReal) (t : Vec Ideal S16x256 .f32) (p : Vec Ideal S1024x256 .f32) : Prop :=
  (∀ (r : Fin 16) (c : Fin 256), t (ix2 r c) = if b.val = 0 then 0 else S c (1008 + r.val))
  ∧ ∀ (r : Fin 1024) (c : Fin 256), p (ix2 r c) = S c (b.val * 1024 + r.val)

/-- The extended block as a function of all positions. -/
def ext (b : Fin 2) (S : Fin 256 → ℕ → EReal) (c : Fin 256) (q : ℕ) : EReal :=
  if 16 ≤ b.val * 1024 + q then S c (b.val * 1024 + q - 16) else 0

theorem cat_isWin (b : Fin 2) (S : Fin 256 → ℕ → EReal) (t : Vec Ideal S16x256 .f32) (p : Vec Ideal S1024x256 .f32) (h : Ext b S t p) :
    IsWin 1 (ext b S) (cat t p) := fun r c => by
  rw [Cert.Pool.win_one, cat_apply]
  unfold ext
  have hb : b.val = 0 ∨ b.val = 1 := by omega
  by_cases hr : r.val < 16
  · rw [dif_pos hr, h.1]
    rcases hb with hb | hb
    · rw [if_pos hb, hb, if_neg (by omega)]
    · rw [if_neg (by omega), hb, if_pos (by omega)]
      exact congrArg _ (show 1008 + r.val = 1 * 1024 + r.val - 16 by omega)
  · rw [dif_neg hr, h.2, if_pos (by omega)]
    exact congrArg _ (show b.val * 1024 + (r.val - 16) = b.val * 1024 + r.val - 16 by omega)

/-- The pooled entry of the block is the pooled entry of the sequence. -/
theorem poolz_apply (w : ℕ) (hw : w ≤ 16) (b : Fin 2) (S : Fin 256 → ℕ → EReal) (t : Vec Ideal S16x256 .f32)
    (p : Vec Ideal S1024x256 .f32) (h : Ext b S t p) (s : Vec Ideal S1040x256 .f32) (hs : IsWin w (ext b S) s) (wd : BitVec 32)
    (hwd : ∀ q : ℕ, q < 2048 → IntOp.minsi wd (IntOp.maxsi 1#32 (IntOp.addi (BitVec.ofNat 32 q) 1#32)) = BitVec.ofNat 32 (min w (q + 1)))
    (r : Fin 1024) (c : Fin 256) :
    poolz s (k0_pay64 (BitVec.ofNat 32 b.val)) p wd (ix2 r c) = Cert.Pool.mean w (S c) (b.val * 1024 + r.val) := by
  rw [poolz_apply_aux, pos_apply, hwd _ (by omega), hs, h.2]
  unfold Cert.Pool.mean
  refine congrArg (fun e => Ideal.div e _ - _) (Cert.Pool.win_congr _ _ _ _ _ fun j hj => ?_)
  show (if j ≤ 16 + r.val then ext b S c (16 + r.val - j) else 0) = _
  rw [if_pos (by omega)]
  unfold ext
  by_cases hq : j ≤ b.val * 1024 + r.val
  · rw [if_pos hq, if_pos (by omega)]
    exact congrArg _ (by omega)
  · rw [if_neg hq, if_neg (by omega)]

/-- The output projection of a pooled group: times the group's matrix, plus its bias, times its scale. -/
theorem pay66_apply (z : Vec Ideal S1024x256 .bf16) (pw : Vec Ideal S1x256x256 .bf16) (pb ps : Vec Ideal S1x256 .f32) (r : Fin 1024) (d : Fin 256) :
    k0_pay66 z pw pb ps (ix2 r d) = ((∑ q : Fin 256, z (ix2 r q) * pw (ix3 0 q d)) + pb (ix2 0 d)) * ps (ix2 0 d) := by
  pointwise [k0_pay66]

section Groups
variable (b : Fin 2) (S : Fin 256 → ℕ → EReal) (t : Vec Ideal S16x256 .f32) (pv : Vec Ideal S1024x1024 .f32)
variable (pw : Vec Ideal S1x256x256 .bf16) (pb ps : Vec Ideal S1x256 .f32) (r : Fin 1024) (d : Fin 256)

/-- What a group's output entry is. -/
abbrev groupOut (w : ℕ) : EReal :=
  ((∑ q : Fin 256, Cert.Pool.mean w (S q) (b.val * 1024 + r.val) * pw (ix3 0 q d)) + pb (ix2 0 d)) * ps (ix2 0 d)

theorem groupOut_of (w : ℕ) (z : Vec Ideal S1024x256 .bf16) (hz : ∀ q, z (ix2 r q) = Cert.Pool.mean w (S q) (b.val * 1024 + r.val)) :
    k0_pay66 z pw pb ps (ix2 r d) = groupOut b S pw pb ps r d w := by
  rw [pay66_apply]
  exact congrArg (fun e => (e + _) * _) (Finset.sum_congr rfl fun q _ => by rw [hz])

/-- Group 0 pools two positions. -/
theorem group0 (h : Ext b S t (extractStridedSlice S1024x256 ![0, 0] pv slices_S1024x1024_o0_0_S1024x256)) :
    k0_pay66 (k0_pay65 (BitVec.ofNat 32 b.val) pv t) pw pb ps (ix2 r d) = groupOut b S pw pb ps r d 2 :=
  groupOut_of b S pw pb ps r d 2 _ fun q =>
    poolz_apply 2 (by omega) b S t _ h (stp 1#32 (cat t _)) (isWin_stp 1 _ _ _ (by omega) rfl (fun r => (geWord r).1) (cat_isWin b S t _ h)) 2#32
      (fun q hq => (Cert.Pool.cntWord q hq).1) r q

/-- Group 1 pools four positions. -/
theorem group1 (h : Ext b S t (extractStridedSlice S1024x256 ![0, 256] pv slices_S1024x1024_o0_256_S1024x256)) :
    k0_pay68 (k0_pay67 pv rowNo (k0_pay64 (BitVec.ofNat 32 b.val)) t) pw pb ps (ix2 r d) = groupOut b S pw pb ps r d 4 :=
  groupOut_of b S pw pb ps r d 4 _ fun q =>
    poolz_apply 4 (by omega) b S t _ h (stp 2#32 (stp 1#32 (cat t _)))
      (isWin_stp 2 _ _ _ (by omega) rfl (fun r => (geWord r).2.1)
        (isWin_stp 1 _ _ _ (by omega) rfl (fun r => (geWord r).1) (cat_isWin b S t _ h))) 4#32
      (fun q hq => (Cert.Pool.cntWord q hq).2.1) r q

/-- Group 2 pools eight positions. -/
theorem group2 (h : Ext b S t (k0_pay69 (F := Ideal) pv)) :
    k0_pay72 (k0_pay69 pv) (k0_pay70 pv rowNo t) (k0_pay71 (k0_pay64 (BitVec.ofNat 32 b.val))) 1#32 8#32 pw pb ps (ix2 r d)
      = groupOut b S pw pb ps r d 8 :=
  groupOut_of b S pw pb ps r d 8 _ fun q =>
    poolz_apply 8 (by omega) b S t _ h (stp 4#32 (stp 2#32 (stp 1#32 (cat t _))))
      (isWin_stp 4 _ _ _ (by omega) rfl (fun r => (geWord r).2.2.1)
        (isWin_stp 2 _ _ _ (by omega) rfl (fun r => (geWord r).2.1)
          (isWin_stp 1 _ _ _ (by omega) rfl (fun r => (geWord r).1) (cat_isWin b S t _ h)))) 8#32
      (fun q hq => (Cert.Pool.cntWord q hq).2.2.1) r q

/-- Group 3 pools sixteen positions. -/
theorem group3 (h : Ext b S t (k0_pay73 (F := Ideal) pv)) :
    k0_pay76 rowNo (k0_pay64 (BitVec.ofNat 32 b.val)) (k0_pay73 pv) (k0_pay74 pv rowNo t) (k0_pay75 rowNo) 4#32 pw pb ps (ix2 r d)
      = groupOut b S pw pb ps r d 16 :=
  groupOut_of b S pw pb ps r d 16 _ fun q =>
    poolz_apply 16 (by omega) b S t _ h (stp 8#32 (stp 4#32 (stp 2#32 (stp 1#32 (cat t _)))))
      (isWin_stp 8 _ _ _ (by omega) rfl (fun r => (geWord r).2.2.2)
        (isWin_stp 4 _ _ _ (by omega) rfl (fun r => (geWord r).2.2.1)
          (isWin_stp 2 _ _ _ (by omega) rfl (fun r => (geWord r).2.1)
            (isWin_stp 1 _ _ _ (by omega) rfl (fun r => (geWord r).1) (cat_isWin b S t _ h))))) 16#32
      (fun q hq => (Cert.Pool.cntWord q hq).2.2.2) r q

end Groups

end Cert.KernelIdeal.Blk
-- ==== Proof.Block.lean ====
/-
  What one grid point leaves in its three output blocks and in the sixteen rows it carries on, entry by entry: the
  projection of the normalised rows (`prj`), and the pooled groups over a sequence `S` that the block continues.
-/
module

public import proofs.«01_k».proof.Proof.Norm
public import proofs.«01_k».proof.Proof.Pool

@[expose] public section
set_option maxRecDepth 16384
noncomputable section
open Idealize.ShloMosaic Idealize.ShloMosaic.TcCoe Idealize.SL.Sem
namespace Cert.KernelIdeal.Blk
open Cert.KernelIdeal Cert.KernelIdeal.Gen

/-- One entry of the block's projection. -/
def prj (x0 : Vec Ideal S1024x2048 .f32) (x1 sc sh : Vec Ideal S1x2048 .f32) (x4 : Vec Ideal S2048x2048 .bf16) (r : Fin 1024) (k : Fin 2048) : EReal :=
  ∑ j, hk x0 x1 sc sh r j * x4 (ix2 j k)

/-- Row `n` of the eight rows of modulations. -/
def modRow (x : Vec Ideal S8x2048 .f32) (n : Fin 8) : Vec Ideal S1x2048 .f32 := fun j => x (ix2 n (j 1))

theorem modRow_load (a : Memref sig .tc .vmem S8x2048 .f32) (h : a.IsWhole) (x : Vec Ideal S8x2048 .f32) (off : Fin 2 → ℕ)
    (hb : ∀ k, off k + S1x2048.size k ≤ S8x2048.size k) (n : Fin 8) (ho : off = ![n.val, 0]) :
    View.readAt (Elt Ideal) a.view (Rect.unit (s := S8x2048) off S1x2048.size hb).toLoadRect (h.unread x) = modRow x n := by
  subst ho
  rw [View.readAt_eq_ld, h.read_unread]
  funext j
  obtain ⟨r, k, rfl⟩ : ∃ r k, j = ix2 r k := ⟨j 0, j 1, eq_ix2 j⟩
  refine View.ld_unit_apply_of _ _ _ _ _ _ fun a => ?_
  match a with
  | ⟨0, _⟩ => show n.val = n.val + r.val; omega
  | ⟨1, _⟩ => exact (Nat.zero_add _).symm

/-- A box of a matrix, loaded. -/
theorem load2 {n0 n1 m0 m1 : ℕ} {e : EltTy} (a : Memref sig .tc .vmem ⟨2, ![n0, n1]⟩ e) (h : a.IsWhole)
    (x : Vec Ideal ⟨2, ![n0, n1]⟩ e) (o0 o1 : ℕ) (hb : ∀ k, (![o0, o1] : Fin 2 → ℕ) k + (![m0, m1] : Fin 2 → ℕ) k ≤ (![n0, n1] : Fin 2 → ℕ) k)
    (r : Fin m0) (k : Fin m1) (r' : Fin n0) (k' : Fin n1) (hr : r'.val = o0 + r.val) (hk : k'.val = o1 + k.val) :
    View.readAt (Elt Ideal) a.view (Rect.unit (s := ⟨2, ![n0, n1]⟩) ![o0, o1] ![m0, m1] hb).toLoadRect (h.unread x) (ix2 r k)
      = x (ix2 r' k') := by
  rw [View.readAt_eq_ld, h.read_unread]
  refine View.ld_unit_apply_of _ _ _ _ _ _ fun a => ?_
  match a with
  | ⟨0, _⟩ => exact hr
  | ⟨1, _⟩ => exact hk

/-- One group's matrix, loaded. -/
theorem load3 (a : Memref sig .tc .vmem S4x256x256 .bf16) (h : a.IsWhole) (x : Vec Ideal S4x256x256 .bf16) (g : Fin 4)
    (hb : ∀ k, (![g.val, 0, 0] : Fin 3 → ℕ) k + (![1, 256, 256] : Fin 3 → ℕ) k ≤ S4x256x256.size k) (q d : Fin 256) :
    View.readAt (Elt Ideal) a.view (Rect.unit (s := S4x256x256) ![g.val, 0, 0] ![1, 256, 256] hb).toLoadRect (h.unread x) (ix3 0 q d)
      = x (ix3 g q d) := by
  rw [View.readAt_eq_ld, h.read_unread]
  refine View.ld_unit_apply_of _ _ _ _ _ _ fun a => ?_
  match a with
  | ⟨0, _⟩ => exact (Nat.add_zero _).symm
  | ⟨1, _⟩ => exact (Nat.zero_add _).symm
  | ⟨2, _⟩ => exact (Nat.zero_add _).symm

/-- The number of the sequence, from the number of the grid point. -/
theorem seqWord (n : ℕ) (hn : n < 8) : (
      have arg0 := BitVec.ofNat 32 n;
      have c0_i32_4 := 0#32;
      have v11 := Scalar.cmpi CmpIPredicate.sgt arg0 c0_i32_4;
      have v12 := Scalar.extui v11;
      have c0_i32_5 := 0#32;
      have v13 := Scalar.cmpi CmpIPredicate.slt arg0 c0_i32_5;
      have v14 := Scalar.extui v13;
      have v15 := Scalar.subi v12 v14;
      have c2_i32_3 := 2#32;
      have c0_i32_6 := 0#32;
      have v16 := Scalar.cmpi CmpIPredicate.sgt c2_i32_3 c0_i32_6;
      have v17 := Scalar.extui v16;
      have c0_i32_7 := 0#32;
      have v18 := Scalar.cmpi CmpIPredicate.slt c2_i32_3 c0_i32_7;
      have v19 := Scalar.extui v18;
      have v20 := Scalar.subi v17 v19;
      have v21 := Scalar.cmpi CmpIPredicate.ne v15 v20;
      have v22 := Scalar.remsi arg0 c2_i32_3;
      have c0_i32_8 := 0#32;
      have v23 := Scalar.cmpi CmpIPredicate.ne v22 c0_i32_8;
      have v24 := Scalar.andi v21 v23;
      have v10 := Scalar.divsi arg0 c2_i32_3;
      have c1_i32_9 := 1#32;
      have v25 := Scalar.subi v10 c1_i32_9;
      have v26 := Scalar.select v24 v25 v10;
      have v27 : BitVec 32 := Scalar.indexCast v26;
      ![BitVec.toNat v27, 0]) = (![n / 2, 0] : Fin 2 → ℕ) := by
  interval_cases n <;> rfl

/-- Which half of the sequence the grid point works on. -/
theorem halfWord (n : ℕ) (hn : n < 8) :
    Scalar.select (Scalar.andi (Scalar.xori (Scalar.cmpi CmpIPredicate.slt (Scalar.remsi (BitVec.ofNat 32 n) 2#32) 0#32) 0#1)
        (Scalar.cmpi CmpIPredicate.ne (Scalar.remsi (BitVec.ofNat 32 n) 2#32) 0#32))
      (Scalar.addi (Scalar.remsi (BitVec.ofNat 32 n) 2#32) 2#32) (Scalar.remsi (BitVec.ofNat 32 n) 2#32) = BitVec.ofNat 32 (n % 2) := by
  interval_cases n <;> rfl

section
variable (a5 : Memref sig .tc .vmem S2048x2048 .bf16) (h5 : a5.IsWhole)
variable (x0 : Vec Ideal S1024x2048 .f32) (x1 sc sh : Vec Ideal S1x2048 .f32) (x4 : Vec Ideal S2048x2048 .bf16)

/-- Half of the normalised block, as loaded. -/
abbrev half (o : ℕ) (hb : ∀ a, (![o, 0] : Fin 2 → ℕ) a + S512x2048.size a ≤ S1024x2048.size a) : Vec Ideal S512x2048 .bf16 := fun j =>
  hk x0 x1 sc sh ((Rect.unit (s := S1024x2048) ![o, 0] S512x2048.size hb).idx j 0) ((Rect.unit (s := S1024x2048) ![o, 0] S512x2048.size hb).idx j 1)

theorem half_apply (o : ℕ) (hb : ∀ a, (![o, 0] : Fin 2 → ℕ) a + S512x2048.size a ≤ S1024x2048.size a) (r : Fin 512) (k : Fin 2048)
    (r' : Fin 1024) (hr : r'.val = o + r.val) : half x0 x1 sc sh o hb (ix2 r k) = hk x0 x1 sc sh r' k :=
  congrArg₂ (hk x0 x1 sc sh) (Fin.ext (by show o + 1 * r.val = r'.val; omega)) (Fin.ext (by show 0 + 1 * k.val = k.val; omega))

/-- A half of the projection's columns, loaded. -/
abbrev wcols (o : ℕ) (hb : ∀ a, (![0, o] : Fin 2 → ℕ) a + S2048x1024.size a ≤ S2048x2048.size a) : Vec Ideal S2048x1024 .bf16 :=
  View.readAt (Elt Ideal) a5.view (Rect.unit (s := S2048x2048) ![0, o] S2048x1024.size hb).toLoadRect (h5.unread x4)

theorem wcols_apply (o : ℕ) (hb : ∀ a, (![0, o] : Fin 2 → ℕ) a + S2048x1024.size a ≤ S2048x2048.size a) (r : Fin 2048) (k : Fin 1024)
    (k' : Fin 2048) (hk : k'.val = o + k.val) : wcols a5 h5 x4 o hb (ix2 r k) = x4 (ix2 r k') :=
  load2 a5 h5 x4 0 o hb r k r k' (Nat.zero_add _).symm hk

/-- The pooling half of the projection. -/
abbrev pvec : Vec Ideal S1024x1024 .f32 :=
  k0_pay60 (half x0 x1 sc sh 0 inb_S1024x2048_S512x2048_0_0) (wcols a5 h5 x4 1024 inb_S2048x2048_S2048x1024_0_1024)
    (half x0 x1 sc sh 512 inb_S1024x2048_S512x2048_512_0) (wcols a5 h5 x4 1024 inb_S2048x2048_S2048x1024_0_1024)

theorem pvec_apply (r k : Fin 1024) : pvec a5 h5 x0 x1 sc sh x4 (ix2 r k) = prj x0 x1 sc sh x4 r ⟨1024 + k.val, by omega⟩ := by
  have e : ∀ (a b : Vec Ideal S512x2048 .bf16) (w : Vec Ideal S2048x1024 .bf16), k0_pay60 a w b w (ix2 r k)
      = if h : r.val < 512 then ∑ j, a (ix2 ⟨r.val, h⟩ j) * w (ix2 j k) else ∑ j, b (ix2 ⟨r.val - 512, by omega⟩ j) * w (ix2 j k) := by
    intro a b w
    pointwise [k0_pay60]
  refine (e _ _ _).trans ?_
  unfold prj
  by_cases h : r.val < 512
  · rw [dif_pos h]
    exact Finset.sum_congr rfl fun j _ => congrArg₂ (· * ·) (half_apply _ _ _ _ _ _ _ _ r (Nat.zero_add _).symm) (wcols_apply _ _ _ _ _ _ _ _ rfl)
  · rw [dif_neg h]
    exact Finset.sum_congr rfl fun j _ => congrArg₂ (· * ·) (half_apply _ _ _ _ _ _ _ _ r (by show r.val = 512 + (r.val - 512); omega)) (wcols_apply _ _ _ _ _ _ _ _ rfl)

theorem u0_apply (q : Fin 64) (z : Fin 1) (s : Fin 8) (k : Fin 1024) (hw) :
    k0_pay62 (k0_pay61 (half x0 x1 sc sh 0 inb_S1024x2048_S512x2048_0_0) (wcols a5 h5 x4 0 hw)) (ix4 q z s k)
      = prj x0 x1 sc sh x4 ⟨q.val * 8 + s.val, by omega⟩ ⟨k.val, by omega⟩ := by
  have e : ∀ (a : Vec Ideal S512x2048 .bf16) (w : Vec Ideal S2048x1024 .bf16), k0_pay62 (k0_pay61 a w) (ix4 q z s k)
      = ∑ j, a (ix2 ⟨q.val * 8 + s.val, by omega⟩ j) * w (ix2 j k) := by
    intro a w
    pointwise [k0_pay62, k0_pay61]
  refine (e _ _).trans ?_
  exact Finset.sum_congr rfl fun j _ => congrArg₂ (· * ·) (half_apply _ _ _ _ _ _ _ _ _ (Nat.zero_add _).symm) (wcols_apply _ _ _ _ _ _ _ _ (Nat.zero_add _).symm)

theorem u1_apply (q : Fin 64) (z : Fin 1) (s : Fin 8) (k : Fin 1024) (hw) :
    k0_pay63 (half x0 x1 sc sh 512 inb_S1024x2048_S512x2048_512_0) (wcols a5 h5 x4 0 hw) (ix4 q z s k)
      = prj x0 x1 sc sh x4 ⟨512 + (q.val * 8 + s.val), by omega⟩ ⟨k.val, by omega⟩ := by
  have e : ∀ (a : Vec Ideal S512x2048 .bf16) (w : Vec Ideal S2048x1024 .bf16), k0_pay63 a w (ix4 q z s k)
      = ∑ j, a (ix2 ⟨q.val * 8 + s.val, by omega⟩ j) * w (ix2 j k) := by
    intro a w
    pointwise [k0_pay63]
  refine (e _ _).trans ?_
  exact Finset.sum_congr rfl fun j _ => congrArg₂ (· * ·) (half_apply _ _ _ _ _ _ _ _ _ rfl) (wcols_apply _ _ _ _ _ _ _ _ (Nat.zero_add _).symm)
end

section
variable (c : Dev nD) (i : grid0.Coords)
variable (a1 : Memref sig .tc .vmem S1024x2048 .f32) (h1 : a1.IsWhole)
variable (a2 : Memref sig .tc .vmem S1x2048 .f32) (h2 : a2.IsWhole)
variable (a3 : Memref sig .tc .vmem S8x2048 .f32) (h3 : a3.IsWhole)
variable (a4 : Memref sig .tc .vmem S8x2048 .f32) (h4 : a4.IsWhole)
variable (a5 : Memref sig .tc .vmem S2048x2048 .bf16) (h5 : a5.IsWhole)
variable (a6 : Memref sig .tc .vmem S4x256x256 .bf16) (h6 : a6.IsWhole)
variable (a7 : Memref sig .tc .vmem S1x1024 .f32) (h7 : a7.IsWhole)
variable (a8 : Memref sig .tc .vmem S1x1024 .f32) (h8 : a8.IsWhole)
variable (a9 : Memref sig .tc .vmem S128x1x8x1024 .f32) (h9 : a9.IsWhole)
variable (a10 : Memref sig .tc .vmem S1024x1024 .bf16) (h10 : a10.IsWhole)
variable (a11 : Memref sig .tc .vmem S1x16x1024 .f32) (h11 : a11.IsWhole)
variable (a12 : Memref sig .tc .vmem S16x1024 .f32) (h12 : a12.IsWhole)
variable (a13 : Memref sig .tc .vmem S1024x2048 .bf16) (h13 : a13.IsWhole)
variable (x0 : Vec Ideal S1024x2048 .f32)
variable (x1 : Vec Ideal S1x2048 .f32)
variable (x2 : Vec Ideal S8x2048 .f32)
variable (x3 : Vec Ideal S8x2048 .f32)
variable (x4 : Vec Ideal S2048x2048 .bf16)
variable (x5 : Vec Ideal S4x256x256 .bf16)
variable (x6 : Vec Ideal S1x1024 .f32)
variable (x7 : Vec Ideal S1x1024 .f32)

/-- The grid point's number, below eight. -/
theorem pt_lt : (i 0).val < 8 := (i 0).isLt

/-- The sequence the grid point works on. -/
abbrev seqOf : Fin 8 := ⟨(i 0).val / 2, by have := pt_lt i; omega⟩

/-- The sixteen rows before a sequence are zero. -/
theorem tail_zero (o : ℕ) (hb : ∀ k, (![0, o] : Fin 2 → ℕ) k + S16x256.size k ≤ S16x1024.size k) (r : Fin 16) (k : Fin 256) :
    a12.view.readCov [(⟨Rect.unit (s := S16x1024) ![0, 0] S16x1024.size inb_S16x1024_S16x1024_0_0, k0_pay2 (F := Ideal)⟩ : View.Piece (Elt Ideal) S16x1024 .f32)]
      (Rect.unit (s := S16x1024) ![0, o] S16x256.size hb).toLoadRect (ix2 r k) = 0 := by
  rw [View.readCov_eq_canon']
  have e : ∀ y : S16x1024.Idx, View.canon [(⟨Rect.unit (s := S16x1024) ![0, 0] S16x1024.size inb_S16x1024_S16x1024_0_0, k0_pay2 (F := Ideal)⟩ : View.Piece (Elt Ideal) S16x1024 .f32)] y = 0 := by
    intro y
    rw [View.canon_cons_unit_zero (by decide)]
    show k0_pay2 (F := Ideal) y = 0
    pointwise [k0_pay2]
  exact e _

/-- The pooling of group `g` over the sequence `S`, at a position of half `b` and channel `d` of the group. -/
def poolAt (b : Fin 2) (S : Fin 1024 → ℕ → EReal) (r : Fin 1024) (g : Fin 4) (d : Fin 256) : EReal :=
  ((∑ q : Fin 256, Cert.Pool.mean (2 ^ (g.val + 1)) (S ⟨g.val * 256 + q.val, by omega⟩) (b.val * 1024 + r.val) * x5 (ix3 g q d))
    + x6 (ix2 0 ⟨g.val * 256 + d.val, by omega⟩)) * x7 (ix2 0 ⟨g.val * 256 + d.val, by omega⟩)

theorem groupOut_poolAt (b : Fin 2) (S : Fin 1024 → ℕ → EReal) (r : Fin 1024) (g : Fin 4) (d : Fin 256) (w : ℕ) (hw : w = 2 ^ (g.val + 1))
    (S' : Fin 256 → ℕ → EReal) (hS : ∀ q, S' q = S ⟨g.val * 256 + q.val, by omega⟩)
    (hb6 : ∀ k, (![g.val, 0, 0] : Fin 3 → ℕ) k + (![1, 256, 256] : Fin 3 → ℕ) k ≤ S4x256x256.size k)
    (o : ℕ) (ho : o = g.val * 256)
    (hb7 hb8 : ∀ k, (![0, o] : Fin 2 → ℕ) k + (![1, 256] : Fin 2 → ℕ) k ≤ S1x1024.size k)
    (y0 : Fin 1024) (hy : y0.val = 0 + 1 * r.val) (y1 : Fin 1024) (hy1 : y1.val = o + 1 * d.val) :
    groupOut b S' (View.readAt (Elt Ideal) a6.view (Rect.unit (s := S4x256x256) ![g.val, 0, 0] ![1, 256, 256] hb6).toLoadRect (h6.unread x5))
      (View.readAt (Elt Ideal) a7.view (Rect.unit (s := S1x1024) ![0, o] ![1, 256] hb7).toLoadRect (h7.unread x6))
      (View.readAt (Elt Ideal) a8.view (Rect.unit (s := S1x1024) ![0, o] ![1, 256] hb8).toLoadRect (h8.unread x7)) r d w
      = poolAt x5 x6 x7 b S y0 ⟨y1.val / 256, by omega⟩ ⟨y1.val % 256, by omega⟩ := by
  obtain rfl : y0 = r := Fin.ext (by omega)
  have hg : (⟨y1.val / 256, by omega⟩ : Fin 4) = g := Fin.ext (by show y1.val / 256 = g.val; omega)
  have hd : (⟨y1.val % 256, by omega⟩ : Fin 256) = d := Fin.ext (by show y1.val % 256 = d.val; omega)
  rw [hg, hd]
  subst hw
  unfold groupOut poolAt
  refine congrArg₂ (· * ·) (congrArg₂ (· + ·) (Finset.sum_congr rfl fun q _ => congrArg₂ (· * ·) (by rw [hS]) ?_) ?_) ?_
  · exact load3 a6 h6 x5 g hb6 q d
  · exact load2 a7 h7 x6 0 o hb7 0 d 0 _ rfl (by show g.val * 256 + d.val = o + d.val; omega)
  · exact load2 a8 h8 x7 0 o hb8 0 d 0 _ rfl (by show g.val * 256 + d.val = o + d.val; omega)

/-- The last sixteen rows. -/
theorem tailCols (pv : Vec Ideal S1024x1024 .f32) (z : Fin 1) (r : Fin 16) (k : Fin 1024) :
    k0_pay78 (F := Ideal) pv (ix2 r k) = pv (ix2 ⟨1008 + r.val, by omega⟩ k) ∧ k0_pay1 (F := Ideal) (k0_pay77 pv) (ix3 z r k) = pv (ix2 ⟨1008 + r.val, by omega⟩ k) := by
  constructor
  · pointwise [k0_pay78, k0_pay77]
  · pointwise [k0_pay1, k0_pay77]

/-- The pooling half, a group's columns at a time. -/
theorem slice_apply (pv : Vec Ideal S1024x1024 .f32) (r : Fin 1024) (k : Fin 256) :

    (extractStridedSlice S1024x256 ![0, 0] pv slices_S1024x1024_o0_0_S1024x256) (ix2 r k) = pv (ix2 r ⟨0 + k.val, by omega⟩) ∧
    (extractStridedSlice S1024x256 ![0, 256] pv slices_S1024x1024_o0_256_S1024x256) (ix2 r k) = pv (ix2 r ⟨256 + k.val, by omega⟩) ∧
    (k0_pay69 (F := Ideal) pv) (ix2 r k) = pv (ix2 r ⟨512 + k.val, by omega⟩) ∧
    (k0_pay73 (F := Ideal) pv) (ix2 r k) = pv (ix2 r ⟨768 + k.val, by omega⟩) := by
  refine ⟨?_, ?_, ?_, ?_⟩
  · pointwise []
  · pointwise []
  · pointwise [k0_pay69]
  · pointwise [k0_pay73]

theorem out8_A (hc : cond0_0 i) (q : Fin 128) (z : Fin 1) (s : Fin 8) (k : Fin 1024) :
    out0_A_8 (F := Ideal) c i a1 h1 a2 h2 a3 h3 a4 h4 a5 h5 a6 h6 a7 h7 a8 h8 a9 h9 a10 h10 a11 h11 a12 h12 a13 h13 hc x0 x1 x2 x3 x4 x5 x6 x7 (ix4 q z s k) = prj x0 x1 (modRow x3 (seqOf i)) (modRow x2 (seqOf i)) x4 ⟨q.val * 8 + s.val, by omega⟩ ⟨k.val, by omega⟩ := by
  unfold out0_A_8
  rw [View.read_writes_junk_eq_canon]
  unfold kernelRun0_A
  dsimp only
  sl_unfold_words
  generalize hsh : View.readAt (Elt Ideal) a3.view _ _ = sh
  generalize hsc : View.readAt (Elt Ideal) a4.view _ _ = sc
  obtain rfl : sh = modRow x2 (seqOf i) := hsh.symm.trans (modRow_load a3 h3 x2 _ (k0_off1_inb i) (seqOf i) (seqWord _ (pt_lt i)))
  obtain rfl : sc = modRow x3 (seqOf i) := hsc.symm.trans (modRow_load a4 h4 x3 _ (k0_off1_inb i) (seqOf i) (seqWord _ (pt_lt i)))
  clear hsh hsc
  have key := hPieces_cov a1 h1 a2 h2 a13 x0 x1 (modRow x3 (seqOf i)) (modRow x2 (seqOf i))
  unfold hPieces rows row at key
  rw [key, key]
  clear key
  refine View.canon_apply_of_pieces (Val := Elt Ideal) (e := .f32) (fun y : S128x1x8x1024.Idx => prj x0 x1 (modRow x3 (seqOf i)) (modRow x2 (seqOf i)) x4 ⟨(y 0).val * 8 + (y 2).val, by have h0 : (y 0).val < 128 := (y 0).isLt; have h2 : (y 2).val < 8 := (y 2).isLt; omega⟩ ⟨(y 3).val, by have h3 : (y 3).val < 1024 := (y 3).isLt; omega⟩) _ ?_ _ ?_
  · intro p hp x
    simp only [List.mem_cons, List.not_mem_nil, or_false] at hp
    rcases hp with rfl | rfl
    · obtain ⟨q, z, s, k, rfl⟩ : ∃ (q : Fin 64) (z : Fin 1) (s : Fin 8) (k : Fin 1024), x = ix4 q z s k := ⟨x 0, x 1, x 2, x 3, eq_ix4 x⟩
      refine (u1_apply a5 h5 x0 x1 _ _ x4 q z s k _).trans (congrArg₂ (prj x0 x1 _ _ x4) (Fin.ext ?_) (Fin.ext ?_))
      · show 512 + (q.val * 8 + s.val) = (64 + 1 * q.val) * 8 + (0 + 1 * s.val); omega
      · show k.val = 0 + 1 * k.val; omega
    · obtain ⟨q, z, s, k, rfl⟩ : ∃ (q : Fin 64) (z : Fin 1) (s : Fin 8) (k : Fin 1024), x = ix4 q z s k := ⟨x 0, x 1, x 2, x 3, eq_ix4 x⟩
      refine (u0_apply a5 h5 x0 x1 _ _ x4 q z s k _).trans (congrArg₂ (prj x0 x1 _ _ x4) (Fin.ext ?_) (Fin.ext ?_))
      · show q.val * 8 + s.val = (0 + 1 * q.val) * 8 + (0 + 1 * s.val); omega
      · show k.val = 0 + 1 * k.val; omega
  · exact View.cover_of_tiledL (s := S128x1x8x1024) _ S64x1x8x1024.size (by sl_kernel_rfl) _

theorem tail_A (hc : cond0_0 i) (r : Fin 16) (k : Fin 1024) :
    sout0_A_0 (F := Ideal) c i a1 h1 a2 h2 a3 h3 a4 h4 a5 h5 a6 h6 a7 h7 a8 h8 a9 h9 a10 h10 a11 h11 a12 h12 a13 h13 hc x0 x1 x2 x3 x4 x5 x6 x7 (ix2 r k) = prj x0 x1 (modRow x3 (seqOf i)) (modRow x2 (seqOf i)) x4 ⟨1008 + r.val, by omega⟩ ⟨1024 + k.val, by omega⟩ := by
  unfold sout0_A_0
  rw [View.read_writes_junk_eq_canon]
  unfold kernelRun0_A
  dsimp only
  sl_unfold_words
  generalize hsh : View.readAt (Elt Ideal) a3.view _ _ = sh
  generalize hsc : View.readAt (Elt Ideal) a4.view _ _ = sc
  obtain rfl : sh = modRow x2 (seqOf i) := hsh.symm.trans (modRow_load a3 h3 x2 _ (k0_off1_inb i) (seqOf i) (seqWord _ (pt_lt i)))
  obtain rfl : sc = modRow x3 (seqOf i) := hsc.symm.trans (modRow_load a4 h4 x3 _ (k0_off1_inb i) (seqOf i) (seqWord _ (pt_lt i)))
  clear hsh hsc
  have key := hPieces_cov a1 h1 a2 h2 a13 x0 x1 (modRow x3 (seqOf i)) (modRow x2 (seqOf i))
  unfold hPieces rows row at key
  rw [key, key]
  clear key
  rw [View.canon_cons_unit_zero (by decide)]
  exact (tailCols (pvec a5 h5 x0 x1 (modRow x3 (seqOf i)) (modRow x2 (seqOf i)) x4) 0 r k).1.trans (pvec_apply _ _ _ _ _ _ _ _ _)

theorem out10_A (hc : cond0_0 i) (z : Fin 1) (r : Fin 16) (k : Fin 1024) :
    out0_A_10 (F := Ideal) c i a1 h1 a2 h2 a3 h3 a4 h4 a5 h5 a6 h6 a7 h7 a8 h8 a9 h9 a10 h10 a11 h11 a12 h12 a13 h13 hc x0 x1 x2 x3 x4 x5 x6 x7 (ix3 z r k) = prj x0 x1 (modRow x3 (seqOf i)) (modRow x2 (seqOf i)) x4 ⟨1008 + r.val, by omega⟩ ⟨1024 + k.val, by omega⟩ := by
  unfold out0_A_10
  rw [View.read_writes_junk_eq_canon]
  unfold kernelRun0_A
  dsimp only
  sl_unfold_words
  generalize hsh : View.readAt (Elt Ideal) a3.view _ _ = sh
  generalize hsc : View.readAt (Elt Ideal) a4.view _ _ = sc
  obtain rfl : sh = modRow x2 (seqOf i) := hsh.symm.trans (modRow_load a3 h3 x2 _ (k0_off1_inb i) (seqOf i) (seqWord _ (pt_lt i)))
  obtain rfl : sc = modRow x3 (seqOf i) := hsc.symm.trans (modRow_load a4 h4 x3 _ (k0_off1_inb i) (seqOf i) (seqWord _ (pt_lt i)))
  clear hsh hsc
  have key := hPieces_cov a1 h1 a2 h2 a13 x0 x1 (modRow x3 (seqOf i)) (modRow x2 (seqOf i))
  unfold hPieces rows row at key
  rw [key, key]
  clear key
  rw [View.canon_cons_unit_zero (by decide)]
  exact (tailCols (pvec a5 h5 x0 x1 (modRow x3 (seqOf i)) (modRow x2 (seqOf i)) x4) z r k).2.trans (pvec_apply _ _ _ _ _ _ _ _ _)

theorem out9_A (hc : cond0_0 i) (hi : (i 0).val % 2 = 0) (S : Fin 1024 → ℕ → EReal)
    (hS : ∀ r k, prj x0 x1 (modRow x3 (seqOf i)) (modRow x2 (seqOf i)) x4 r ⟨1024 + k.val, by omega⟩ = S k (0 * 1024 + r.val))
    (r k : Fin 1024) :
    out0_A_9 (F := Ideal) c i a1 h1 a2 h2 a3 h3 a4 h4 a5 h5 a6 h6 a7 h7 a8 h8 a9 h9 a10 h10 a11 h11 a12 h12 a13 h13 hc x0 x1 x2 x3 x4 x5 x6 x7 (ix2 r k) = poolAt x5 x6 x7 0 S r ⟨k.val / 256, by omega⟩ ⟨k.val % 256, by omega⟩ := by
  unfold out0_A_9
  rw [View.read_writes_junk_eq_canon]
  unfold kernelRun0_A
  dsimp only
  sl_unfold_words
  generalize hsh : View.readAt (Elt Ideal) a3.view _ _ = sh
  generalize hsc : View.readAt (Elt Ideal) a4.view _ _ = sc
  obtain rfl : sh = modRow x2 (seqOf i) := hsh.symm.trans (modRow_load a3 h3 x2 _ (k0_off1_inb i) (seqOf i) (seqWord _ (pt_lt i)))
  obtain rfl : sc = modRow x3 (seqOf i) := hsc.symm.trans (modRow_load a4 h4 x3 _ (k0_off1_inb i) (seqOf i) (seqWord _ (pt_lt i)))
  clear hsh hsc
  have key := hPieces_cov a1 h1 a2 h2 a13 x0 x1 (modRow x3 (seqOf i)) (modRow x2 (seqOf i))
  unfold hPieces rows row at key
  rw [key, key]
  clear key
  rw [halfWord _ (pt_lt i), hi]
  refine View.canon_apply_of_pieces (Val := Elt Ideal) (e := .bf16) (fun y : S1024x1024.Idx => poolAt x5 x6 x7 0 S (y 0) ⟨(y 1).val / 256, by have h1 : (y 1).val < 1024 := (y 1).isLt; omega⟩ ⟨(y 1).val % 256, by omega⟩) _ ?_ _ ?_
  · intro p hp x
    simp only [List.mem_cons, List.not_mem_nil, or_false] at hp
    rcases hp with rfl | rfl | rfl | rfl
    · obtain ⟨r, d, rfl⟩ : ∃ (r : Fin 1024) (d : Fin 256), x = ix2 r d := ⟨x 0, x 1, eq_ix2 x⟩
      refine (group3 0 (fun q => S ⟨768 + q.val, by omega⟩) _ (pvec a5 h5 x0 x1 (modRow x3 (seqOf i)) (modRow x2 (seqOf i)) x4) _ _ _ r d ⟨fun r k => ?_, fun r k => ?_⟩).trans
        (groupOut_poolAt a6 h6 a7 h7 a8 h8 x5 x6 x7 0 S r 3 d 16 (by decide) (fun q => S ⟨768 + q.val, by omega⟩) (fun q => rfl) _ 768 (by decide) _ _ _ rfl _ rfl)
      · exact (tail_zero a12 768 _ r k).trans (if_pos rfl).symm
      · exact ((slice_apply _ r k).2.2.2).trans ((pvec_apply _ _ _ _ _ _ _ _ _).trans (hS r _))
    · obtain ⟨r, d, rfl⟩ : ∃ (r : Fin 1024) (d : Fin 256), x = ix2 r d := ⟨x 0, x 1, eq_ix2 x⟩
      refine (group2 0 (fun q => S ⟨512 + q.val, by omega⟩) _ (pvec a5 h5 x0 x1 (modRow x3 (seqOf i)) (modRow x2 (seqOf i)) x4) _ _ _ r d ⟨fun r k => ?_, fun r k => ?_⟩).trans
        (groupOut_poolAt a6 h6 a7 h7 a8 h8 x5 x6 x7 0 S r 2 d 8 (by decide) (fun q => S ⟨512 + q.val, by omega⟩) (fun q => rfl) _ 512 (by decide) _ _ _ rfl _ rfl)
      · exact (tail_zero a12 512 _ r k).trans (if_pos rfl).symm
      · exact ((slice_apply _ r k).2.2.1).trans ((pvec_apply _ _ _ _ _ _ _ _ _).trans (hS r _))
    · obtain ⟨r, d, rfl⟩ : ∃ (r : Fin 1024) (d : Fin 256), x = ix2 r d := ⟨x 0, x 1, eq_ix2 x⟩
      refine (group1 0 (fun q => S ⟨256 + q.val, by omega⟩) _ (pvec a5 h5 x0 x1 (modRow x3 (seqOf i)) (modRow x2 (seqOf i)) x4) _ _ _ r d ⟨fun r k => ?_, fun r k => ?_⟩).trans
        (groupOut_poolAt a6 h6 a7 h7 a8 h8 x5 x6 x7 0 S r 1 d 4 (by decide) (fun q => S ⟨256 + q.val, by omega⟩) (fun q => rfl) _ 256 (by decide) _ _ _ rfl _ rfl)
      · exact (tail_zero a12 256 _ r k).trans (if_pos rfl).symm
      · exact ((slice_apply _ r k).2.1).trans ((pvec_apply _ _ _ _ _ _ _ _ _).trans (hS r _))
    · obtain ⟨r, d, rfl⟩ : ∃ (r : Fin 1024) (d : Fin 256), x = ix2 r d := ⟨x 0, x 1, eq_ix2 x⟩
      refine (group0 0 (fun q => S ⟨0 + q.val, by omega⟩) _ (pvec a5 h5 x0 x1 (modRow x3 (seqOf i)) (modRow x2 (seqOf i)) x4) _ _ _ r d ⟨fun r k => ?_, fun r k => ?_⟩).trans
        (groupOut_poolAt a6 h6 a7 h7 a8 h8 x5 x6 x7 0 S r 0 d 2 (by decide) (fun q => S ⟨0 + q.val, by omega⟩) (fun q => rfl) _ 0 (by decide) _ _ _ rfl _ rfl)
      · exact (tail_zero a12 0 _ r k).trans (if_pos rfl).symm
      · exact ((slice_apply _ r k).1).trans ((pvec_apply _ _ _ _ _ _ _ _ _).trans (hS r _))
  · exact View.cover_of_tiledL (s := S1024x1024) _ S1024x256.size (by sl_kernel_rfl) _

theorem out8_B (hc : ¬cond0_0 i) (xs : Vec Ideal S16x1024 .f32) (q : Fin 128) (z : Fin 1) (s : Fin 8) (k : Fin 1024) :
    out0_B_8 (F := Ideal) c i a1 h1 a2 h2 a3 h3 a4 h4 a5 h5 a6 h6 a7 h7 a8 h8 a9 h9 a10 h10 a11 h11 a12 h12 a13 h13 hc x0 x1 x2 x3 x4 x5 x6 x7 xs (ix4 q z s k) = prj x0 x1 (modRow x3 (seqOf i)) (modRow x2 (seqOf i)) x4 ⟨q.val * 8 + s.val, by omega⟩ ⟨k.val, by omega⟩ := by
  unfold out0_B_8
  rw [View.read_writes_junk_eq_canon]
  unfold kernelRun0_B
  dsimp only
  sl_unfold_words
  generalize hsh : View.readAt (Elt Ideal) a3.view _ _ = sh
  generalize hsc : View.readAt (Elt Ideal) a4.view _ _ = sc
  obtain rfl : sh = modRow x2 (seqOf i) := hsh.symm.trans (modRow_load a3 h3 x2 _ (k0_off1_inb i) (seqOf i) (seqWord _ (pt_lt i)))
  obtain rfl : sc = modRow x3 (seqOf i) := hsc.symm.trans (modRow_load a4 h4 x3 _ (k0_off1_inb i) (seqOf i) (seqWord _ (pt_lt i)))
  clear hsh hsc
  have key := hPieces_cov a1 h1 a2 h2 a13 x0 x1 (modRow x3 (seqOf i)) (modRow x2 (seqOf i))
  unfold hPieces rows row at key
  rw [key, key]
  clear key
  refine View.canon_apply_of_pieces (Val := Elt Ideal) (e := .f32) (fun y : S128x1x8x1024.Idx => prj x0 x1 (modRow x3 (seqOf i)) (modRow x2 (seqOf i)) x4 ⟨(y 0).val * 8 + (y 2).val, by have h0 : (y 0).val < 128 := (y 0).isLt; have h2 : (y 2).val < 8 := (y 2).isLt; omega⟩ ⟨(y 3).val, by have h3 : (y 3).val < 1024 := (y 3).isLt; omega⟩) _ ?_ _ ?_
  · intro p hp x
    simp only [List.mem_cons, List.not_mem_nil, or_false] at hp
    rcases hp with rfl | rfl
    · obtain ⟨q, z, s, k, rfl⟩ : ∃ (q : Fin 64) (z : Fin 1) (s : Fin 8) (k : Fin 1024), x = ix4 q z s k := ⟨x 0, x 1, x 2, x 3, eq_ix4 x⟩
      refine (u1_apply a5 h5 x0 x1 _ _ x4 q z s k _).trans (congrArg₂ (prj x0 x1 _ _ x4) (Fin.ext ?_) (Fin.ext ?_))
      · show 512 + (q.val * 8 + s.val) = (64 + 1 * q.val) * 8 + (0 + 1 * s.val); omega
      · show k.val = 0 + 1 * k.val; omega
    · obtain ⟨q, z, s, k, rfl⟩ : ∃ (q : Fin 64) (z : Fin 1) (s : Fin 8) (k : Fin 1024), x = ix4 q z s k := ⟨x 0, x 1, x 2, x 3, eq_ix4 x⟩
      refine (u0_apply a5 h5 x0 x1 _ _ x4 q z s k _).trans (congrArg₂ (prj x0 x1 _ _ x4) (Fin.ext ?_) (Fin.ext ?_))
      · show q.val * 8 + s.val = (0 + 1 * q.val) * 8 + (0 + 1 * s.val); omega
      · show k.val = 0 + 1 * k.val; omega
  · exact View.cover_of_tiledL (s := S128x1x8x1024) _ S64x1x8x1024.size (by sl_kernel_rfl) _

theorem tail_B (hc : ¬cond0_0 i) (xs : Vec Ideal S16x1024 .f32) (r : Fin 16) (k : Fin 1024) :
    sout0_B_0 (F := Ideal) c i a1 h1 a2 h2 a3 h3 a4 h4 a5 h5 a6 h6 a7 h7 a8 h8 a9 h9 a10 h10 a11 h11 a12 h12 a13 h13 hc x0 x1 x2 x3 x4 x5 x6 x7 xs (ix2 r k) = prj x0 x1 (modRow x3 (seqOf i)) (modRow x2 (seqOf i)) x4 ⟨1008 + r.val, by omega⟩ ⟨1024 + k.val, by omega⟩ := by
  unfold sout0_B_0
  rw [View.read_writes_junk_eq_canon]
  unfold kernelRun0_B
  dsimp only
  sl_unfold_words
  generalize hsh : View.readAt (Elt Ideal) a3.view _ _ = sh
  generalize hsc : View.readAt (Elt Ideal) a4.view _ _ = sc
  obtain rfl : sh = modRow x2 (seqOf i) := hsh.symm.trans (modRow_load a3 h3 x2 _ (k0_off1_inb i) (seqOf i) (seqWord _ (pt_lt i)))
  obtain rfl : sc = modRow x3 (seqOf i) := hsc.symm.trans (modRow_load a4 h4 x3 _ (k0_off1_inb i) (seqOf i) (seqWord _ (pt_lt i)))
  clear hsh hsc
  have key := hPieces_cov a1 h1 a2 h2 a13 x0 x1 (modRow x3 (seqOf i)) (modRow x2 (seqOf i))
  unfold hPieces rows row at key
  rw [key, key]
  clear key
  rw [View.canon_cons_unit_zero (by decide)]
  exact (tailCols (pvec a5 h5 x0 x1 (modRow x3 (seqOf i)) (modRow x2 (seqOf i)) x4) 0 r k).1.trans (pvec_apply _ _ _ _ _ _ _ _ _)

theorem out10_B (hc : ¬cond0_0 i) (xs : Vec Ideal S16x1024 .f32) (z : Fin 1) (r : Fin 16) (k : Fin 1024) :
    out0_B_10 (F := Ideal) c i a1 h1 a2 h2 a3 h3 a4 h4 a5 h5 a6 h6 a7 h7 a8 h8 a9 h9 a10 h10 a11 h11 a12 h12 a13 h13 hc x0 x1 x2 x3 x4 x5 x6 x7 xs (ix3 z r k) = prj x0 x1 (modRow x3 (seqOf i)) (modRow x2 (seqOf i)) x4 ⟨1008 + r.val, by omega⟩ ⟨1024 + k.val, by omega⟩ := by
  unfold out0_B_10
  rw [View.read_writes_junk_eq_canon]
  unfold kernelRun0_B
  dsimp only
  sl_unfold_words
  generalize hsh : View.readAt (Elt Ideal) a3.view _ _ = sh
  generalize hsc : View.readAt (Elt Ideal) a4.view _ _ = sc
  obtain rfl : sh = modRow x2 (seqOf i) := hsh.symm.trans (modRow_load a3 h3 x2 _ (k0_off1_inb i) (seqOf i) (seqWord _ (pt_lt i)))
  obtain rfl : sc = modRow x3 (seqOf i) := hsc.symm.trans (modRow_load a4 h4 x3 _ (k0_off1_inb i) (seqOf i) (seqWord _ (pt_lt i)))
  clear hsh hsc
  have key := hPieces_cov a1 h1 a2 h2 a13 x0 x1 (modRow x3 (seqOf i)) (modRow x2 (seqOf i))
  unfold hPieces rows row at key
  rw [key, key]
  clear key
  rw [View.canon_cons_unit_zero (by decide)]
  exact (tailCols (pvec a5 h5 x0 x1 (modRow x3 (seqOf i)) (modRow x2 (seqOf i)) x4) z r k).2.trans (pvec_apply _ _ _ _ _ _ _ _ _)

theorem out9_B (hc : ¬cond0_0 i) (xs : Vec Ideal S16x1024 .f32) (hi : (i 0).val % 2 = 1) (S : Fin 1024 → ℕ → EReal)
    (hS : ∀ r k, prj x0 x1 (modRow x3 (seqOf i)) (modRow x2 (seqOf i)) x4 r ⟨1024 + k.val, by omega⟩ = S k (1 * 1024 + r.val)) (ht : ∀ r k, xs (ix2 r k) = S k (1008 + r.val))
    (r k : Fin 1024) :
    out0_B_9 (F := Ideal) c i a1 h1 a2 h2 a3 h3 a4 h4 a5 h5 a6 h6 a7 h7 a8 h8 a9 h9 a10 h10 a11 h11 a12 h12 a13 h13 hc x0 x1 x2 x3 x4 x5 x6 x7 xs (ix2 r k) = poolAt x5 x6 x7 1 S r ⟨k.val / 256, by omega⟩ ⟨k.val % 256, by omega⟩ := by
  unfold out0_B_9
  rw [View.read_writes_junk_eq_canon]
  unfold kernelRun0_B
  dsimp only
  sl_unfold_words
  generalize hsh : View.readAt (Elt Ideal) a3.view _ _ = sh
  generalize hsc : View.readAt (Elt Ideal) a4.view _ _ = sc
  obtain rfl : sh = modRow x2 (seqOf i) := hsh.symm.trans (modRow_load a3 h3 x2 _ (k0_off1_inb i) (seqOf i) (seqWord _ (pt_lt i)))
  obtain rfl : sc = modRow x3 (seqOf i) := hsc.symm.trans (modRow_load a4 h4 x3 _ (k0_off1_inb i) (seqOf i) (seqWord _ (pt_lt i)))
  clear hsh hsc
  have key := hPieces_cov a1 h1 a2 h2 a13 x0 x1 (modRow x3 (seqOf i)) (modRow x2 (seqOf i))
  unfold hPieces rows row at key
  rw [key, key]
  clear key
  rw [halfWord _ (pt_lt i), hi]
  refine View.canon_apply_of_pieces (Val := Elt Ideal) (e := .bf16) (fun y : S1024x1024.Idx => poolAt x5 x6 x7 1 S (y 0) ⟨(y 1).val / 256, by have h1 : (y 1).val < 1024 := (y 1).isLt; omega⟩ ⟨(y 1).val % 256, by omega⟩) _ ?_ _ ?_
  · intro p hp x
    simp only [List.mem_cons, List.not_mem_nil, or_false] at hp
    rcases hp with rfl | rfl | rfl | rfl
    · obtain ⟨r, d, rfl⟩ : ∃ (r : Fin 1024) (d : Fin 256), x = ix2 r d := ⟨x 0, x 1, eq_ix2 x⟩
      refine (group3 1 (fun q => S ⟨768 + q.val, by omega⟩) _ (pvec a5 h5 x0 x1 (modRow x3 (seqOf i)) (modRow x2 (seqOf i)) x4) _ _ _ r d ⟨fun r k => ?_, fun r k => ?_⟩).trans
        (groupOut_poolAt a6 h6 a7 h7 a8 h8 x5 x6 x7 1 S r 3 d 16 (by decide) (fun q => S ⟨768 + q.val, by omega⟩) (fun q => rfl) _ 768 (by decide) _ _ _ rfl _ rfl)
      · exact ((load2 a12 h12 xs 0 768 _ r k r ⟨768 + k.val, by omega⟩ (Nat.zero_add _).symm rfl).trans (ht r _)).trans (if_neg (by decide : ¬ (1 : Fin 2).val = 0)).symm
      · exact ((slice_apply _ r k).2.2.2).trans ((pvec_apply _ _ _ _ _ _ _ _ _).trans (hS r _))
    · obtain ⟨r, d, rfl⟩ : ∃ (r : Fin 1024) (d : Fin 256), x = ix2 r d := ⟨x 0, x 1, eq_ix2 x⟩
      refine (group2 1 (fun q => S ⟨512 + q.val, by omega⟩) _ (pvec a5 h5 x0 x1 (modRow x3 (seqOf i)) (modRow x2 (seqOf i)) x4) _ _ _ r d ⟨fun r k => ?_, fun r k => ?_⟩).trans
        (groupOut_poolAt a6 h6 a7 h7 a8 h8 x5 x6 x7 1 S r 2 d 8 (by decide) (fun q => S ⟨512 + q.val, by omega⟩) (fun q => rfl) _ 512 (by decide) _ _ _ rfl _ rfl)
      · exact ((load2 a12 h12 xs 0 512 _ r k r ⟨512 + k.val, by omega⟩ (Nat.zero_add _).symm rfl).trans (ht r _)).trans (if_neg (by decide : ¬ (1 : Fin 2).val = 0)).symm
      · exact ((slice_apply _ r k).2.2.1).trans ((pvec_apply _ _ _ _ _ _ _ _ _).trans (hS r _))
    · obtain ⟨r, d, rfl⟩ : ∃ (r : Fin 1024) (d : Fin 256), x = ix2 r d := ⟨x 0, x 1, eq_ix2 x⟩
      refine (group1 1 (fun q => S ⟨256 + q.val, by omega⟩) _ (pvec a5 h5 x0 x1 (modRow x3 (seqOf i)) (modRow x2 (seqOf i)) x4) _ _ _ r d ⟨fun r k => ?_, fun r k => ?_⟩).trans
        (groupOut_poolAt a6 h6 a7 h7 a8 h8 x5 x6 x7 1 S r 1 d 4 (by decide) (fun q => S ⟨256 + q.val, by omega⟩) (fun q => rfl) _ 256 (by decide) _ _ _ rfl _ rfl)
      · exact ((load2 a12 h12 xs 0 256 _ r k r ⟨256 + k.val, by omega⟩ (Nat.zero_add _).symm rfl).trans (ht r _)).trans (if_neg (by decide : ¬ (1 : Fin 2).val = 0)).symm
      · exact ((slice_apply _ r k).2.1).trans ((pvec_apply _ _ _ _ _ _ _ _ _).trans (hS r _))
    · obtain ⟨r, d, rfl⟩ : ∃ (r : Fin 1024) (d : Fin 256), x = ix2 r d := ⟨x 0, x 1, eq_ix2 x⟩
      refine (group0 1 (fun q => S ⟨0 + q.val, by omega⟩) _ (pvec a5 h5 x0 x1 (modRow x3 (seqOf i)) (modRow x2 (seqOf i)) x4) _ _ _ r d ⟨fun r k => ?_, fun r k => ?_⟩).trans
        (groupOut_poolAt a6 h6 a7 h7 a8 h8 x5 x6 x7 1 S r 0 d 2 (by decide) (fun q => S ⟨0 + q.val, by omega⟩) (fun q => rfl) _ 0 (by decide) _ _ _ rfl _ rfl)
      · exact ((load2 a12 h12 xs 0 0 _ r k r ⟨0 + k.val, by omega⟩ (Nat.zero_add _).symm rfl).trans (ht r _)).trans (if_neg (by decide : ¬ (1 : Fin 2).val = 0)).symm
      · exact ((slice_apply _ r k).1).trans ((pvec_apply _ _ _ _ _ _ _ _ _).trans (hS r _))
  · exact View.cover_of_tiledL (s := S1024x1024) _ S1024x256.size (by sl_kernel_rfl) _
end
end Cert.KernelIdeal.Blk
-- ==== Proof.Fold.lean ====
/-
  The blocks that a grid point reads, as entries of the kernel's arguments; from them what the point leaves, in the words
  of `Cert.Spec`; and from that the three arrays after the run.
-/
module

public import proofs.«01_k».proof.Proof.Block
public import Idealize.ShloMosaic.Lib.Pipeline.ValueKit

@[expose] public section
set_option maxRecDepth 16384
noncomputable section
open Idealize.ShloMosaic Idealize.ShloMosaic.TcCoe Idealize.SL.Sem
namespace Cert.KernelIdeal.Fold
open Cert.KernelIdeal Cert.KernelIdeal.Gen

variable (m : (ℓ : Loc nD τ sig) → Buf (Elt Ideal) ℓ)

/-- Every input's block index, at every grid point. -/
theorem idx : ∀ t : Fin cfg0.N, win0_0.index t = ![t.val, 0] ∧ win0_1.index t = ![0, 0] ∧ win0_2.index t = ![16, 3] ∧ win0_3.index t = ![16, 4]
    ∧ win0_4.index t = ![0, 0] ∧ win0_5.index t = ![0, 0, 0] ∧ win0_6.index t = ![0, 0] ∧ win0_7.index t = ![0, 0] :=
  (by decide +kernel : ∀ t : Fin grid0.N, _)

theorem coord : ∀ t : Fin cfg0.N, (grid0.coords t 0).val = t.val := (by decide +kernel : ∀ t : Fin grid0.N, _)

theorem t_lt (t : Fin cfg0.N) : t.val < 8 := t.isLt

theorem blk0 (c : Dev nD) (t : Fin cfg0.N) (r : Fin 1024) (k : Fin 2048) :
    iblk m c 0 t (ix2 r k) = m ((c : Thread nD τ).loc main_arg0) (ix2 ⟨t.val * 1024 + r.val, by have := t_lt t; omega⟩ k) := by
  blk_ext! [iblk, V, idx t]

theorem blk1 (c : Dev nD) (t : Fin cfg0.N) (r : Fin 1) (k : Fin 2048) :
    iblk m c 1 t (ix2 r k) = m ((c : Thread nD τ).loc main_arg1) (ix1 k) := by
  blk_ext! [iblk, V, idx t]

theorem blk2 (c : Dev nD) (t : Fin cfg0.N) (r : Fin 8) (k : Fin 2048) :
    iblk m c 2 t (ix2 r k) = m ((c : Thread nD τ).loc main_arg2) (ix2 ⟨128 + r.val, by omega⟩ ⟨6144 + k.val, by omega⟩) := by
  blk_ext! [iblk, V, idx t]

theorem blk3 (c : Dev nD) (t : Fin cfg0.N) (r : Fin 8) (k : Fin 2048) :
    iblk m c 3 t (ix2 r k) = m ((c : Thread nD τ).loc main_arg2) (ix2 ⟨128 + r.val, by omega⟩ ⟨8192 + k.val, by omega⟩) := by
  blk_ext! [iblk, V, idx t]

theorem blk4 (c : Dev nD) (t : Fin cfg0.N) (r k : Fin 2048) :
    iblk m c 4 t (ix2 r k) = m ((c : Thread nD τ).loc main_arg3) (ix2 r k) := by
  blk_ext! [iblk, V, idx t]

theorem blk5 (c : Dev nD) (t : Fin cfg0.N) (g : Fin 4) (q d : Fin 256) :
    iblk m c 5 t (ix3 g q d) = m ((c : Thread nD τ).loc main_arg4) (ix3 g q d) := by
  blk_ext! [iblk, V, idx t]

theorem blk6 (c : Dev nD) (t : Fin cfg0.N) (g : Fin 4) (d : Fin 256) :
    iblk m c 6 t (ix2 0 ⟨g.val * 256 + d.val, by omega⟩) = m ((c : Thread nD τ).loc main_arg5) (ix2 g d) := by
  blk_ext! [iblk, V, idx t]

theorem blk7 (c : Dev nD) (t : Fin cfg0.N) (k : Fin 1024) :
    iblk m c 7 t (ix2 0 k) = m ((c : Thread nD τ).loc main_arg6) (ix1 k) := by
  blk_ext! [iblk, V, idx t]

/-- The sequence that point `t` works on, and the position of its row `r`. -/
abbrev seq (t : Fin cfg0.N) : Fin 4 := ⟨t.val / 2, by have := t_lt t; omega⟩
abbrev pos (t : Fin cfg0.N) (r : Fin 1024) : Fin 2048 := ⟨t.val % 2 * 1024 + r.val, by omega⟩

abbrev A0 (c : Dev nD) : Vec Ideal S8192x2048 .f32 := m ((c : Thread nD τ).loc main_arg0)
abbrev A1 (c : Dev nD) : Vec Ideal S2048 .f32 := m ((c : Thread nD τ).loc main_arg1)
abbrev A2 (c : Dev nD) : Vec Ideal S136x18432 .f32 := m ((c : Thread nD τ).loc main_arg2)
abbrev A3 (c : Dev nD) : Vec Ideal S2048x2048 .f32 := m ((c : Thread nD τ).loc main_arg3)
abbrev A4 (c : Dev nD) : Vec Ideal S4x256x256 .f32 := m ((c : Thread nD τ).loc main_arg4)
abbrev A5 (c : Dev nD) : Vec Ideal S4x256 .f32 := m ((c : Thread nD τ).loc main_arg5)
abbrev A6 (c : Dev nD) : Vec Ideal S1024 .f32 := m ((c : Thread nD τ).loc main_arg6)

theorem seqOf_val (t : Fin cfg0.N) : (Blk.seqOf (grid0.coords t)).val = t.val / 2 := congrArg (· / 2) (coord t)

/-- A point's projection is the whole projection's row. -/
theorem prj_eq (c : Dev nD) (t : Fin cfg0.N) (r : Fin 1024) (k : Fin 2048) :
    Blk.prj (iblk m c 0 t) (iblk m c 1 t) (Blk.modRow (iblk m c 3 t) (Blk.seqOf (grid0.coords t))) (Blk.modRow (iblk m c 2 t) (Blk.seqOf (grid0.coords t)))
      (iblk m c 4 t) r k = Cert.Spec.proj (A0 m c) (A1 m c) (A2 m c) (A3 m c) (seq t) (pos t r) k := by
  unfold Blk.prj Cert.Spec.proj Blk.hk Cert.Spec.hs
  refine Finset.sum_congr rfl fun j _ => congrArg₂ (· * ·) ?_ (blk4 m c t j k)
  have e0 : (fun k => iblk m c 0 t (ix2 r k)) = fun k => A0 m c (ix2 ⟨(seq t).val * 2048 + (pos t r).val, by have := t_lt t; show t.val / 2 * 2048 + (t.val % 2 * 1024 + r.val) < 8192; omega⟩ k) := by
    funext k
    rw [blk0]
    refine congrArg (fun i => A0 m c (ix2 i k)) (Fin.ext ?_)
    show t.val * 1024 + r.val = t.val / 2 * 2048 + (t.val % 2 * 1024 + r.val)
    omega
  have e1 : (fun k => iblk m c 1 t (ix2 0 k)) = fun k => A1 m c (ix1 k) := funext fun k => blk1 m c t 0 k
  have es : Blk.seqOf (grid0.coords t) = (⟨t.val / 2, by have := t_lt t; omega⟩ : Fin 8) := Fin.ext (seqOf_val t)
  have e2 : (fun k => Blk.modRow (iblk m c 2 t) (Blk.seqOf (grid0.coords t)) (ix2 0 k)) = fun k => A2 m c (ix2 ⟨128 + (seq t).val, by omega⟩ ⟨6144 + k.val, by omega⟩) := by
    funext k
    rw [es]
    exact blk2 m c t _ k
  have e3 : (fun k => Blk.modRow (iblk m c 3 t) (Blk.seqOf (grid0.coords t)) (ix2 0 k)) = fun k => A2 m c (ix2 ⟨128 + (seq t).val, by omega⟩ ⟨8192 + k.val, by omega⟩) := by
    funext k
    rw [es]
    exact blk3 m c t _ k
  rw [e0, e1, e2, e3]

/-- The pooling columns, as a sequence. -/
theorem prj_vseq (c : Dev nD) (t : Fin cfg0.N) (r k : Fin 1024) (p : ℕ) (hp : p = t.val % 2 * 1024 + r.val) :
    Blk.prj (iblk m c 0 t) (iblk m c 1 t) (Blk.modRow (iblk m c 3 t) (Blk.seqOf (grid0.coords t))) (Blk.modRow (iblk m c 2 t) (Blk.seqOf (grid0.coords t)))
      (iblk m c 4 t) r ⟨1024 + k.val, by omega⟩ = Cert.Spec.vseq (A0 m c) (A1 m c) (A2 m c) (A3 m c) (seq t) k p := by
  subst hp
  unfold Cert.Spec.vseq
  rw [dif_pos (by omega), prj_eq]

theorem poolAt_eq (c : Dev nD) (t : Fin cfg0.N) (b : Fin 2) (hb : b.val = t.val % 2) (r : Fin 1024) (g : Fin 4) (d : Fin 256) :
    Blk.poolAt (iblk m c 5 t) (iblk m c 6 t) (iblk m c 7 t) b (Cert.Spec.vseq (A0 m c) (A1 m c) (A2 m c) (A3 m c) (seq t)) r g d
      = Cert.Spec.ypool (A0 m c) (A1 m c) (A2 m c) (A3 m c) (A4 m c) (A5 m c) (A6 m c) (seq t) (pos t r) g d := by
  unfold Blk.poolAt Cert.Spec.ypool
  rw [hb, blk6, blk7]
  refine congrArg (fun e => (e + _) * _) (Finset.sum_congr rfl fun q _ => ?_)
  rw [blk5]

/-- The sixteen rows that an even point hands to the next. -/
theorem tail_even (c : Dev nD) (t : Fin cfg0.N) (h0 : t.val % 2 = 0) (r : Fin 16) (k : Fin 1024) :
    (outsAt0 m c t.val t.isLt).2.2.2 (ix2 r k) = Cert.Spec.vseq (A0 m c) (A1 m c) (A2 m c) (A3 m c) (seq t) k (1008 + r.val) := by
  rw [outsAt0_A m c t h0]
  dsimp only
  refine (Blk.tail_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((hcond0_0 t).mpr h0) r k).trans (prj_vseq m c t ⟨1008 + r.val, by omega⟩ k _ ?_)
  show 1008 + r.val = t.val % 2 * 1024 + (1008 + r.val)
  omega

theorem val8 (c : Dev nD) (t : Fin cfg0.N) (q : Fin 128) (z : Fin 1) (s : Fin 8) (k : Fin 1024) :
    (outsAt0 m c t.val t.isLt).1 (ix4 q z s k) = Cert.Spec.proj (A0 m c) (A1 m c) (A2 m c) (A3 m c) (seq t) (pos t ⟨q.val * 8 + s.val, by omega⟩) ⟨k.val, by omega⟩ := by
  by_cases h0 : t.val % 2 = 0
  · rw [outsAt0_A m c t h0]
    dsimp only
    exact (Blk.out8_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((hcond0_0 t).mpr h0) q z s k).trans (prj_eq m c t _ _)
  · rw [outsAt0_B m c t h0]
    dsimp only
    exact (Blk.out8_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (fun h => h0 ((hcond0_0 t).mp h)) (outsAt0 m c (t.val - 1) (Nat.lt_of_le_of_lt (Nat.sub_le _ _) t.isLt)).2.2.2 q z s k).trans (prj_eq m c t _ _)

theorem val9 (c : Dev nD) (t : Fin cfg0.N) (r k : Fin 1024) :
    (outsAt0 m c t.val t.isLt).2.1 (ix2 r k) = Cert.Spec.ypool (A0 m c) (A1 m c) (A2 m c) (A3 m c) (A4 m c) (A5 m c) (A6 m c) (seq t) (pos t r)
      ⟨k.val / 256, by omega⟩ ⟨k.val % 256, by omega⟩ := by
  by_cases h0 : t.val % 2 = 0
  · rw [outsAt0_A m c t h0]
    dsimp only
    refine (Blk.out9_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((hcond0_0 t).mpr h0) (by rw [coord]; exact h0)
      (Cert.Spec.vseq (A0 m c) (A1 m c) (A2 m c) (A3 m c) (seq t)) (fun r k => prj_vseq m c t r k _ ?_) r k).trans (poolAt_eq m c t 0 h0.symm r _ _)
    show 0 * 1024 + r.val = _
    rw [h0]
  · have h1 : t.val % 2 = 1 := by omega
    rw [outsAt0_B m c t h0]
    dsimp only
    refine (Blk.out9_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (fun h => h0 ((hcond0_0 t).mp h)) (outsAt0 m c (t.val - 1) (Nat.lt_of_le_of_lt (Nat.sub_le _ _) t.isLt)).2.2.2 (by rw [coord]; exact h1)
      (Cert.Spec.vseq (A0 m c) (A1 m c) (A2 m c) (A3 m c) (seq t)) (fun r k => prj_vseq m c t r k _ ?_) (fun r k => ?_) r k).trans (poolAt_eq m c t 1 h1.symm r _ _)
    · show 1 * 1024 + r.val = _
      rw [h1]
    · have hl := t_lt t
      refine (tail_even m c ⟨t.val - 1, by show t.val - 1 < 8; omega⟩ (by show (t.val - 1) % 2 = 0; omega) r k).trans ?_
      refine congrArg (fun n => Cert.Spec.vseq (A0 m c) (A1 m c) (A2 m c) (A3 m c) n k (1008 + r.val)) (Fin.ext ?_)
      show (t.val - 1) / 2 = t.val / 2
      omega

theorem val10 (c : Dev nD) (t : Fin cfg0.N) (h0 : ¬t.val % 2 = 0) (z : Fin 1) (r : Fin 16) (k : Fin 1024) :
    (outsAt0 m c t.val t.isLt).2.2.1 (ix3 z r k) = Cert.Spec.vseq (A0 m c) (A1 m c) (A2 m c) (A3 m c) (seq t) k (2032 + r.val) := by
  rw [outsAt0_B m c t h0]
  dsimp only
  refine (Blk.out10_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (fun h => h0 ((hcond0_0 t).mp h)) (outsAt0 m c (t.val - 1) (Nat.lt_of_le_of_lt (Nat.sub_le _ _) t.isLt)).2.2.2 z r k).trans (prj_vseq m c t ⟨1008 + r.val, by omega⟩ k _ ?_)
  show 2032 + r.val = t.val % 2 * 1024 + (1008 + r.val)
  omega

open Cert.KernelIdeal.Value in
theorem G8_apply (c : Dev nD) (b : Fin 256) (n : Fin 4) (s : Fin 8) (k : Fin 1024) :
    G8 m c (ix4 b n s k) = Cert.Spec.proj (A0 m c) (A1 m c) (A2 m c) (A3 m c) n ⟨b.val * 8 + s.val, by omega⟩ ⟨k.val, by omega⟩ := by
  have hp : pt8Of (ix4 b n s k) = b.val / 128 + 2 * n.val := by
    show 1 * (b.val / 128 - 0) + 2 * (n.val / 1 - 0) + 8 * (s.val / 8 - 0) + 8 * (k.val / 1024 - 0) = _
    omega
  have hlt : pt8Of (ix4 b n s k) < cfg0.N := by rw [hp]; show _ < 8; omega
  have hl : loc8Of (ix4 b n s k) = ix4 ⟨b.val % 128, by omega⟩ 0 s k := by
    funext a
    match a with
    | ⟨0, _⟩ => rfl
    | ⟨1, _⟩ => exact Fin.ext (Nat.mod_one _)
    | ⟨2, _⟩ => exact Fin.ext (Nat.mod_eq_of_lt s.isLt)
    | ⟨3, _⟩ => exact Fin.ext (Nat.mod_eq_of_lt k.isLt)
  unfold G8
  rw [dif_pos hlt, ← outsAt0_sweep m c _ hlt, hl]
  refine (val8 m c ⟨_, hlt⟩ _ 0 s k).trans (congrArg₂ (fun n p => Cert.Spec.proj (A0 m c) (A1 m c) (A2 m c) (A3 m c) n p _) (Fin.ext ?_) (Fin.ext ?_))
  · show pt8Of (ix4 b n s k) / 2 = n.val
    omega
  · show pt8Of (ix4 b n s k) % 2 * 1024 + (b.val % 128 * 8 + s.val) = b.val * 8 + s.val
    omega

open Cert.KernelIdeal.Value in
theorem G9_apply (c : Dev nD) (n : Fin 4) (p : Fin 2048) (g : Fin 4) (d : Fin 256) :
    G9 m c (ix2 ⟨n.val * 2048 + p.val, by omega⟩ ⟨g.val * 256 + d.val, by omega⟩)
      = Cert.Spec.ypool (A0 m c) (A1 m c) (A2 m c) (A3 m c) (A4 m c) (A5 m c) (A6 m c) n p g d := by
  have hp : pt9Of (ix2 ⟨n.val * 2048 + p.val, by omega⟩ ⟨g.val * 256 + d.val, by omega⟩) = 2 * n.val + p.val / 1024 := by
    show 1 * ((n.val * 2048 + p.val) / 1024 - 0) + 1 * ((g.val * 256 + d.val) / 1024 - 0) = _
    omega
  have hlt : pt9Of (ix2 ⟨n.val * 2048 + p.val, by omega⟩ ⟨g.val * 256 + d.val, by omega⟩) < cfg0.N := by rw [hp]; show _ < 8; omega
  have hl : loc9Of (ix2 ⟨n.val * 2048 + p.val, by omega⟩ ⟨g.val * 256 + d.val, by omega⟩) = ix2 ⟨p.val % 1024, by omega⟩ ⟨g.val * 256 + d.val, by omega⟩ := by
    funext a
    match a with
    | ⟨0, _⟩ => exact Fin.ext (by show (n.val * 2048 + p.val) % 1024 = p.val % 1024; omega)
    | ⟨1, _⟩ => exact Fin.ext (by show (g.val * 256 + d.val) % 1024 = g.val * 256 + d.val; omega)
  unfold G9
  rw [dif_pos hlt, ← outsAt0_sweep m c _ hlt, hl]
  refine (val9 m c ⟨_, hlt⟩ _ _).trans ?_
  have e1 : seq ⟨_, hlt⟩ = n := Fin.ext (by show pt9Of _ / 2 = n.val; rw [hp]; omega)
  have e2 : pos ⟨_, hlt⟩ ⟨p.val % 1024, by omega⟩ = p := Fin.ext (by show pt9Of _ % 2 * 1024 + p.val % 1024 = p.val; rw [hp]; omega)
  have e3 : (⟨(g.val * 256 + d.val) / 256, by omega⟩ : Fin 4) = g := Fin.ext (by show (g.val * 256 + d.val) / 256 = g.val; omega)
  have e4 : (⟨(g.val * 256 + d.val) % 256, by omega⟩ : Fin 256) = d := Fin.ext (by show (g.val * 256 + d.val) % 256 = d.val; omega)
  rw [e1, e2]
  exact congrArg₂ (Cert.Spec.ypool _ _ _ _ _ _ _ n p) e3 e4

open Cert.KernelIdeal.Value in
theorem G10_apply (c : Dev nD) (n : Fin 4) (r : Fin 16) (k : Fin 1024) :
    G10 m c (ix3 n r k) = Cert.Spec.vseq (A0 m c) (A1 m c) (A2 m c) (A3 m c) n k (2032 + r.val) := by
  have hp : pt10Of (ix3 n r k) = 2 * n.val + 1 := by
    show 2 * (1 * (n.val / 1 - 0) + 1 * (r.val / 16 - 0) + 1 * (k.val / 1024 - 0)) + 1 = _
    omega
  have hlt : pt10Of (ix3 n r k) < cfg0.N := by rw [hp]; show _ < 8; omega
  have hl : loc10Of (ix3 n r k) = ix3 0 r k := by
    funext a
    match a with
    | ⟨0, _⟩ => exact Fin.ext (Nat.mod_one _)
    | ⟨1, _⟩ => exact Fin.ext (Nat.mod_eq_of_lt r.isLt)
    | ⟨2, _⟩ => exact Fin.ext (Nat.mod_eq_of_lt k.isLt)
  unfold G10
  rw [dif_pos hlt, ← outsAt0_sweep m c _ hlt, hl]
  refine (val10 m c ⟨_, hlt⟩ (by show ¬pt10Of (ix3 n r k) % 2 = 0; omega) 0 r k).trans ?_
  refine congrArg (fun n => Cert.Spec.vseq (A0 m c) (A1 m c) (A2 m c) (A3 m c) n k (2032 + r.val)) (Fin.ext ?_)
  show pt10Of (ix3 n r k) / 2 = n.val
  omega

end Cert.KernelIdeal.Fold
-- ==== Proof.RefValue.lean ====
/-
  The reference, read entry by entry: each of its three results is the specification's function of the arguments.
-/
module

public import proofs.«01_k».proof.Proof.Gen.ReferenceIdeal.Read
public import proofs.«01_k».proof.Proof.Spec

@[expose] public section
set_option maxRecDepth 16384
noncomputable section
open Idealize.ShloMosaic

namespace Cert.ReferenceIdeal.Read
open Cert.ReferenceIdeal Cert.ReferenceIdeal.Gen
variable (x0 : Vec Ideal S8192x2048 .f32) (x1 : Vec Ideal S2048 .f32) (x2 : Vec Ideal S136x18432 .f32)
variable (x3 : Vec Ideal S2048x2048 .f32) (x4 : Vec Ideal S4x256x256 .f32) (x5 : Vec Ideal S4x256 .f32) (x6 : Vec Ideal S1024 .f32)

/-- The normalised activations. -/
theorem h_eq (n : Fin 4) (p k : Fin 2048) :
    val_main_v25 (F := Ideal) x0 x1 x2 (ix3 n p k) = Spec.hs x0 x1 x2 n p k := by
  pointwise [val_main_v25, val_main_v24, val_main_v23, val_main_v22, val_main_v21, val_main_v20, val_main_cst_2,
    val_main_v19, val_main_v18, val_main_v17, val_main_v16, val_main_v15, val_main_v14, val_main_v13, val_main_v12,
    val_main_cst_1, val_main_v11, val_main_v10, val_main_cst_0, val_main_v9, val_main_v8, val_main_cst, val_main_v7,
    val_main_v6, val_main_v5, val_main_v4, val_main_v3, val_main_v2, val_main_v1, val_main_v0]
  rfl

/-- The projection. -/
theorem p_eq (n : Fin 4) (p k : Fin 2048) :
    val_main_v26 (F := Ideal) x0 x1 x2 x3 (ix3 n p k) = Spec.proj x0 x1 x2 x3 n p k := by
  pointwise [val_main_v26]
  unfold Spec.proj
  exact Finset.sum_congr rfl fun j _ => by rw [h_eq]

/-- An entry of the pooling half of the projection. -/
theorem v_eq (n : Fin 4) (p c : Fin 2048) (d : Fin 1024) (hc : c.val = 1024 + d.val) :
    val_main_v26 (F := Ideal) x0 x1 x2 x3 (ix3 n p c) = Spec.vseq x0 x1 x2 x3 n d p.val := by
  rw [p_eq]; unfold Spec.vseq; rw [dif_pos p.isLt]
  exact congrArg (Spec.proj x0 x1 x2 x3 n p) (Fin.ext hc)

/-- The last term of a window: the entry itself. -/
theorem term0 (n : Fin 4) (p c : Fin 2048) (d : Fin 1024) (hc : c.val = 1024 + d.val) :
    val_main_v26 (F := Ideal) x0 x1 x2 x3 (ix3 n p c)
      = if 0 ≤ p.val then Spec.vseq x0 x1 x2 x3 n d (p.val - 0) else 0 := by
  rw [if_pos (Nat.zero_le _), v_eq (hc := hc)]; rfl

/-- The term `j` positions back, read out of the rows that fifteen zero rows stand in front of. -/
theorem term (a j : ℕ) (haj : a + j = 15) (n : Fin 4) (p c : Fin 2048) (d : Fin 1024) (hc : c.val = 1024 + d.val)
    (pf : ¬a + p.val < 15 → a + p.val - 15 < 2048) :
    (if h : a + p.val < 15 then 0 else val_main_v26 (F := Ideal) x0 x1 x2 x3 (ix3 n ⟨a + p.val - 15, pf h⟩ c))
      = if j ≤ p.val then Spec.vseq x0 x1 x2 x3 n d (p.val - j) else 0 := by
  by_cases h : a + p.val < 15
  · rw [dif_pos h, if_neg (by omega)]
  · rw [dif_neg h, if_pos (by omega), v_eq (hc := hc)]
    exact congrArg _ (show a + p.val - 15 = p.val - j by omega)

/-- Equal terms have equal sums. -/
theorem add2 {a b c d : EReal} (h : a = c) (k : b = d) : a + b = c + d := by rw [h, k]

/-- The term fifteen positions back. -/
theorem term15 (n : Fin 4) (p c : Fin 2048) (d : Fin 1024) (hc : c.val = 1024 + d.val)
    (pf : ¬p.val < 15 → p.val - 15 < 2048) :
    (if h : p.val < 15 then 0 else val_main_v26 (F := Ideal) x0 x1 x2 x3 (ix3 n ⟨p.val - 15, pf h⟩ c))
      = if 15 ≤ p.val then Spec.vseq x0 x1 x2 x3 n d (p.val - 15) else 0 := by
  by_cases h : p.val < 15
  · rw [dif_pos h, if_neg (by omega)]
  · rw [dif_neg h, if_pos (by omega), v_eq (hc := hc)]

/-- Group 0: windows of 2 positions. -/
theorem y0_eq (n : Fin 4) (p : Fin 2048) (d : Fin 256) :
    val_main_v54 (F := Ideal) x0 x1 x2 x3 x4 x5 (ix3 n p d)
      = (∑ q : Fin 256, Cert.Pool.mean 2 (Spec.vseq x0 x1 x2 x3 n ⟨0 * 256 + q.val, by omega⟩) p.val
          * x4 (ix3 0 q d)) + x5 (ix2 0 d) := by
  pointwise [
    val_main_v54, val_main_v53, val_main_v52, val_main_v51, val_main_v50, val_main_v49, val_main_v48,
    val_main_v47, val_main_v46, val_main_v45, val_main_v44, val_main_v43, val_main_v42, val_main_v41,
    val_main_v40, val_main_call0_v4, val_main_call0_v3, val_main_call0_v2, val_main_call0_v1,
    val_main_call0_v0, val_main_c_6, val_main_c_5, val_main_v39, val_main_v38, val_main_c, val_main_v37,
    val_main_v36, val_main_v35, val_main_v34, val_main_cst_4, val_main_v33, val_main_v32, val_main_v31,
    val_main_v30, val_main_v29, val_main_cst_3, val_main_v28]
  refine congrArg (· + _) (Finset.sum_congr rfl fun q _ => congrArg (· * _) ?_)
  unfold Cert.Pool.mean
  refine congrArg₂ (fun a b : EReal => a - b) (congrArg₂ Ideal.div ?_ ?_) ?_
  · unfold Cert.Pool.win
    simp only [Finset.sum_range_succ, Finset.sum_range_zero, zero_add]
    exact add2 (term0 x0 x1 x2 x3 n p ⟨1024 + q.val, by omega⟩ ⟨q.val, by omega⟩ rfl)
      (term x0 x1 x2 x3 14 1 rfl n p ⟨1024 + q.val, by omega⟩ ⟨q.val, by omega⟩ rfl (fun _ => by omega))
  · simp only [id_eq, constantI]
    rw [(Cert.Pool.cntWord p.val p.isLt).1]
  · exact v_eq x0 x1 x2 x3 n p ⟨1024 + q.val, by omega⟩ ⟨q.val, by omega⟩ rfl

/-- Group 1: windows of 4 positions. -/
theorem y1_eq (n : Fin 4) (p : Fin 2048) (d : Fin 256) :
    val_main_v81 (F := Ideal) x0 x1 x2 x3 x4 x5 (ix3 n p d)
      = (∑ q : Fin 256, Cert.Pool.mean 4 (Spec.vseq x0 x1 x2 x3 n ⟨1 * 256 + q.val, by omega⟩) p.val
          * x4 (ix3 1 q d)) + x5 (ix2 1 d) := by
  pointwise [
    val_main_v81, val_main_v80, val_main_v79, val_main_v78, val_main_v77, val_main_v76, val_main_v75,
    val_main_v74, val_main_v73, val_main_v72, val_main_v71, val_main_v70, val_main_v69, val_main_v68,
    val_main_v67, val_main_call1_v4, val_main_call1_v3, val_main_call1_v2, val_main_call1_v1,
    val_main_call1_v0, val_main_c_10, val_main_c_9, val_main_v66, val_main_v65, val_main_c_8, val_main_v64,
    val_main_v63, val_main_v62, val_main_v61, val_main_v60, val_main_v59, val_main_v58, val_main_v57,
    val_main_cst_7, val_main_v56, val_main_v55, val_main_v31, val_main_v30, val_main_v29, val_main_cst_3,
    val_main_v28]
  refine congrArg (· + _) (Finset.sum_congr rfl fun q _ => congrArg (· * _) ?_)
  unfold Cert.Pool.mean
  refine congrArg₂ (fun a b : EReal => a - b) (congrArg₂ Ideal.div ?_ ?_) ?_
  · unfold Cert.Pool.win
    simp only [Finset.sum_range_succ, Finset.sum_range_zero, zero_add]
    exact add2 (add2 (add2 (term0 x0 x1 x2 x3 n p ⟨1024 + (256 + q.val), by omega⟩ ⟨256 + q.val, by omega⟩ rfl)
      (term x0 x1 x2 x3 14 1 rfl n p ⟨1024 + (256 + q.val), by omega⟩ ⟨256 + q.val, by omega⟩ rfl (fun _ => by omega)))
      (term x0 x1 x2 x3 13 2 rfl n p ⟨1024 + (256 + q.val), by omega⟩ ⟨256 + q.val, by omega⟩ rfl (fun _ => by omega)))
      (term x0 x1 x2 x3 12 3 rfl n p ⟨1024 + (256 + q.val), by omega⟩ ⟨256 + q.val, by omega⟩ rfl (fun _ => by omega))
  · simp only [id_eq, constantI]
    rw [(Cert.Pool.cntWord p.val p.isLt).2.1]
  · exact v_eq x0 x1 x2 x3 n p ⟨1024 + (256 + q.val), by omega⟩ ⟨1 * 256 + q.val, by omega⟩ rfl

/-- Group 2: windows of 8 positions. -/
theorem y2_eq (n : Fin 4) (p : Fin 2048) (d : Fin 256) :
    val_main_v116 (F := Ideal) x0 x1 x2 x3 x4 x5 (ix3 n p d)
      = (∑ q : Fin 256, Cert.Pool.mean 8 (Spec.vseq x0 x1 x2 x3 n ⟨2 * 256 + q.val, by omega⟩) p.val
          * x4 (ix3 2 q d)) + x5 (ix2 2 d) := by
  pointwise [
    val_main_v116, val_main_v115, val_main_v114, val_main_v113, val_main_v112, val_main_v111, val_main_v110,
    val_main_v109, val_main_v108, val_main_v107, val_main_v106, val_main_v105, val_main_v104, val_main_v103,
    val_main_v102, val_main_call2_v4, val_main_call2_v3, val_main_call2_v2, val_main_call2_v1,
    val_main_call2_v0, val_main_c_14, val_main_c_13, val_main_v101, val_main_v100, val_main_c_12,
    val_main_v99, val_main_v98, val_main_v97, val_main_v96, val_main_v95, val_main_v94, val_main_v93,
    val_main_v92, val_main_v91, val_main_v90, val_main_v89, val_main_v88, val_main_v87, val_main_v86,
    val_main_v85, val_main_v84, val_main_cst_11, val_main_v83, val_main_v82, val_main_v31, val_main_v30,
    val_main_v29, val_main_cst_3, val_main_v28]
  refine congrArg (· + _) (Finset.sum_congr rfl fun q _ => congrArg (· * _) ?_)
  unfold Cert.Pool.mean
  refine congrArg₂ (fun a b : EReal => a - b) (congrArg₂ Ideal.div ?_ ?_) ?_
  · unfold Cert.Pool.win
    simp only [Finset.sum_range_succ, Finset.sum_range_zero, zero_add]
    exact add2 (add2 (add2 (add2 (add2 (add2 (add2 (term0 x0 x1 x2 x3 n p ⟨1024 + (512 + q.val), by omega⟩ ⟨512 + q.val, by omega⟩ rfl)
      (term x0 x1 x2 x3 14 1 rfl n p ⟨1024 + (512 + q.val), by omega⟩ ⟨512 + q.val, by omega⟩ rfl (fun _ => by omega)))
      (term x0 x1 x2 x3 13 2 rfl n p ⟨1024 + (512 + q.val), by omega⟩ ⟨512 + q.val, by omega⟩ rfl (fun _ => by omega)))
      (term x0 x1 x2 x3 12 3 rfl n p ⟨1024 + (512 + q.val), by omega⟩ ⟨512 + q.val, by omega⟩ rfl (fun _ => by omega)))
      (term x0 x1 x2 x3 11 4 rfl n p ⟨1024 + (512 + q.val), by omega⟩ ⟨512 + q.val, by omega⟩ rfl (fun _ => by omega)))
      (term x0 x1 x2 x3 10 5 rfl n p ⟨1024 + (512 + q.val), by omega⟩ ⟨512 + q.val, by omega⟩ rfl (fun _ => by omega)))
      (term x0 x1 x2 x3 9 6 rfl n p ⟨1024 + (512 + q.val), by omega⟩ ⟨512 + q.val, by omega⟩ rfl (fun _ => by omega)))
      (term x0 x1 x2 x3 8 7 rfl n p ⟨1024 + (512 + q.val), by omega⟩ ⟨512 + q.val, by omega⟩ rfl (fun _ => by omega))
  · simp only [id_eq, constantI]
    rw [(Cert.Pool.cntWord p.val p.isLt).2.2.1]
  · exact v_eq x0 x1 x2 x3 n p ⟨1024 + (512 + q.val), by omega⟩ ⟨2 * 256 + q.val, by omega⟩ rfl

/-- Group 3: windows of 16 positions. -/
theorem y3_eq (n : Fin 4) (p : Fin 2048) (d : Fin 256) :
    val_main_v167 (F := Ideal) x0 x1 x2 x3 x4 x5 (ix3 n p d)
      = (∑ q : Fin 256, Cert.Pool.mean 16 (Spec.vseq x0 x1 x2 x3 n ⟨3 * 256 + q.val, by omega⟩) p.val
          * x4 (ix3 3 q d)) + x5 (ix2 3 d) := by
  pointwise [
    val_main_v167, val_main_v166, val_main_v165, val_main_v164, val_main_v163, val_main_v162, val_main_v161,
    val_main_v160, val_main_v159, val_main_v158, val_main_v157, val_main_v156, val_main_v155, val_main_v154,
    val_main_v153, val_main_call3_v4, val_main_call3_v3, val_main_call3_v2, val_main_call3_v1,
    val_main_call3_v0, val_main_c_18, val_main_c_17, val_main_v152, val_main_v151, val_main_c_16,
    val_main_v150, val_main_v149, val_main_v148, val_main_v147, val_main_v146, val_main_v145, val_main_v144,
    val_main_v143, val_main_v142, val_main_v141, val_main_v140, val_main_v139, val_main_v138, val_main_v137,
    val_main_v136, val_main_v135, val_main_v134, val_main_v133, val_main_v132, val_main_v131, val_main_v130,
    val_main_v129, val_main_v128, val_main_v127, val_main_v126, val_main_v125, val_main_v124, val_main_v123,
    val_main_v122, val_main_v121, val_main_v120, val_main_v119, val_main_cst_15, val_main_v118, val_main_v117,
    val_main_v31, val_main_v30, val_main_v29, val_main_cst_3, val_main_v28]
  refine congrArg (· + _) (Finset.sum_congr rfl fun q _ => congrArg (· * _) ?_)
  unfold Cert.Pool.mean
  refine congrArg₂ (fun a b : EReal => a - b) (congrArg₂ Ideal.div ?_ ?_) ?_
  · unfold Cert.Pool.win
    simp only [Finset.sum_range_succ, Finset.sum_range_zero, zero_add]
    exact add2 (add2 (add2 (add2 (add2 (add2 (add2 (add2 (add2 (add2 (add2 (add2 (add2 (add2 (add2 (term0 x0 x1 x2 x3 n p ⟨1024 + (768 + q.val), by omega⟩ ⟨768 + q.val, by omega⟩ rfl)
      (term x0 x1 x2 x3 14 1 rfl n p ⟨1024 + (768 + q.val), by omega⟩ ⟨768 + q.val, by omega⟩ rfl (fun _ => by omega)))
      (term x0 x1 x2 x3 13 2 rfl n p ⟨1024 + (768 + q.val), by omega⟩ ⟨768 + q.val, by omega⟩ rfl (fun _ => by omega)))
      (term x0 x1 x2 x3 12 3 rfl n p ⟨1024 + (768 + q.val), by omega⟩ ⟨768 + q.val, by omega⟩ rfl (fun _ => by omega)))
      (term x0 x1 x2 x3 11 4 rfl n p ⟨1024 + (768 + q.val), by omega⟩ ⟨768 + q.val, by omega⟩ rfl (fun _ => by omega)))
      (term x0 x1 x2 x3 10 5 rfl n p ⟨1024 + (768 + q.val), by omega⟩ ⟨768 + q.val, by omega⟩ rfl (fun _ => by omega)))
      (term x0 x1 x2 x3 9 6 rfl n p ⟨1024 + (768 + q.val), by omega⟩ ⟨768 + q.val, by omega⟩ rfl (fun _ => by omega)))
      (term x0 x1 x2 x3 8 7 rfl n p ⟨1024 + (768 + q.val), by omega⟩ ⟨768 + q.val, by omega⟩ rfl (fun _ => by omega)))
      (term x0 x1 x2 x3 7 8 rfl n p ⟨1024 + (768 + q.val), by omega⟩ ⟨768 + q.val, by omega⟩ rfl (fun _ => by omega)))
      (term x0 x1 x2 x3 6 9 rfl n p ⟨1024 + (768 + q.val), by omega⟩ ⟨768 + q.val, by omega⟩ rfl (fun _ => by omega)))
      (term x0 x1 x2 x3 5 10 rfl n p ⟨1024 + (768 + q.val), by omega⟩ ⟨768 + q.val, by omega⟩ rfl (fun _ => by omega)))
      (term x0 x1 x2 x3 4 11 rfl n p ⟨1024 + (768 + q.val), by omega⟩ ⟨768 + q.val, by omega⟩ rfl (fun _ => by omega)))
      (term x0 x1 x2 x3 3 12 rfl n p ⟨1024 + (768 + q.val), by omega⟩ ⟨768 + q.val, by omega⟩ rfl (fun _ => by omega)))
      (term x0 x1 x2 x3 2 13 rfl n p ⟨1024 + (768 + q.val), by omega⟩ ⟨768 + q.val, by omega⟩ rfl (fun _ => by omega)))
      (term x0 x1 x2 x3 1 14 rfl n p ⟨1024 + (768 + q.val), by omega⟩ ⟨768 + q.val, by omega⟩ rfl (fun _ => by omega)))
      (term15 x0 x1 x2 x3 n p ⟨1024 + (768 + q.val), by omega⟩ ⟨768 + q.val, by omega⟩ rfl (fun _ => by omega))
  · simp only [id_eq, constantI]
    rw [(Cert.Pool.cntWord p.val p.isLt).2.2.2]
  · exact v_eq x0 x1 x2 x3 n p ⟨1024 + (768 + q.val), by omega⟩ ⟨3 * 256 + q.val, by omega⟩ rfl

/-- The first result: the state-space half, one row of eight positions at a time. -/
theorem out0_eq (b : Fin 256) (n : Fin 4) (r : Fin 8) (k : Fin 1024) :
    val_main_v173 (F := Ideal) x0 x1 x2 x3 (ix4 b n r k)
      = Spec.proj x0 x1 x2 x3 n ⟨b.val * 8 + r.val, by omega⟩ ⟨k.val, by omega⟩ := by
  pointwise [val_main_v173, val_main_v172, val_main_v27]
  exact p_eq ..

/-- The second result. -/
theorem out1_eq (n : Fin 4) (p : Fin 2048) (g : Fin 4) (d : Fin 256) :
    val_main_v175 (F := Ideal) x0 x1 x2 x3 x4 x5 x6 (ix2 ⟨n.val * 2048 + p.val, by omega⟩ ⟨g.val * 256 + d.val, by omega⟩)
      = Spec.ypool x0 x1 x2 x3 x4 x5 x6 n p g d := by
  pointwise [val_main_v175, val_main_v174, val_main_v171, val_main_v170, val_main_v169, val_main_v168]
  unfold Spec.ypool
  refine congrArg (· * _) ?_
  match g with
  | 0 => rw [dif_pos (by show 0 * 256 + d.val < 256; omega)]
         exact (congrArg _ (congrArg (ix3 n p) (Fin.ext (by show 0 * 256 + d.val = d.val; omega)))).trans (y0_eq ..)
  | 1 => rw [dif_neg (by show ¬1 * 256 + d.val < 256; omega), dif_pos (by show 1 * 256 + d.val - 256 < 256; omega)]
         exact (congrArg _ (congrArg (ix3 n p) (Fin.ext (by show 1 * 256 + d.val - 256 = d.val; omega)))).trans (y1_eq ..)
  | 2 => rw [dif_neg (by show ¬2 * 256 + d.val < 256; omega), dif_neg (by show ¬2 * 256 + d.val - 256 < 256; omega),
           dif_pos (by show 2 * 256 + d.val - 256 - 256 < 256; omega)]
         exact (congrArg _ (congrArg (ix3 n p) (Fin.ext (by show 2 * 256 + d.val - 256 - 256 = d.val; omega)))).trans (y2_eq ..)
  | 3 => rw [dif_neg (by show ¬3 * 256 + d.val < 256; omega), dif_neg (by show ¬3 * 256 + d.val - 256 < 256; omega),
           dif_neg (by show ¬3 * 256 + d.val - 256 - 256 < 256; omega)]
         exact (congrArg _ (congrArg (ix3 n p) (Fin.ext (by show 3 * 256 + d.val - 256 - 256 - 256 = d.val; omega)))).trans (y3_eq ..)

/-- The third result: the last sixteen positions of the pooling half. -/
theorem out2_eq (n : Fin 4) (t : Fin 16) (k : Fin 1024) :
    val_main_v176 (F := Ideal) x0 x1 x2 x3 (ix3 n t k) = Spec.vseq x0 x1 x2 x3 n k (2032 + t.val) := by
  pointwise [val_main_v176, val_main_v28]
  exact v_eq (hc := rfl) ..

end Cert.ReferenceIdeal.Read
-- ==== Proof.FfnSpec.lean ====
/-
  What a half-step feed-forward part computes, entry by entry, as functions of its arguments: the modulated norm of a row
  (`ffnIn`), the gated hidden units and their product with the last matrix (`ffnSum`), the residual sum (`ffnRes`) and its
  norm (`ffnOut`). `sub` is the number of the part's three modulation rows; row `R` is position `R % 2048` of sequence
  `R / 2048`.
-/
module

public import proofs.«01_k».proof.Proof.Spec

@[expose] public section
noncomputable section
open Idealize.ShloMosaic

namespace Cert.Spec

/-- One hidden unit of a row: the product with the gate's column through `silu`, times the product with the other column. -/
def hid (h wg wu : Fin 2048 → EReal) : EReal :=
  (∑ k, h k * wg k) * Ideal.logistic (∑ k, h k * wg k) * ∑ k, h k * wu k

/-- One row over its root mean square, scaled by `g`. -/
def rms (v g : Fin 2048 → EReal) (k : Fin 2048) : EReal :=
  v k * Ideal.rsqrt (Ideal.div (∑ j, v j * v j) (Ideal.ofBits FTy.f32 1157627904#32) + Ideal.ofBits FTy.f32 897988541#32) * g k

variable (sub : Fin 3)
variable (x : (⟨2, ![8192, 2048]⟩ : Shape).Idx → EReal) (g : (⟨1, ![2048]⟩ : Shape).Idx → EReal)
variable (mod : (⟨2, ![136, 18432]⟩ : Shape).Idx → EReal)
variable (wg wu : (⟨2, ![2048, 5632]⟩ : Shape).Idx → EReal) (wd : (⟨2, ![5632, 2048]⟩ : Shape).Idx → EReal)
variable (fg : (⟨1, ![2048]⟩ : Shape).Idx → EReal)

/-- Entry `k` of modulation row `e` (shift, scale, gate) of sequence `n`. -/
def modAt (e : Fin 3) (n : Fin 4) (k : Fin 2048) : EReal :=
  mod (ix2 ⟨128 + n.val, by omega⟩ ⟨(3 * sub.val + e.val) * 2048 + k.val, by omega⟩)

/-- The sequence of a row. -/
abbrev seqR (R : Fin 8192) : Fin 4 := ⟨R.val / 2048, by omega⟩

/-- Row `p` of sequence `n`. -/
abbrev rowOf (n : Fin 4) (p : Fin 2048) : Fin 8192 := ⟨n.val * 2048 + p.val, by omega⟩

theorem seqR_rowOf (n : Fin 4) (p : Fin 2048) : seqR (rowOf n p) = n := Fin.ext (by show (n.val * 2048 + p.val) / 2048 = n.val; omega)

def ffnIn (R : Fin 8192) : Fin 2048 → EReal :=
  hrow (fun k => x (ix2 R k)) (fun k => g (ix1 k)) (modAt sub mod 1 (seqR R)) (modAt sub mod 0 (seqR R))

def ffnSum (R : Fin 8192) (k : Fin 2048) : EReal :=
  ∑ j : Fin 5632, hid (ffnIn sub x g mod R) (fun i => wg (ix2 i j)) (fun i => wu (ix2 i j)) * wd (ix2 j k)

def ffnRes (R : Fin 8192) (k : Fin 2048) : EReal :=
  x (ix2 R k) + Ideal.ofBits FTy.f32 1056964608#32 * modAt sub mod 2 (seqR R) k * ffnSum sub x g mod wg wu wd R k

def ffnOut (R : Fin 8192) : Fin 2048 → EReal := rms (ffnRes sub x g mod wg wu wd R) (fun k => fg (ix1 k))

/-- A row's product over 512 hidden units. -/
def part (h : Fin 2048 → EReal) (wg wu : Vec Ideal ⟨2, ![2048, 512]⟩ .bf16) (wd : Vec Ideal ⟨2, ![512, 2048]⟩ .bf16) (k : Fin 2048) : EReal :=
  ∑ j : Fin 512, hid h (fun i => wg (ix2 i j)) (fun i => wu (ix2 i j)) * wd (ix2 j k)

end Cert.Spec
-- ==== Proof.FfnRef.lean ====
/-
  The reference of the second feed-forward part, read entry by entry.
-/
module

public import proofs.«01_k».proof.Proof.Gen.Reference2Ideal.Read
public import proofs.«01_k».proof.Proof.FfnSpec

@[expose] public section
set_option maxRecDepth 16384
noncomputable section
open Idealize.ShloMosaic

namespace Cert.Reference2Ideal.Read
open Cert.Reference2Ideal Cert.Reference2Ideal.Gen
variable (x0 : Vec Ideal S8192x2048 .f32) (x1 : Vec Ideal S2048 .f32) (x2 : Vec Ideal S136x18432 .f32)
variable (x3 x4 : Vec Ideal S2048x5632 .f32) (x5 : Vec Ideal S5632x2048 .f32) (x6 : Vec Ideal S2048 .f32) (x7 : Vec Ideal S1024x2048 .f32)

theorem h_eq (n : Fin 4) (p k : Fin 2048) :
    val_main_v27 (F := Ideal) x0 x1 x2 (ix3 n p k) = Spec.ffnIn 2 x0 x1 x2 (Spec.rowOf n p) k := by
  unfold Spec.ffnIn
  rw [Spec.seqR_rowOf]
  pointwise [val_main_v27, val_main_v26, val_main_v25, val_main_v24, val_main_v23, val_main_v22, val_main_cst_2, val_main_v21,
    val_main_v20, val_main_v19, val_main_v18, val_main_v17, val_main_v16, val_main_v15, val_main_v14, val_main_cst_1,
    val_main_v13, val_main_v12, val_main_cst_0, val_main_v11, val_main_v10, val_main_cst, val_main_v9, val_main_v8,
    val_main_v5, val_main_v4, val_main_v3, val_main_v2, val_main_v1, val_main_v0]
  rfl

theorem hid_eq (n : Fin 4) (p : Fin 2048) (j : Fin 5632) :
    val_main_v33 (F := Ideal) x0 x1 x2 x3 x4 (ix3 n p j)
      = Spec.hid (Spec.ffnIn 2 x0 x1 x2 (Spec.rowOf n p)) (fun i => x3 (ix2 i j)) (fun i => x4 (ix2 i j)) := by
  have e0 : val_main_v30 (F := Ideal) x0 x1 x2 x3 (ix3 n p j) = ∑ i, Spec.ffnIn 2 x0 x1 x2 (Spec.rowOf n p) i * x3 (ix2 i j) := by
    pointwise [val_main_v30]
    exact Finset.sum_congr rfl fun i _ => by rw [h_eq]
  have e1 : val_main_v32 (F := Ideal) x0 x1 x2 x4 (ix3 n p j) = ∑ i, Spec.ffnIn 2 x0 x1 x2 (Spec.rowOf n p) i * x4 (ix2 i j) := by
    pointwise [val_main_v32]
    exact Finset.sum_congr rfl fun i _ => by rw [h_eq]
  unfold Spec.hid
  rw [← e0, ← e1]
  pointwise [val_main_v33, val_main_v31, val_main_call0_v5, val_main_call0_v4, val_main_call0_cst_0, val_main_call0_v3,
    val_main_call0_v2, val_main_call0_cst, val_main_call0_v1, val_main_call0_v0]
  rfl

theorem res_eq (n : Fin 4) (p k : Fin 2048) :
    val_main_v37 (F := Ideal) x0 x1 x2 x3 x4 x5 (ix3 n p k) = Spec.ffnRes 2 x0 x1 x2 x3 x4 x5 (Spec.rowOf n p) k := by
  have e0 : val_main_v34 (F := Ideal) x0 x1 x2 x3 x4 x5 (ix3 n p k) = Spec.ffnSum 2 x0 x1 x2 x3 x4 x5 (Spec.rowOf n p) k := by
    pointwise [val_main_v34]
    exact Finset.sum_congr rfl fun j _ => by rw [hid_eq]
  unfold Spec.ffnRes
  rw [← e0, Spec.seqR_rowOf]
  pointwise [val_main_v37, val_main_v36, val_main_v35, val_main_v29, val_main_v28, val_main_cst_3, val_main_v8, val_main_v7,
    val_main_v6, val_main_v1, val_main_v0]
  rfl

theorem out_eq (n : Fin 4) (p k : Fin 2048) :
    val_main_v50 (F := Ideal) x0 x1 x2 x3 x4 x5 x6 (ix3 n p k) = Spec.ffnOut 2 x0 x1 x2 x3 x4 x5 x6 (Spec.rowOf n p) k := by
  pointwise [val_main_v50, val_main_v49, val_main_v48, val_main_v47, val_main_v46, val_main_v45, val_main_v44, val_main_cst_6,
    val_main_v43, val_main_v42, val_main_cst_5, val_main_v41, val_main_v40, val_main_v39, val_main_cst_4, val_main_v38]
  unfold Spec.ffnOut Spec.rms
  simp only [res_eq]

/-- The result: the first rows as given, the others computed. -/
theorem result_eq (R : Fin 8192) (k : Fin 2048) :
    val_main_v53 (F := Ideal) x0 x1 x2 x3 x4 x5 x6 x7 (ix2 R k)
      = if h : R.val < 1024 then x7 (ix2 ⟨R.val, h⟩ k) else Spec.ffnOut 2 x0 x1 x2 x3 x4 x5 x6 R k := by
  pointwise [val_main_v53, val_main_v52, val_main_v51]
  by_cases h : R.val < 1024
  · rw [dif_pos h, dif_pos h]
  · rw [dif_neg h, dif_neg h, out_eq]
    exact congrArg (fun R => Spec.ffnOut 2 x0 x1 x2 x3 x4 x5 x6 R k)
      (Fin.ext (by show (1024 + (R.val - 1024)) / 2048 * 2048 + (1024 + (R.val - 1024)) % 2048 = R.val; omega))

end Cert.Reference2Ideal.Read
-- ==== Proof.FfnRun.lean ====
/-
  The second feed-forward layer, one grid point at a time. The body has four cases: it copies the first block in (A); it normalises its
  rows and stores the first partial product (B); it adds a partial product (C); it adds the last one and closes the
  block (D). Each case's run names what is stored, as the list of its stores; the values may be of any float type.
-/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Tactic

@[expose] public section
set_option maxRecDepth 16384
noncomputable section
namespace Cert.Kernel2Ideal.Ffn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]
local notation "𝕄" => MT nD τ sig Unit (Elt F) ℕ (UR sig nD τ) ℕ

/-- The four conditions of the body. -/
abbrev cond0 (i : grid0.Coords) : Prop := k0_cond1 i = 1#1
abbrev cond1 (i : grid0.Coords) : Prop := k0_cond2 i = 1#1
abbrev cond2 (i : grid0.Coords) : Prop := k0_cond3 i = 1#1
abbrev cond3 (i : grid0.Coords) : Prop := k0_cond4 i = 1#1

/-- Which of them a point meets. -/
theorem conds : ∀ t : Fin cfg0.N, (cond0 (grid0.coords t) ↔ t.val = 0) ∧ (cond1 (grid0.coords t) ↔ t.val % 11 = 1)
    ∧ (cond2 (grid0.coords t) ↔ 1 < t.val ∧ t.val % 11 ≠ 0 ∧ t.val % 11 ≠ 1) ∧ (cond3 (grid0.coords t) ↔ t.val ≠ 0 ∧ t.val % 11 = 0) :=
  (by decide +kernel : ∀ t : Fin grid0.N, _)

variable (c : Dev nD) (i : grid0.Coords)
variable (a1 : Memref sig .tc .vmem S1024x2048 .f32) (h1 : a1.IsWhole)
variable (a2 : Memref sig .tc .vmem S8x2048 .f32) (h2 : a2.IsWhole)
variable (a3 : Memref sig .tc .vmem S8x2048 .f32) (h3 : a3.IsWhole)
variable (a4 : Memref sig .tc .vmem S8x2048 .f32) (h4 : a4.IsWhole)
variable (a5 : Memref sig .tc .vmem S1x2048 .f32) (h5 : a5.IsWhole)
variable (a6 : Memref sig .tc .vmem S2048x512 .bf16) (h6 : a6.IsWhole)
variable (a7 : Memref sig .tc .vmem S2048x512 .bf16) (h7 : a7.IsWhole)
variable (a8 : Memref sig .tc .vmem S512x2048 .bf16) (h8 : a8.IsWhole)
variable (a9 : Memref sig .tc .vmem S1x2048 .f32) (h9 : a9.IsWhole)
variable (a10 : Memref sig .tc .vmem S1024x2048 .f32) (h10 : a10.IsWhole)
variable (a11 : Memref sig .tc .vmem S1024x2048 .f32) (h11 : a11.IsWhole)
variable (a12 : Memref sig .tc .vmem S1024x2048 .bf16) (h12 : a12.IsWhole)
variable (x1 : Vec F S1024x2048 .f32)
variable (x2 : Vec F S8x2048 .f32)
variable (x3 : Vec F S8x2048 .f32)
variable (x4 : Vec F S8x2048 .f32)
variable (x5 : Vec F S1x2048 .f32)
variable (x6 : Vec F S2048x512 .bf16)
variable (x7 : Vec F S2048x512 .bf16)
variable (x8 : Vec F S512x2048 .bf16)
variable (x9 : Vec F S1x2048 .f32)
variable (x10 : Vec F S1024x2048 .f32)

/-- The staging buffers of the inputs, holding `x1 …`. -/
def ins : sProp 𝕄 :=
  iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10)

set_option maxHeartbeats 1000000 in
/-- The copy of the first block. -/
noncomputable def runA (hc0 : cond0 i) (hc1 : ¬cond1 i) (hc2 : ¬cond2 i) (hc3 : ¬cond3 i) :
    { L : List (View.Piece (Elt F) S1024x2048 .f32) //
      ∀ (E : Set ℕ) (K : PUnit → sProp 𝕄),
        iprop(ins c a1 a2 a3 a4 a5 a6 a7 a8 a9 a10 x1 x2 x3 x4 x5 x6 x7 x8 x9 x10 ∗ (∃ d, owns (c : Thread nD τ) a11 fullShare d)
            ∗ (iprop(ins c a1 a2 a3 a4 a5 a6 a7 a8 a9 a10 x1 x2 x3 x4 x5 x6 x7 x8 x9 x10 ∗ (∃ f, a11.view.loc (c : Thread nD τ) ↦[a11.view.set]{fullShare} a11.view.writes (Elt F) f L)) -∗ K ⟨⟩))
          ⊢ wp frame (wpE (defs₀ (F := F)) Variants.none c none) E (cc0_ffn i a1 h1 a2 h2 a3 h3 a4 h4 a5 h5 a6 h6 a7 h7 a8 h8 a9 h9 a10 h10 a11 h11 a12 h12) K } := by
  refine ⟨?_, fun E K => ?run⟩
  case run =>
    simp only [cc0_ffn_eq_skeleton]; unfold cc0_ffn_skel
    simp only [k0_part70_eq_skeleton]
    unfold ins owns
    iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩⟩, ⟨%_, %fo, -, Ho⟩, Hk⟩
    obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10
    sl_exec (disch := first | sl_exact hc0 | sl_exact hc1 | sl_exact hc2 | sl_exact hc3)
    sl_step
    iapply Hk
    isplitl [H1 H2 H3 H4 H5 H6 H7 H8 H9 H10]
    · isplitl [H1]; · iexists _; isplitr; (· ipureintro; exact h1.read_unread _); iexact H1
      isplitl [H2]; · iexists _; isplitr; (· ipureintro; exact h2.read_unread _); iexact H2
      isplitl [H3]; · iexists _; isplitr; (· ipureintro; exact h3.read_unread _); iexact H3
      isplitl [H4]; · iexists _; isplitr; (· ipureintro; exact h4.read_unread _); iexact H4
      isplitl [H5]; · iexists _; isplitr; (· ipureintro; exact h5.read_unread _); iexact H5
      isplitl [H6]; · iexists _; isplitr; (· ipureintro; exact h6.read_unread _); iexact H6
      isplitl [H7]; · iexists _; isplitr; (· ipureintro; exact h7.read_unread _); iexact H7
      isplitl [H8]; · iexists _; isplitr; (· ipureintro; exact h8.read_unread _); iexact H8
      isplitl [H9]; · iexists _; isplitr; (· ipureintro; exact h9.read_unread _); iexact H9
      iexists _; isplitr; (· ipureintro; exact h10.read_unread _); iexact H10
    iexists _; iexact Ho

set_option maxHeartbeats 6600000 in
/-- The normalised rows, and the first partial product. -/
noncomputable def runB (hc0 : ¬cond0 i) (hc1 : cond1 i) (hc2 : ¬cond2 i) (hc3 : ¬cond3 i) :
    Σ' (LS : List (View.Piece (Elt F) S1024x2048 .bf16)), { L : List (View.Piece (Elt F) S1024x2048 .f32) //
      ∀ (E : Set ℕ) (K : PUnit → sProp 𝕄),
        iprop(ins c a1 a2 a3 a4 a5 a6 a7 a8 a9 a10 x1 x2 x3 x4 x5 x6 x7 x8 x9 x10 ∗ (∃ d, owns (c : Thread nD τ) a11 fullShare d) ∗ (∃ d, owns (c : Thread nD τ) a12 fullShare d)
            ∗ (iprop(ins c a1 a2 a3 a4 a5 a6 a7 a8 a9 a10 x1 x2 x3 x4 x5 x6 x7 x8 x9 x10 ∗ (∃ f, a11.view.loc (c : Thread nD τ) ↦[a11.view.set]{fullShare} a11.view.writes (Elt F) f L) ∗ (∃ f, a12.view.loc (c : Thread nD τ) ↦[a12.view.set]{fullShare} a12.view.writes (Elt F) f LS)) -∗ K ⟨⟩))
          ⊢ wp frame (wpE (defs₀ (F := F)) Variants.none c none) E (cc0_ffn i a1 h1 a2 h2 a3 h3 a4 h4 a5 h5 a6 h6 a7 h7 a8 h8 a9 h9 a10 h10 a11 h11 a12 h12) K } := by
  refine ⟨?_, ?_, fun E K => ?run⟩
  case run =>
    simp only [cc0_ffn_eq_skeleton]; unfold cc0_ffn_skel
    simp only [k0_part70_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold ins owns
    iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩⟩, ⟨%_, %fo, -, Ho⟩, ⟨%_, %fs, -, Hs⟩, Hk⟩
    obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10
    sl_exec (disch := first | sl_exact hc0 | sl_exact hc1 | sl_exact hc2 | sl_exact hc3)
    sl_step
    iapply Hk
    isplitl [H1 H2 H3 H4 H5 H6 H7 H8 H9 H10]
    · isplitl [H1]; · iexists _; isplitr; (· ipureintro; exact h1.read_unread _); iexact H1
      isplitl [H2]; · iexists _; isplitr; (· ipureintro; exact h2.read_unread _); iexact H2
      isplitl [H3]; · iexists _; isplitr; (· ipureintro; exact h3.read_unread _); iexact H3
      isplitl [H4]; · iexists _; isplitr; (· ipureintro; exact h4.read_unread _); iexact H4
      isplitl [H5]; · iexists _; isplitr; (· ipureintro; exact h5.read_unread _); iexact H5
      isplitl [H6]; · iexists _; isplitr; (· ipureintro; exact h6.read_unread _); iexact H6
      isplitl [H7]; · iexists _; isplitr; (· ipureintro; exact h7.read_unread _); iexact H7
      isplitl [H8]; · iexists _; isplitr; (· ipureintro; exact h8.read_unread _); iexact H8
      isplitl [H9]; · iexists _; isplitr; (· ipureintro; exact h9.read_unread _); iexact H9
      iexists _; isplitr; (· ipureintro; exact h10.read_unread _); iexact H10
    isplitl [Ho]; · iexists _; iexact Ho
    iexists _; iexact Hs

set_option maxHeartbeats 1000000 in
/-- One more partial product. -/
noncomputable def runC (hc0 : ¬cond0 i) (hc1 : ¬cond1 i) (hc2 : cond2 i) (hc3 : ¬cond3 i) (xo : Vec F S1024x2048 .f32) (xs : Vec F S1024x2048 .bf16) :
    { L : List (View.Piece (Elt F) S1024x2048 .f32) //
      ∀ (E : Set ℕ) (K : PUnit → sProp 𝕄),
        iprop(ins c a1 a2 a3 a4 a5 a6 a7 a8 a9 a10 x1 x2 x3 x4 x5 x6 x7 x8 x9 x10 ∗ owns (c : Thread nD τ) a11 fullShare xo ∗ owns (c : Thread nD τ) a12 fullShare xs
            ∗ (iprop(ins c a1 a2 a3 a4 a5 a6 a7 a8 a9 a10 x1 x2 x3 x4 x5 x6 x7 x8 x9 x10 ∗ (∃ f, a11.view.loc (c : Thread nD τ) ↦[a11.view.set]{fullShare} a11.view.writes (Elt F) f L) ∗ owns (c : Thread nD τ) a12 fullShare xs) -∗ K ⟨⟩))
          ⊢ wp frame (wpE (defs₀ (F := F)) Variants.none c none) E (cc0_ffn i a1 h1 a2 h2 a3 h3 a4 h4 a5 h5 a6 h6 a7 h7 a8 h8 a9 h9 a10 h10 a11 h11 a12 h12) K } := by
  refine ⟨?_, fun E K => ?run⟩
  case run =>
    simp only [cc0_ffn_eq_skeleton]; unfold cc0_ffn_skel
    simp only [k0_part70_eq_skeleton, k0_part52_eq_skeleton]
    unfold ins owns
    iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩⟩, ⟨%fo, %eo, Ho⟩, ⟨%fs, %es, Hs⟩, Hk⟩
    obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread eo; obtain rfl := h12.eq_unread es
    sl_exec (disch := first | sl_exact hc0 | sl_exact hc1 | sl_exact hc2 | sl_exact hc3)
    sl_step
    iapply Hk
    isplitl [H1 H2 H3 H4 H5 H6 H7 H8 H9 H10]
    · isplitl [H1]; · iexists _; isplitr; (· ipureintro; exact h1.read_unread _); iexact H1
      isplitl [H2]; · iexists _; isplitr; (· ipureintro; exact h2.read_unread _); iexact H2
      isplitl [H3]; · iexists _; isplitr; (· ipureintro; exact h3.read_unread _); iexact H3
      isplitl [H4]; · iexists _; isplitr; (· ipureintro; exact h4.read_unread _); iexact H4
      isplitl [H5]; · iexists _; isplitr; (· ipureintro; exact h5.read_unread _); iexact H5
      isplitl [H6]; · iexists _; isplitr; (· ipureintro; exact h6.read_unread _); iexact H6
      isplitl [H7]; · iexists _; isplitr; (· ipureintro; exact h7.read_unread _); iexact H7
      isplitl [H8]; · iexists _; isplitr; (· ipureintro; exact h8.read_unread _); iexact H8
      isplitl [H9]; · iexists _; isplitr; (· ipureintro; exact h9.read_unread _); iexact H9
      iexists _; isplitr; (· ipureintro; exact h10.read_unread _); iexact H10
    isplitl [Ho]; · iexists _; iexact Ho
    iexists _; isplitr; · ipureintro; exact h12.read_unread _
    iexact Hs

set_option maxHeartbeats 2400000 in
/-- The last partial product, and the close of the block. -/
noncomputable def runD (hc0 : ¬cond0 i) (hc1 : ¬cond1 i) (hc2 : ¬cond2 i) (hc3 : cond3 i) (xo : Vec F S1024x2048 .f32) (xs : Vec F S1024x2048 .bf16) :
    { L : List (View.Piece (Elt F) S1024x2048 .f32) //
      ∀ (E : Set ℕ) (K : PUnit → sProp 𝕄),
        iprop(ins c a1 a2 a3 a4 a5 a6 a7 a8 a9 a10 x1 x2 x3 x4 x5 x6 x7 x8 x9 x10 ∗ owns (c : Thread nD τ) a11 fullShare xo ∗ owns (c : Thread nD τ) a12 fullShare xs
            ∗ (iprop(ins c a1 a2 a3 a4 a5 a6 a7 a8 a9 a10 x1 x2 x3 x4 x5 x6 x7 x8 x9 x10 ∗ (∃ f, a11.view.loc (c : Thread nD τ) ↦[a11.view.set]{fullShare} a11.view.writes (Elt F) f L) ∗ owns (c : Thread nD τ) a12 fullShare xs) -∗ K ⟨⟩))
          ⊢ wp frame (wpE (defs₀ (F := F)) Variants.none c none) E (cc0_ffn i a1 h1 a2 h2 a3 h3 a4 h4 a5 h5 a6 h6 a7 h7 a8 h8 a9 h9 a10 h10 a11 h11 a12 h12) K } := by
  refine ⟨?_, fun E K => ?run⟩
  case run =>
    simp only [cc0_ffn_eq_skeleton]; unfold cc0_ffn_skel
    simp only [k0_part70_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton]
    unfold ins owns
    iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩⟩, ⟨%fo, %eo, Ho⟩, ⟨%fs, %es, Hs⟩, Hk⟩
    obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread eo; obtain rfl := h12.eq_unread es
    sl_exec (disch := first | sl_exact hc0 | sl_exact hc1 | sl_exact hc2 | sl_exact hc3)
    sl_step
    iapply Hk
    isplitl [H1 H2 H3 H4 H5 H6 H7 H8 H9 H10]
    · isplitl [H1]; · iexists _; isplitr; (· ipureintro; exact h1.read_unread _); iexact H1
      isplitl [H2]; · iexists _; isplitr; (· ipureintro; exact h2.read_unread _); iexact H2
      isplitl [H3]; · iexists _; isplitr; (· ipureintro; exact h3.read_unread _); iexact H3
      isplitl [H4]; · iexists _; isplitr; (· ipureintro; exact h4.read_unread _); iexact H4
      isplitl [H5]; · iexists _; isplitr; (· ipureintro; exact h5.read_unread _); iexact H5
      isplitl [H6]; · iexists _; isplitr; (· ipureintro; exact h6.read_unread _); iexact H6
      isplitl [H7]; · iexists _; isplitr; (· ipureintro; exact h7.read_unread _); iexact H7
      isplitl [H8]; · iexists _; isplitr; (· ipureintro; exact h8.read_unread _); iexact H8
      isplitl [H9]; · iexists _; isplitr; (· ipureintro; exact h9.read_unread _); iexact H9
      iexists _; isplitr; (· ipureintro; exact h10.read_unread _); iexact H10
    isplitl [Ho]; · iexists _; iexact Ho
    iexists _; isplitr; · ipureintro; exact h12.read_unread _
    iexact Hs

end Cert.Kernel2Ideal.Ffn
-- ==== Proof.Stores.lean ====
/-
  A block of 1024 rows filled by stores of whole rows. `Rows` lists stores of `n` rows each, one under the other;
  `Close` lists stores of 512 rows, each re-read and stored again thirty-two rows at a time. What the block holds
  afterwards is read off the lists here, once for all the stores; and what a load of rows holds, entry by entry.
-/
module

public import Idealize.ShloMosaic.Lib.Pipeline.FrameBody
public import Idealize.ShloMosaic.Lib.ValueIdx
public import Idealize.ShloMosaic.Lib.Pointwise
public import Idealize.ShloMosaic.Lib.Pipeline.Value

@[expose] public section
noncomputable section
open Idealize.ShloMosaic

namespace Cert.Stores

variable {Val : EltTy → Type} {e : EltTy} [∀ e, Nonempty (Val e)]

abbrev Sblk : Shape := ⟨2, ![1024, 2048]⟩
abbrev Srow (n : ℕ) : Shape := ⟨2, ![n, 2048]⟩
/-- The rows `a … a + n - 1` lie in the block. -/
abbrev Fits (n a : ℕ) : Prop := ∀ x, (![a, 0] : Fin 2 → ℕ) x + (Srow n).size x ≤ Sblk.size x
/-- Those rows. -/
abbrev box (n a : ℕ) (h : Fits n a) : Rect Sblk := Rect.unit ![a, 0] (Srow n).size h

theorem mem_box {n a : ℕ} (h : Fits n a) (y : Sblk.Idx) : y ∈ (box n a h).set ↔ a ≤ (y 0).val ∧ (y 0).val < a + n := by
  rw [Rect.mem_set_unit]
  refine ⟨fun H => H 0, fun H x => ?_⟩
  match x with
  | ⟨0, _⟩ => exact H
  | ⟨1, _⟩ => exact ⟨Nat.zero_le _, by have h1 : (y 1).val < 2048 := (y 1).isLt; show (y 1).val < 0 + 2048; omega⟩

/-- Stores of `n` rows each; the one at row `a` holds `f a`. -/
inductive Rows (n : ℕ) (f : ∀ a, Fits n a → (Srow n).Idx → Val e) : List (View.Piece Val Sblk e) → ℕ → Prop
  | nil : Rows n f [] 0
  | cons {L : List (View.Piece Val Sblk e)} {a : ℕ} (h : Fits n a) : Rows n f L a → Rows n f (⟨box n a h, f a h⟩ :: L) (a + n)

theorem Rows.cover {n : ℕ} {f : ∀ a, Fits n a → (Srow n).Idx → Val e} {L : List (View.Piece Val Sblk e)} {b : ℕ} (H : Rows n f L b) :
    ∀ y : Sblk.Idx, (y 0).val < b → ∃ p ∈ L, y ∈ p.1.set := by
  induction H with
  | nil => exact fun y hy => absurd hy (Nat.not_lt_zero _)
  | @cons L a h _ ih =>
    intro y hy
    by_cases hm : (y 0).val < a
    · obtain ⟨p, hp, hy'⟩ := ih y hm
      exact ⟨p, List.mem_cons_of_mem _ hp, hy'⟩
    · exact ⟨_, List.mem_cons_self, (mem_box h y).mpr ⟨by omega, hy⟩⟩

/-- If every store writes the entries of `G`, the block holds `G` as far down as it is filled. -/
theorem Rows.canon {n : ℕ} {f : ∀ a, Fits n a → (Srow n).Idx → Val e} {L : List (View.Piece Val Sblk e)} {b : ℕ} (H : Rows n f L b)
    (G : Sblk.Idx → Val e) (hG : ∀ a h x, f a h x = G ((box n a h).emb x)) :
    ∀ y : Sblk.Idx, (y 0).val < b → View.canon L y = G y := by
  induction H with
  | nil => exact fun y hy => absurd hy (Nat.not_lt_zero _)
  | @cons L a h _ ih =>
    intro y hy
    by_cases hm : (y 0).val < a
    · rw [View.canon_cons_of_not_mem _ _ fun hc => by have := ((mem_box h y).mp hc).1; omega]
      exact ih y hm
    · obtain ⟨x, rfl⟩ := (box n a h).exists_idx_of_mem ((mem_box h y).mpr ⟨by omega, hy⟩)
      exact (View.canon_cons_emb _ _ _ x).trans (hG a h x)

/-- Stores of 512 rows, and over them stores of thirty-two rows made from what they left. -/
inductive Close {sig : RefSig} {κ : Kind} {sp : Space} (w : View sig κ sp Sblk e)
    (big : ∀ a, Fits 512 a → (Srow 512).Idx → Val e) (sub : ((Srow 32).Idx → Val e) → (Srow 32).Idx → Val e) :
    List (View.Piece Val Sblk e) → ℕ → ℕ → Prop
  | nil : Close w big sub [] 0 0
  | big {L : List (View.Piece Val Sblk e)} {a : ℕ} (h : Fits 512 a) : Close w big sub L a a →
      Close w big sub (⟨box 512 a h, big a h⟩ :: L) a (a + 512)
  | sub {L : List (View.Piece Val Sblk e)} {a b : ℕ} (h : Fits 32 a) (hb : a + 32 ≤ b) : Close w big sub L a b →
      Close w big sub (⟨box 32 a h, sub (w.readCov L (box 32 a h).toLoadRect)⟩ :: L) (a + 32) b

section
variable {sig : RefSig} {κ : Kind} {sp : Space} {w : View sig κ sp Sblk e}
variable {big : ∀ a, Fits 512 a → (Srow 512).Idx → Val e} {sub : ((Srow 32).Idx → Val e) → (Srow 32).Idx → Val e}
variable {L : List (View.Piece Val Sblk e)} {a b : ℕ}

theorem Close.cover (H : Close w big sub L a b) : ∀ y : Sblk.Idx, (y 0).val < b → ∃ p ∈ L, y ∈ p.1.set := by
  induction H with
  | nil => exact fun y hy => absurd hy (Nat.not_lt_zero _)
  | @big L a h _ ih =>
    intro y hy
    by_cases hm : (y 0).val < a
    · obtain ⟨p, hp, hy'⟩ := ih y hm
      exact ⟨p, List.mem_cons_of_mem _ hp, hy'⟩
    · exact ⟨_, List.mem_cons_self, (mem_box h y).mpr ⟨by omega, hy⟩⟩
  | @sub L a b h hb _ ih =>
    intro y hy
    obtain ⟨p, hp, hy'⟩ := ih y hy
    exact ⟨p, List.mem_cons_of_mem _ hp, hy'⟩

/-- If the stores of 512 rows write `G`, and the re-stored rows of `G` are those of `H`, the block holds `H` where it
    was re-stored and `G` below. -/
theorem Close.canon (H : Close w big sub L a b) (G K : Sblk.Idx → Val e) (hG : ∀ a h x, big a h x = G ((box 512 a h).emb x))
    (hK : ∀ a h v, (∀ x, v x = G ((box 32 a h).emb x)) → ∀ x, sub v x = K ((box 32 a h).emb x)) :
    ∀ y : Sblk.Idx, ((y 0).val < a → View.canon L y = K y) ∧ (a ≤ (y 0).val → (y 0).val < b → View.canon L y = G y) := by
  induction H with
  | nil => exact fun y => ⟨fun hy => absurd hy (Nat.not_lt_zero _), fun _ hy => absurd hy (Nat.not_lt_zero _)⟩
  | @big L a h _ ih =>
    refine fun y => ⟨fun hy => ?_, fun hy hy' => ?_⟩
    · rw [View.canon_cons_of_not_mem _ _ fun hc => by have := ((mem_box h y).mp hc).1; omega]
      exact (ih y).1 hy
    · obtain ⟨x, rfl⟩ := (box 512 a h).exists_idx_of_mem ((mem_box h y).mpr ⟨hy, hy'⟩)
      exact (View.canon_cons_emb _ _ _ x).trans (hG a h x)
  | @sub L a b h hb _ ih =>
    have hv : ∀ x, w.readCov L (box 32 a h).toLoadRect x = G ((box 32 a h).emb x) := fun x => by
      rw [View.readCov_eq_canon']
      have hx := (mem_box h ((box 32 a h).emb x)).mp ((box 32 a h).mem_set.mpr fun i => ⟨_, (x i).isLt, rfl⟩)
      exact (ih _).2 hx.1 (Nat.lt_of_lt_of_le hx.2 hb)
    refine fun y => ⟨fun hy => ?_, fun hy hy' => ?_⟩
    · by_cases hm : (y 0).val < a
      · rw [View.canon_cons_of_not_mem _ _ fun hc => by have := ((mem_box h y).mp hc).1; omega]
        exact (ih y).1 hm
      · obtain ⟨x, rfl⟩ := (box 32 a h).exists_idx_of_mem ((mem_box h y).mpr ⟨by omega, hy⟩)
        exact (View.canon_cons_emb _ _ _ x).trans (hK a h _ hv x)
    · rw [View.canon_cons_of_not_mem _ _ fun hc => by have := ((mem_box h y).mp hc).2; omega]
      exact (ih y).2 (by omega) hy'
end

section Loads
variable {sig : RefSig} {F : FTy → Type}

/-- The box `r` of a buffer that holds `x`. -/
abbrev ld {s : Shape} {e : EltTy} (a : Memref sig .tc .vmem s e) (h : a.IsWhole) (r : Rect s) (x : Vec F s e) : r.shape.Idx → Elt F e :=
  View.readAt (Elt F) a.view r.toLoadRect (h.unread x)

theorem ld_eq {s : Shape} {e : EltTy} (a : Memref sig .tc .vmem s e) (h : a.IsWhole) (r : Rect s) (x : Vec F s e) :
    ld a h r x = fun j => x (r.emb j) := by
  unfold ld
  rw [View.readAt_eq_ld, h.read_unread]
  rfl

end Loads

/-! ## Loads, by entry -/

theorem ix_box {n : ℕ} (x : (Srow n).Idx) : ∃ (r : Fin n) (k : Fin 2048), x = ix2 r k := ⟨x 0, x 1, eq_ix2 x⟩

theorem fits_lt {n a : ℕ} (h : Fits n a) (r : Fin n) : a + r.val < 1024 := by
  have h0 : a + n ≤ 1024 := h 0
  omega

theorem box_emb {n a : ℕ} (h : Fits n a) (r : Fin n) (k : Fin 2048) : (box n a h).emb (ix2 r k) = ix2 ⟨a + r.val, fits_lt h r⟩ k := by
  funext x
  match x with
  | ⟨0, _⟩ => exact Fin.ext (by show a + 1 * r.val = a + r.val; omega)
  | ⟨1, _⟩ => exact Fin.ext (by show 0 + 1 * k.val = k.val; omega)

/-- A box of rows, loaded. -/
theorem ld_box {sig : RefSig} {n : ℕ} {e : EltTy} (a : Memref sig .tc .vmem Sblk e) (h : a.IsWhole) (x : Vec Ideal Sblk e) {o : ℕ} (hb : Fits n o)
    (r : Fin n) (k : Fin 2048) : ld a h (box n o hb) x (ix2 r k) = x (ix2 ⟨o + r.val, fits_lt hb r⟩ k) := by
  rw [ld_eq, ← box_emb hb r k]

theorem zero2 : (![0, 0] : Fin 2 → ℕ) = fun _ => 0 := by decide

/-- All of a buffer, loaded. -/
theorem ld_all {sig : RefSig} {m n : ℕ} {e : EltTy} (a : Memref sig .tc .vmem ⟨2, ![m, n]⟩ e) (h : a.IsWhole) (x : Vec Ideal ⟨2, ![m, n]⟩ e)
    (hb : ∀ k, (![0, 0] : Fin 2 → ℕ) k + (⟨2, ![m, n]⟩ : Shape).size k ≤ (⟨2, ![m, n]⟩ : Shape).size k) :
    ld a h (Rect.unit ![0, 0] (⟨2, ![m, n]⟩ : Shape).size hb) x = x := by
  unfold ld
  rw [View.readAt_eq_ld, h.read_unread]
  exact View.ld_unit_zero zero2 _ _

/-- One of the eight modulation rows, loaded. -/
theorem ld_mod {sig : RefSig} (a : Memref sig .tc .vmem (⟨2, ![8, 2048]⟩ : Shape) .f32) (h : a.IsWhole) (x : Vec Ideal (⟨2, ![8, 2048]⟩ : Shape) .f32) (off : Fin 2 → ℕ)
    (hb : ∀ k, off k + (⟨2, ![1, 2048]⟩ : Shape).size k ≤ (⟨2, ![8, 2048]⟩ : Shape).size k) (n : Fin 8) (ho : off = ![n.val, 0]) (z : Fin 1) (k : Fin 2048) :
    ld a h (Rect.unit off (⟨2, ![1, 2048]⟩ : Shape).size hb) x (ix2 z k) = x (ix2 n k) := by
  subst ho
  rw [ld_eq]
  refine congrArg x ?_
  funext a
  match a with
  | ⟨0, _⟩ => exact Fin.ext (by show n.val + 1 * z.val = n.val; omega)
  | ⟨1, _⟩ => exact Fin.ext (by show 0 + 1 * k.val = k.val; omega)

end Cert.Stores
-- ==== Proof.FfnStores.lean ====
/-
  What each case of the body stores, in the terms of `Stores`: the values are given once for all the stores of a case.
-/
module

public import proofs.«01_k».proof.Proof.FfnRun
public import proofs.«01_k».proof.Proof.Stores

@[expose] public section
set_option maxRecDepth 16384
noncomputable section
namespace Cert.Kernel2Ideal.Ffn
open Idealize.ShloMosaic Idealize.ShloMosaic.TcCoe Idealize.SL.Sem
open Cert.Kernel2Ideal Cert.Kernel2Ideal.Gen Cert.Stores

variable {F : FTy → Type} [FloatOps F]

/-- The boxes that hold all of a buffer. -/
abbrev all1 : Rect S1x2048 := Rect.unit ![0, 0] S1x2048.size inb_S1x2048_S1x2048_0_0
abbrev allW : Rect S2048x512 := Rect.unit ![0, 0] S2048x512.size inb_S2048x512_S2048x512_0_0
abbrev allD : Rect S512x2048 := Rect.unit ![0, 0] S512x2048.size inb_S512x2048_S512x2048_0_0

variable (c : Dev nD) (i : grid0.Coords)
variable (a1 : Memref sig .tc .vmem S1024x2048 .f32) (h1 : a1.IsWhole)
variable (a2 : Memref sig .tc .vmem S8x2048 .f32) (h2 : a2.IsWhole)
variable (a3 : Memref sig .tc .vmem S8x2048 .f32) (h3 : a3.IsWhole)
variable (a4 : Memref sig .tc .vmem S8x2048 .f32) (h4 : a4.IsWhole)
variable (a5 : Memref sig .tc .vmem S1x2048 .f32) (h5 : a5.IsWhole)
variable (a6 : Memref sig .tc .vmem S2048x512 .bf16) (h6 : a6.IsWhole)
variable (a7 : Memref sig .tc .vmem S2048x512 .bf16) (h7 : a7.IsWhole)
variable (a8 : Memref sig .tc .vmem S512x2048 .bf16) (h8 : a8.IsWhole)
variable (a9 : Memref sig .tc .vmem S1x2048 .f32) (h9 : a9.IsWhole)
variable (a10 : Memref sig .tc .vmem S1024x2048 .f32) (h10 : a10.IsWhole)
variable (a11 : Memref sig .tc .vmem S1024x2048 .f32) (h11 : a11.IsWhole)
variable (a12 : Memref sig .tc .vmem S1024x2048 .bf16) (h12 : a12.IsWhole)
variable (x1 : Vec F S1024x2048 .f32)
variable (x2 : Vec F S8x2048 .f32)
variable (x3 : Vec F S8x2048 .f32)
variable (x4 : Vec F S8x2048 .f32)
variable (x5 : Vec F S1x2048 .f32)
variable (x6 : Vec F S2048x512 .bf16)
variable (x7 : Vec F S2048x512 .bf16)
variable (x8 : Vec F S512x2048 .bf16)
variable (x9 : Vec F S1x2048 .f32)
variable (x10 : Vec F S1024x2048 .f32)

/-- The very first point stores the first block. -/
theorem storesA (hc0 : cond0 i) (hc1 : ¬cond1 i) (hc2 : ¬cond2 i) (hc3 : ¬cond3 i) : Rows 1024 (fun a h => ld a10 h10 (box 1024 a h) x10) (runA c i a1 h1 a2 h2 a3 h3 a4 h4 a5 h5 a6 h6 a7 h7 a8 h8 a9 h9 a10 h10 a11 h11 a12 h12 x1 x2 x3 x4 x5 x6 x7 x8 x9 x10 hc0 hc1 hc2 hc3).1 1024 :=
  .cons (a := 0) _ .nil

/-- The first point of a block stores the normalised rows, thirty-two at a time, -/
theorem storesBs (hc0 : ¬cond0 i) (hc1 : cond1 i) (hc2 : ¬cond2 i) (hc3 : ¬cond3 i) :
    Rows 32 (fun a h => k0_pay3 (ld a1 h1 (box 32 a h) x1) (k0_pay2 (ld a5 h5 all1 x5))
      (ld a2 h2 (Rect.unit (k0_off1 i) S1x2048.size (k0_off1_inb i hc1)) x2) (ld a3 h3 (Rect.unit (k0_off1 i) S1x2048.size (k0_off1_inb i hc1)) x3))
      (runB c i a1 h1 a2 h2 a3 h3 a4 h4 a5 h5 a6 h6 a7 h7 a8 h8 a9 h9 a10 h10 a11 h11 a12 h12 x1 x2 x3 x4 x5 x6 x7 x8 x9 x10 hc0 hc1 hc2 hc3).1 1024 :=
  (.cons (a := 992) _ (.cons (a := 960) _ (.cons (a := 928) _ (.cons (a := 896) _ (.cons (a := 864) _ (.cons (a := 832) _ (.cons (a := 800) _ (.cons (a := 768) _ (.cons (a := 736) _ (.cons (a := 704) _ (.cons (a := 672) _ (.cons (a := 640) _ (.cons (a := 608) _ (.cons (a := 576) _ (.cons (a := 544) _ (.cons (a := 512) _ (.cons (a := 480) _ (.cons (a := 448) _ (.cons (a := 416) _ (.cons (a := 384) _ (.cons (a := 352) _ (.cons (a := 320) _ (.cons (a := 288) _ (.cons (a := 256) _ (.cons (a := 224) _ (.cons (a := 192) _ (.cons (a := 160) _ (.cons (a := 128) _ (.cons (a := 96) _ (.cons (a := 64) _ (.cons (a := 32) _ (.cons (a := 0) _ .nil))))))))))))))))))))))))))))))))

/-- and from them the first partial products. -/
theorem storesB (hc0 : ¬cond0 i) (hc1 : cond1 i) (hc2 : ¬cond2 i) (hc3 : ¬cond3 i) :
    Rows 512 (fun a h => k0_pay86 (a12.view.readCov (runB c i a1 h1 a2 h2 a3 h3 a4 h4 a5 h5 a6 h6 a7 h7 a8 h8 a9 h9 a10 h10 a11 h11 a12 h12 x1 x2 x3 x4 x5 x6 x7 x8 x9 x10 hc0 hc1 hc2 hc3).1 (box 512 a h).toLoadRect) (ld a6 h6 allW x6) (ld a7 h7 allW x7) (ld a8 h8 allD x8)) (runB c i a1 h1 a2 h2 a3 h3 a4 h4 a5 h5 a6 h6 a7 h7 a8 h8 a9 h9 a10 h10 a11 h11 a12 h12 x1 x2 x3 x4 x5 x6 x7 x8 x9 x10 hc0 hc1 hc2 hc3).2.1 1024 :=
  (.cons (a := 512) _ (.cons (a := 0) _ .nil))

/-- A later point adds its partial products. -/
theorem storesC (hc0 : ¬cond0 i) (hc1 : ¬cond1 i) (hc2 : cond2 i) (hc3 : ¬cond3 i) (xo : Vec F S1024x2048 .f32) (xs : Vec F S1024x2048 .bf16) :
    Rows 512 (fun a h => k0_pay89 (ld a12 h12 (box 512 a h) xs) (ld a6 h6 allW x6) (ld a7 h7 allW x7) (ld a8 h8 allD x8) (ld a11 h11 (box 512 a h) xo))
      (runC c i a1 h1 a2 h2 a3 h3 a4 h4 a5 h5 a6 h6 a7 h7 a8 h8 a9 h9 a10 h10 a11 h11 a12 h12 x1 x2 x3 x4 x5 x6 x7 x8 x9 x10 hc0 hc1 hc2 hc3 xo xs).1 1024 :=
  (.cons (a := 512) _ (.cons (a := 0) _ .nil))

/-- The last point of a block stores the residual sums, and over them their normalised rows. -/
theorem storesD (hc0 : ¬cond0 i) (hc1 : ¬cond1 i) (hc2 : ¬cond2 i) (hc3 : cond3 i) (xo : Vec F S1024x2048 .f32) (xs : Vec F S1024x2048 .bf16) :
    Close a11.view (fun a h => k0_pay92 (k0_pay89 (ld a12 h12 (box 512 a h) xs) (ld a6 h6 allW x6) (ld a7 h7 allW x7) (ld a8 h8 allD x8) (ld a11 h11 (box 512 a h) xo)) (ld a1 h1 (box 512 a h) x1) (ld a4 h4 (Rect.unit (k0_off2 i) S1x2048.size (k0_off2_inb i hc3)) x4))
      (fun v => k0_pay93 v (ld a9 h9 all1 x9)) (runD c i a1 h1 a2 h2 a3 h3 a4 h4 a5 h5 a6 h6 a7 h7 a8 h8 a9 h9 a10 h10 a11 h11 a12 h12 x1 x2 x3 x4 x5 x6 x7 x8 x9 x10 hc0 hc1 hc2 hc3 xo xs).1 1024 1024 :=
  (.sub (a := 992) _ (by omega) (.sub (a := 960) _ (by omega) (.sub (a := 928) _ (by omega) (.sub (a := 896) _ (by omega) (.sub (a := 864) _ (by omega) (.sub (a := 832) _ (by omega) (.sub (a := 800) _ (by omega) (.sub (a := 768) _ (by omega) (.sub (a := 736) _ (by omega) (.sub (a := 704) _ (by omega) (.sub (a := 672) _ (by omega) (.sub (a := 640) _ (by omega) (.sub (a := 608) _ (by omega) (.sub (a := 576) _ (by omega) (.sub (a := 544) _ (by omega) (.sub (a := 512) _ (by omega) (.big (a := 512) _ (.sub (a := 480) _ (by omega) (.sub (a := 448) _ (by omega) (.sub (a := 416) _ (by omega) (.sub (a := 384) _ (by omega) (.sub (a := 352) _ (by omega) (.sub (a := 320) _ (by omega) (.sub (a := 288) _ (by omega) (.sub (a := 256) _ (by omega) (.sub (a := 224) _ (by omega) (.sub (a := 192) _ (by omega) (.sub (a := 160) _ (by omega) (.sub (a := 128) _ (by omega) (.sub (a := 96) _ (by omega) (.sub (a := 64) _ (by omega) (.sub (a := 32) _ (by omega) (.sub (a := 0) _ (by omega) (.big (a := 0) _ .nil))))))))))))))))))))))))))))))))))

end Cert.Kernel2Ideal.Ffn
-- ==== Proof.FfnFrame.lean ====
/-
  The layer's run. After each grid point the output's staging buffer and the scratch buffer hold `st`; the proof data
  `dats` says so, the body meets it at every point, and the launch follows, over float values of any type.
-/
module

public import proofs.«01_k».proof.Proof.FfnStores
public import proofs.«01_k».proof.Proof.Gen.Kernel2Ideal.Frame

@[expose] public section
set_option maxRecDepth 16384
noncomputable section
namespace Cert.Kernel2Ideal.Ffn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel2Ideal Cert.Kernel2Ideal.Gen Cert.Stores

variable {F : FTy → Type} [FloatOps F]
local notation "𝕄" => MT nD τ sig Unit (Elt F) ℕ (UR sig nD τ) ℕ
variable (m : (ℓ : Loc nD τ sig) → Buf (Elt F) ℓ) (ρ : Dev nD → PrngReg) (c : Dev nD)

/-! ## The buffers at a point, and the case it is in -/

abbrev ms1 (t : Fin cfg0.N) : Memref sig .tc .vmem S1024x2048 .f32 := win0_0.stage (cfg0.slots t 0)
abbrev hs1 (t : Fin cfg0.N) : (ms1 t).IsWhole := hstage0_0 ((cfg0.slots t 0).cast nbuf0_0)
abbrev ms2 (t : Fin cfg0.N) : Memref sig .tc .vmem S8x2048 .f32 := win0_1.stage (cfg0.slots t 1)
abbrev hs2 (t : Fin cfg0.N) : (ms2 t).IsWhole := hstage0_1 ((cfg0.slots t 1).cast nbuf0_1)
abbrev ms3 (t : Fin cfg0.N) : Memref sig .tc .vmem S8x2048 .f32 := win0_2.stage (cfg0.slots t 2)
abbrev hs3 (t : Fin cfg0.N) : (ms3 t).IsWhole := hstage0_2 ((cfg0.slots t 2).cast nbuf0_2)
abbrev ms4 (t : Fin cfg0.N) : Memref sig .tc .vmem S8x2048 .f32 := win0_3.stage (cfg0.slots t 3)
abbrev hs4 (t : Fin cfg0.N) : (ms4 t).IsWhole := hstage0_3 ((cfg0.slots t 3).cast nbuf0_3)
abbrev ms5 (t : Fin cfg0.N) : Memref sig .tc .vmem S1x2048 .f32 := win0_4.stage (cfg0.slots t 4)
abbrev hs5 (t : Fin cfg0.N) : (ms5 t).IsWhole := hstage0_4 ((cfg0.slots t 4).cast nbuf0_4)
abbrev ms6 (t : Fin cfg0.N) : Memref sig .tc .vmem S2048x512 .bf16 := win0_5.stage (cfg0.slots t 5)
abbrev hs6 (t : Fin cfg0.N) : (ms6 t).IsWhole := hstage0_5 ((cfg0.slots t 5).cast nbuf0_5)
abbrev ms7 (t : Fin cfg0.N) : Memref sig .tc .vmem S2048x512 .bf16 := win0_6.stage (cfg0.slots t 6)
abbrev hs7 (t : Fin cfg0.N) : (ms7 t).IsWhole := hstage0_6 ((cfg0.slots t 6).cast nbuf0_6)
abbrev ms8 (t : Fin cfg0.N) : Memref sig .tc .vmem S512x2048 .bf16 := win0_7.stage (cfg0.slots t 7)
abbrev hs8 (t : Fin cfg0.N) : (ms8 t).IsWhole := hstage0_7 ((cfg0.slots t 7).cast nbuf0_7)
abbrev ms9 (t : Fin cfg0.N) : Memref sig .tc .vmem S1x2048 .f32 := win0_8.stage (cfg0.slots t 8)
abbrev hs9 (t : Fin cfg0.N) : (ms9 t).IsWhole := hstage0_8 ((cfg0.slots t 8).cast nbuf0_8)
abbrev ms10 (t : Fin cfg0.N) : Memref sig .tc .vmem S1024x2048 .f32 := win0_9.stage (cfg0.slots t 9)
abbrev hs10 (t : Fin cfg0.N) : (ms10 t).IsWhole := hstage0_9 ((cfg0.slots t 9).cast nbuf0_9)
abbrev ms11 (t : Fin cfg0.N) : Memref sig .tc .vmem S1024x2048 .f32 := win0_10.stage (cfg0.slots t 10)
abbrev hs11 (t : Fin cfg0.N) : (ms11 t).IsWhole := hstage0_10 ((cfg0.slots t 10).cast nbuf0_10)
abbrev scM : Memref sig .tc .vmem S1024x2048 .bf16 := Memref.whole cc0_scratch0

theorem isA (t : Fin cfg0.N) (h : t.val = 0) : cond0 (grid0.coords t) ∧ ¬cond1 (grid0.coords t) ∧ ¬cond2 (grid0.coords t) ∧ ¬cond3 (grid0.coords t) := by
  obtain ⟨h0, h1, h2, h3⟩ := conds t
  exact ⟨h0.mpr h, fun k => by have := h1.mp k; omega, fun k => by have := h2.mp k; omega, fun k => by have := h3.mp k; omega⟩
theorem isB (t : Fin cfg0.N) (h : t.val % 11 = 1) : ¬cond0 (grid0.coords t) ∧ cond1 (grid0.coords t) ∧ ¬cond2 (grid0.coords t) ∧ ¬cond3 (grid0.coords t) := by
  obtain ⟨h0, h1, h2, h3⟩ := conds t
  exact ⟨fun k => by have := h0.mp k; omega, h1.mpr h, fun k => by have := h2.mp k; omega, fun k => by have := h3.mp k; omega⟩
theorem isC (t : Fin cfg0.N) (h : 1 < t.val ∧ t.val % 11 ≠ 0 ∧ t.val % 11 ≠ 1) :
    ¬cond0 (grid0.coords t) ∧ ¬cond1 (grid0.coords t) ∧ cond2 (grid0.coords t) ∧ ¬cond3 (grid0.coords t) := by
  obtain ⟨h0, h1, h2, h3⟩ := conds t
  exact ⟨fun k => by have := h0.mp k; omega, fun k => by have := h1.mp k; omega, h2.mpr h, fun k => by have := h3.mp k; omega⟩
theorem isD (t : Fin cfg0.N) (h : t.val ≠ 0 ∧ t.val % 11 = 0) :
    ¬cond0 (grid0.coords t) ∧ ¬cond1 (grid0.coords t) ∧ ¬cond2 (grid0.coords t) ∧ cond3 (grid0.coords t) := by
  obtain ⟨h0, h1, h2, h3⟩ := conds t
  exact ⟨fun k => by have := h0.mp k; omega, fun k => by have := h1.mp k; omega, fun k => by have := h2.mp k; omega, h3.mpr h⟩

/-! ## What a point leaves -/

def outA (t : Fin cfg0.N) (h : t.val = 0) : Vec F S1024x2048 .f32 :=
  View.canon (runA c (grid0.coords t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (isA t h).1 (isA t h).2.1 (isA t h).2.2.1 (isA t h).2.2.2).1
def scrB (t : Fin cfg0.N) (h : t.val % 11 = 1) : Vec F S1024x2048 .bf16 :=
  View.canon (runB c (grid0.coords t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (isB t h).1 (isB t h).2.1 (isB t h).2.2.1 (isB t h).2.2.2).1
def outB (t : Fin cfg0.N) (h : t.val % 11 = 1) : Vec F S1024x2048 .f32 :=
  View.canon (runB c (grid0.coords t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (isB t h).1 (isB t h).2.1 (isB t h).2.2.1 (isB t h).2.2.2).2.1
def outC (t : Fin cfg0.N) (h : 1 < t.val ∧ t.val % 11 ≠ 0 ∧ t.val % 11 ≠ 1) (xo : Vec F S1024x2048 .f32) (xs : Vec F S1024x2048 .bf16) : Vec F S1024x2048 .f32 :=
  View.canon (runC c (grid0.coords t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (isC t h).1 (isC t h).2.1 (isC t h).2.2.1 (isC t h).2.2.2 xo xs).1
def outD (t : Fin cfg0.N) (h : t.val ≠ 0 ∧ t.val % 11 = 0) (xo : Vec F S1024x2048 .f32) (xs : Vec F S1024x2048 .bf16) : Vec F S1024x2048 .f32 :=
  View.canon (runD c (grid0.coords t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (isD t h).1 (isD t h).2.1 (isD t h).2.2.1 (isD t h).2.2.2 xo xs).1

/-- The output's staging buffer and the scratch buffer after point `n`. -/
def st : (n : ℕ) → n < cfg0.N → Vec F S1024x2048 .f32 × Vec F S1024x2048 .bf16
  | 0, hn => (outA m c ⟨0, hn⟩ rfl, View.canon [])
  | n + 1, hn =>
    if hB : (n + 1) % 11 = 1 then (outB m c ⟨n + 1, hn⟩ hB, scrB m c ⟨n + 1, hn⟩ hB)
    else if hD : (n + 1) % 11 = 0 then
      (outD m c ⟨n + 1, hn⟩ ⟨Nat.succ_ne_zero n, hD⟩ (st n (by omega)).1 (st n (by omega)).2, (st n (by omega)).2)
    else (outC m c ⟨n + 1, hn⟩ ⟨by show 1 < n + 1; omega, hD, hB⟩ (st n (by omega)).1 (st n (by omega)).2, (st n (by omega)).2)

theorem st_A (hn : 0 < cfg0.N) : st m c 0 hn = (outA m c ⟨0, hn⟩ rfl, View.canon []) := rfl
theorem st_B (n : ℕ) (hn : n + 1 < cfg0.N) (hB : (n + 1) % 11 = 1) :
    st m c (n + 1) hn = (outB m c ⟨n + 1, hn⟩ hB, scrB m c ⟨n + 1, hn⟩ hB) := dif_pos hB
theorem st_D (n : ℕ) (hn : n + 1 < cfg0.N) (hD : (n + 1) % 11 = 0) :
    st m c (n + 1) hn = (outD m c ⟨n + 1, hn⟩ ⟨Nat.succ_ne_zero n, hD⟩ (st m c n (by omega)).1 (st m c n (by omega)).2, (st m c n (by omega)).2) :=
  (dif_neg (by omega)).trans (dif_pos hD)
theorem st_C (n : ℕ) (hn : n + 1 < cfg0.N) (h : 1 < n + 1 ∧ (n + 1) % 11 ≠ 0 ∧ (n + 1) % 11 ≠ 1) :
    st m c (n + 1) hn = (outC m c ⟨n + 1, hn⟩ h (st m c n (by omega)).1 (st m c n (by omega)).2, (st m c n (by omega)).2) :=
  (dif_neg h.2.2).trans (dif_neg h.2.1)

/-- The scratch buffer between the points: anything before the first block's rows are stored. -/
def Phi : (n : ℕ) → n ≤ cfg0.N → sProp 𝕄
  | 0, _ => Pipeline.ΦA spec0 c
  | 1, _ => Pipeline.ΦA spec0 c
  | n + 2, hn => iprop(owns (c : Thread nD τ) scM fullShare (st m c (n + 1) hn).2 ∗ (∃ r, prngReg c r))

theorem Phi_two (n : ℕ) (hn : n + 2 ≤ cfg0.N) :
    Phi m c (n + 2) hn = iprop(owns (c : Thread nD τ) scM fullShare (st m c (n + 1) hn).2 ∗ (∃ r, prngReg c r)) := rfl

theorem PhiA_eq : (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- At any point the scratch buffer holds something. -/
theorem Phi_any : ∀ (n : ℕ) (hn : n ≤ cfg0.N), Phi m c n hn ⊢ iprop((∃ d, owns (c : Thread nD τ) scM fullShare d) ∗ (∃ r, prngReg c r))
  | 0, _ => by unfold Phi; rw [PhiA_eq]
  | 1, _ => by unfold Phi; rw [PhiA_eq]
  | n + 2, hn => by
    unfold Phi
    iintro ⟨Hs, Hg⟩
    isplitl [Hs]; · iexists _; iexact Hs
    iexact Hg

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (st m c t.val t.isLt).1
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

/-- The points that write the output's block back. -/
theorem flush_iff : ∀ t : Fin cfg0.N, (cfg0.win 10).flush t = true ↔ t.val % 11 = 0 :=
  (by decide +kernel : ∀ t : Fin grid0.N, _)

theorem live (i : grid0.Coords) : cfg0.idle 10 i = false :=
  (by decide +kernel : ∀ i : grid0.Coords, idle0 10 i = false) i

theorem Phi_castSucc (t : Fin cfg0.N) : (dats m 0 c).Φ t.castSucc = Phi m c t.val (Nat.le_of_lt t.isLt) := by
  dsimp only [dats]; exact Dat.Φ_castSucc (Phi m c) t
theorem Phi_succ (t : Fin cfg0.N) : (dats m 0 c).Φ t.succ = Phi m c (t.val + 1) t.isLt := rfl

/-- Within a block the output's buffer holds what the point before left. -/
theorem before_out (n : ℕ) (hn : n + 1 < cfg0.N) (h : (n + 1) % 11 ≠ 1) (d) :
    (dats m 0 c).before 10 ⟨n + 1, hn⟩ d = (st m c n (by omega)).1 :=
  (dats m 0 c).before_out_kept 10 rfl ⟨n + 1, hn⟩ (Nat.succ_ne_zero n)
    (Bool.eq_false_iff.mpr fun hf => by have := (flush_iff _).mp hf; simp only [Nat.add_sub_cancel] at this; omega)
    live (fun _ _ => rfl) d

/-! ## The body at a point -/

/-- The inputs' staging buffers at a point hold their blocks. -/
abbrev insAt (t : Fin cfg0.N) : sProp 𝕄 :=
  ins c (ms1 t) (ms2 t) (ms3 t) (ms4 t) (ms5 t) (ms6 t) (ms7 t) (ms8 t) (ms9 t) (ms10 t) (iblk m c 0 t) (iblk m c 1 t) (iblk m c 2 t) (iblk m c 3 t) (iblk m c 4 t) (iblk m c 5 t) (iblk m c 6 t) (iblk m c 7 t) (iblk m c 8 t) (iblk m c 9 t)

theorem gather (t : Fin cfg0.N) :
    iprop((dats m 0 c).Φ t.castSucc ∗ (dats m 0 c).owesAt () t.castSucc
    ∗ (∃ d, owns (c : Thread nD τ) (ms1 t) fullShare ((dats m 0 c).before 0 t d))
    ∗ (∃ d, owns (c : Thread nD τ) (ms2 t) fullShare ((dats m 0 c).before 1 t d))
    ∗ (∃ d, owns (c : Thread nD τ) (ms3 t) fullShare ((dats m 0 c).before 2 t d))
    ∗ (∃ d, owns (c : Thread nD τ) (ms4 t) fullShare ((dats m 0 c).before 3 t d))
    ∗ (∃ d, owns (c : Thread nD τ) (ms5 t) fullShare ((dats m 0 c).before 4 t d))
    ∗ (∃ d, owns (c : Thread nD τ) (ms6 t) fullShare ((dats m 0 c).before 5 t d))
    ∗ (∃ d, owns (c : Thread nD τ) (ms7 t) fullShare ((dats m 0 c).before 6 t d))
    ∗ (∃ d, owns (c : Thread nD τ) (ms8 t) fullShare ((dats m 0 c).before 7 t d))
    ∗ (∃ d, owns (c : Thread nD τ) (ms9 t) fullShare ((dats m 0 c).before 8 t d))
    ∗ (∃ d, owns (c : Thread nD τ) (ms10 t) fullShare ((dats m 0 c).before 9 t d))
    ∗ (∃ d, owns (c : Thread nD τ) (ms11 t) fullShare ((dats m 0 c).before 10 t d)))
    ⊢ iprop(Phi m c t.val (Nat.le_of_lt t.isLt) ∗ (dats m 0 c).owesAt () t.castSucc ∗ insAt m c t
      ∗ (∃ d, owns (c : Thread nD τ) (ms11 t) fullShare ((dats m 0 c).before 10 t d))) := by
  rw [Phi_castSucc]
  unfold insAt ins
  iintro ⟨HP, Hw, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, Ho⟩
  isplitl [HP]; · iexact HP
  isplitl [Hw]; · iexact Hw
  isplitl [H1 H2 H3 H4 H5 H6 H7 H8 H9 H10]
  · isplitl [H1]; · rw [before0_0_of m (dats m 0 c) rfl (fun _ => rfl)]; iexact H1
    isplitl [H2]; · rw [before0_1_of m (dats m 0 c) rfl (fun _ => rfl)]; iexact H2
    isplitl [H3]; · rw [before0_2_of m (dats m 0 c) rfl (fun _ => rfl)]; iexact H3
    isplitl [H4]; · rw [before0_3_of m (dats m 0 c) rfl (fun _ => rfl)]; iexact H4
    isplitl [H5]; · rw [before0_4_of m (dats m 0 c) rfl (fun _ => rfl)]; iexact H5
    isplitl [H6]; · rw [before0_5_of m (dats m 0 c) rfl (fun _ => rfl)]; iexact H6
    isplitl [H7]; · rw [before0_6_of m (dats m 0 c) rfl (fun _ => rfl)]; iexact H7
    isplitl [H8]; · rw [before0_7_of m (dats m 0 c) rfl (fun _ => rfl)]; iexact H8
    isplitl [H9]; · rw [before0_8_of m (dats m 0 c) rfl (fun _ => rfl)]; iexact H9
    rw [before0_9_of m (dats m 0 c) rfl (fun _ => rfl)]; iexact H10
  iexact Ho

theorem scatter (t : Fin cfg0.N) :
    iprop(Phi m c (t.val + 1) t.isLt ∗ (dats m 0 c).owesAt () t.castSucc ∗ insAt m c t
      ∗ owns (c : Thread nD τ) (ms11 t) fullShare (st m c t.val t.isLt).1)
    ⊢ iprop((dats m 0 c).Φ t.succ ∗ (dats m 0 c).owesAt () t.succ
    ∗ owns (c : Thread nD τ) (ms1 t) fullShare ((dats m 0 c).after 0 t)
    ∗ owns (c : Thread nD τ) (ms2 t) fullShare ((dats m 0 c).after 1 t)
    ∗ owns (c : Thread nD τ) (ms3 t) fullShare ((dats m 0 c).after 2 t)
    ∗ owns (c : Thread nD τ) (ms4 t) fullShare ((dats m 0 c).after 3 t)
    ∗ owns (c : Thread nD τ) (ms5 t) fullShare ((dats m 0 c).after 4 t)
    ∗ owns (c : Thread nD τ) (ms6 t) fullShare ((dats m 0 c).after 5 t)
    ∗ owns (c : Thread nD τ) (ms7 t) fullShare ((dats m 0 c).after 6 t)
    ∗ owns (c : Thread nD τ) (ms8 t) fullShare ((dats m 0 c).after 7 t)
    ∗ owns (c : Thread nD τ) (ms9 t) fullShare ((dats m 0 c).after 8 t)
    ∗ owns (c : Thread nD τ) (ms10 t) fullShare ((dats m 0 c).after 9 t)
    ∗ owns (c : Thread nD τ) (ms11 t) fullShare ((dats m 0 c).after 10 t)) := by
  rw [Phi_succ]
  unfold insAt ins
  iintro ⟨HP, Hw, ⟨H1, H2, H3, H4, H5, H6, H7, H8, H9, H10⟩, Ho⟩
  isplitl [HP]; · iexact HP
  isplitl [Hw]; · iexact Hw
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact Ho

/-- Stores that cover a buffer leave it at what they stored. -/
theorem stored {s : Shape} {e : EltTy} (a : Memref sig .tc .vmem s e) (L : List (View.Piece (Elt F) s e)) (h : ∀ y, ∃ p ∈ L, y ∈ p.1.set) :
    (iprop(∃ f, a.view.loc (c : Thread nD τ) ↦[a.view.set]{fullShare} a.view.writes (Elt F) f L) : sProp 𝕄)
      ⊢ owns (c : Thread nD τ) a fullShare (View.canon L) := by
  unfold owns
  iintro ⟨%f, Ho⟩
  iexists _; isplitr
  swap; · iexact Ho
  ipureintro; exact View.read_writes_eq_canon _ _ _ h

theorem keyA (t : Fin cfg0.N) (h : t.val = 0) (K : PUnit → sProp 𝕄) :
    iprop(insAt m c t ∗ (∃ d, owns (c : Thread nD τ) (ms11 t) fullShare d) ∗ (iprop(insAt m c t ∗ owns (c : Thread nD τ) (ms11 t) fullShare (outA m c t h)) -∗ K ⟨⟩))
    ⊢ wp frame (wpE (defs₀ (F := F)) Variants.none c none) Set.univ (bodyAt0 t) K := by
  refine BIBase.Entails.trans ?_ ((runA c (grid0.coords t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (isA t h).1 (isA t h).2.1 (isA t h).2.2.1 (isA t h).2.2.2).2 Set.univ K)
  iintro ⟨Hi, Ho, Hk⟩
  isplitl [Hi]; · iexact Hi
  isplitl [Ho]; · iexact Ho
  iintro ⟨Hi, Ho⟩
  iapply Hk
  isplitl [Hi]; · iexact Hi
  iapply (stored c (ms11 t) _ fun y => (storesA _ _ _ _ _ _ _ _ _ _ _ _ _ _ _ _ _ _ _ _ _ _ _ _ _ _ _ _ _ _ _ _ _ _ _ _ _ _ _ _).cover y (y 0).isLt)
  iexact Ho

theorem keyB (t : Fin cfg0.N) (h : t.val % 11 = 1) (K : PUnit → sProp 𝕄) :
    iprop(insAt m c t ∗ (∃ d, owns (c : Thread nD τ) (ms11 t) fullShare d) ∗ (∃ d, owns (c : Thread nD τ) scM fullShare d) ∗ (iprop(insAt m c t ∗ owns (c : Thread nD τ) (ms11 t) fullShare (outB m c t h) ∗ owns (c : Thread nD τ) scM fullShare (scrB m c t h)) -∗ K ⟨⟩))
    ⊢ wp frame (wpE (defs₀ (F := F)) Variants.none c none) Set.univ (bodyAt0 t) K := by
  refine BIBase.Entails.trans ?_ ((runB c (grid0.coords t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (isB t h).1 (isB t h).2.1 (isB t h).2.2.1 (isB t h).2.2.2).2.2 Set.univ K)
  iintro ⟨Hi, Ho, Hs, Hk⟩
  isplitl [Hi]; · iexact Hi
  isplitl [Ho]; · iexact Ho
  isplitl [Hs]; · iexact Hs
  iintro ⟨Hi, Ho, Hs⟩
  iapply Hk
  isplitl [Hi]; · iexact Hi
  isplitl [Ho]
  · iapply (stored c (ms11 t) _ fun y => (storesB _ _ _ _ _ _ _ _ _ _ _ _ _ _ _ _ _ _ _ _ _ _ _ _ _ _ _ _ _ _ _ _ _ _ _ _ _ _ _ _).cover y (y 0).isLt)
    iexact Ho
  iapply (stored c scM _ fun y => (storesBs _ _ _ _ _ _ _ _ _ _ _ _ _ _ _ _ _ _ _ _ _ _ _ _ _ _ _ _ _ _ _ _ _ _ _ _ _ _ _ _).cover y (y 0).isLt)
  iexact Hs

theorem keyC (t : Fin cfg0.N) (h : 1 < t.val ∧ t.val % 11 ≠ 0 ∧ t.val % 11 ≠ 1) (xo : Vec F S1024x2048 .f32) (xs : Vec F S1024x2048 .bf16) (K : PUnit → sProp 𝕄) :
    iprop(insAt m c t ∗ owns (c : Thread nD τ) (ms11 t) fullShare xo ∗ owns (c : Thread nD τ) scM fullShare xs ∗ (iprop(insAt m c t ∗ owns (c : Thread nD τ) (ms11 t) fullShare (outC m c t h xo xs) ∗ owns (c : Thread nD τ) scM fullShare xs) -∗ K ⟨⟩))
    ⊢ wp frame (wpE (defs₀ (F := F)) Variants.none c none) Set.univ (bodyAt0 t) K := by
  refine BIBase.Entails.trans ?_ ((runC c (grid0.coords t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (isC t h).1 (isC t h).2.1 (isC t h).2.2.1 (isC t h).2.2.2 xo xs).2 Set.univ K)
  iintro ⟨Hi, Ho, Hs, Hk⟩
  isplitl [Hi]; · iexact Hi
  isplitl [Ho]; · iexact Ho
  isplitl [Hs]; · iexact Hs
  iintro ⟨Hi, Ho, Hs⟩
  iapply Hk
  isplitl [Hi]; · iexact Hi
  isplitl [Ho]
  · iapply (stored c (ms11 t) _ fun y => (storesC _ _ _ _ _ _ _ _ _ _ _ _ _ _ _ _ _ _ _ _ _ _ _ _ _ _ _ _ _ _ _ _ _ _ _ _ _ _ _ _ _ _).cover y (y 0).isLt)
    iexact Ho
  iexact Hs

theorem keyD (t : Fin cfg0.N) (h : t.val ≠ 0 ∧ t.val % 11 = 0) (xo : Vec F S1024x2048 .f32) (xs : Vec F S1024x2048 .bf16) (K : PUnit → sProp 𝕄) :
    iprop(insAt m c t ∗ owns (c : Thread nD τ) (ms11 t) fullShare xo ∗ owns (c : Thread nD τ) scM fullShare xs ∗ (iprop(insAt m c t ∗ owns (c : Thread nD τ) (ms11 t) fullShare (outD m c t h xo xs) ∗ owns (c : Thread nD τ) scM fullShare xs) -∗ K ⟨⟩))
    ⊢ wp frame (wpE (defs₀ (F := F)) Variants.none c none) Set.univ (bodyAt0 t) K := by
  refine BIBase.Entails.trans ?_ ((runD c (grid0.coords t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (isD t h).1 (isD t h).2.1 (isD t h).2.2.1 (isD t h).2.2.2 xo xs).2 Set.univ K)
  iintro ⟨Hi, Ho, Hs, Hk⟩
  isplitl [Hi]; · iexact Hi
  isplitl [Ho]; · iexact Ho
  isplitl [Hs]; · iexact Hs
  iintro ⟨Hi, Ho, Hs⟩
  iapply Hk
  isplitl [Hi]; · iexact Hi
  isplitl [Ho]
  · iapply (stored c (ms11 t) _ fun y => (storesD _ _ _ _ _ _ _ _ _ _ _ _ _ _ _ _ _ _ _ _ _ _ _ _ _ _ _ _ _ _ _ _ _ _ _ _ _ _ _ _ _ _).cover y (y 0).isLt)
    iexact Ho
  iexact Hs

/-- A block's first point, whatever the buffers held. -/
theorem firstAt (n : ℕ) (hn : n + 1 < cfg0.N) (hB : (n + 1) % 11 = 1) (K : PUnit → sProp 𝕄) :
    iprop(insAt m c ⟨n + 1, hn⟩ ∗ (∃ d, owns (c : Thread nD τ) (ms11 ⟨n + 1, hn⟩) fullShare d) ∗ (∃ d, owns (c : Thread nD τ) scM fullShare d)
      ∗ (iprop(insAt m c ⟨n + 1, hn⟩ ∗ owns (c : Thread nD τ) (ms11 ⟨n + 1, hn⟩) fullShare (st m c (n + 1) hn).1
        ∗ owns (c : Thread nD τ) scM fullShare (st m c (n + 1) hn).2) -∗ K ⟨⟩))
    ⊢ wp frame (wpE (defs₀ (F := F)) Variants.none c none) Set.univ (bodyAt0 ⟨n + 1, hn⟩) K := by
  have e := st_B m c n hn hB
  have e1 := congrArg Prod.fst e
  have e2 := congrArg Prod.snd e
  dsimp only at e1 e2
  rw [e1, e2]; exact keyB m c ⟨n + 1, hn⟩ hB K

/-- A later point of a block, from what the point before left. -/
theorem laterAt (k : ℕ) (hn : k + 1 + 1 < cfg0.N) (hB : (k + 1 + 1) % 11 ≠ 1) (K : PUnit → sProp 𝕄) :
    iprop(insAt m c ⟨k + 1 + 1, hn⟩ ∗ owns (c : Thread nD τ) (ms11 ⟨k + 1 + 1, hn⟩) fullShare (st m c (k + 1) (by omega)).1
      ∗ owns (c : Thread nD τ) scM fullShare (st m c (k + 1) (by omega)).2
      ∗ (iprop(insAt m c ⟨k + 1 + 1, hn⟩ ∗ owns (c : Thread nD τ) (ms11 ⟨k + 1 + 1, hn⟩) fullShare (st m c (k + 1 + 1) hn).1
        ∗ owns (c : Thread nD τ) scM fullShare (st m c (k + 1 + 1) hn).2) -∗ K ⟨⟩))
    ⊢ wp frame (wpE (defs₀ (F := F)) Variants.none c none) Set.univ (bodyAt0 ⟨k + 1 + 1, hn⟩) K := by
  by_cases hD : (k + 1 + 1) % 11 = 0
  · have e := st_D m c (k + 1) hn hD
    have e1 := congrArg Prod.fst e
    have e2 := congrArg Prod.snd e
    dsimp only at e1 e2
    rw [e1, e2]
    generalize st m c (k + 1) _ = S'
    exact keyD m c ⟨k + 1 + 1, hn⟩ ⟨Nat.succ_ne_zero _, hD⟩ S'.1 S'.2 K
  · have e := st_C m c (k + 1) hn ⟨by omega, hD, hB⟩
    have e1 := congrArg Prod.fst e
    have e2 := congrArg Prod.snd e
    dsimp only at e1 e2
    rw [e1, e2]
    generalize st m c (k + 1) _ = S'
    exact keyC m c ⟨k + 1 + 1, hn⟩ ⟨by show 1 < k + 1 + 1; omega, hD, hB⟩ S'.1 S'.2 K

/-- The body takes the point's buffers from the one state to the next. -/
theorem sound (t : Fin cfg0.N) :
    iprop(Phi m c t.val (Nat.le_of_lt t.isLt) ∗ (dats m 0 c).owesAt () t.castSucc ∗ insAt m c t
      ∗ (∃ d, owns (c : Thread nD τ) (ms11 t) fullShare ((dats m 0 c).before 10 t d)))
    ⊢ wp frame (wpE (defs₀ (F := F)) Variants.none c none) Set.univ (bodyAt0 t) (fun _ =>
      iprop(Phi m c (t.val + 1) t.isLt ∗ (dats m 0 c).owesAt () t.castSucc ∗ insAt m c t
      ∗ owns (c : Thread nD τ) (ms11 t) fullShare (st m c t.val t.isLt).1)) := by
  obtain ⟨n, hn⟩ := t
  rcases n with _ | n
  · show iprop(Phi m c 0 _ ∗ _) ⊢ wp _ _ _ _ (fun _ => iprop(Phi m c 1 _ ∗ _ ∗ _ ∗ owns _ _ _ (st m c 0 hn).1))
    rw [st_A m c hn]
    iintro ⟨HP, Hw, Hi, ⟨%d, Ho⟩⟩
    iapply (keyA m c ⟨0, hn⟩ rfl _)
    isplitl [Hi]; · iexact Hi
    isplitl [Ho]; · iexists _; iexact Ho
    iintro ⟨Hi, Ho⟩
    isplitl [HP]; · iexact HP
    isplitl [Hw]; · iexact Hw
    isplitl [Hi]; · iexact Hi
    iexact Ho
  by_cases hB : (n + 1) % 11 = 1
  · have key := firstAt m c n hn hB
    show iprop(Phi m c (n + 1) _ ∗ _) ⊢ wp _ _ _ _ (fun _ => iprop(Phi m c (n + 2) _ ∗ _ ∗ _ ∗ owns _ _ _ (st m c (n + 1) hn).1))
    rw [Phi_two]
    generalize st m c (n + 1) hn = S at key ⊢
    refine (sep_mono_left (Phi_any m c (n + 1) _)).trans ?_
    iintro ⟨⟨Hs, Hg⟩, Hw, Hi, ⟨%d, Ho⟩⟩
    iapply (key _)
    isplitl [Hi]; · iexact Hi
    isplitl [Ho]; · iexists _; iexact Ho
    isplitl [Hs]; · iexact Hs
    iintro ⟨Hi, Ho, Hs⟩
    isplitl [Hs Hg]
    · isplitl [Hs]; · iexact Hs
      iexact Hg
    isplitl [Hw]; · iexact Hw
    isplitl [Hi]; · iexact Hi
    iexact Ho
  obtain ⟨k, rfl⟩ : ∃ k, n = k + 1 := ⟨n - 1, by omega⟩
  have key := laterAt m c k hn hB
  have hb := before_out m c (k + 1) hn hB
  show iprop(Phi m c (k + 2) _ ∗ _) ⊢ wp _ _ _ _ (fun _ => iprop(Phi m c (k + 1 + 2) _ ∗ _ ∗ _ ∗ owns _ _ _ (st m c (k + 1 + 1) hn).1))
  rw [Phi_two, Phi_two]
  generalize st m c (k + 1 + 1) hn = S at key ⊢
  generalize st m c (k + 1) (by omega) = S' at key hb ⊢
  iintro ⟨⟨Hs, Hg⟩, Hw, Hi, ⟨%d, Ho⟩⟩
  rw [hb]
  iapply (key _)
  isplitl [Hi]; · iexact Hi
  isplitl [Ho]; · iexact Ho
  isplitl [Hs]; · iexact Hs
  iintro ⟨Hi, Ho, Hs⟩
  isplitl [Hs Hg]
  · isplitl [Hs]; · iexact Hs
    iexact Hg
  isplitl [Hw]; · iexact Hw
  isplitl [Hi]; · iexact Hi
  iexact Ho

/-! ## The launch -/

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row, show cfg0.idle 10 (cfg0.grid.coords t) = false from live _]
  exact triple_restated (sound m c t) rfl (gather m c t) fun _ => scatter m c t

theorem hin (c : Dev nD) : Pipeline.ΦA spec0 c ⊢ (dats m 0 c).Φ 0 := Entails.refl _

theorem hout (c : Dev nD) : (dats m 0 c).Φ (Fin.last cfg0.N) ⊢ Pipeline.ΦA spec0 c := by
  rw [show (dats m 0 c).Φ (Fin.last cfg0.N) = Phi m c cfg0.N (Nat.le_refl _) from rfl, PhiA_eq]; exact Phi_any m c _ _

set_option backward.isDefEq.respectTransparency.types false in
/-- Every run ends, with the arrays at what the proof data says and every semaphore at zero. -/
theorem run : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

end Cert.Kernel2Ideal.Ffn
-- ==== Proof.FfnBlock.lean ====
/-
  What each case of the body leaves over the extended reals, entry by entry, as functions of the blocks it read.
-/
module

public import proofs.«01_k».proof.Proof.FfnFrame
public import proofs.«01_k».proof.Proof.FfnSpec

@[expose] public section
set_option maxRecDepth 16384
noncomputable section
open Idealize.ShloMosaic Idealize.ShloMosaic.TcCoe Idealize.SL.Sem
namespace Cert.Kernel2Ideal.Ffn
open Cert.Kernel2Ideal Cert.Kernel2Ideal.Gen Cert.Stores Cert.Spec

/-! ## The stored values -/

theorem pay3_apply (x : Vec Ideal S32x2048 .f32) (g sh sc : Vec Ideal S1x2048 .f32) (r : Fin 32) (k : Fin 2048) :
    k0_pay3 (F := Ideal) x (k0_pay2 g) sh sc (ix2 r k)
      = hrow (fun k => x (ix2 r k)) (fun k => g (ix2 0 k)) (fun k => sc (ix2 0 k)) (fun k => sh (ix2 0 k)) k := by
  pointwise [k0_pay3, k0_pay2]
  rfl

theorem pay86_apply (h : Vec Ideal S512x2048 .bf16) (wg wu : Vec Ideal S2048x512 .bf16) (wd : Vec Ideal S512x2048 .bf16) (r : Fin 512) (k : Fin 2048) :
    k0_pay86 (F := Ideal) h wg wu wd (ix2 r k) = part (fun i => h (ix2 r i)) wg wu wd k := by
  pointwise [k0_pay86]
  rfl

theorem pay89_apply (h : Vec Ideal S512x2048 .bf16) (wg wu : Vec Ideal S2048x512 .bf16) (wd : Vec Ideal S512x2048 .bf16) (acc : Vec Ideal S512x2048 .f32)
    (r : Fin 512) (k : Fin 2048) :
    k0_pay89 (F := Ideal) h wg wu wd acc (ix2 r k) = acc (ix2 r k) + part (fun i => h (ix2 r i)) wg wu wd k := by
  pointwise [k0_pay89]
  rfl

theorem pay92_apply (acc x : Vec Ideal S512x2048 .f32) (gate : Vec Ideal S1x2048 .f32) (r : Fin 512) (k : Fin 2048) :
    k0_pay92 (F := Ideal) acc x gate (ix2 r k) = x (ix2 r k) + Ideal.ofBits FTy.f32 1056964608#32 * gate (ix2 0 k) * acc (ix2 r k) := by
  pointwise [k0_pay92]

theorem pay93_apply (v : Vec Ideal S32x2048 .f32) (g : Vec Ideal S1x2048 .f32) (r : Fin 32) (k : Fin 2048) :
    k0_pay93 (F := Ideal) v g (ix2 r k) = rms (fun k => v (ix2 r k)) (fun k => g (ix2 0 k)) k := by
  pointwise [k0_pay93]
  rfl

/-! ## A point's values -/

variable (m : (ℓ : Loc nD τ sig) → Buf (Elt Ideal) ℓ) (c : Dev nD)

theorem t_lt (t : Fin cfg0.N) : t.val < 78 := t.isLt

/-- The modulation row that a point takes. -/
abbrev sq (t : Fin cfg0.N) : Fin 8 := ⟨((t.val - 1) / 11 + 1) / 2, by have := t_lt t; omega⟩

theorem off1_eq : ∀ t : Fin cfg0.N, 1 ≤ t.val → k0_off1 (grid0.coords t) = ![((t.val - 1) / 11 + 1) / 2, 0] :=
  (by decide +kernel : ∀ t : Fin grid0.N, _)
theorem off2_eq : ∀ t : Fin cfg0.N, 1 ≤ t.val → k0_off2 (grid0.coords t) = ![((t.val - 1) / 11 + 1) / 2, 0] :=
  (by decide +kernel : ∀ t : Fin grid0.N, _)

/-- The blocks that a point reads. -/
abbrev b0 (t : Fin cfg0.N) : Vec Ideal S1024x2048 .f32 := iblk m c 0 t
abbrev b1 (t : Fin cfg0.N) : Vec Ideal S8x2048 .f32 := iblk m c 1 t
abbrev b2 (t : Fin cfg0.N) : Vec Ideal S8x2048 .f32 := iblk m c 2 t
abbrev b3 (t : Fin cfg0.N) : Vec Ideal S8x2048 .f32 := iblk m c 3 t
abbrev b4 (t : Fin cfg0.N) : Vec Ideal S1x2048 .f32 := iblk m c 4 t
abbrev b5 (t : Fin cfg0.N) : Vec Ideal S2048x512 .bf16 := iblk m c 5 t
abbrev b6 (t : Fin cfg0.N) : Vec Ideal S2048x512 .bf16 := iblk m c 6 t
abbrev b7 (t : Fin cfg0.N) : Vec Ideal S512x2048 .bf16 := iblk m c 7 t
abbrev b8 (t : Fin cfg0.N) : Vec Ideal S1x2048 .f32 := iblk m c 8 t
abbrev b9 (t : Fin cfg0.N) : Vec Ideal S1024x2048 .f32 := iblk m c 9 t

theorem outA_val (t : Fin cfg0.N) (h : t.val = 0) : outA m c t h = b9 m c t := by
  funext y
  unfold outA
  refine (storesA _ _ _ _ _ _ _ _ _ _ _ _ _ _ _ _ _ _ _ _ _ _ _ _ _ _ _ _ _ _ _ _ _ _ _ _ _ _ _ _).canon (b9 m c t) (fun a h x => ?_) y (y 0).isLt
  rw [ld_eq]

/-- The normalised rows of a point's block. -/
def hblk (t : Fin cfg0.N) (r : Fin 1024) : Fin 2048 → EReal :=
  hrow (fun k => b0 m c t (ix2 r k)) (fun k => b4 m c t (ix2 0 k)) (fun k => b2 m c t (ix2 (sq t) k)) (fun k => b1 m c t (ix2 (sq t) k))

theorem storesBs_val (t : Fin cfg0.N) (h : t.val % 11 = 1) : ∀ y : S1024x2048.Idx, scrB m c t h y = hblk m c t (y 0) (y 1) := fun y => by
  unfold scrB
  let G : Vec Ideal S1024x2048 .bf16 := fun y => hblk m c t (y 0) (y 1)
  refine (storesBs _ _ _ _ _ _ _ _ _ _ _ _ _ _ _ _ _ _ _ _ _ _ _ _ _ _ _ _ _ _ _ _ _ _ _ _ _ _ _ _).canon G (fun a h' x => ?_) y (y 0).isLt
  obtain ⟨r, k, rfl⟩ := ix_box x
  rw [box_emb]
  refine (pay3_apply _ _ _ _ r k).trans ?_
  show _ = hblk m c t ⟨a + r.val, fits_lt h' r⟩ k
  unfold hblk
  simp only [ld_box, ld_all]
  have ho := off1_eq t (by omega)
  refine congrArg₂ (fun f g => hrow _ _ f g k) (funext fun k => ?_) (funext fun k => ?_)
  · exact ld_mod _ _ _ _ _ (sq t) ho 0 k
  · exact ld_mod _ _ _ _ _ (sq t) ho 0 k

theorem scrB_val (t : Fin cfg0.N) (h : t.val % 11 = 1) (r : Fin 1024) (k : Fin 2048) : scrB m c t h (ix2 r k) = hblk m c t r k :=
  storesBs_val m c t h (ix2 r k)

/-- The product over the point's 512 hidden units. -/
abbrev prt (t : Fin cfg0.N) (h : Fin 2048 → EReal) : Fin 2048 → EReal := part h (b5 m c t) (b6 m c t) (b7 m c t)

theorem outB_val (t : Fin cfg0.N) (h : t.val % 11 = 1) (r : Fin 1024) (k : Fin 2048) :
    outB m c t h (ix2 r k) = prt m c t (hblk m c t r) k := by
  unfold outB
  let G : Vec Ideal S1024x2048 .f32 := fun y => prt m c t (hblk m c t (y 0)) (y 1)
  refine (storesB _ _ _ _ _ _ _ _ _ _ _ _ _ _ _ _ _ _ _ _ _ _ _ _ _ _ _ _ _ _ _ _ _ _ _ _ _ _ _ _).canon G (fun a h' x => ?_) (ix2 r k) r.isLt
  obtain ⟨r, k, rfl⟩ := ix_box x
  rw [box_emb]
  refine (pay86_apply _ _ _ _ r k).trans ?_
  simp only [ld_all]
  refine congrArg (fun f => part f _ _ _ k) (funext fun i => ?_)
  rw [View.readCov_eq_canon']
  refine Eq.trans ?_ (scrB_val m c t h ⟨a + r.val, fits_lt h' r⟩ i)
  exact congrArg (scrB m c t h) (box_emb h' r i)

theorem outC_val (t : Fin cfg0.N) (h : 1 < t.val ∧ t.val % 11 ≠ 0 ∧ t.val % 11 ≠ 1) (xo : Vec Ideal S1024x2048 .f32) (xs : Vec Ideal S1024x2048 .bf16) (r : Fin 1024) (k : Fin 2048) :
    outC m c t h xo xs (ix2 r k) = xo (ix2 r k) + prt m c t (fun i => xs (ix2 r i)) k := by
  unfold outC
  refine (storesC _ _ _ _ _ _ _ _ _ _ _ _ _ _ _ _ _ _ _ _ _ _ _ _ _ _ _ _ _ _ _ _ _ _ _ _ _ _ _ _ _ _).canon
    (fun y => xo (ix2 (y 0) (y 1)) + prt m c t (fun i => xs (ix2 (y 0) i)) (y 1)) (fun a h' x => ?_) (ix2 r k) r.isLt
  obtain ⟨r, k, rfl⟩ := ix_box x
  rw [box_emb]
  refine (pay89_apply _ _ _ _ _ r k).trans ?_
  simp only [ld_all, ld_box]
  rfl

theorem outD_val (t : Fin cfg0.N) (h : t.val ≠ 0 ∧ t.val % 11 = 0) (xo : Vec Ideal S1024x2048 .f32) (xs : Vec Ideal S1024x2048 .bf16) (r : Fin 1024) (k : Fin 2048) :
    outD m c t h xo xs (ix2 r k)
      = rms (fun k => b0 m c t (ix2 r k) + Ideal.ofBits FTy.f32 1056964608#32 * b3 m c t (ix2 (sq t) k)
          * (xo (ix2 r k) + prt m c t (fun i => xs (ix2 r i)) k)) (fun k => b8 m c t (ix2 0 k)) k := by
  unfold outD
  refine ((storesD _ _ _ _ _ _ _ _ _ _ _ _ _ _ _ _ _ _ _ _ _ _ _ _ _ _ _ _ _ _ _ _ _ _ _ _ _ _ _ _ _ _).canon
    (fun y => b0 m c t (ix2 (y 0) (y 1)) + Ideal.ofBits FTy.f32 1056964608#32 * b3 m c t (ix2 (sq t) (y 1))
          * (xo (ix2 (y 0) (y 1)) + prt m c t (fun i => xs (ix2 (y 0) i)) (y 1)))
    (fun y => rms (fun k => b0 m c t (ix2 (y 0) k) + Ideal.ofBits FTy.f32 1056964608#32 * b3 m c t (ix2 (sq t) k)
          * (xo (ix2 (y 0) k) + prt m c t (fun i => xs (ix2 (y 0) i)) k)) (fun k => b8 m c t (ix2 0 k)) (y 1))
    (fun a h' x => ?_) (fun a h' v hv x => ?_) (ix2 r k)).1 r.isLt
  · obtain ⟨r, k, rfl⟩ := ix_box x
    rw [box_emb]
    refine (pay92_apply _ _ _ r k).trans ?_
    rw [pay89_apply]
    simp only [ld_all, ld_box]
    refine congrArg (fun g : EReal => b0 m c t (ix2 ⟨a + r.val, fits_lt h' r⟩ k) + Ideal.ofBits FTy.f32 1056964608#32 * g
      * (xo (ix2 ⟨a + r.val, fits_lt h' r⟩ k) + prt m c t (fun i => xs (ix2 ⟨a + r.val, fits_lt h' r⟩ i)) k)) ?_
    exact ld_mod _ _ _ _ _ (sq t) (off2_eq t (by omega)) 0 k
  · obtain ⟨r, k, rfl⟩ := ix_box x
    rw [box_emb]
    refine (pay93_apply _ _ r k).trans ?_
    simp only [ld_all]
    refine congrArg (fun f => rms f _ k) (funext fun k => ?_)
    rw [hv, box_emb]; rfl

end Cert.Kernel2Ideal.Ffn
-- ==== Proof.FfnValue.lean ====
/-
  The output array. Through the eleven points of a block the output's buffer gathers the hidden units' products, 512 at a
  time, over the normalised rows kept in scratch; the last point closes it. The array after the run is `out`.
-/
module

public import proofs.«01_k».proof.Proof.FfnBlock
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
namespace Cert.Kernel2Ideal.Ffn
open Cert.Kernel2Ideal Cert.Kernel2Ideal.Gen Cert.Stores Cert.Spec

/-! ## The run, over any float values -/

/-- The run leaves the arguments as they were and every semaphore at zero. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run m ρ)))
    ((θ_run defs _ _).mono (fun _ h => h.2) (run m ρ))

/-! ## The blocks read, as entries of the arguments -/

variable (m : (ℓ : Loc nD τ sig) → Buf (Elt Ideal) ℓ) (c : Dev nD)

abbrev A0 : Vec Ideal S8192x2048 .f32 := m ((c : Thread nD τ).loc main_arg0)
abbrev A1 : Vec Ideal S2048 .f32 := m ((c : Thread nD τ).loc main_arg1)
abbrev A2 : Vec Ideal S136x18432 .f32 := m ((c : Thread nD τ).loc main_arg2)
abbrev A3 : Vec Ideal S2048x5632 .f32 := m ((c : Thread nD τ).loc main_arg3)
abbrev A4 : Vec Ideal S2048x5632 .f32 := m ((c : Thread nD τ).loc main_arg4)
abbrev A5 : Vec Ideal S5632x2048 .f32 := m ((c : Thread nD τ).loc main_arg5)
abbrev A6 : Vec Ideal S2048 .f32 := m ((c : Thread nD τ).loc main_arg6)
abbrev A7 : Vec Ideal S1024x2048 .f32 := m ((c : Thread nD τ).loc main_arg7)

/-- Every window's block index, at every grid point. -/
theorem idx : ∀ t : Fin cfg0.N, win0_0.index t = ![(t.val - 1) / 11 + 1, 0] ∧ win0_1.index t = ![16, 6] ∧ win0_2.index t = ![16, 7]
    ∧ win0_3.index t = ![16, 8] ∧ win0_4.index t = ![0, 0] ∧ win0_5.index t = ![0, (t.val - 1) % 11] ∧ win0_6.index t = ![0, (t.val - 1) % 11]
    ∧ win0_7.index t = ![(t.val - 1) % 11, 0] ∧ win0_8.index t = ![0, 0] ∧ win0_9.index t = ![0, 0] ∧ win0_10.index t = ![(t.val + 10) / 11, 0] :=
  (by decide +kernel : ∀ t : Fin grid0.N, _)

/-- The row of the arrays that row `r` of a point's block is. -/
abbrev rowAt (t : Fin cfg0.N) (r : Fin 1024) : Fin 8192 := ⟨((t.val - 1) / 11 + 1) * 1024 + r.val, by have := t_lt t; omega⟩
/-- The hidden unit that column `q` of a point's weights is. -/
abbrev unitAt (t : Fin cfg0.N) (q : Fin 512) : Fin 5632 := ⟨(t.val - 1) % 11 * 512 + q.val, by omega⟩

theorem b0_eq (t : Fin cfg0.N) (r : Fin 1024) (k : Fin 2048) : b0 m c t (ix2 r k) = A0 m c (ix2 (rowAt t r) k) := by
  blk_ext! [b0, iblk, V, idx t]
theorem b1_eq (t : Fin cfg0.N) (r : Fin 8) (k : Fin 2048) : b1 m c t (ix2 r k) = A2 m c (ix2 ⟨128 + r.val, by omega⟩ ⟨12288 + k.val, by omega⟩) := by
  blk_ext! [b1, iblk, V, idx t]
theorem b2_eq (t : Fin cfg0.N) (r : Fin 8) (k : Fin 2048) : b2 m c t (ix2 r k) = A2 m c (ix2 ⟨128 + r.val, by omega⟩ ⟨14336 + k.val, by omega⟩) := by
  blk_ext! [b2, iblk, V, idx t]
theorem b3_eq (t : Fin cfg0.N) (r : Fin 8) (k : Fin 2048) : b3 m c t (ix2 r k) = A2 m c (ix2 ⟨128 + r.val, by omega⟩ ⟨16384 + k.val, by omega⟩) := by
  blk_ext! [b3, iblk, V, idx t]
theorem b4_eq (t : Fin cfg0.N) (k : Fin 2048) : b4 m c t (ix2 0 k) = A1 m c (ix1 k) := by
  blk_ext! [b4, iblk, V, idx t]
theorem b5_eq (t : Fin cfg0.N) (i : Fin 2048) (q : Fin 512) : b5 m c t (ix2 i q) = A3 m c (ix2 i (unitAt t q)) := by
  blk_ext! [b5, iblk, V, idx t]
theorem b6_eq (t : Fin cfg0.N) (i : Fin 2048) (q : Fin 512) : b6 m c t (ix2 i q) = A4 m c (ix2 i (unitAt t q)) := by
  blk_ext! [b6, iblk, V, idx t]
theorem b7_eq (t : Fin cfg0.N) (q : Fin 512) (k : Fin 2048) : b7 m c t (ix2 q k) = A5 m c (ix2 (unitAt t q) k) := by
  blk_ext! [b7, iblk, V, idx t]
theorem b8_eq (t : Fin cfg0.N) (k : Fin 2048) : b8 m c t (ix2 0 k) = A6 m c (ix1 k) := by
  blk_ext! [b8, iblk, V, idx t]
theorem b9_eq (t : Fin cfg0.N) (r : Fin 1024) (k : Fin 2048) : b9 m c t (ix2 r k) = A7 m c (ix2 r k) := by
  blk_ext! [b9, iblk, V, idx t]

/-- The modulation rows are those of the row's sequence. -/
theorem sq_eq (t : Fin cfg0.N) (r : Fin 1024) : (sq t).val = (seqR (rowAt t r)).val := by
  show ((t.val - 1) / 11 + 1) / 2 = (((t.val - 1) / 11 + 1) * 1024 + r.val) / 2048
  omega

theorem mod_eq (t : Fin cfg0.N) (r : Fin 1024) (k : Fin 2048) : b1 m c t (ix2 (sq t) k) = modAt 2 (A2 m c) 0 (seqR (rowAt t r)) k
    ∧ b2 m c t (ix2 (sq t) k) = modAt 2 (A2 m c) 1 (seqR (rowAt t r)) k ∧ b3 m c t (ix2 (sq t) k) = modAt 2 (A2 m c) 2 (seqR (rowAt t r)) k := by
  have e := sq_eq t r
  rw [b1_eq, b2_eq, b3_eq]
  refine ⟨?_, ?_, ?_⟩ <;>
  · unfold modAt
    exact congrArg₂ (fun i j => A2 m c (ix2 i j)) (Fin.ext (congrArg (128 + ·) e)) (Fin.ext rfl)

/-- A row of the arrays, normalised. -/
abbrev hR (R : Fin 8192) : Fin 2048 → EReal := ffnIn 2 (A0 m c) (A1 m c) (A2 m c) R

theorem hblk_eq (t : Fin cfg0.N) (r : Fin 1024) : hblk m c t r = hR m c (rowAt t r) := by
  unfold hblk hR ffnIn
  have e0 : (fun k => b0 m c t (ix2 r k)) = fun k => A0 m c (ix2 (rowAt t r) k) := funext fun k => b0_eq m c t r k
  have e1 : (fun k => b4 m c t (ix2 0 k)) = fun k => A1 m c (ix1 k) := funext fun k => b4_eq m c t k
  have e2 : (fun k => b2 m c t (ix2 (sq t) k)) = modAt 2 (A2 m c) 1 (seqR (rowAt t r)) := funext fun k => (mod_eq m c t r k).2.1
  have e3 : (fun k => b1 m c t (ix2 (sq t) k)) = modAt 2 (A2 m c) 0 (seqR (rowAt t r)) := funext fun k => (mod_eq m c t r k).1
  rw [e0, e1, e2, e3]

/-! ## The hidden units, gathered -/

/-- Hidden unit `j`'s part of entry `k` of a row. -/
def term (R : Fin 8192) (k : Fin 2048) (j : ℕ) : EReal :=
  if h : j < 5632 then hid (hR m c R) (fun i => A3 m c (ix2 i ⟨j, h⟩)) (fun i => A4 m c (ix2 i ⟨j, h⟩)) * A5 m c (ix2 ⟨j, h⟩ k) else 0

theorem term_sum (R : Fin 8192) (k : Fin 2048) :
    ∑ j ∈ Finset.range 5632, term m c R k j = ffnSum 2 (A0 m c) (A1 m c) (A2 m c) (A3 m c) (A4 m c) (A5 m c) R k := by
  rw [Finset.sum_range]
  unfold ffnSum
  exact Finset.sum_congr rfl fun j _ => dif_pos j.isLt

theorem prt_eq (t : Fin cfg0.N) (R : Fin 8192) (k : Fin 2048) :
    prt m c t (hR m c R) k = ∑ q ∈ Finset.range 512, term m c R k ((t.val - 1) % 11 * 512 + q) := by
  rw [Finset.sum_range]
  unfold prt part
  refine Finset.sum_congr rfl fun q _ => ?_
  unfold term
  rw [dif_pos (by omega), b7_eq]
  simp only [b5_eq, b6_eq]

/-! What a point leaves, from what the point before left. -/

attribute [local irreducible] st outA outB outC outD scrB

theorem at_A (hn : 0 < cfg0.N) : (st m c 0 hn).1 = b9 m c ⟨0, hn⟩ :=
  (congrArg Prod.fst (st_A m c hn)).trans (outA_val m c ⟨0, hn⟩ rfl)

theorem at_B (n : ℕ) (hn : n + 1 < cfg0.N) (h : (n + 1) % 11 = 1) (r : Fin 1024) (k : Fin 2048) :
    (st m c (n + 1) hn).1 (ix2 r k) = prt m c ⟨n + 1, hn⟩ (hblk m c ⟨n + 1, hn⟩ r) k
    ∧ (st m c (n + 1) hn).2 (ix2 r k) = hblk m c ⟨n + 1, hn⟩ r k :=
  ⟨(congrFun (congrArg Prod.fst (st_B m c n hn h)) _).trans (outB_val m c ⟨n + 1, hn⟩ h r k),
    (congrFun (congrArg Prod.snd (st_B m c n hn h)) _).trans (scrB_val m c ⟨n + 1, hn⟩ h r k)⟩

theorem at_C (n : ℕ) (hn : n + 1 < cfg0.N) (h : 1 < n + 1 ∧ (n + 1) % 11 ≠ 0 ∧ (n + 1) % 11 ≠ 1) (r : Fin 1024) (k : Fin 2048) :
    (st m c (n + 1) hn).1 (ix2 r k) = (st m c n (by omega)).1 (ix2 r k) + prt m c ⟨n + 1, hn⟩ (fun i => (st m c n (by omega)).2 (ix2 r i)) k
    ∧ (st m c (n + 1) hn).2 (ix2 r k) = (st m c n (by omega)).2 (ix2 r k) :=
  ⟨(congrFun (congrArg Prod.fst (st_C m c n hn h)) _).trans (outC_val m c ⟨n + 1, hn⟩ h _ _ r k),
    congrFun (congrArg Prod.snd (st_C m c n hn h)) _⟩

theorem at_D (n : ℕ) (hn : n + 1 < cfg0.N) (h : (n + 1) % 11 = 0) (r : Fin 1024) (k : Fin 2048) :
    (st m c (n + 1) hn).1 (ix2 r k)
      = rms (fun k => b0 m c ⟨n + 1, hn⟩ (ix2 r k) + Ideal.ofBits FTy.f32 1056964608#32 * b3 m c ⟨n + 1, hn⟩ (ix2 (sq ⟨n + 1, hn⟩) k)
          * ((st m c n (by omega)).1 (ix2 r k) + prt m c ⟨n + 1, hn⟩ (fun i => (st m c n (by omega)).2 (ix2 r i)) k))
        (fun k => b8 m c ⟨n + 1, hn⟩ (ix2 0 k)) k :=
  (congrFun (congrArg Prod.fst (st_D m c n hn h)) _).trans (outD_val m c ⟨n + 1, hn⟩ ⟨Nat.succ_ne_zero n, h⟩ _ _ r k)

/-- A later point's block has the rows of the point before. -/
theorem rowAt_succ (n : ℕ) (hn : n + 1 + 1 < cfg0.N) (h : (n + 1 + 1) % 11 ≠ 1) (r : Fin 1024) :
    rowAt ⟨n + 1, Nat.lt_of_succ_lt hn⟩ r = rowAt ⟨n + 1 + 1, hn⟩ r := Fin.ext (by
  show (n / 11 + 1) * 1024 + r.val = ((n + 1) / 11 + 1) * 1024 + r.val
  omega)

/-- A point's part is added to the sum before it. -/
theorem sum_succ (n : ℕ) (hn : n + 1 + 1 < cfg0.N) (h : (n + 1 + 1) % 11 ≠ 1) (R : Fin 8192) (k : Fin 2048) :
    ∑ q ∈ Finset.range ((n % 11 + 1) * 512), term m c R k q + prt m c ⟨n + 1 + 1, hn⟩ (hR m c R) k
      = ∑ q ∈ Finset.range (((n + 1) % 11 + 1) * 512), term m c R k q := by
  rw [prt_eq, show ((n + 1) % 11 + 1) * 512 = (n % 11 + 1) * 512 + 512 by omega, Finset.sum_range_add]
  refine congrArg (_ + ·) (Finset.sum_congr rfl fun q _ => congrArg _ ?_)
  show (n + 1) % 11 * 512 + q = (n % 11 + 1) * 512 + q
  omega

/-- A block's first point: its part is the whole sum. -/
theorem sum_first (n : ℕ) (hn : n + 1 < cfg0.N) (h : (n + 1) % 11 = 1) (R : Fin 8192) (k : Fin 2048) :
    prt m c ⟨n + 1, hn⟩ (hR m c R) k = ∑ q ∈ Finset.range ((n % 11 + 1) * 512), term m c R k q := by
  rw [prt_eq, show n % 11 = 0 by omega]
  refine Finset.sum_congr rfl fun q _ => congrArg _ ?_
  show n % 11 * 512 + q = q
  omega

/-- Before a block's last point: the sums so far, and the normalised rows. -/
theorem gathered : ∀ (n : ℕ) (hn : n + 1 < cfg0.N) (_ : (n + 1) % 11 ≠ 0) (r : Fin 1024) (k : Fin 2048),
    (st m c (n + 1) hn).1 (ix2 r k) = ∑ q ∈ Finset.range ((n % 11 + 1) * 512), term m c (rowAt ⟨n + 1, hn⟩ r) k q
    ∧ (st m c (n + 1) hn).2 (ix2 r k) = hR m c (rowAt ⟨n + 1, hn⟩ r) k := by
  intro n
  induction n with
  | zero =>
    intro hn _ r k
    obtain ⟨e1, e2⟩ := at_B m c 0 hn rfl r k
    rw [e1, e2, hblk_eq, sum_first m c 0 hn rfl]
    exact ⟨rfl, rfl⟩
  | succ n ih =>
    intro hn h r k
    by_cases hB : (n + 1 + 1) % 11 = 1
    · obtain ⟨e1, e2⟩ := at_B m c (n + 1) hn hB r k
      rw [e1, e2, hblk_eq, sum_first m c (n + 1) hn hB]
      exact ⟨rfl, rfl⟩
    · obtain ⟨e1, e2⟩ := at_C m c (n + 1) hn ⟨by omega, h, hB⟩ r k
      have i := ih (by omega) (by omega) r
      rw [rowAt_succ n hn hB r] at i
      refine ⟨?_, e2.trans (i k).2⟩
      rw [e1, (i k).1, funext fun j => (i j).2]
      exact sum_succ m c n hn hB _ k

/-- A block's last point leaves the result's rows. -/
theorem closed (n : ℕ) (hn : n + 1 + 1 < cfg0.N) (hD : (n + 1 + 1) % 11 = 0) (r : Fin 1024) (k : Fin 2048) :
    (st m c (n + 1 + 1) hn).1 (ix2 r k)
      = ffnOut 2 (A0 m c) (A1 m c) (A2 m c) (A3 m c) (A4 m c) (A5 m c) (A6 m c) (rowAt ⟨n + 1 + 1, hn⟩ r) k := by
  have i := gathered m c n (by omega) (by omega) r
  rw [rowAt_succ n hn (by omega) r] at i
  rw [at_D m c (n + 1) hn hD r k]
  unfold ffnOut
  refine congrArg₂ (fun f g => rms f g k) (funext fun k => ?_) (funext fun k => b8_eq m c _ k)
  unfold ffnRes
  rw [b0_eq, (mod_eq m c _ r k).2.2, (i k).1, funext fun j => (i j).2, sum_succ m c n hn (by omega), ← term_sum,
    show ((n + 1) % 11 + 1) * 512 = 5632 by omega]

/-! ## The array -/

/-- The result: the first rows as given, the others computed. -/
def out : Vec Ideal S8192x2048 .f32 := fun i =>
  if h : (i 0).val < 1024 then A7 m c (ix2 ⟨(i 0).val, h⟩ (i 1))
  else ffnOut 2 (A0 m c) (A1 m c) (A2 m c) (A3 m c) (A4 m c) (A5 m c) (A6 m c) (i 0) (i 1)

theorem st_out : ∀ (n : ℕ) (hn : n < cfg0.N) (_ : n % 11 = 0) (r : Fin 1024) (k : Fin 2048),
    (st m c n hn).1 (ix2 r k) = out m c (ix2 ⟨(n + 10) / 11 * 1024 + r.val, by have := t_lt ⟨n, hn⟩; simp only at this; omega⟩ k)
  | 0, hn, _, r, k => by
    rw [congrFun (at_A m c hn) (ix2 r k), b9_eq]
    unfold out
    rw [dif_pos (by show (0 + 10) / 11 * 1024 + r.val < 1024; omega)]
    exact congrArg (fun i => A7 m c (ix2 i k)) (Fin.ext (by show r.val = (0 + 10) / 11 * 1024 + r.val; omega))
  | 1, _, hf, _, _ => absurd hf (by decide)
  | n + 2, hn, hf, r, k => by
    rw [closed m c n hn hf r k]
    unfold out
    rw [dif_neg (by show ¬(n + 2 + 10) / 11 * 1024 + r.val < 1024; omega)]
    refine congrArg (fun R => ffnOut 2 (A0 m c) (A1 m c) (A2 m c) (A3 m c) (A4 m c) (A5 m c) (A6 m c) R k) (Fin.ext ?_)
    show ((n + 1) / 11 + 1) * 1024 + r.val = (n + 2 + 10) / 11 * 1024 + r.val
    omega

/-- The output window's blocks, as rows of the array. -/
theorem blk_row (t : Fin cfg0.N) (hf : t.val % 11 = 0) (r : Fin 1024) (k : Fin 2048) :
    (win0_10.blk t).view.emb (ix2 r k) = ix2 ⟨(t.val + 10) / 11 * 1024 + r.val, by have := t_lt t; omega⟩ k := by
  blk_ext! [idx t]

theorem final : (dats m 0 c).arrAt 10 cfg0.N = out m c := by
  refine (dats m 0 c).arrAt_eq_of_covers 10 (out m c) (by decide +kernel) fun t hf y => ?_
  have hf' := (flush_iff t).mp hf
  blk_simp
  have e : (dats m 0 c).after 10 t = (st m c t.val t.isLt).1 := rfl
  rw [e]
  have hy : y = ix2 (n0 := 1024) (n1 := 2048) (y 0) (y 1) := eq_ix2 y
  rw [hy]
  refine (st_out m c t.val t.isLt hf' (y 0) (y 1)).trans (congrArg (out m c) (blk_row t hf' (y 0) (y 1)).symm)

/-- The program ends with `out` in its result, the arguments unchanged. -/
theorem value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v5) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1.1 c).1 10).trans (final m c), h.2.1 c⟩) (θ_run_and (run m ρ) (frame m ρ))

end Cert.Kernel2Ideal.Ffn
-- ==== Proof.Ffn1Ref.lean ====
/-
  The reference of the first feed-forward part, read entry by entry.
-/
module

public import proofs.«01_k».proof.Proof.Gen.Reference3Ideal.Read
public import proofs.«01_k».proof.Proof.FfnSpec

@[expose] public section
set_option maxRecDepth 16384
noncomputable section
open Idealize.ShloMosaic

namespace Cert.Reference3Ideal.Read
open Cert.Reference3Ideal Cert.Reference3Ideal.Gen
variable (x0 : Vec Ideal S8192x2048 .f32) (x1 : Vec Ideal S2048 .f32) (x2 : Vec Ideal S136x18432 .f32)
variable (x3 x4 : Vec Ideal S2048x5632 .f32) (x5 : Vec Ideal S5632x2048 .f32) (x7 : Vec Ideal S1024x2048 .f32)

/-- The first of the layer's modulation rows begins at column 0. -/
theorem mod_eq (n : Fin 4) (k : Fin 2048) : Spec.modAt 0 x2 0 n k = x2 (ix2 ⟨128 + n.val, by omega⟩ ⟨k.val, by omega⟩) :=
  congrArg (fun j => x2 (ix2 _ j)) (Fin.ext (Nat.zero_add _))

theorem h_eq (n : Fin 4) (p k : Fin 2048) :
    val_main_v27 (F := Ideal) x0 x1 x2 (ix3 n p k) = Spec.ffnIn 0 x0 x1 x2 (Spec.rowOf n p) k := by
  unfold Spec.ffnIn Spec.hrow
  rw [Spec.seqR_rowOf, mod_eq]
  pointwise [val_main_v27, val_main_v26, val_main_v25, val_main_v24, val_main_v23, val_main_v22, val_main_cst_2, val_main_v21,
    val_main_v20, val_main_v19, val_main_v18, val_main_v17, val_main_v16, val_main_v15, val_main_v14, val_main_cst_1,
    val_main_v13, val_main_v12, val_main_cst_0, val_main_v11, val_main_v10, val_main_cst, val_main_v9, val_main_v8,
    val_main_v5, val_main_v4, val_main_v3, val_main_v2, val_main_v1, val_main_v0]
  rfl

theorem hid_eq (n : Fin 4) (p : Fin 2048) (j : Fin 5632) :
    val_main_v33 (F := Ideal) x0 x1 x2 x3 x4 (ix3 n p j)
      = Spec.hid (Spec.ffnIn 0 x0 x1 x2 (Spec.rowOf n p)) (fun i => x3 (ix2 i j)) (fun i => x4 (ix2 i j)) := by
  have e0 : val_main_v30 (F := Ideal) x0 x1 x2 x3 (ix3 n p j) = ∑ i, Spec.ffnIn 0 x0 x1 x2 (Spec.rowOf n p) i * x3 (ix2 i j) := by
    pointwise [val_main_v30]
    exact Finset.sum_congr rfl fun i _ => by rw [h_eq]
  have e1 : val_main_v32 (F := Ideal) x0 x1 x2 x4 (ix3 n p j) = ∑ i, Spec.ffnIn 0 x0 x1 x2 (Spec.rowOf n p) i * x4 (ix2 i j) := by
    pointwise [val_main_v32]
    exact Finset.sum_congr rfl fun i _ => by rw [h_eq]
  unfold Spec.hid
  rw [← e0, ← e1]
  pointwise [val_main_v33, val_main_v31, val_main_call0_v5, val_main_call0_v4, val_main_call0_cst_0, val_main_call0_v3,
    val_main_call0_v2, val_main_call0_cst, val_main_call0_v1, val_main_call0_v0]
  rfl

theorem res_eq (n : Fin 4) (p k : Fin 2048) :
    val_main_v37 (F := Ideal) x0 x1 x2 x3 x4 x5 (ix3 n p k) = Spec.ffnRes 0 x0 x1 x2 x3 x4 x5 (Spec.rowOf n p) k := by
  have e0 : val_main_v34 (F := Ideal) x0 x1 x2 x3 x4 x5 (ix3 n p k) = Spec.ffnSum 0 x0 x1 x2 x3 x4 x5 (Spec.rowOf n p) k := by
    pointwise [val_main_v34]
    exact Finset.sum_congr rfl fun j _ => by rw [hid_eq]
  unfold Spec.ffnRes
  rw [← e0, Spec.seqR_rowOf]
  pointwise [val_main_v37, val_main_v36, val_main_v35, val_main_v29, val_main_v28, val_main_cst_3, val_main_v8, val_main_v7,
    val_main_v6, val_main_v1, val_main_v0]
  rfl

/-- The result: the first rows as given, the others computed. -/
theorem result_eq (R : Fin 8192) (k : Fin 2048) :
    val_main_v40 (F := Ideal) x0 x1 x2 x3 x4 x5 x7 (ix2 R k)
      = if h : R.val < 1024 then x7 (ix2 ⟨R.val, h⟩ k) else Spec.ffnRes 0 x0 x1 x2 x3 x4 x5 R k := by
  pointwise [val_main_v40, val_main_v39, val_main_v38]
  by_cases h : R.val < 1024
  · rw [dif_pos h, dif_pos h]
  · rw [dif_neg h, dif_neg h, res_eq]
    exact congrArg (fun R => Spec.ffnRes 0 x0 x1 x2 x3 x4 x5 R k)
      (Fin.ext (by show (1024 + (R.val - 1024)) / 2048 * 2048 + (1024 + (R.val - 1024)) % 2048 = R.val; omega))

end Cert.Reference3Ideal.Read
-- ==== Proof.Ffn1Run.lean ====
/-
  The first feed-forward layer, one grid point at a time. The body has four cases: it copies the first block in (A); it normalises its
  rows and stores the first partial product (B); it adds a partial product (C); it adds the last one and closes the
  block (D). Each case's run names what is stored, as the list of its stores; the values may be of any float type.
-/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Tactic

@[expose] public section
set_option maxRecDepth 16384
noncomputable section
namespace Cert.Kernel3Ideal.Ffn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F]
local notation "𝕄" => MT nD τ sig Unit (Elt F) ℕ (UR sig nD τ) ℕ

/-- The four conditions of the body. -/
abbrev cond0 (i : grid0.Coords) : Prop := k0_cond1 i = 1#1
abbrev cond1 (i : grid0.Coords) : Prop := k0_cond2 i = 1#1
abbrev cond2 (i : grid0.Coords) : Prop := k0_cond3 i = 1#1
abbrev cond3 (i : grid0.Coords) : Prop := k0_cond4 i = 1#1

/-- Which of them a point meets. -/
theorem conds : ∀ t : Fin cfg0.N, (cond0 (grid0.coords t) ↔ t.val = 0) ∧ (cond1 (grid0.coords t) ↔ t.val % 11 = 1)
    ∧ (cond2 (grid0.coords t) ↔ 1 < t.val ∧ t.val % 11 ≠ 0 ∧ t.val % 11 ≠ 1) ∧ (cond3 (grid0.coords t) ↔ t.val ≠ 0 ∧ t.val % 11 = 0) :=
  (by decide +kernel : ∀ t : Fin grid0.N, _)

variable (c : Dev nD) (i : grid0.Coords)
variable (a1 : Memref sig .tc .vmem S1024x2048 .f32) (h1 : a1.IsWhole)
variable (a2 : Memref sig .tc .vmem S8x2048 .f32) (h2 : a2.IsWhole)
variable (a3 : Memref sig .tc .vmem S8x2048 .f32) (h3 : a3.IsWhole)
variable (a4 : Memref sig .tc .vmem S8x2048 .f32) (h4 : a4.IsWhole)
variable (a5 : Memref sig .tc .vmem S1x2048 .f32) (h5 : a5.IsWhole)
variable (a6 : Memref sig .tc .vmem S2048x512 .bf16) (h6 : a6.IsWhole)
variable (a7 : Memref sig .tc .vmem S2048x512 .bf16) (h7 : a7.IsWhole)
variable (a8 : Memref sig .tc .vmem S512x2048 .bf16) (h8 : a8.IsWhole)
variable (a9 : Memref sig .tc .vmem S1x2048 .f32) (h9 : a9.IsWhole)
variable (a10 : Memref sig .tc .vmem S1024x2048 .f32) (h10 : a10.IsWhole)
variable (a11 : Memref sig .tc .vmem S1024x2048 .f32) (h11 : a11.IsWhole)
variable (a12 : Memref sig .tc .vmem S1024x2048 .bf16) (h12 : a12.IsWhole)
variable (x1 : Vec F S1024x2048 .f32)
variable (x2 : Vec F S8x2048 .f32)
variable (x3 : Vec F S8x2048 .f32)
variable (x4 : Vec F S8x2048 .f32)
variable (x5 : Vec F S1x2048 .f32)
variable (x6 : Vec F S2048x512 .bf16)
variable (x7 : Vec F S2048x512 .bf16)
variable (x8 : Vec F S512x2048 .bf16)
variable (x9 : Vec F S1x2048 .f32)
variable (x10 : Vec F S1024x2048 .f32)

/-- The staging buffers of the inputs, holding `x1 …`. -/
def ins : sProp 𝕄 :=
  iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10)

set_option maxHeartbeats 1000000 in
/-- The copy of the first block. -/
noncomputable def runA (hc0 : cond0 i) (hc1 : ¬cond1 i) (hc2 : ¬cond2 i) (hc3 : ¬cond3 i) :
    { L : List (View.Piece (Elt F) S1024x2048 .f32) //
      ∀ (E : Set ℕ) (K : PUnit → sProp 𝕄),
        iprop(ins c a1 a2 a3 a4 a5 a6 a7 a8 a9 a10 x1 x2 x3 x4 x5 x6 x7 x8 x9 x10 ∗ (∃ d, owns (c : Thread nD τ) a11 fullShare d)
            ∗ (iprop(ins c a1 a2 a3 a4 a5 a6 a7 a8 a9 a10 x1 x2 x3 x4 x5 x6 x7 x8 x9 x10 ∗ (∃ f, a11.view.loc (c : Thread nD τ) ↦[a11.view.set]{fullShare} a11.view.writes (Elt F) f L)) -∗ K ⟨⟩))
          ⊢ wp frame (wpE (defs₀ (F := F)) Variants.none c none) E (cc0_ffn i a1 h1 a2 h2 a3 h3 a4 h4 a5 h5 a6 h6 a7 h7 a8 h8 a9 h9 a10 h10 a11 h11 a12 h12) K } := by
  refine ⟨?_, fun E K => ?run⟩
  case run =>
    simp only [cc0_ffn_eq_skeleton]; unfold cc0_ffn_skel
    simp only [k0_part55_eq_skeleton]
    unfold ins owns
    iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩⟩, ⟨%_, %fo, -, Ho⟩, Hk⟩
    obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10
    sl_exec (disch := first | sl_exact hc0 | sl_exact hc1 | sl_exact hc2 | sl_exact hc3)
    sl_step
    iapply Hk
    isplitl [H1 H2 H3 H4 H5 H6 H7 H8 H9 H10]
    · isplitl [H1]; · iexists _; isplitr; (· ipureintro; exact h1.read_unread _); iexact H1
      isplitl [H2]; · iexists _; isplitr; (· ipureintro; exact h2.read_unread _); iexact H2
      isplitl [H3]; · iexists _; isplitr; (· ipureintro; exact h3.read_unread _); iexact H3
      isplitl [H4]; · iexists _; isplitr; (· ipureintro; exact h4.read_unread _); iexact H4
      isplitl [H5]; · iexists _; isplitr; (· ipureintro; exact h5.read_unread _); iexact H5
      isplitl [H6]; · iexists _; isplitr; (· ipureintro; exact h6.read_unread _); iexact H6
      isplitl [H7]; · iexists _; isplitr; (· ipureintro; exact h7.read_unread _); iexact H7
      isplitl [H8]; · iexists _; isplitr; (· ipureintro; exact h8.read_unread _); iexact H8
      isplitl [H9]; · iexists _; isplitr; (· ipureintro; exact h9.read_unread _); iexact H9
      iexists _; isplitr; (· ipureintro; exact h10.read_unread _); iexact H10
    iexists _; iexact Ho

set_option maxHeartbeats 6600000 in
/-- The normalised rows, and the first partial product. -/
noncomputable def runB (hc0 : ¬cond0 i) (hc1 : cond1 i) (hc2 : ¬cond2 i) (hc3 : ¬cond3 i) :
    Σ' (LS : List (View.Piece (Elt F) S1024x2048 .bf16)), { L : List (View.Piece (Elt F) S1024x2048 .f32) //
      ∀ (E : Set ℕ) (K : PUnit → sProp 𝕄),
        iprop(ins c a1 a2 a3 a4 a5 a6 a7 a8 a9 a10 x1 x2 x3 x4 x5 x6 x7 x8 x9 x10 ∗ (∃ d, owns (c : Thread nD τ) a11 fullShare d) ∗ (∃ d, owns (c : Thread nD τ) a12 fullShare d)
            ∗ (iprop(ins c a1 a2 a3 a4 a5 a6 a7 a8 a9 a10 x1 x2 x3 x4 x5 x6 x7 x8 x9 x10 ∗ (∃ f, a11.view.loc (c : Thread nD τ) ↦[a11.view.set]{fullShare} a11.view.writes (Elt F) f L) ∗ (∃ f, a12.view.loc (c : Thread nD τ) ↦[a12.view.set]{fullShare} a12.view.writes (Elt F) f LS)) -∗ K ⟨⟩))
          ⊢ wp frame (wpE (defs₀ (F := F)) Variants.none c none) E (cc0_ffn i a1 h1 a2 h2 a3 h3 a4 h4 a5 h5 a6 h6 a7 h7 a8 h8 a9 h9 a10 h10 a11 h11 a12 h12) K } := by
  refine ⟨?_, ?_, fun E K => ?run⟩
  case run =>
    simp only [cc0_ffn_eq_skeleton]; unfold cc0_ffn_skel
    simp only [k0_part55_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold ins owns
    iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩⟩, ⟨%_, %fo, -, Ho⟩, ⟨%_, %fs, -, Hs⟩, Hk⟩
    obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10
    sl_exec (disch := first | sl_exact hc0 | sl_exact hc1 | sl_exact hc2 | sl_exact hc3)
    sl_step
    iapply Hk
    isplitl [H1 H2 H3 H4 H5 H6 H7 H8 H9 H10]
    · isplitl [H1]; · iexists _; isplitr; (· ipureintro; exact h1.read_unread _); iexact H1
      isplitl [H2]; · iexists _; isplitr; (· ipureintro; exact h2.read_unread _); iexact H2
      isplitl [H3]; · iexists _; isplitr; (· ipureintro; exact h3.read_unread _); iexact H3
      isplitl [H4]; · iexists _; isplitr; (· ipureintro; exact h4.read_unread _); iexact H4
      isplitl [H5]; · iexists _; isplitr; (· ipureintro; exact h5.read_unread _); iexact H5
      isplitl [H6]; · iexists _; isplitr; (· ipureintro; exact h6.read_unread _); iexact H6
      isplitl [H7]; · iexists _; isplitr; (· ipureintro; exact h7.read_unread _); iexact H7
      isplitl [H8]; · iexists _; isplitr; (· ipureintro; exact h8.read_unread _); iexact H8
      isplitl [H9]; · iexists _; isplitr; (· ipureintro; exact h9.read_unread _); iexact H9
      iexists _; isplitr; (· ipureintro; exact h10.read_unread _); iexact H10
    isplitl [Ho]; · iexists _; iexact Ho
    iexists _; iexact Hs

set_option maxHeartbeats 1000000 in
/-- One more partial product. -/
noncomputable def runC (hc0 : ¬cond0 i) (hc1 : ¬cond1 i) (hc2 : cond2 i) (hc3 : ¬cond3 i) (xo : Vec F S1024x2048 .f32) (xs : Vec F S1024x2048 .bf16) :
    { L : List (View.Piece (Elt F) S1024x2048 .f32) //
      ∀ (E : Set ℕ) (K : PUnit → sProp 𝕄),
        iprop(ins c a1 a2 a3 a4 a5 a6 a7 a8 a9 a10 x1 x2 x3 x4 x5 x6 x7 x8 x9 x10 ∗ owns (c : Thread nD τ) a11 fullShare xo ∗ owns (c : Thread nD τ) a12 fullShare xs
            ∗ (iprop(ins c a1 a2 a3 a4 a5 a6 a7 a8 a9 a10 x1 x2 x3 x4 x5 x6 x7 x8 x9 x10 ∗ (∃ f, a11.view.loc (c : Thread nD τ) ↦[a11.view.set]{fullShare} a11.view.writes (Elt F) f L) ∗ owns (c : Thread nD τ) a12 fullShare xs) -∗ K ⟨⟩))
          ⊢ wp frame (wpE (defs₀ (F := F)) Variants.none c none) E (cc0_ffn i a1 h1 a2 h2 a3 h3 a4 h4 a5 h5 a6 h6 a7 h7 a8 h8 a9 h9 a10 h10 a11 h11 a12 h12) K } := by
  refine ⟨?_, fun E K => ?run⟩
  case run =>
    simp only [cc0_ffn_eq_skeleton]; unfold cc0_ffn_skel
    simp only [k0_part55_eq_skeleton, k0_part52_eq_skeleton]
    unfold ins owns
    iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩⟩, ⟨%fo, %eo, Ho⟩, ⟨%fs, %es, Hs⟩, Hk⟩
    obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread eo; obtain rfl := h12.eq_unread es
    sl_exec (disch := first | sl_exact hc0 | sl_exact hc1 | sl_exact hc2 | sl_exact hc3)
    sl_step
    iapply Hk
    isplitl [H1 H2 H3 H4 H5 H6 H7 H8 H9 H10]
    · isplitl [H1]; · iexists _; isplitr; (· ipureintro; exact h1.read_unread _); iexact H1
      isplitl [H2]; · iexists _; isplitr; (· ipureintro; exact h2.read_unread _); iexact H2
      isplitl [H3]; · iexists _; isplitr; (· ipureintro; exact h3.read_unread _); iexact H3
      isplitl [H4]; · iexists _; isplitr; (· ipureintro; exact h4.read_unread _); iexact H4
      isplitl [H5]; · iexists _; isplitr; (· ipureintro; exact h5.read_unread _); iexact H5
      isplitl [H6]; · iexists _; isplitr; (· ipureintro; exact h6.read_unread _); iexact H6
      isplitl [H7]; · iexists _; isplitr; (· ipureintro; exact h7.read_unread _); iexact H7
      isplitl [H8]; · iexists _; isplitr; (· ipureintro; exact h8.read_unread _); iexact H8
      isplitl [H9]; · iexists _; isplitr; (· ipureintro; exact h9.read_unread _); iexact H9
      iexists _; isplitr; (· ipureintro; exact h10.read_unread _); iexact H10
    isplitl [Ho]; · iexists _; iexact Ho
    iexists _; isplitr; · ipureintro; exact h12.read_unread _
    iexact Hs

set_option maxHeartbeats 2400000 in
/-- The last partial product, and the close of the block. -/
noncomputable def runD (hc0 : ¬cond0 i) (hc1 : ¬cond1 i) (hc2 : ¬cond2 i) (hc3 : cond3 i) (xo : Vec F S1024x2048 .f32) (xs : Vec F S1024x2048 .bf16) :
    { L : List (View.Piece (Elt F) S1024x2048 .f32) //
      ∀ (E : Set ℕ) (K : PUnit → sProp 𝕄),
        iprop(ins c a1 a2 a3 a4 a5 a6 a7 a8 a9 a10 x1 x2 x3 x4 x5 x6 x7 x8 x9 x10 ∗ owns (c : Thread nD τ) a11 fullShare xo ∗ owns (c : Thread nD τ) a12 fullShare xs
            ∗ (iprop(ins c a1 a2 a3 a4 a5 a6 a7 a8 a9 a10 x1 x2 x3 x4 x5 x6 x7 x8 x9 x10 ∗ (∃ f, a11.view.loc (c : Thread nD τ) ↦[a11.view.set]{fullShare} a11.view.writes (Elt F) f L) ∗ owns (c : Thread nD τ) a12 fullShare xs) -∗ K ⟨⟩))
          ⊢ wp frame (wpE (defs₀ (F := F)) Variants.none c none) E (cc0_ffn i a1 h1 a2 h2 a3 h3 a4 h4 a5 h5 a6 h6 a7 h7 a8 h8 a9 h9 a10 h10 a11 h11 a12 h12) K } := by
  refine ⟨?_, fun E K => ?run⟩
  case run =>
    simp only [cc0_ffn_eq_skeleton]; unfold cc0_ffn_skel
    simp only [k0_part55_eq_skeleton, k0_part53_eq_skeleton, k0_part54_eq_skeleton]
    unfold ins owns
    iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩⟩, ⟨%fo, %eo, Ho⟩, ⟨%fs, %es, Hs⟩, Hk⟩
    obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread eo; obtain rfl := h12.eq_unread es
    sl_exec (disch := first | sl_exact hc0 | sl_exact hc1 | sl_exact hc2 | sl_exact hc3)
    sl_step
    iapply Hk
    isplitl [H1 H2 H3 H4 H5 H6 H7 H8 H9 H10]
    · isplitl [H1]; · iexists _; isplitr; (· ipureintro; exact h1.read_unread _); iexact H1
      isplitl [H2]; · iexists _; isplitr; (· ipureintro; exact h2.read_unread _); iexact H2
      isplitl [H3]; · iexists _; isplitr; (· ipureintro; exact h3.read_unread _); iexact H3
      isplitl [H4]; · iexists _; isplitr; (· ipureintro; exact h4.read_unread _); iexact H4
      isplitl [H5]; · iexists _; isplitr; (· ipureintro; exact h5.read_unread _); iexact H5
      isplitl [H6]; · iexists _; isplitr; (· ipureintro; exact h6.read_unread _); iexact H6
      isplitl [H7]; · iexists _; isplitr; (· ipureintro; exact h7.read_unread _); iexact H7
      isplitl [H8]; · iexists _; isplitr; (· ipureintro; exact h8.read_unread _); iexact H8
      isplitl [H9]; · iexists _; isplitr; (· ipureintro; exact h9.read_unread _); iexact H9
      iexists _; isplitr; (· ipureintro; exact h10.read_unread _); iexact H10
    isplitl [Ho]; · iexists _; iexact Ho
    iexists _; isplitr; · ipureintro; exact h12.read_unread _
    iexact Hs

end Cert.Kernel3Ideal.Ffn
-- ==== Proof.Ffn1Stores.lean ====
/-
  What each case of the body stores, in the terms of `Stores`: the values are given once for all the stores of a case.
-/
module

public import proofs.«01_k».proof.Proof.Ffn1Run
public import proofs.«01_k».proof.Proof.Stores

@[expose] public section
set_option maxRecDepth 16384
noncomputable section
namespace Cert.Kernel3Ideal.Ffn
open Idealize.ShloMosaic Idealize.ShloMosaic.TcCoe Idealize.SL.Sem
open Cert.Kernel3Ideal Cert.Kernel3Ideal.Gen Cert.Stores

variable {F : FTy → Type} [FloatOps F]

/-- The boxes that hold all of a buffer. -/
abbrev all1 : Rect S1x2048 := Rect.unit ![0, 0] S1x2048.size inb_S1x2048_S1x2048_0_0
abbrev allW : Rect S2048x512 := Rect.unit ![0, 0] S2048x512.size inb_S2048x512_S2048x512_0_0
abbrev allD : Rect S512x2048 := Rect.unit ![0, 0] S512x2048.size inb_S512x2048_S512x2048_0_0

variable (c : Dev nD) (i : grid0.Coords)
variable (a1 : Memref sig .tc .vmem S1024x2048 .f32) (h1 : a1.IsWhole)
variable (a2 : Memref sig .tc .vmem S8x2048 .f32) (h2 : a2.IsWhole)
variable (a3 : Memref sig .tc .vmem S8x2048 .f32) (h3 : a3.IsWhole)
variable (a4 : Memref sig .tc .vmem S8x2048 .f32) (h4 : a4.IsWhole)
variable (a5 : Memref sig .tc .vmem S1x2048 .f32) (h5 : a5.IsWhole)
variable (a6 : Memref sig .tc .vmem S2048x512 .bf16) (h6 : a6.IsWhole)
variable (a7 : Memref sig .tc .vmem S2048x512 .bf16) (h7 : a7.IsWhole)
variable (a8 : Memref sig .tc .vmem S512x2048 .bf16) (h8 : a8.IsWhole)
variable (a9 : Memref sig .tc .vmem S1x2048 .f32) (h9 : a9.IsWhole)
variable (a10 : Memref sig .tc .vmem S1024x2048 .f32) (h10 : a10.IsWhole)
variable (a11 : Memref sig .tc .vmem S1024x2048 .f32) (h11 : a11.IsWhole)
variable (a12 : Memref sig .tc .vmem S1024x2048 .bf16) (h12 : a12.IsWhole)
variable (x1 : Vec F S1024x2048 .f32)
variable (x2 : Vec F S8x2048 .f32)
variable (x3 : Vec F S8x2048 .f32)
variable (x4 : Vec F S8x2048 .f32)
variable (x5 : Vec F S1x2048 .f32)
variable (x6 : Vec F S2048x512 .bf16)
variable (x7 : Vec F S2048x512 .bf16)
variable (x8 : Vec F S512x2048 .bf16)
variable (x9 : Vec F S1x2048 .f32)
variable (x10 : Vec F S1024x2048 .f32)

/-- The very first point stores the first block. -/
theorem storesA (hc0 : cond0 i) (hc1 : ¬cond1 i) (hc2 : ¬cond2 i) (hc3 : ¬cond3 i) : Rows 1024 (fun a h => ld a10 h10 (box 1024 a h) x10) (runA c i a1 h1 a2 h2 a3 h3 a4 h4 a5 h5 a6 h6 a7 h7 a8 h8 a9 h9 a10 h10 a11 h11 a12 h12 x1 x2 x3 x4 x5 x6 x7 x8 x9 x10 hc0 hc1 hc2 hc3).1 1024 :=
  .cons (a := 0) _ .nil

/-- The first point of a block stores the normalised rows, thirty-two at a time, -/
theorem storesBs (hc0 : ¬cond0 i) (hc1 : cond1 i) (hc2 : ¬cond2 i) (hc3 : ¬cond3 i) :
    Rows 32 (fun a h => k0_pay4 (ld a1 h1 (box 32 a h) x1) (k0_pay3 (ld a5 h5 all1 x5))
      (ld a2 h2 (Rect.unit (k0_off1 i) S1x2048.size (k0_off1_inb i hc1)) x2) (ld a3 h3 (Rect.unit (k0_off1 i) S1x2048.size (k0_off1_inb i hc1)) x3))
      (runB c i a1 h1 a2 h2 a3 h3 a4 h4 a5 h5 a6 h6 a7 h7 a8 h8 a9 h9 a10 h10 a11 h11 a12 h12 x1 x2 x3 x4 x5 x6 x7 x8 x9 x10 hc0 hc1 hc2 hc3).1 1024 :=
  (.cons (a := 992) _ (.cons (a := 960) _ (.cons (a := 928) _ (.cons (a := 896) _ (.cons (a := 864) _ (.cons (a := 832) _ (.cons (a := 800) _ (.cons (a := 768) _ (.cons (a := 736) _ (.cons (a := 704) _ (.cons (a := 672) _ (.cons (a := 640) _ (.cons (a := 608) _ (.cons (a := 576) _ (.cons (a := 544) _ (.cons (a := 512) _ (.cons (a := 480) _ (.cons (a := 448) _ (.cons (a := 416) _ (.cons (a := 384) _ (.cons (a := 352) _ (.cons (a := 320) _ (.cons (a := 288) _ (.cons (a := 256) _ (.cons (a := 224) _ (.cons (a := 192) _ (.cons (a := 160) _ (.cons (a := 128) _ (.cons (a := 96) _ (.cons (a := 64) _ (.cons (a := 32) _ (.cons (a := 0) _ .nil))))))))))))))))))))))))))))))))

/-- and from them the first partial products. -/
theorem storesB (hc0 : ¬cond0 i) (hc1 : cond1 i) (hc2 : ¬cond2 i) (hc3 : ¬cond3 i) :
    Rows 512 (fun a h => k0_pay87 (a12.view.readCov (runB c i a1 h1 a2 h2 a3 h3 a4 h4 a5 h5 a6 h6 a7 h7 a8 h8 a9 h9 a10 h10 a11 h11 a12 h12 x1 x2 x3 x4 x5 x6 x7 x8 x9 x10 hc0 hc1 hc2 hc3).1 (box 512 a h).toLoadRect) (ld a6 h6 allW x6) (ld a7 h7 allW x7) (ld a8 h8 allD x8)) (runB c i a1 h1 a2 h2 a3 h3 a4 h4 a5 h5 a6 h6 a7 h7 a8 h8 a9 h9 a10 h10 a11 h11 a12 h12 x1 x2 x3 x4 x5 x6 x7 x8 x9 x10 hc0 hc1 hc2 hc3).2.1 1024 :=
  (.cons (a := 512) _ (.cons (a := 0) _ .nil))

/-- A later point adds its partial products. -/
theorem storesC (hc0 : ¬cond0 i) (hc1 : ¬cond1 i) (hc2 : cond2 i) (hc3 : ¬cond3 i) (xo : Vec F S1024x2048 .f32) (xs : Vec F S1024x2048 .bf16) :
    Rows 512 (fun a h => k0_pay90 (ld a12 h12 (box 512 a h) xs) (ld a6 h6 allW x6) (ld a7 h7 allW x7) (ld a8 h8 allD x8) (ld a11 h11 (box 512 a h) xo))
      (runC c i a1 h1 a2 h2 a3 h3 a4 h4 a5 h5 a6 h6 a7 h7 a8 h8 a9 h9 a10 h10 a11 h11 a12 h12 x1 x2 x3 x4 x5 x6 x7 x8 x9 x10 hc0 hc1 hc2 hc3 xo xs).1 1024 :=
  (.cons (a := 512) _ (.cons (a := 0) _ .nil))

/-- The last point of a block stores the residual sums. -/
theorem storesD (hc0 : ¬cond0 i) (hc1 : ¬cond1 i) (hc2 : ¬cond2 i) (hc3 : cond3 i) (xo : Vec F S1024x2048 .f32) (xs : Vec F S1024x2048 .bf16) :
    Rows 512 (fun a h => k0_pay93 (k0_pay90 (ld a12 h12 (box 512 a h) xs) (ld a6 h6 allW x6) (ld a7 h7 allW x7) (ld a8 h8 allD x8) (ld a11 h11 (box 512 a h) xo)) (ld a1 h1 (box 512 a h) x1) (ld a4 h4 (Rect.unit (k0_off2 i) S1x2048.size (k0_off2_inb i hc3)) x4))
      (runD c i a1 h1 a2 h2 a3 h3 a4 h4 a5 h5 a6 h6 a7 h7 a8 h8 a9 h9 a10 h10 a11 h11 a12 h12 x1 x2 x3 x4 x5 x6 x7 x8 x9 x10 hc0 hc1 hc2 hc3 xo xs).1 1024 :=
  (.cons (a := 512) _ (.cons (a := 0) _ .nil))

end Cert.Kernel3Ideal.Ffn
-- ==== Proof.Ffn1Frame.lean ====
/-
  The layer's run. After each grid point the output's staging buffer and the scratch buffer hold `st`; the proof data
  `dats` says so, the body meets it at every point, and the launch follows, over float values of any type.
-/
module

public import proofs.«01_k».proof.Proof.Ffn1Stores
public import proofs.«01_k».proof.Proof.Gen.Kernel3Ideal.Frame

@[expose] public section
set_option maxRecDepth 16384
noncomputable section
namespace Cert.Kernel3Ideal.Ffn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel3Ideal Cert.Kernel3Ideal.Gen Cert.Stores

variable {F : FTy → Type} [FloatOps F]
local notation "𝕄" => MT nD τ sig Unit (Elt F) ℕ (UR sig nD τ) ℕ
variable (m : (ℓ : Loc nD τ sig) → Buf (Elt F) ℓ) (ρ : Dev nD → PrngReg) (c : Dev nD)

/-! ## The buffers at a point, and the case it is in -/

abbrev ms1 (t : Fin cfg0.N) : Memref sig .tc .vmem S1024x2048 .f32 := win0_0.stage (cfg0.slots t 0)
abbrev hs1 (t : Fin cfg0.N) : (ms1 t).IsWhole := hstage0_0 ((cfg0.slots t 0).cast nbuf0_0)
abbrev ms2 (t : Fin cfg0.N) : Memref sig .tc .vmem S8x2048 .f32 := win0_1.stage (cfg0.slots t 1)
abbrev hs2 (t : Fin cfg0.N) : (ms2 t).IsWhole := hstage0_1 ((cfg0.slots t 1).cast nbuf0_1)
abbrev ms3 (t : Fin cfg0.N) : Memref sig .tc .vmem S8x2048 .f32 := win0_2.stage (cfg0.slots t 2)
abbrev hs3 (t : Fin cfg0.N) : (ms3 t).IsWhole := hstage0_2 ((cfg0.slots t 2).cast nbuf0_2)
abbrev ms4 (t : Fin cfg0.N) : Memref sig .tc .vmem S8x2048 .f32 := win0_3.stage (cfg0.slots t 3)
abbrev hs4 (t : Fin cfg0.N) : (ms4 t).IsWhole := hstage0_3 ((cfg0.slots t 3).cast nbuf0_3)
abbrev ms5 (t : Fin cfg0.N) : Memref sig .tc .vmem S1x2048 .f32 := win0_4.stage (cfg0.slots t 4)
abbrev hs5 (t : Fin cfg0.N) : (ms5 t).IsWhole := hstage0_4 ((cfg0.slots t 4).cast nbuf0_4)
abbrev ms6 (t : Fin cfg0.N) : Memref sig .tc .vmem S2048x512 .bf16 := win0_5.stage (cfg0.slots t 5)
abbrev hs6 (t : Fin cfg0.N) : (ms6 t).IsWhole := hstage0_5 ((cfg0.slots t 5).cast nbuf0_5)
abbrev ms7 (t : Fin cfg0.N) : Memref sig .tc .vmem S2048x512 .bf16 := win0_6.stage (cfg0.slots t 6)
abbrev hs7 (t : Fin cfg0.N) : (ms7 t).IsWhole := hstage0_6 ((cfg0.slots t 6).cast nbuf0_6)
abbrev ms8 (t : Fin cfg0.N) : Memref sig .tc .vmem S512x2048 .bf16 := win0_7.stage (cfg0.slots t 7)
abbrev hs8 (t : Fin cfg0.N) : (ms8 t).IsWhole := hstage0_7 ((cfg0.slots t 7).cast nbuf0_7)
abbrev ms9 (t : Fin cfg0.N) : Memref sig .tc .vmem S1x2048 .f32 := win0_8.stage (cfg0.slots t 8)
abbrev hs9 (t : Fin cfg0.N) : (ms9 t).IsWhole := hstage0_8 ((cfg0.slots t 8).cast nbuf0_8)
abbrev ms10 (t : Fin cfg0.N) : Memref sig .tc .vmem S1024x2048 .f32 := win0_9.stage (cfg0.slots t 9)
abbrev hs10 (t : Fin cfg0.N) : (ms10 t).IsWhole := hstage0_9 ((cfg0.slots t 9).cast nbuf0_9)
abbrev ms11 (t : Fin cfg0.N) : Memref sig .tc .vmem S1024x2048 .f32 := win0_10.stage (cfg0.slots t 10)
abbrev hs11 (t : Fin cfg0.N) : (ms11 t).IsWhole := hstage0_10 ((cfg0.slots t 10).cast nbuf0_10)
abbrev scM : Memref sig .tc .vmem S1024x2048 .bf16 := Memref.whole cc0_scratch0

theorem isA (t : Fin cfg0.N) (h : t.val = 0) : cond0 (grid0.coords t) ∧ ¬cond1 (grid0.coords t) ∧ ¬cond2 (grid0.coords t) ∧ ¬cond3 (grid0.coords t) := by
  obtain ⟨h0, h1, h2, h3⟩ := conds t
  exact ⟨h0.mpr h, fun k => by have := h1.mp k; omega, fun k => by have := h2.mp k; omega, fun k => by have := h3.mp k; omega⟩
theorem isB (t : Fin cfg0.N) (h : t.val % 11 = 1) : ¬cond0 (grid0.coords t) ∧ cond1 (grid0.coords t) ∧ ¬cond2 (grid0.coords t) ∧ ¬cond3 (grid0.coords t) := by
  obtain ⟨h0, h1, h2, h3⟩ := conds t
  exact ⟨fun k => by have := h0.mp k; omega, h1.mpr h, fun k => by have := h2.mp k; omega, fun k => by have := h3.mp k; omega⟩
theorem isC (t : Fin cfg0.N) (h : 1 < t.val ∧ t.val % 11 ≠ 0 ∧ t.val % 11 ≠ 1) :
    ¬cond0 (grid0.coords t) ∧ ¬cond1 (grid0.coords t) ∧ cond2 (grid0.coords t) ∧ ¬cond3 (grid0.coords t) := by
  obtain ⟨h0, h1, h2, h3⟩ := conds t
  exact ⟨fun k => by have := h0.mp k; omega, fun k => by have := h1.mp k; omega, h2.mpr h, fun k => by have := h3.mp k; omega⟩
theorem isD (t : Fin cfg0.N) (h : t.val ≠ 0 ∧ t.val % 11 = 0) :
    ¬cond0 (grid0.coords t) ∧ ¬cond1 (grid0.coords t) ∧ ¬cond2 (grid0.coords t) ∧ cond3 (grid0.coords t) := by
  obtain ⟨h0, h1, h2, h3⟩ := conds t
  exact ⟨fun k => by have := h0.mp k; omega, fun k => by have := h1.mp k; omega, fun k => by have := h2.mp k; omega, h3.mpr h⟩

/-! ## What a point leaves -/

def outA (t : Fin cfg0.N) (h : t.val = 0) : Vec F S1024x2048 .f32 :=
  View.canon (runA c (grid0.coords t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (isA t h).1 (isA t h).2.1 (isA t h).2.2.1 (isA t h).2.2.2).1
def scrB (t : Fin cfg0.N) (h : t.val % 11 = 1) : Vec F S1024x2048 .bf16 :=
  View.canon (runB c (grid0.coords t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (isB t h).1 (isB t h).2.1 (isB t h).2.2.1 (isB t h).2.2.2).1
def outB (t : Fin cfg0.N) (h : t.val % 11 = 1) : Vec F S1024x2048 .f32 :=
  View.canon (runB c (grid0.coords t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (isB t h).1 (isB t h).2.1 (isB t h).2.2.1 (isB t h).2.2.2).2.1
def outC (t : Fin cfg0.N) (h : 1 < t.val ∧ t.val % 11 ≠ 0 ∧ t.val % 11 ≠ 1) (xo : Vec F S1024x2048 .f32) (xs : Vec F S1024x2048 .bf16) : Vec F S1024x2048 .f32 :=
  View.canon (runC c (grid0.coords t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (isC t h).1 (isC t h).2.1 (isC t h).2.2.1 (isC t h).2.2.2 xo xs).1
def outD (t : Fin cfg0.N) (h : t.val ≠ 0 ∧ t.val % 11 = 0) (xo : Vec F S1024x2048 .f32) (xs : Vec F S1024x2048 .bf16) : Vec F S1024x2048 .f32 :=
  View.canon (runD c (grid0.coords t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (isD t h).1 (isD t h).2.1 (isD t h).2.2.1 (isD t h).2.2.2 xo xs).1

/-- The output's staging buffer and the scratch buffer after point `n`. -/
def st : (n : ℕ) → n < cfg0.N → Vec F S1024x2048 .f32 × Vec F S1024x2048 .bf16
  | 0, hn => (outA m c ⟨0, hn⟩ rfl, View.canon [])
  | n + 1, hn =>
    if hB : (n + 1) % 11 = 1 then (outB m c ⟨n + 1, hn⟩ hB, scrB m c ⟨n + 1, hn⟩ hB)
    else if hD : (n + 1) % 11 = 0 then
      (outD m c ⟨n + 1, hn⟩ ⟨Nat.succ_ne_zero n, hD⟩ (st n (by omega)).1 (st n (by omega)).2, (st n (by omega)).2)
    else (outC m c ⟨n + 1, hn⟩ ⟨by show 1 < n + 1; omega, hD, hB⟩ (st n (by omega)).1 (st n (by omega)).2, (st n (by omega)).2)

theorem st_A (hn : 0 < cfg0.N) : st m c 0 hn = (outA m c ⟨0, hn⟩ rfl, View.canon []) := rfl
theorem st_B (n : ℕ) (hn : n + 1 < cfg0.N) (hB : (n + 1) % 11 = 1) :
    st m c (n + 1) hn = (outB m c ⟨n + 1, hn⟩ hB, scrB m c ⟨n + 1, hn⟩ hB) := dif_pos hB
theorem st_D (n : ℕ) (hn : n + 1 < cfg0.N) (hD : (n + 1) % 11 = 0) :
    st m c (n + 1) hn = (outD m c ⟨n + 1, hn⟩ ⟨Nat.succ_ne_zero n, hD⟩ (st m c n (by omega)).1 (st m c n (by omega)).2, (st m c n (by omega)).2) :=
  (dif_neg (by omega)).trans (dif_pos hD)
theorem st_C (n : ℕ) (hn : n + 1 < cfg0.N) (h : 1 < n + 1 ∧ (n + 1) % 11 ≠ 0 ∧ (n + 1) % 11 ≠ 1) :
    st m c (n + 1) hn = (outC m c ⟨n + 1, hn⟩ h (st m c n (by omega)).1 (st m c n (by omega)).2, (st m c n (by omega)).2) :=
  (dif_neg h.2.2).trans (dif_neg h.2.1)

/-- The scratch buffer between the points: anything before the first block's rows are stored. -/
def Phi : (n : ℕ) → n ≤ cfg0.N → sProp 𝕄
  | 0, _ => Pipeline.ΦA spec0 c
  | 1, _ => Pipeline.ΦA spec0 c
  | n + 2, hn => iprop(owns (c : Thread nD τ) scM fullShare (st m c (n + 1) hn).2 ∗ (∃ r, prngReg c r))

theorem Phi_two (n : ℕ) (hn : n + 2 ≤ cfg0.N) :
    Phi m c (n + 2) hn = iprop(owns (c : Thread nD τ) scM fullShare (st m c (n + 1) hn).2 ∗ (∃ r, prngReg c r)) := rfl

theorem PhiA_eq : (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- At any point the scratch buffer holds something. -/
theorem Phi_any : ∀ (n : ℕ) (hn : n ≤ cfg0.N), Phi m c n hn ⊢ iprop((∃ d, owns (c : Thread nD τ) scM fullShare d) ∗ (∃ r, prngReg c r))
  | 0, _ => by unfold Phi; rw [PhiA_eq]
  | 1, _ => by unfold Phi; rw [PhiA_eq]
  | n + 2, hn => by
    unfold Phi
    iintro ⟨Hs, Hg⟩
    isplitl [Hs]; · iexists _; iexact Hs
    iexact Hg

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (st m c t.val t.isLt).1
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

/-- The points that write the output's block back. -/
theorem flush_iff : ∀ t : Fin cfg0.N, (cfg0.win 10).flush t = true ↔ t.val % 11 = 0 :=
  (by decide +kernel : ∀ t : Fin grid0.N, _)

theorem live (i : grid0.Coords) : cfg0.idle 10 i = false :=
  (by decide +kernel : ∀ i : grid0.Coords, idle0 10 i = false) i

theorem Phi_castSucc (t : Fin cfg0.N) : (dats m 0 c).Φ t.castSucc = Phi m c t.val (Nat.le_of_lt t.isLt) := by
  dsimp only [dats]; exact Dat.Φ_castSucc (Phi m c) t
theorem Phi_succ (t : Fin cfg0.N) : (dats m 0 c).Φ t.succ = Phi m c (t.val + 1) t.isLt := rfl

/-- Within a block the output's buffer holds what the point before left. -/
theorem before_out (n : ℕ) (hn : n + 1 < cfg0.N) (h : (n + 1) % 11 ≠ 1) (d) :
    (dats m 0 c).before 10 ⟨n + 1, hn⟩ d = (st m c n (by omega)).1 :=
  (dats m 0 c).before_out_kept 10 rfl ⟨n + 1, hn⟩ (Nat.succ_ne_zero n)
    (Bool.eq_false_iff.mpr fun hf => by have := (flush_iff _).mp hf; simp only [Nat.add_sub_cancel] at this; omega)
    live (fun _ _ => rfl) d

/-! ## The body at a point -/

/-- The inputs' staging buffers at a point hold their blocks. -/
abbrev insAt (t : Fin cfg0.N) : sProp 𝕄 :=
  ins c (ms1 t) (ms2 t) (ms3 t) (ms4 t) (ms5 t) (ms6 t) (ms7 t) (ms8 t) (ms9 t) (ms10 t) (iblk m c 0 t) (iblk m c 1 t) (iblk m c 2 t) (iblk m c 3 t) (iblk m c 4 t) (iblk m c 5 t) (iblk m c 6 t) (iblk m c 7 t) (iblk m c 8 t) (iblk m c 9 t)

theorem gather (t : Fin cfg0.N) :
    iprop((dats m 0 c).Φ t.castSucc ∗ (dats m 0 c).owesAt () t.castSucc
    ∗ (∃ d, owns (c : Thread nD τ) (ms1 t) fullShare ((dats m 0 c).before 0 t d))
    ∗ (∃ d, owns (c : Thread nD τ) (ms2 t) fullShare ((dats m 0 c).before 1 t d))
    ∗ (∃ d, owns (c : Thread nD τ) (ms3 t) fullShare ((dats m 0 c).before 2 t d))
    ∗ (∃ d, owns (c : Thread nD τ) (ms4 t) fullShare ((dats m 0 c).before 3 t d))
    ∗ (∃ d, owns (c : Thread nD τ) (ms5 t) fullShare ((dats m 0 c).before 4 t d))
    ∗ (∃ d, owns (c : Thread nD τ) (ms6 t) fullShare ((dats m 0 c).before 5 t d))
    ∗ (∃ d, owns (c : Thread nD τ) (ms7 t) fullShare ((dats m 0 c).before 6 t d))
    ∗ (∃ d, owns (c : Thread nD τ) (ms8 t) fullShare ((dats m 0 c).before 7 t d))
    ∗ (∃ d, owns (c : Thread nD τ) (ms9 t) fullShare ((dats m 0 c).before 8 t d))
    ∗ (∃ d, owns (c : Thread nD τ) (ms10 t) fullShare ((dats m 0 c).before 9 t d))
    ∗ (∃ d, owns (c : Thread nD τ) (ms11 t) fullShare ((dats m 0 c).before 10 t d)))
    ⊢ iprop(Phi m c t.val (Nat.le_of_lt t.isLt) ∗ (dats m 0 c).owesAt () t.castSucc ∗ insAt m c t
      ∗ (∃ d, owns (c : Thread nD τ) (ms11 t) fullShare ((dats m 0 c).before 10 t d))) := by
  rw [Phi_castSucc]
  unfold insAt ins
  iintro ⟨HP, Hw, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, Ho⟩
  isplitl [HP]; · iexact HP
  isplitl [Hw]; · iexact Hw
  isplitl [H1 H2 H3 H4 H5 H6 H7 H8 H9 H10]
  · isplitl [H1]; · rw [before0_0_of m (dats m 0 c) rfl (fun _ => rfl)]; iexact H1
    isplitl [H2]; · rw [before0_1_of m (dats m 0 c) rfl (fun _ => rfl)]; iexact H2
    isplitl [H3]; · rw [before0_2_of m (dats m 0 c) rfl (fun _ => rfl)]; iexact H3
    isplitl [H4]; · rw [before0_3_of m (dats m 0 c) rfl (fun _ => rfl)]; iexact H4
    isplitl [H5]; · rw [before0_4_of m (dats m 0 c) rfl (fun _ => rfl)]; iexact H5
    isplitl [H6]; · rw [before0_5_of m (dats m 0 c) rfl (fun _ => rfl)]; iexact H6
    isplitl [H7]; · rw [before0_6_of m (dats m 0 c) rfl (fun _ => rfl)]; iexact H7
    isplitl [H8]; · rw [before0_7_of m (dats m 0 c) rfl (fun _ => rfl)]; iexact H8
    isplitl [H9]; · rw [before0_8_of m (dats m 0 c) rfl (fun _ => rfl)]; iexact H9
    rw [before0_9_of m (dats m 0 c) rfl (fun _ => rfl)]; iexact H10
  iexact Ho

theorem scatter (t : Fin cfg0.N) :
    iprop(Phi m c (t.val + 1) t.isLt ∗ (dats m 0 c).owesAt () t.castSucc ∗ insAt m c t
      ∗ owns (c : Thread nD τ) (ms11 t) fullShare (st m c t.val t.isLt).1)
    ⊢ iprop((dats m 0 c).Φ t.succ ∗ (dats m 0 c).owesAt () t.succ
    ∗ owns (c : Thread nD τ) (ms1 t) fullShare ((dats m 0 c).after 0 t)
    ∗ owns (c : Thread nD τ) (ms2 t) fullShare ((dats m 0 c).after 1 t)
    ∗ owns (c : Thread nD τ) (ms3 t) fullShare ((dats m 0 c).after 2 t)
    ∗ owns (c : Thread nD τ) (ms4 t) fullShare ((dats m 0 c).after 3 t)
    ∗ owns (c : Thread nD τ) (ms5 t) fullShare ((dats m 0 c).after 4 t)
    ∗ owns (c : Thread nD τ) (ms6 t) fullShare ((dats m 0 c).after 5 t)
    ∗ owns (c : Thread nD τ) (ms7 t) fullShare ((dats m 0 c).after 6 t)
    ∗ owns (c : Thread nD τ) (ms8 t) fullShare ((dats m 0 c).after 7 t)
    ∗ owns (c : Thread nD τ) (ms9 t) fullShare ((dats m 0 c).after 8 t)
    ∗ owns (c : Thread nD τ) (ms10 t) fullShare ((dats m 0 c).after 9 t)
    ∗ owns (c : Thread nD τ) (ms11 t) fullShare ((dats m 0 c).after 10 t)) := by
  rw [Phi_succ]
  unfold insAt ins
  iintro ⟨HP, Hw, ⟨H1, H2, H3, H4, H5, H6, H7, H8, H9, H10⟩, Ho⟩
  isplitl [HP]; · iexact HP
  isplitl [Hw]; · iexact Hw
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact Ho

/-- Stores that cover a buffer leave it at what they stored. -/
theorem stored {s : Shape} {e : EltTy} (a : Memref sig .tc .vmem s e) (L : List (View.Piece (Elt F) s e)) (h : ∀ y, ∃ p ∈ L, y ∈ p.1.set) :
    (iprop(∃ f, a.view.loc (c : Thread nD τ) ↦[a.view.set]{fullShare} a.view.writes (Elt F) f L) : sProp 𝕄)
      ⊢ owns (c : Thread nD τ) a fullShare (View.canon L) := by
  unfold owns
  iintro ⟨%f, Ho⟩
  iexists _; isplitr
  swap; · iexact Ho
  ipureintro; exact View.read_writes_eq_canon _ _ _ h

theorem keyA (t : Fin cfg0.N) (h : t.val = 0) (K : PUnit → sProp 𝕄) :
    iprop(insAt m c t ∗ (∃ d, owns (c : Thread nD τ) (ms11 t) fullShare d) ∗ (iprop(insAt m c t ∗ owns (c : Thread nD τ) (ms11 t) fullShare (outA m c t h)) -∗ K ⟨⟩))
    ⊢ wp frame (wpE (defs₀ (F := F)) Variants.none c none) Set.univ (bodyAt0 t) K := by
  refine BIBase.Entails.trans ?_ ((runA c (grid0.coords t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (isA t h).1 (isA t h).2.1 (isA t h).2.2.1 (isA t h).2.2.2).2 Set.univ K)
  iintro ⟨Hi, Ho, Hk⟩
  isplitl [Hi]; · iexact Hi
  isplitl [Ho]; · iexact Ho
  iintro ⟨Hi, Ho⟩
  iapply Hk
  isplitl [Hi]; · iexact Hi
  iapply (stored c (ms11 t) _ fun y => (storesA _ _ _ _ _ _ _ _ _ _ _ _ _ _ _ _ _ _ _ _ _ _ _ _ _ _ _ _ _ _ _ _ _ _ _ _ _ _ _ _).cover y (y 0).isLt)
  iexact Ho

theorem keyB (t : Fin cfg0.N) (h : t.val % 11 = 1) (K : PUnit → sProp 𝕄) :
    iprop(insAt m c t ∗ (∃ d, owns (c : Thread nD τ) (ms11 t) fullShare d) ∗ (∃ d, owns (c : Thread nD τ) scM fullShare d) ∗ (iprop(insAt m c t ∗ owns (c : Thread nD τ) (ms11 t) fullShare (outB m c t h) ∗ owns (c : Thread nD τ) scM fullShare (scrB m c t h)) -∗ K ⟨⟩))
    ⊢ wp frame (wpE (defs₀ (F := F)) Variants.none c none) Set.univ (bodyAt0 t) K := by
  refine BIBase.Entails.trans ?_ ((runB c (grid0.coords t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (isB t h).1 (isB t h).2.1 (isB t h).2.2.1 (isB t h).2.2.2).2.2 Set.univ K)
  iintro ⟨Hi, Ho, Hs, Hk⟩
  isplitl [Hi]; · iexact Hi
  isplitl [Ho]; · iexact Ho
  isplitl [Hs]; · iexact Hs
  iintro ⟨Hi, Ho, Hs⟩
  iapply Hk
  isplitl [Hi]; · iexact Hi
  isplitl [Ho]
  · iapply (stored c (ms11 t) _ fun y => (storesB _ _ _ _ _ _ _ _ _ _ _ _ _ _ _ _ _ _ _ _ _ _ _ _ _ _ _ _ _ _ _ _ _ _ _ _ _ _ _ _).cover y (y 0).isLt)
    iexact Ho
  iapply (stored c scM _ fun y => (storesBs _ _ _ _ _ _ _ _ _ _ _ _ _ _ _ _ _ _ _ _ _ _ _ _ _ _ _ _ _ _ _ _ _ _ _ _ _ _ _ _).cover y (y 0).isLt)
  iexact Hs

theorem keyC (t : Fin cfg0.N) (h : 1 < t.val ∧ t.val % 11 ≠ 0 ∧ t.val % 11 ≠ 1) (xo : Vec F S1024x2048 .f32) (xs : Vec F S1024x2048 .bf16) (K : PUnit → sProp 𝕄) :
    iprop(insAt m c t ∗ owns (c : Thread nD τ) (ms11 t) fullShare xo ∗ owns (c : Thread nD τ) scM fullShare xs ∗ (iprop(insAt m c t ∗ owns (c : Thread nD τ) (ms11 t) fullShare (outC m c t h xo xs) ∗ owns (c : Thread nD τ) scM fullShare xs) -∗ K ⟨⟩))
    ⊢ wp frame (wpE (defs₀ (F := F)) Variants.none c none) Set.univ (bodyAt0 t) K := by
  refine BIBase.Entails.trans ?_ ((runC c (grid0.coords t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (isC t h).1 (isC t h).2.1 (isC t h).2.2.1 (isC t h).2.2.2 xo xs).2 Set.univ K)
  iintro ⟨Hi, Ho, Hs, Hk⟩
  isplitl [Hi]; · iexact Hi
  isplitl [Ho]; · iexact Ho
  isplitl [Hs]; · iexact Hs
  iintro ⟨Hi, Ho, Hs⟩
  iapply Hk
  isplitl [Hi]; · iexact Hi
  isplitl [Ho]
  · iapply (stored c (ms11 t) _ fun y => (storesC _ _ _ _ _ _ _ _ _ _ _ _ _ _ _ _ _ _ _ _ _ _ _ _ _ _ _ _ _ _ _ _ _ _ _ _ _ _ _ _ _ _).cover y (y 0).isLt)
    iexact Ho
  iexact Hs

theorem keyD (t : Fin cfg0.N) (h : t.val ≠ 0 ∧ t.val % 11 = 0) (xo : Vec F S1024x2048 .f32) (xs : Vec F S1024x2048 .bf16) (K : PUnit → sProp 𝕄) :
    iprop(insAt m c t ∗ owns (c : Thread nD τ) (ms11 t) fullShare xo ∗ owns (c : Thread nD τ) scM fullShare xs ∗ (iprop(insAt m c t ∗ owns (c : Thread nD τ) (ms11 t) fullShare (outD m c t h xo xs) ∗ owns (c : Thread nD τ) scM fullShare xs) -∗ K ⟨⟩))
    ⊢ wp frame (wpE (defs₀ (F := F)) Variants.none c none) Set.univ (bodyAt0 t) K := by
  refine BIBase.Entails.trans ?_ ((runD c (grid0.coords t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (isD t h).1 (isD t h).2.1 (isD t h).2.2.1 (isD t h).2.2.2 xo xs).2 Set.univ K)
  iintro ⟨Hi, Ho, Hs, Hk⟩
  isplitl [Hi]; · iexact Hi
  isplitl [Ho]; · iexact Ho
  isplitl [Hs]; · iexact Hs
  iintro ⟨Hi, Ho, Hs⟩
  iapply Hk
  isplitl [Hi]; · iexact Hi
  isplitl [Ho]
  · iapply (stored c (ms11 t) _ fun y => (storesD _ _ _ _ _ _ _ _ _ _ _ _ _ _ _ _ _ _ _ _ _ _ _ _ _ _ _ _ _ _ _ _ _ _ _ _ _ _ _ _ _ _).cover y (y 0).isLt)
    iexact Ho
  iexact Hs

/-- A block's first point, whatever the buffers held. -/
theorem firstAt (n : ℕ) (hn : n + 1 < cfg0.N) (hB : (n + 1) % 11 = 1) (K : PUnit → sProp 𝕄) :
    iprop(insAt m c ⟨n + 1, hn⟩ ∗ (∃ d, owns (c : Thread nD τ) (ms11 ⟨n + 1, hn⟩) fullShare d) ∗ (∃ d, owns (c : Thread nD τ) scM fullShare d)
      ∗ (iprop(insAt m c ⟨n + 1, hn⟩ ∗ owns (c : Thread nD τ) (ms11 ⟨n + 1, hn⟩) fullShare (st m c (n + 1) hn).1
        ∗ owns (c : Thread nD τ) scM fullShare (st m c (n + 1) hn).2) -∗ K ⟨⟩))
    ⊢ wp frame (wpE (defs₀ (F := F)) Variants.none c none) Set.univ (bodyAt0 ⟨n + 1, hn⟩) K := by
  have e := st_B m c n hn hB
  have e1 := congrArg Prod.fst e
  have e2 := congrArg Prod.snd e
  dsimp only at e1 e2
  rw [e1, e2]; exact keyB m c ⟨n + 1, hn⟩ hB K

/-- A later point of a block, from what the point before left. -/
theorem laterAt (k : ℕ) (hn : k + 1 + 1 < cfg0.N) (hB : (k + 1 + 1) % 11 ≠ 1) (K : PUnit → sProp 𝕄) :
    iprop(insAt m c ⟨k + 1 + 1, hn⟩ ∗ owns (c : Thread nD τ) (ms11 ⟨k + 1 + 1, hn⟩) fullShare (st m c (k + 1) (by omega)).1
      ∗ owns (c : Thread nD τ) scM fullShare (st m c (k + 1) (by omega)).2
      ∗ (iprop(insAt m c ⟨k + 1 + 1, hn⟩ ∗ owns (c : Thread nD τ) (ms11 ⟨k + 1 + 1, hn⟩) fullShare (st m c (k + 1 + 1) hn).1
        ∗ owns (c : Thread nD τ) scM fullShare (st m c (k + 1 + 1) hn).2) -∗ K ⟨⟩))
    ⊢ wp frame (wpE (defs₀ (F := F)) Variants.none c none) Set.univ (bodyAt0 ⟨k + 1 + 1, hn⟩) K := by
  by_cases hD : (k + 1 + 1) % 11 = 0
  · have e := st_D m c (k + 1) hn hD
    have e1 := congrArg Prod.fst e
    have e2 := congrArg Prod.snd e
    dsimp only at e1 e2
    rw [e1, e2]
    generalize st m c (k + 1) _ = S'
    exact keyD m c ⟨k + 1 + 1, hn⟩ ⟨Nat.succ_ne_zero _, hD⟩ S'.1 S'.2 K
  · have e := st_C m c (k + 1) hn ⟨by omega, hD, hB⟩
    have e1 := congrArg Prod.fst e
    have e2 := congrArg Prod.snd e
    dsimp only at e1 e2
    rw [e1, e2]
    generalize st m c (k + 1) _ = S'
    exact keyC m c ⟨k + 1 + 1, hn⟩ ⟨by show 1 < k + 1 + 1; omega, hD, hB⟩ S'.1 S'.2 K

/-- The body takes the point's buffers from the one state to the next. -/
theorem sound (t : Fin cfg0.N) :
    iprop(Phi m c t.val (Nat.le_of_lt t.isLt) ∗ (dats m 0 c).owesAt () t.castSucc ∗ insAt m c t
      ∗ (∃ d, owns (c : Thread nD τ) (ms11 t) fullShare ((dats m 0 c).before 10 t d)))
    ⊢ wp frame (wpE (defs₀ (F := F)) Variants.none c none) Set.univ (bodyAt0 t) (fun _ =>
      iprop(Phi m c (t.val + 1) t.isLt ∗ (dats m 0 c).owesAt () t.castSucc ∗ insAt m c t
      ∗ owns (c : Thread nD τ) (ms11 t) fullShare (st m c t.val t.isLt).1)) := by
  obtain ⟨n, hn⟩ := t
  rcases n with _ | n
  · show iprop(Phi m c 0 _ ∗ _) ⊢ wp _ _ _ _ (fun _ => iprop(Phi m c 1 _ ∗ _ ∗ _ ∗ owns _ _ _ (st m c 0 hn).1))
    rw [st_A m c hn]
    iintro ⟨HP, Hw, Hi, ⟨%d, Ho⟩⟩
    iapply (keyA m c ⟨0, hn⟩ rfl _)
    isplitl [Hi]; · iexact Hi
    isplitl [Ho]; · iexists _; iexact Ho
    iintro ⟨Hi, Ho⟩
    isplitl [HP]; · iexact HP
    isplitl [Hw]; · iexact Hw
    isplitl [Hi]; · iexact Hi
    iexact Ho
  by_cases hB : (n + 1) % 11 = 1
  · have key := firstAt m c n hn hB
    show iprop(Phi m c (n + 1) _ ∗ _) ⊢ wp _ _ _ _ (fun _ => iprop(Phi m c (n + 2) _ ∗ _ ∗ _ ∗ owns _ _ _ (st m c (n + 1) hn).1))
    rw [Phi_two]
    generalize st m c (n + 1) hn = S at key ⊢
    refine (sep_mono_left (Phi_any m c (n + 1) _)).trans ?_
    iintro ⟨⟨Hs, Hg⟩, Hw, Hi, ⟨%d, Ho⟩⟩
    iapply (key _)
    isplitl [Hi]; · iexact Hi
    isplitl [Ho]; · iexists _; iexact Ho
    isplitl [Hs]; · iexact Hs
    iintro ⟨Hi, Ho, Hs⟩
    isplitl [Hs Hg]
    · isplitl [Hs]; · iexact Hs
      iexact Hg
    isplitl [Hw]; · iexact Hw
    isplitl [Hi]; · iexact Hi
    iexact Ho
  obtain ⟨k, rfl⟩ : ∃ k, n = k + 1 := ⟨n - 1, by omega⟩
  have key := laterAt m c k hn hB
  have hb := before_out m c (k + 1) hn hB
  show iprop(Phi m c (k + 2) _ ∗ _) ⊢ wp _ _ _ _ (fun _ => iprop(Phi m c (k + 1 + 2) _ ∗ _ ∗ _ ∗ owns _ _ _ (st m c (k + 1 + 1) hn).1))
  rw [Phi_two, Phi_two]
  generalize st m c (k + 1 + 1) hn = S at key ⊢
  generalize st m c (k + 1) (by omega) = S' at key hb ⊢
  iintro ⟨⟨Hs, Hg⟩, Hw, Hi, ⟨%d, Ho⟩⟩
  rw [hb]
  iapply (key _)
  isplitl [Hi]; · iexact Hi
  isplitl [Ho]; · iexact Ho
  isplitl [Hs]; · iexact Hs
  iintro ⟨Hi, Ho, Hs⟩
  isplitl [Hs Hg]
  · isplitl [Hs]; · iexact Hs
    iexact Hg
  isplitl [Hw]; · iexact Hw
  isplitl [Hi]; · iexact Hi
  iexact Ho

/-! ## The launch -/

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row, show cfg0.idle 10 (cfg0.grid.coords t) = false from live _]
  exact triple_restated (sound m c t) rfl (gather m c t) fun _ => scatter m c t

theorem hin (c : Dev nD) : Pipeline.ΦA spec0 c ⊢ (dats m 0 c).Φ 0 := Entails.refl _

theorem hout (c : Dev nD) : (dats m 0 c).Φ (Fin.last cfg0.N) ⊢ Pipeline.ΦA spec0 c := by
  rw [show (dats m 0 c).Φ (Fin.last cfg0.N) = Phi m c cfg0.N (Nat.le_refl _) from rfl, PhiA_eq]; exact Phi_any m c _ _

set_option backward.isDefEq.respectTransparency.types false in
/-- Every run ends, with the arrays at what the proof data says and every semaphore at zero. -/
theorem run : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

end Cert.Kernel3Ideal.Ffn
-- ==== Proof.Ffn1Block.lean ====
/-
  What each case of the body leaves over the extended reals, entry by entry, as functions of the blocks it read.
-/
module

public import proofs.«01_k».proof.Proof.Ffn1Frame
public import proofs.«01_k».proof.Proof.FfnSpec

@[expose] public section
set_option maxRecDepth 16384
noncomputable section
open Idealize.ShloMosaic Idealize.ShloMosaic.TcCoe Idealize.SL.Sem
namespace Cert.Kernel3Ideal.Ffn
open Cert.Kernel3Ideal Cert.Kernel3Ideal.Gen Cert.Stores Cert.Spec

/-! ## The stored values -/

theorem pay4_apply (x : Vec Ideal S32x2048 .f32) (g sh sc : Vec Ideal S1x2048 .f32) (r : Fin 32) (k : Fin 2048) :
    k0_pay4 (F := Ideal) x (k0_pay3 g) sh sc (ix2 r k)
      = hrow (fun k => x (ix2 r k)) (fun k => g (ix2 0 k)) (fun k => sc (ix2 0 k)) (fun k => sh (ix2 0 k)) k := by
  pointwise [k0_pay4, k0_pay3]
  rfl

theorem pay87_apply (h : Vec Ideal S512x2048 .bf16) (wg wu : Vec Ideal S2048x512 .bf16) (wd : Vec Ideal S512x2048 .bf16) (r : Fin 512) (k : Fin 2048) :
    k0_pay87 (F := Ideal) h wg wu wd (ix2 r k) = part (fun i => h (ix2 r i)) wg wu wd k := by
  pointwise [k0_pay87]
  rfl

theorem pay90_apply (h : Vec Ideal S512x2048 .bf16) (wg wu : Vec Ideal S2048x512 .bf16) (wd : Vec Ideal S512x2048 .bf16) (acc : Vec Ideal S512x2048 .f32)
    (r : Fin 512) (k : Fin 2048) :
    k0_pay90 (F := Ideal) h wg wu wd acc (ix2 r k) = acc (ix2 r k) + part (fun i => h (ix2 r i)) wg wu wd k := by
  pointwise [k0_pay90]
  rfl

theorem pay93_apply (acc x : Vec Ideal S512x2048 .f32) (gate : Vec Ideal S1x2048 .f32) (r : Fin 512) (k : Fin 2048) :
    k0_pay93 (F := Ideal) acc x gate (ix2 r k) = x (ix2 r k) + Ideal.ofBits FTy.f32 1056964608#32 * gate (ix2 0 k) * acc (ix2 r k) := by
  pointwise [k0_pay93]

/-! ## A point's values -/

variable (m : (ℓ : Loc nD τ sig) → Buf (Elt Ideal) ℓ) (c : Dev nD)

theorem t_lt (t : Fin cfg0.N) : t.val < 78 := t.isLt

/-- The modulation row that a point takes. -/
abbrev sq (t : Fin cfg0.N) : Fin 8 := ⟨((t.val - 1) / 11 + 1) / 2, by have := t_lt t; omega⟩

theorem off1_eq : ∀ t : Fin cfg0.N, 1 ≤ t.val → k0_off1 (grid0.coords t) = ![((t.val - 1) / 11 + 1) / 2, 0] :=
  (by decide +kernel : ∀ t : Fin grid0.N, _)
theorem off2_eq : ∀ t : Fin cfg0.N, 1 ≤ t.val → k0_off2 (grid0.coords t) = ![((t.val - 1) / 11 + 1) / 2, 0] :=
  (by decide +kernel : ∀ t : Fin grid0.N, _)

/-- The blocks that a point reads. -/
abbrev b0 (t : Fin cfg0.N) : Vec Ideal S1024x2048 .f32 := iblk m c 0 t
abbrev b1 (t : Fin cfg0.N) : Vec Ideal S8x2048 .f32 := iblk m c 1 t
abbrev b2 (t : Fin cfg0.N) : Vec Ideal S8x2048 .f32 := iblk m c 2 t
abbrev b3 (t : Fin cfg0.N) : Vec Ideal S8x2048 .f32 := iblk m c 3 t
abbrev b4 (t : Fin cfg0.N) : Vec Ideal S1x2048 .f32 := iblk m c 4 t
abbrev b5 (t : Fin cfg0.N) : Vec Ideal S2048x512 .bf16 := iblk m c 5 t
abbrev b6 (t : Fin cfg0.N) : Vec Ideal S2048x512 .bf16 := iblk m c 6 t
abbrev b7 (t : Fin cfg0.N) : Vec Ideal S512x2048 .bf16 := iblk m c 7 t
abbrev b8 (t : Fin cfg0.N) : Vec Ideal S1x2048 .f32 := iblk m c 8 t
abbrev b9 (t : Fin cfg0.N) : Vec Ideal S1024x2048 .f32 := iblk m c 9 t

theorem outA_val (t : Fin cfg0.N) (h : t.val = 0) : outA m c t h = b9 m c t := by
  funext y
  unfold outA
  refine (storesA _ _ _ _ _ _ _ _ _ _ _ _ _ _ _ _ _ _ _ _ _ _ _ _ _ _ _ _ _ _ _ _ _ _ _ _ _ _ _ _).canon (b9 m c t) (fun a h x => ?_) y (y 0).isLt
  rw [ld_eq]

/-- The normalised rows of a point's block. -/
def hblk (t : Fin cfg0.N) (r : Fin 1024) : Fin 2048 → EReal :=
  hrow (fun k => b0 m c t (ix2 r k)) (fun k => b4 m c t (ix2 0 k)) (fun k => b2 m c t (ix2 (sq t) k)) (fun k => b1 m c t (ix2 (sq t) k))

theorem storesBs_val (t : Fin cfg0.N) (h : t.val % 11 = 1) : ∀ y : S1024x2048.Idx, scrB m c t h y = hblk m c t (y 0) (y 1) := fun y => by
  unfold scrB
  let G : Vec Ideal S1024x2048 .bf16 := fun y => hblk m c t (y 0) (y 1)
  refine (storesBs _ _ _ _ _ _ _ _ _ _ _ _ _ _ _ _ _ _ _ _ _ _ _ _ _ _ _ _ _ _ _ _ _ _ _ _ _ _ _ _).canon G (fun a h' x => ?_) y (y 0).isLt
  obtain ⟨r, k, rfl⟩ := ix_box x
  rw [box_emb]
  refine (pay4_apply _ _ _ _ r k).trans ?_
  show _ = hblk m c t ⟨a + r.val, fits_lt h' r⟩ k
  unfold hblk
  simp only [ld_box, ld_all]
  have ho := off1_eq t (by omega)
  refine congrArg₂ (fun f g => hrow _ _ f g k) (funext fun k => ?_) (funext fun k => ?_)
  · exact ld_mod _ _ _ _ _ (sq t) ho 0 k
  · exact ld_mod _ _ _ _ _ (sq t) ho 0 k

theorem scrB_val (t : Fin cfg0.N) (h : t.val % 11 = 1) (r : Fin 1024) (k : Fin 2048) : scrB m c t h (ix2 r k) = hblk m c t r k :=
  storesBs_val m c t h (ix2 r k)

/-- The product over the point's 512 hidden units. -/
abbrev prt (t : Fin cfg0.N) (h : Fin 2048 → EReal) : Fin 2048 → EReal := part h (b5 m c t) (b6 m c t) (b7 m c t)

theorem outB_val (t : Fin cfg0.N) (h : t.val % 11 = 1) (r : Fin 1024) (k : Fin 2048) :
    outB m c t h (ix2 r k) = prt m c t (hblk m c t r) k := by
  unfold outB
  let G : Vec Ideal S1024x2048 .f32 := fun y => prt m c t (hblk m c t (y 0)) (y 1)
  refine (storesB _ _ _ _ _ _ _ _ _ _ _ _ _ _ _ _ _ _ _ _ _ _ _ _ _ _ _ _ _ _ _ _ _ _ _ _ _ _ _ _).canon G (fun a h' x => ?_) (ix2 r k) r.isLt
  obtain ⟨r, k, rfl⟩ := ix_box x
  rw [box_emb]
  refine (pay87_apply _ _ _ _ r k).trans ?_
  simp only [ld_all]
  refine congrArg (fun f => part f _ _ _ k) (funext fun i => ?_)
  rw [View.readCov_eq_canon']
  refine Eq.trans ?_ (scrB_val m c t h ⟨a + r.val, fits_lt h' r⟩ i)
  exact congrArg (scrB m c t h) (box_emb h' r i)

theorem outC_val (t : Fin cfg0.N) (h : 1 < t.val ∧ t.val % 11 ≠ 0 ∧ t.val % 11 ≠ 1) (xo : Vec Ideal S1024x2048 .f32) (xs : Vec Ideal S1024x2048 .bf16) (r : Fin 1024) (k : Fin 2048) :
    outC m c t h xo xs (ix2 r k) = xo (ix2 r k) + prt m c t (fun i => xs (ix2 r i)) k := by
  unfold outC
  refine (storesC _ _ _ _ _ _ _ _ _ _ _ _ _ _ _ _ _ _ _ _ _ _ _ _ _ _ _ _ _ _ _ _ _ _ _ _ _ _ _ _ _ _).canon
    (fun y => xo (ix2 (y 0) (y 1)) + prt m c t (fun i => xs (ix2 (y 0) i)) (y 1)) (fun a h' x => ?_) (ix2 r k) r.isLt
  obtain ⟨r, k, rfl⟩ := ix_box x
  rw [box_emb]
  refine (pay90_apply _ _ _ _ _ r k).trans ?_
  simp only [ld_all, ld_box]
  rfl

theorem outD_val (t : Fin cfg0.N) (h : t.val ≠ 0 ∧ t.val % 11 = 0) (xo : Vec Ideal S1024x2048 .f32) (xs : Vec Ideal S1024x2048 .bf16) (r : Fin 1024) (k : Fin 2048) :
    outD m c t h xo xs (ix2 r k)
      = b0 m c t (ix2 r k) + Ideal.ofBits FTy.f32 1056964608#32 * b3 m c t (ix2 (sq t) k)
          * (xo (ix2 r k) + prt m c t (fun i => xs (ix2 r i)) k) := by
  unfold outD
  refine (storesD _ _ _ _ _ _ _ _ _ _ _ _ _ _ _ _ _ _ _ _ _ _ _ _ _ _ _ _ _ _ _ _ _ _ _ _ _ _ _ _ _ _).canon
    (fun y => b0 m c t (ix2 (y 0) (y 1)) + Ideal.ofBits FTy.f32 1056964608#32 * b3 m c t (ix2 (sq t) (y 1))
          * (xo (ix2 (y 0) (y 1)) + prt m c t (fun i => xs (ix2 (y 0) i)) (y 1))) (fun a h' x => ?_) (ix2 r k) r.isLt
  obtain ⟨r, k, rfl⟩ := ix_box x
  rw [box_emb]
  refine (pay93_apply _ _ _ r k).trans ?_
  rw [pay90_apply]
  simp only [ld_all, ld_box]
  refine congrArg (fun g : EReal => b0 m c t (ix2 ⟨a + r.val, fits_lt h' r⟩ k) + Ideal.ofBits FTy.f32 1056964608#32 * g
    * (xo (ix2 ⟨a + r.val, fits_lt h' r⟩ k) + prt m c t (fun i => xs (ix2 ⟨a + r.val, fits_lt h' r⟩ i)) k)) ?_
  exact ld_mod _ _ _ _ _ (sq t) (off2_eq t (by omega)) 0 k

end Cert.Kernel3Ideal.Ffn
-- ==== Proof.Ffn1Value.lean ====
/-
  The output array. Through the eleven points of a block the output's buffer gathers the hidden units' products, 512 at a
  time, over the normalised rows kept in scratch; the last point closes it. The array after the run is `out`.
-/
module

public import proofs.«01_k».proof.Proof.Ffn1Block
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
namespace Cert.Kernel3Ideal.Ffn
open Cert.Kernel3Ideal Cert.Kernel3Ideal.Gen Cert.Stores Cert.Spec

/-! ## The run, over any float values -/

/-- The run leaves the arguments as they were and every semaphore at zero. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run m ρ)))
    ((θ_run defs _ _).mono (fun _ h => h.2) (run m ρ))

/-! ## The blocks read, as entries of the arguments -/

variable (m : (ℓ : Loc nD τ sig) → Buf (Elt Ideal) ℓ) (c : Dev nD)

abbrev A0 : Vec Ideal S8192x2048 .f32 := m ((c : Thread nD τ).loc main_arg0)
abbrev A1 : Vec Ideal S2048 .f32 := m ((c : Thread nD τ).loc main_arg1)
abbrev A2 : Vec Ideal S136x18432 .f32 := m ((c : Thread nD τ).loc main_arg2)
abbrev A3 : Vec Ideal S2048x5632 .f32 := m ((c : Thread nD τ).loc main_arg3)
abbrev A4 : Vec Ideal S2048x5632 .f32 := m ((c : Thread nD τ).loc main_arg4)
abbrev A5 : Vec Ideal S5632x2048 .f32 := m ((c : Thread nD τ).loc main_arg5)
abbrev A7 : Vec Ideal S1024x2048 .f32 := m ((c : Thread nD τ).loc main_arg7)

/-- Every window's block index, at every grid point. -/
theorem idx : ∀ t : Fin cfg0.N, win0_0.index t = ![(t.val - 1) / 11 + 1, 0] ∧ win0_1.index t = ![16, 0] ∧ win0_2.index t = ![16, 1]
    ∧ win0_3.index t = ![16, 2] ∧ win0_4.index t = ![0, 0] ∧ win0_5.index t = ![0, (t.val - 1) % 11] ∧ win0_6.index t = ![0, (t.val - 1) % 11]
    ∧ win0_7.index t = ![(t.val - 1) % 11, 0] ∧ win0_8.index t = ![0, 0] ∧ win0_9.index t = ![0, 0] ∧ win0_10.index t = ![(t.val + 10) / 11, 0] :=
  (by decide +kernel : ∀ t : Fin grid0.N, _)

/-- The row of the arrays that row `r` of a point's block is. -/
abbrev rowAt (t : Fin cfg0.N) (r : Fin 1024) : Fin 8192 := ⟨((t.val - 1) / 11 + 1) * 1024 + r.val, by have := t_lt t; omega⟩
/-- The hidden unit that column `q` of a point's weights is. -/
abbrev unitAt (t : Fin cfg0.N) (q : Fin 512) : Fin 5632 := ⟨(t.val - 1) % 11 * 512 + q.val, by omega⟩

theorem b0_eq (t : Fin cfg0.N) (r : Fin 1024) (k : Fin 2048) : b0 m c t (ix2 r k) = A0 m c (ix2 (rowAt t r) k) := by
  blk_ext! [b0, iblk, V, idx t]
theorem b1_eq (t : Fin cfg0.N) (r : Fin 8) (k : Fin 2048) : b1 m c t (ix2 r k) = A2 m c (ix2 ⟨128 + r.val, by omega⟩ ⟨0 + k.val, by omega⟩) := by
  blk_ext! [b1, iblk, V, idx t]
theorem b2_eq (t : Fin cfg0.N) (r : Fin 8) (k : Fin 2048) : b2 m c t (ix2 r k) = A2 m c (ix2 ⟨128 + r.val, by omega⟩ ⟨2048 + k.val, by omega⟩) := by
  blk_ext! [b2, iblk, V, idx t]
theorem b3_eq (t : Fin cfg0.N) (r : Fin 8) (k : Fin 2048) : b3 m c t (ix2 r k) = A2 m c (ix2 ⟨128 + r.val, by omega⟩ ⟨4096 + k.val, by omega⟩) := by
  blk_ext! [b3, iblk, V, idx t]
theorem b4_eq (t : Fin cfg0.N) (k : Fin 2048) : b4 m c t (ix2 0 k) = A1 m c (ix1 k) := by
  blk_ext! [b4, iblk, V, idx t]
theorem b5_eq (t : Fin cfg0.N) (i : Fin 2048) (q : Fin 512) : b5 m c t (ix2 i q) = A3 m c (ix2 i (unitAt t q)) := by
  blk_ext! [b5, iblk, V, idx t]
theorem b6_eq (t : Fin cfg0.N) (i : Fin 2048) (q : Fin 512) : b6 m c t (ix2 i q) = A4 m c (ix2 i (unitAt t q)) := by
  blk_ext! [b6, iblk, V, idx t]
theorem b7_eq (t : Fin cfg0.N) (q : Fin 512) (k : Fin 2048) : b7 m c t (ix2 q k) = A5 m c (ix2 (unitAt t q) k) := by
  blk_ext! [b7, iblk, V, idx t]
theorem b9_eq (t : Fin cfg0.N) (r : Fin 1024) (k : Fin 2048) : b9 m c t (ix2 r k) = A7 m c (ix2 r k) := by
  blk_ext! [b9, iblk, V, idx t]

/-- The modulation rows are those of the row's sequence. -/
theorem sq_eq (t : Fin cfg0.N) (r : Fin 1024) : (sq t).val = (seqR (rowAt t r)).val := by
  show ((t.val - 1) / 11 + 1) / 2 = (((t.val - 1) / 11 + 1) * 1024 + r.val) / 2048
  omega

theorem mod_eq (t : Fin cfg0.N) (r : Fin 1024) (k : Fin 2048) : b1 m c t (ix2 (sq t) k) = modAt 0 (A2 m c) 0 (seqR (rowAt t r)) k
    ∧ b2 m c t (ix2 (sq t) k) = modAt 0 (A2 m c) 1 (seqR (rowAt t r)) k ∧ b3 m c t (ix2 (sq t) k) = modAt 0 (A2 m c) 2 (seqR (rowAt t r)) k := by
  have e := sq_eq t r
  rw [b1_eq, b2_eq, b3_eq]
  refine ⟨?_, ?_, ?_⟩ <;>
  · unfold modAt
    exact congrArg₂ (fun i j => A2 m c (ix2 i j)) (Fin.ext (congrArg (128 + ·) e)) (Fin.ext rfl)

/-- A row of the arrays, normalised. -/
abbrev hR (R : Fin 8192) : Fin 2048 → EReal := ffnIn 0 (A0 m c) (A1 m c) (A2 m c) R

theorem hblk_eq (t : Fin cfg0.N) (r : Fin 1024) : hblk m c t r = hR m c (rowAt t r) := by
  unfold hblk hR ffnIn
  have e0 : (fun k => b0 m c t (ix2 r k)) = fun k => A0 m c (ix2 (rowAt t r) k) := funext fun k => b0_eq m c t r k
  have e1 : (fun k => b4 m c t (ix2 0 k)) = fun k => A1 m c (ix1 k) := funext fun k => b4_eq m c t k
  have e2 : (fun k => b2 m c t (ix2 (sq t) k)) = modAt 0 (A2 m c) 1 (seqR (rowAt t r)) := funext fun k => (mod_eq m c t r k).2.1
  have e3 : (fun k => b1 m c t (ix2 (sq t) k)) = modAt 0 (A2 m c) 0 (seqR (rowAt t r)) := funext fun k => (mod_eq m c t r k).1
  rw [e0, e1, e2, e3]

/-! ## The hidden units, gathered -/

/-- Hidden unit `j`'s part of entry `k` of a row. -/
def term (R : Fin 8192) (k : Fin 2048) (j : ℕ) : EReal :=
  if h : j < 5632 then hid (hR m c R) (fun i => A3 m c (ix2 i ⟨j, h⟩)) (fun i => A4 m c (ix2 i ⟨j, h⟩)) * A5 m c (ix2 ⟨j, h⟩ k) else 0

theorem term_sum (R : Fin 8192) (k : Fin 2048) :
    ∑ j ∈ Finset.range 5632, term m c R k j = ffnSum 0 (A0 m c) (A1 m c) (A2 m c) (A3 m c) (A4 m c) (A5 m c) R k := by
  rw [Finset.sum_range]
  unfold ffnSum
  exact Finset.sum_congr rfl fun j _ => dif_pos j.isLt

theorem prt_eq (t : Fin cfg0.N) (R : Fin 8192) (k : Fin 2048) :
    prt m c t (hR m c R) k = ∑ q ∈ Finset.range 512, term m c R k ((t.val - 1) % 11 * 512 + q) := by
  rw [Finset.sum_range]
  unfold prt part
  refine Finset.sum_congr rfl fun q _ => ?_
  unfold term
  rw [dif_pos (by omega), b7_eq]
  simp only [b5_eq, b6_eq]

/-! What a point leaves, from what the point before left. -/

attribute [local irreducible] st outA outB outC outD scrB

theorem at_A (hn : 0 < cfg0.N) : (st m c 0 hn).1 = b9 m c ⟨0, hn⟩ :=
  (congrArg Prod.fst (st_A m c hn)).trans (outA_val m c ⟨0, hn⟩ rfl)

theorem at_B (n : ℕ) (hn : n + 1 < cfg0.N) (h : (n + 1) % 11 = 1) (r : Fin 1024) (k : Fin 2048) :
    (st m c (n + 1) hn).1 (ix2 r k) = prt m c ⟨n + 1, hn⟩ (hblk m c ⟨n + 1, hn⟩ r) k
    ∧ (st m c (n + 1) hn).2 (ix2 r k) = hblk m c ⟨n + 1, hn⟩ r k :=
  ⟨(congrFun (congrArg Prod.fst (st_B m c n hn h)) _).trans (outB_val m c ⟨n + 1, hn⟩ h r k),
    (congrFun (congrArg Prod.snd (st_B m c n hn h)) _).trans (scrB_val m c ⟨n + 1, hn⟩ h r k)⟩

theorem at_C (n : ℕ) (hn : n + 1 < cfg0.N) (h : 1 < n + 1 ∧ (n + 1) % 11 ≠ 0 ∧ (n + 1) % 11 ≠ 1) (r : Fin 1024) (k : Fin 2048) :
    (st m c (n + 1) hn).1 (ix2 r k) = (st m c n (by omega)).1 (ix2 r k) + prt m c ⟨n + 1, hn⟩ (fun i => (st m c n (by omega)).2 (ix2 r i)) k
    ∧ (st m c (n + 1) hn).2 (ix2 r k) = (st m c n (by omega)).2 (ix2 r k) :=
  ⟨(congrFun (congrArg Prod.fst (st_C m c n hn h)) _).trans (outC_val m c ⟨n + 1, hn⟩ h _ _ r k),
    congrFun (congrArg Prod.snd (st_C m c n hn h)) _⟩

theorem at_D (n : ℕ) (hn : n + 1 < cfg0.N) (h : (n + 1) % 11 = 0) (r : Fin 1024) (k : Fin 2048) :
    (st m c (n + 1) hn).1 (ix2 r k)
      = b0 m c ⟨n + 1, hn⟩ (ix2 r k) + Ideal.ofBits FTy.f32 1056964608#32 * b3 m c ⟨n + 1, hn⟩ (ix2 (sq ⟨n + 1, hn⟩) k)
          * ((st m c n (by omega)).1 (ix2 r k) + prt m c ⟨n + 1, hn⟩ (fun i => (st m c n (by omega)).2 (ix2 r i)) k) :=
  (congrFun (congrArg Prod.fst (st_D m c n hn h)) _).trans (outD_val m c ⟨n + 1, hn⟩ ⟨Nat.succ_ne_zero n, h⟩ _ _ r k)

/-- A later point's block has the rows of the point before. -/
theorem rowAt_succ (n : ℕ) (hn : n + 1 + 1 < cfg0.N) (h : (n + 1 + 1) % 11 ≠ 1) (r : Fin 1024) :
    rowAt ⟨n + 1, Nat.lt_of_succ_lt hn⟩ r = rowAt ⟨n + 1 + 1, hn⟩ r := Fin.ext (by
  show (n / 11 + 1) * 1024 + r.val = ((n + 1) / 11 + 1) * 1024 + r.val
  omega)

/-- A point's part is added to the sum before it. -/
theorem sum_succ (n : ℕ) (hn : n + 1 + 1 < cfg0.N) (h : (n + 1 + 1) % 11 ≠ 1) (R : Fin 8192) (k : Fin 2048) :
    ∑ q ∈ Finset.range ((n % 11 + 1) * 512), term m c R k q + prt m c ⟨n + 1 + 1, hn⟩ (hR m c R) k
      = ∑ q ∈ Finset.range (((n + 1) % 11 + 1) * 512), term m c R k q := by
  rw [prt_eq, show ((n + 1) % 11 + 1) * 512 = (n % 11 + 1) * 512 + 512 by omega, Finset.sum_range_add]
  refine congrArg (_ + ·) (Finset.sum_congr rfl fun q _ => congrArg _ ?_)
  show (n + 1) % 11 * 512 + q = (n % 11 + 1) * 512 + q
  omega

/-- A block's first point: its part is the whole sum. -/
theorem sum_first (n : ℕ) (hn : n + 1 < cfg0.N) (h : (n + 1) % 11 = 1) (R : Fin 8192) (k : Fin 2048) :
    prt m c ⟨n + 1, hn⟩ (hR m c R) k = ∑ q ∈ Finset.range ((n % 11 + 1) * 512), term m c R k q := by
  rw [prt_eq, show n % 11 = 0 by omega]
  refine Finset.sum_congr rfl fun q _ => congrArg _ ?_
  show n % 11 * 512 + q = q
  omega

/-- Before a block's last point: the sums so far, and the normalised rows. -/
theorem gathered : ∀ (n : ℕ) (hn : n + 1 < cfg0.N) (_ : (n + 1) % 11 ≠ 0) (r : Fin 1024) (k : Fin 2048),
    (st m c (n + 1) hn).1 (ix2 r k) = ∑ q ∈ Finset.range ((n % 11 + 1) * 512), term m c (rowAt ⟨n + 1, hn⟩ r) k q
    ∧ (st m c (n + 1) hn).2 (ix2 r k) = hR m c (rowAt ⟨n + 1, hn⟩ r) k := by
  intro n
  induction n with
  | zero =>
    intro hn _ r k
    obtain ⟨e1, e2⟩ := at_B m c 0 hn rfl r k
    rw [e1, e2, hblk_eq, sum_first m c 0 hn rfl]
    exact ⟨rfl, rfl⟩
  | succ n ih =>
    intro hn h r k
    by_cases hB : (n + 1 + 1) % 11 = 1
    · obtain ⟨e1, e2⟩ := at_B m c (n + 1) hn hB r k
      rw [e1, e2, hblk_eq, sum_first m c (n + 1) hn hB]
      exact ⟨rfl, rfl⟩
    · obtain ⟨e1, e2⟩ := at_C m c (n + 1) hn ⟨by omega, h, hB⟩ r k
      have i := ih (by omega) (by omega) r
      rw [rowAt_succ n hn hB r] at i
      refine ⟨?_, e2.trans (i k).2⟩
      rw [e1, (i k).1, funext fun j => (i j).2]
      exact sum_succ m c n hn hB _ k

/-- A block's last point leaves the result's rows. -/
theorem closed (n : ℕ) (hn : n + 1 + 1 < cfg0.N) (hD : (n + 1 + 1) % 11 = 0) (r : Fin 1024) (k : Fin 2048) :
    (st m c (n + 1 + 1) hn).1 (ix2 r k)
      = ffnRes 0 (A0 m c) (A1 m c) (A2 m c) (A3 m c) (A4 m c) (A5 m c) (rowAt ⟨n + 1 + 1, hn⟩ r) k := by
  have i := gathered m c n (by omega) (by omega) r
  rw [rowAt_succ n hn (by omega) r] at i
  rw [at_D m c (n + 1) hn hD r k]
  unfold ffnRes
  rw [b0_eq, (mod_eq m c _ r k).2.2, (i k).1, funext fun j => (i j).2, sum_succ m c n hn (by omega), ← term_sum,
    show ((n + 1) % 11 + 1) * 512 = 5632 by omega]

/-! ## The array -/

/-- The result: the first rows as given, the others computed. -/
def out : Vec Ideal S8192x2048 .f32 := fun i =>
  if h : (i 0).val < 1024 then A7 m c (ix2 ⟨(i 0).val, h⟩ (i 1))
  else ffnRes 0 (A0 m c) (A1 m c) (A2 m c) (A3 m c) (A4 m c) (A5 m c) (i 0) (i 1)

theorem st_out : ∀ (n : ℕ) (hn : n < cfg0.N) (_ : n % 11 = 0) (r : Fin 1024) (k : Fin 2048),
    (st m c n hn).1 (ix2 r k) = out m c (ix2 ⟨(n + 10) / 11 * 1024 + r.val, by have := t_lt ⟨n, hn⟩; simp only at this; omega⟩ k)
  | 0, hn, _, r, k => by
    rw [congrFun (at_A m c hn) (ix2 r k), b9_eq]
    unfold out
    rw [dif_pos (by show (0 + 10) / 11 * 1024 + r.val < 1024; omega)]
    exact congrArg (fun i => A7 m c (ix2 i k)) (Fin.ext (by show r.val = (0 + 10) / 11 * 1024 + r.val; omega))
  | 1, _, hf, _, _ => absurd hf (by decide)
  | n + 2, hn, hf, r, k => by
    rw [closed m c n hn hf r k]
    unfold out
    rw [dif_neg (by show ¬(n + 2 + 10) / 11 * 1024 + r.val < 1024; omega)]
    refine congrArg (fun R => ffnRes 0 (A0 m c) (A1 m c) (A2 m c) (A3 m c) (A4 m c) (A5 m c) R k) (Fin.ext ?_)
    show ((n + 1) / 11 + 1) * 1024 + r.val = (n + 2 + 10) / 11 * 1024 + r.val
    omega

/-- The output window's blocks, as rows of the array. -/
theorem blk_row (t : Fin cfg0.N) (hf : t.val % 11 = 0) (r : Fin 1024) (k : Fin 2048) :
    (win0_10.blk t).view.emb (ix2 r k) = ix2 ⟨(t.val + 10) / 11 * 1024 + r.val, by have := t_lt t; omega⟩ k := by
  blk_ext! [idx t]

theorem final : (dats m 0 c).arrAt 10 cfg0.N = out m c := by
  refine (dats m 0 c).arrAt_eq_of_covers 10 (out m c) (by decide +kernel) fun t hf y => ?_
  have hf' := (flush_iff t).mp hf
  blk_simp
  have e : (dats m 0 c).after 10 t = (st m c t.val t.isLt).1 := rfl
  rw [e]
  have hy : y = ix2 (n0 := 1024) (n1 := 2048) (y 0) (y 1) := eq_ix2 y
  rw [hy]
  refine (st_out m c t.val t.isLt hf' (y 0) (y 1)).trans (congrArg (out m c) (blk_row t hf' (y 0) (y 1)).symm)

/-- The program ends with `out` in its result, the arguments unchanged. -/
theorem value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v5) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1.1 c).1 10).trans (final m c), h.2.1 c⟩) (θ_run_and (run m ρ) (frame m ρ))

end Cert.Kernel3Ideal.Ffn
-- ==== Proof.MixRef.lean ====
/-
  The reference of the decoding step, entry by entry.
-/
module

public import proofs.«01_k».proof.Proof.Gen.Reference4Ideal.Read
public import Idealize.ShloMosaic.Lib.Pipeline.ValueKit

@[expose] public section
noncomputable section
namespace Cert.Reference4Ideal.Read
open Idealize.ShloMosaic Idealize.ShloMosaic.TcCoe Idealize.SL.Sem
open Cert.Reference4Ideal Cert.Reference4Ideal.Gen

variable (x3 : (⟨S128x2048, .f32⟩ : BufTy).Contents (Elt Ideal)) (x4 x5 : (⟨S128x64x64, .f32⟩ : BufTy).Contents (Elt Ideal))
  (x6 : (⟨S128x15x1024, .f32⟩ : BufTy).Contents (Elt Ideal)) (x7 x8 : (⟨S64x64, .f32⟩ : BufTy).Contents (Elt Ideal))
  (x9 : (⟨S64, .f32⟩ : BufTy).Contents (Elt Ideal)) (x10 x11 : (⟨S64x64x16, .f32⟩ : BufTy).Contents (Elt Ideal))

/-- A group's features. -/
theorem feat_apply (r : Fin 128) (g : Fin 64) (p : Fin 16) : val_main_v41 (F := Ideal) x3 (ix3 r g p) = x3 (ix2 r ⟨16 * g.val + p.val, by omega⟩) := by
  rw [val_main_v41_apply, val_main_v40_apply]
  refine congrArg x3 (funext fun a => ?_)
  match a with
  | ⟨0, _⟩ => exact Fin.ext (by show ((r.val * 64 + g.val) * 16 + p.val) / 1024 = r.val; omega)
  | ⟨1, _⟩ => exact Fin.ext (by show ((r.val * 64 + g.val) * 16 + p.val) % 1024 = 16 * g.val + p.val; omega)

theorem driveRe (r : Fin 128) (g n : Fin 64) : val_main_v52 (F := Ideal) x3 x7 x8 x9 x10 x11 (ix3 r g n)
    = ∑ p : Fin 16, x3 (ix2 r ⟨16 * g.val + p.val, by omega⟩) * val_main_v32 (F := Ideal) x7 x8 x9 x10 x11 (ix3 g n p) := by
  rw [val_main_v52_apply, val_main_v51_apply]
  refine Finset.sum_congr rfl fun p _ => (mul_comm _ _).trans ?_
  exact congrArg₂ (· * ·) ((congrArg _ (eq_ix3 _)).trans (feat_apply x3 r g p)) (congrArg _ (eq_ix3 _))
theorem driveIm (r : Fin 128) (g n : Fin 64) : val_main_v62 (F := Ideal) x3 x7 x8 x9 x10 x11 (ix3 r g n)
    = ∑ p : Fin 16, x3 (ix2 r ⟨16 * g.val + p.val, by omega⟩) * val_main_v39 (F := Ideal) x7 x8 x9 x10 x11 (ix3 g n p) := by
  rw [val_main_v62_apply, val_main_v61_apply]
  refine Finset.sum_congr rfl fun p _ => (mul_comm _ _).trans ?_
  exact congrArg₂ (· * ·) ((congrArg _ (eq_ix3 _)).trans (feat_apply x3 r g p)) (congrArg _ (eq_ix3 _))

theorem idx_flat (r : Fin 128) (j : Fin 4096) : idx_main_v66 (ix2 r j) = ix3 r ⟨j.val / 64, by omega⟩ ⟨j.val % 64, by omega⟩ := by
  funext a
  match a with
  | ⟨0, _⟩ => exact Fin.ext (by show (r.val * 4096 + j.val) / 4096 = r.val; omega)
  | ⟨1, _⟩ => exact Fin.ext (by show (r.val * 4096 + j.val) / 64 % 64 = j.val / 64; omega)
  | ⟨2, _⟩ => exact Fin.ext (by show (r.val * 4096 + j.val) % 64 = j.val % 64; omega)

theorem re_apply (r : Fin 128) (g n : Fin 64) : val_main_v53 (F := Ideal) x3 x4 x5 x7 x8 x9 x10 x11 (ix3 r g n)
    = (val_main_v10 (F := Ideal) x7 x8 x9 (ix2 g n) * x4 (ix3 r g n) - val_main_v12 (F := Ideal) x7 x8 x9 (ix2 g n) * x5 (ix3 r g n))
      + ∑ p : Fin 16, x3 (ix2 r ⟨16 * g.val + p.val, by omega⟩) * val_main_v32 (F := Ideal) x7 x8 x9 x10 x11 (ix3 g n p) := by
  rw [val_main_v53_apply, driveRe, val_main_v50_apply, val_main_v46_apply, val_main_v49_apply, val_main_v45_apply, val_main_v44_apply,
    val_main_v48_apply, val_main_v47_apply, eq_ix2 (idx_main_v44 _), eq_ix2 (idx_main_v47 _)]
  rfl
theorem im_apply (r : Fin 128) (g n : Fin 64) : val_main_v63 (F := Ideal) x3 x4 x5 x7 x8 x9 x10 x11 (ix3 r g n)
    = (val_main_v10 (F := Ideal) x7 x8 x9 (ix2 g n) * x5 (ix3 r g n) + val_main_v12 (F := Ideal) x7 x8 x9 (ix2 g n) * x4 (ix3 r g n))
      + ∑ p : Fin 16, x3 (ix2 r ⟨16 * g.val + p.val, by omega⟩) * val_main_v39 (F := Ideal) x7 x8 x9 x10 x11 (ix3 g n p) := by
  rw [val_main_v63_apply, driveIm, val_main_v60_apply, val_main_v56_apply, val_main_v59_apply, val_main_v55_apply, val_main_v54_apply,
    val_main_v58_apply, val_main_v57_apply, eq_ix2 (idx_main_v54 _), eq_ix2 (idx_main_v57 _)]
  rfl

/-- The new history: the rows after the first, and the pooling half of the features last. -/
theorem hist_early (s : Fin 14) (r : Fin 128) (k : Fin 1024) :
    val_main_v68 (F := Ideal) x3 x6 (ix3 ⟨s.val, by omega⟩ r k) = x6 (ix3 r ⟨s.val + 1, by omega⟩ k) := by
  rw [val_main_v68_apply, val_main_v65_apply]
  unfold val_main_v64
  refine concatenate_pair_apply_left (s₁ := S128x15x1024) (s₂ := S128x1x1024) (t := S128x16x1024) 1 x6 (val_main_v43 (F := Ideal) x3)
    concatenates_S128x15x1024_S128x1x1024_S128x16x1024_d1 _ rfl (ix3 r ⟨s.val + 1, by omega⟩ k) fun b => ?_
  match b with
  | ⟨0, _⟩ => rfl
  | ⟨1, _⟩ => exact Nat.add_comm s.val 1
  | ⟨2, _⟩ => rfl
theorem hist_newest (r : Fin 128) (k : Fin 1024) : val_main_v68 (F := Ideal) x3 x6 (ix3 14 r k) = x3 (ix2 r ⟨1024 + k.val, by omega⟩) := by
  rw [val_main_v68_apply, val_main_v65_apply]
  unfold val_main_v64
  refine (concatenate_pair_apply_right (s₁ := S128x15x1024) (s₂ := S128x1x1024) (t := S128x16x1024) 1 x6 (val_main_v43 (F := Ideal) x3)
    concatenates_S128x15x1024_S128x1x1024_S128x16x1024_d1 _ rfl rfl (ix3 r 0 k) (fun b hb => ?_) rfl).trans ?_
  · match b, hb with
    | ⟨0, _⟩, _ => rfl
    | ⟨1, _⟩, h => exact absurd rfl h
    | ⟨2, _⟩, _ => rfl
  · rw [val_main_v43_apply, val_main_v42_apply]
    exact congrArg x3 (eq_ix2 _)

end Cert.Reference4Ideal.Read
-- ==== Proof.MixSame.lean ====
/-
  The decoding step's kernel program and its ideal program are one text.
-/
module

public import proofs.«01_k».proof.Defs
public import proofs.«01_k».proof.Proof.Gen.Kernel4
public import proofs.«01_k».proof.Proof.Gen.Kernel4Ideal
public import Idealize.ShloMosaic.Lib.Claim

@[expose] public section
set_option maxRecDepth 16384
noncomputable section
namespace Cert.Proof
open Idealize.ShloMosaic Idealize.SL.Sem

set_option maxHeartbeats 8000000 in
/-- The kernel functions are the same, by label. -/
theorem defs_eq4 : Cert.Kernel4Ideal.defs (F := Bits) = Cert.Kernel4.defs (F := Bits) :=
  congrArg (Pipeline.defs Cert.Kernel4.pcfgs) (congrArg Defs.onTc (funext fun p => funext fun a => match p, a with
    | 0, (_, _) => rfl))

end Cert.Proof
-- ==== Proof.MixRun.lean ====
/-
  The sample group's mixer, one grid point at a time. The first point takes the decoding step: it stores the new state of
  the recurrence, the new pooling history and, in scratch, the two mixers' outputs. Each point then casts its columns of
  the output projection and stores their products. Each run names what is stored, as lists of stores; the values may be of
  any float type.
-/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Tactic

@[expose] public section
set_option maxRecDepth 16384
noncomputable section
namespace Cert.Kernel4Ideal.Mix
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal Cert.Kernel4Ideal.Gen

variable {F : FTy → Type} [FloatOps F]
local notation "𝕄" => MT nD τ sig Unit (Elt F) ℕ (UR sig nD τ) ℕ

/-- The condition of the decoding step, and the point that meets it. -/
abbrev cond (i : grid0.Coords) : Prop := k0_cond1 i = 1#1
theorem cond_iff : ∀ t : Fin cfg0.N, cond (grid0.coords t) ↔ t.val = 0 := (by decide +kernel : ∀ t : Fin grid0.N, _)

variable (c : Dev nD) (i : grid0.Coords)
variable (a1 : Memref sig .tc .vmem S128x1024 .f32) (h1 : a1.IsWhole)
variable (a2 : Memref sig .tc .vmem S128x1024 .f32) (h2 : a2.IsWhole)
variable (a3 : Memref sig .tc .vmem S2048x1024 .f32) (h3 : a3.IsWhole)
variable (a4 : Memref sig .tc .vmem S128x2048 .f32) (h4 : a4.IsWhole)
variable (a5 : Memref sig .tc .vmem S128x4096 .f32) (h5 : a5.IsWhole)
variable (a6 : Memref sig .tc .vmem S128x4096 .f32) (h6 : a6.IsWhole)
variable (a7 : Memref sig .tc .vmem S8x128x1024 .bf16) (h7 : a7.IsWhole)
variable (a8 : Memref sig .tc .vmem S8x1024x128 .bf16) (h8 : a8.IsWhole)
variable (a9 : Memref sig .tc .vmem S8x4x512 .f32) (h9 : a9.IsWhole)
variable (a10 : Memref sig .tc .vmem S8x1x128 .f32) (h10 : a10.IsWhole)
variable (a11 : Memref sig .tc .vmem S8x128x128 .bf16) (h11 : a11.IsWhole)
variable (a12 : Memref sig .tc .vmem S8x1x128 .f32) (h12 : a12.IsWhole)
variable (a13 : Memref sig .tc .vmem S15x128x1024 .f32) (h13 : a13.IsWhole)
variable (a14 : Memref sig .tc .vmem S4x256x256 .bf16) (h14 : a14.IsWhole)
variable (a15 : Memref sig .tc .vmem S1x1024 .f32) (h15 : a15.IsWhole)
variable (a16 : Memref sig .tc .vmem S1x1024 .f32) (h16 : a16.IsWhole)
variable (a17 : Memref sig .tc .vmem S128x1024 .f32) (h17 : a17.IsWhole)
variable (a18 : Memref sig .tc .vmem S2048x1024 .bf16) (h18 : a18.IsWhole)
variable (a19 : Memref sig .tc .vmem S128x4096 .f32) (h19 : a19.IsWhole)
variable (a20 : Memref sig .tc .vmem S128x4096 .f32) (h20 : a20.IsWhole)
variable (a21 : Memref sig .tc .vmem S15x128x1024 .f32) (h21 : a21.IsWhole)
variable (a22 : Memref sig .tc .vmem S128x1024 .bf16) (h22 : a22.IsWhole)
variable (a23 : Memref sig .tc .vmem S128x1024 .bf16) (h23 : a23.IsWhole)
variable (x1 : Vec F S128x1024 .f32)
variable (x2 : Vec F S128x1024 .f32)
variable (x3 : Vec F S2048x1024 .f32)
variable (x4 : Vec F S128x2048 .f32)
variable (x5 : Vec F S128x4096 .f32)
variable (x6 : Vec F S128x4096 .f32)
variable (x7 : Vec F S8x128x1024 .bf16)
variable (x8 : Vec F S8x1024x128 .bf16)
variable (x9 : Vec F S8x4x512 .f32)
variable (x10 : Vec F S8x1x128 .f32)
variable (x11 : Vec F S8x128x128 .bf16)
variable (x12 : Vec F S8x1x128 .f32)
variable (x13 : Vec F S15x128x1024 .f32)
variable (x14 : Vec F S4x256x256 .bf16)
variable (x15 : Vec F S1x1024 .f32)
variable (x16 : Vec F S1x1024 .f32)

/-- The staging buffers of the inputs, holding `x1 …`. -/
def ins : sProp 𝕄 :=
  iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16)

set_option maxHeartbeats 8000000 in
/-- The decoding step, and the first columns of the products. -/
noncomputable def runA (hc : cond i) :
    Σ' (L17 : List (View.Piece (Elt F) S128x1024 .f32)), Σ' (L18 : List (View.Piece (Elt F) S2048x1024 .bf16)), Σ' (L19 : List (View.Piece (Elt F) S128x4096 .f32)), Σ' (L20 : List (View.Piece (Elt F) S128x4096 .f32)), Σ' (L21 : List (View.Piece (Elt F) S15x128x1024 .f32)), Σ' (L22 : List (View.Piece (Elt F) S128x1024 .bf16)), { L23 : List (View.Piece (Elt F) S128x1024 .bf16) //
      ∀ (E : Set ℕ) (K : PUnit → sProp 𝕄),
        iprop(ins c a1 a2 a3 a4 a5 a6 a7 a8 a9 a10 a11 a12 a13 a14 a15 a16 x1 x2 x3 x4 x5 x6 x7 x8 x9 x10 x11 x12 x13 x14 x15 x16 ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d) ∗ (∃ d, owns (c : Thread nD τ) a21 fullShare d) ∗ (∃ d, owns (c : Thread nD τ) a22 fullShare d) ∗ (∃ d, owns (c : Thread nD τ) a23 fullShare d)
            ∗ (iprop(ins c a1 a2 a3 a4 a5 a6 a7 a8 a9 a10 a11 a12 a13 a14 a15 a16 x1 x2 x3 x4 x5 x6 x7 x8 x9 x10 x11 x12 x13 x14 x15 x16 ∗ (∃ f, a17.view.loc (c : Thread nD τ) ↦[a17.view.set]{fullShare} a17.view.writes (Elt F) f L17) ∗ (∃ f, a18.view.loc (c : Thread nD τ) ↦[a18.view.set]{fullShare} a18.view.writes (Elt F) f L18) ∗ (∃ f, a19.view.loc (c : Thread nD τ) ↦[a19.view.set]{fullShare} a19.view.writes (Elt F) f L19) ∗ (∃ f, a20.view.loc (c : Thread nD τ) ↦[a20.view.set]{fullShare} a20.view.writes (Elt F) f L20) ∗ (∃ f, a21.view.loc (c : Thread nD τ) ↦[a21.view.set]{fullShare} a21.view.writes (Elt F) f L21) ∗ (∃ f, a22.view.loc (c : Thread nD τ) ↦[a22.view.set]{fullShare} a22.view.writes (Elt F) f L22) ∗ (∃ f, a23.view.loc (c : Thread nD τ) ↦[a23.view.set]{fullShare} a23.view.writes (Elt F) f L23)) -∗ K ⟨⟩))
          ⊢ wp frame (wpE (defs₀ (F := F)) Variants.none c none) E (cc0_mixer_sample i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23) K } := by
  refine ⟨?_, ?_, ?_, ?_, ?_, ?_, ?_, fun E K => ?run⟩
  case run =>
    simp only [cc0_mixer_sample_eq_skeleton]; unfold cc0_mixer_sample_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold ins owns
    iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩, ⟨%_, %f17, -, H17⟩, ⟨%_, %f18, -, H18⟩, ⟨%_, %f19, -, H19⟩, ⟨%_, %f20, -, H20⟩, ⟨%_, %f21, -, H21⟩, ⟨%_, %f22, -, H22⟩, ⟨%_, %f23, -, H23⟩, Hk⟩
    obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12; obtain rfl := h13.eq_unread e13; obtain rfl := h14.eq_unread e14; obtain rfl := h15.eq_unread e15; obtain rfl := h16.eq_unread e16
    sl_exec (disch := first | sl_exact hc)
    sl_step
    iapply Hk
    isplitl [H1 H2 H3 H4 H5 H6 H7 H8 H9 H10 H11 H12 H13 H14 H15 H16]
    · isplitl [H1]; · iexists _; isplitr; (· ipureintro; exact h1.read_unread _); iexact H1
      isplitl [H2]; · iexists _; isplitr; (· ipureintro; exact h2.read_unread _); iexact H2
      isplitl [H3]; · iexists _; isplitr; (· ipureintro; exact h3.read_unread _); iexact H3
      isplitl [H4]; · iexists _; isplitr; (· ipureintro; exact h4.read_unread _); iexact H4
      isplitl [H5]; · iexists _; isplitr; (· ipureintro; exact h5.read_unread _); iexact H5
      isplitl [H6]; · iexists _; isplitr; (· ipureintro; exact h6.read_unread _); iexact H6
      isplitl [H7]; · iexists _; isplitr; (· ipureintro; exact h7.read_unread _); iexact H7
      isplitl [H8]; · iexists _; isplitr; (· ipureintro; exact h8.read_unread _); iexact H8
      isplitl [H9]; · iexists _; isplitr; (· ipureintro; exact h9.read_unread _); iexact H9
      isplitl [H10]; · iexists _; isplitr; (· ipureintro; exact h10.read_unread _); iexact H10
      isplitl [H11]; · iexists _; isplitr; (· ipureintro; exact h11.read_unread _); iexact H11
      isplitl [H12]; · iexists _; isplitr; (· ipureintro; exact h12.read_unread _); iexact H12
      isplitl [H13]; · iexists _; isplitr; (· ipureintro; exact h13.read_unread _); iexact H13
      isplitl [H14]; · iexists _; isplitr; (· ipureintro; exact h14.read_unread _); iexact H14
      isplitl [H15]; · iexists _; isplitr; (· ipureintro; exact h15.read_unread _); iexact H15
      iexists _; isplitr; (· ipureintro; exact h16.read_unread _); iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iexists _; iexact H23

set_option maxHeartbeats 8000000 in
/-- The other columns of the products, from what scratch holds. -/
noncomputable def runB (hc : ¬cond i) (x22 : Vec F S128x1024 .bf16) (x23 : Vec F S128x1024 .bf16) :
    Σ' (L17 : List (View.Piece (Elt F) S128x1024 .f32)), { L18 : List (View.Piece (Elt F) S2048x1024 .bf16) //
      ∀ (E : Set ℕ) (K : PUnit → sProp 𝕄),
        iprop(ins c a1 a2 a3 a4 a5 a6 a7 a8 a9 a10 a11 a12 a13 a14 a15 a16 x1 x2 x3 x4 x5 x6 x7 x8 x9 x10 x11 x12 x13 x14 x15 x16 ∗ (∃ d, owns (c : Thread nD τ) a17 fullShare d) ∗ (∃ d, owns (c : Thread nD τ) a18 fullShare d) ∗ owns (c : Thread nD τ) a22 fullShare x22 ∗ owns (c : Thread nD τ) a23 fullShare x23
            ∗ (iprop(ins c a1 a2 a3 a4 a5 a6 a7 a8 a9 a10 a11 a12 a13 a14 a15 a16 x1 x2 x3 x4 x5 x6 x7 x8 x9 x10 x11 x12 x13 x14 x15 x16 ∗ (∃ f, a17.view.loc (c : Thread nD τ) ↦[a17.view.set]{fullShare} a17.view.writes (Elt F) f L17) ∗ (∃ f, a18.view.loc (c : Thread nD τ) ↦[a18.view.set]{fullShare} a18.view.writes (Elt F) f L18) ∗ owns (c : Thread nD τ) a22 fullShare x22 ∗ owns (c : Thread nD τ) a23 fullShare x23) -∗ K ⟨⟩))
          ⊢ wp frame (wpE (defs₀ (F := F)) Variants.none c none) E (cc0_mixer_sample i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23) K } := by
  refine ⟨?_, ?_, fun E K => ?run⟩
  case run =>
    simp only [cc0_mixer_sample_eq_skeleton]; unfold cc0_mixer_sample_skel
    unfold ins owns
    iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩, ⟨%_, %f17, -, H17⟩, ⟨%_, %f18, -, H18⟩, ⟨%f22, %e22, H22⟩, ⟨%f23, %e23, H23⟩, Hk⟩
    obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12; obtain rfl := h13.eq_unread e13; obtain rfl := h14.eq_unread e14; obtain rfl := h15.eq_unread e15; obtain rfl := h16.eq_unread e16; obtain rfl := h22.eq_unread e22; obtain rfl := h23.eq_unread e23
    sl_exec (disch := first | sl_exact hc)
    sl_step
    iapply Hk
    isplitl [H1 H2 H3 H4 H5 H6 H7 H8 H9 H10 H11 H12 H13 H14 H15 H16]
    · isplitl [H1]; · iexists _; isplitr; (· ipureintro; exact h1.read_unread _); iexact H1
      isplitl [H2]; · iexists _; isplitr; (· ipureintro; exact h2.read_unread _); iexact H2
      isplitl [H3]; · iexists _; isplitr; (· ipureintro; exact h3.read_unread _); iexact H3
      isplitl [H4]; · iexists _; isplitr; (· ipureintro; exact h4.read_unread _); iexact H4
      isplitl [H5]; · iexists _; isplitr; (· ipureintro; exact h5.read_unread _); iexact H5
      isplitl [H6]; · iexists _; isplitr; (· ipureintro; exact h6.read_unread _); iexact H6
      isplitl [H7]; · iexists _; isplitr; (· ipureintro; exact h7.read_unread _); iexact H7
      isplitl [H8]; · iexists _; isplitr; (· ipureintro; exact h8.read_unread _); iexact H8
      isplitl [H9]; · iexists _; isplitr; (· ipureintro; exact h9.read_unread _); iexact H9
      isplitl [H10]; · iexists _; isplitr; (· ipureintro; exact h10.read_unread _); iexact H10
      isplitl [H11]; · iexists _; isplitr; (· ipureintro; exact h11.read_unread _); iexact H11
      isplitl [H12]; · iexists _; isplitr; (· ipureintro; exact h12.read_unread _); iexact H12
      isplitl [H13]; · iexists _; isplitr; (· ipureintro; exact h13.read_unread _); iexact H13
      isplitl [H14]; · iexists _; isplitr; (· ipureintro; exact h14.read_unread _); iexact H14
      isplitl [H15]; · iexists _; isplitr; (· ipureintro; exact h15.read_unread _); iexact H15
      iexists _; isplitr; (· ipureintro; exact h16.read_unread _); iexact H16
    isplitl [H17]; · iexists _; iexact H17
    isplitl [H18]; · iexists _; iexact H18
    isplitl [H22]; · iexists _; isplitr; (· ipureintro; exact h22.read_unread _); iexact H22
    iexists _; isplitr; (· ipureintro; exact h23.read_unread _); iexact H23

end Cert.Kernel4Ideal.Mix
-- ==== Proof.MixData.lean ====
/-
  What the call leaves at each point. After its first point the states, the history and the two scratch buffers hold what
  the decoding step stored, and they keep it; the other two outputs hold their point's columns. The proof data `dats` says
  so, over float values of any type.
-/
module

public import proofs.«01_k».proof.Proof.MixRun
public import proofs.«01_k».proof.Proof.Gen.Kernel4Ideal.Frame

@[expose] public section
set_option maxRecDepth 16384
noncomputable section
namespace Cert.Kernel4Ideal.Mix
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel4Ideal Cert.Kernel4Ideal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg) (c : Dev nD)

/-! ## The buffers at a point, and what it leaves -/

abbrev ms1 (t : Fin cfg0.N) : Memref sig .tc .vmem S128x1024 .f32 := win0_0.stage (cfg0.slots t 0)
abbrev hs1 (t : Fin cfg0.N) : (ms1 t).IsWhole := hstage0_0 ((cfg0.slots t 0).cast nbuf0_0)
abbrev ms2 (t : Fin cfg0.N) : Memref sig .tc .vmem S128x1024 .f32 := win0_1.stage (cfg0.slots t 1)
abbrev hs2 (t : Fin cfg0.N) : (ms2 t).IsWhole := hstage0_1 ((cfg0.slots t 1).cast nbuf0_1)
abbrev ms3 (t : Fin cfg0.N) : Memref sig .tc .vmem S2048x1024 .f32 := win0_2.stage (cfg0.slots t 2)
abbrev hs3 (t : Fin cfg0.N) : (ms3 t).IsWhole := hstage0_2 ((cfg0.slots t 2).cast nbuf0_2)
abbrev ms4 (t : Fin cfg0.N) : Memref sig .tc .vmem S128x2048 .f32 := win0_3.stage (cfg0.slots t 3)
abbrev hs4 (t : Fin cfg0.N) : (ms4 t).IsWhole := hstage0_3 ((cfg0.slots t 3).cast nbuf0_3)
abbrev ms5 (t : Fin cfg0.N) : Memref sig .tc .vmem S128x4096 .f32 := win0_4.stage (cfg0.slots t 4)
abbrev hs5 (t : Fin cfg0.N) : (ms5 t).IsWhole := hstage0_4 ((cfg0.slots t 4).cast nbuf0_4)
abbrev ms6 (t : Fin cfg0.N) : Memref sig .tc .vmem S128x4096 .f32 := win0_5.stage (cfg0.slots t 5)
abbrev hs6 (t : Fin cfg0.N) : (ms6 t).IsWhole := hstage0_5 ((cfg0.slots t 5).cast nbuf0_5)
abbrev ms7 (t : Fin cfg0.N) : Memref sig .tc .vmem S8x128x1024 .bf16 := win0_6.stage (cfg0.slots t 6)
abbrev hs7 (t : Fin cfg0.N) : (ms7 t).IsWhole := hstage0_6 ((cfg0.slots t 6).cast nbuf0_6)
abbrev ms8 (t : Fin cfg0.N) : Memref sig .tc .vmem S8x1024x128 .bf16 := win0_7.stage (cfg0.slots t 7)
abbrev hs8 (t : Fin cfg0.N) : (ms8 t).IsWhole := hstage0_7 ((cfg0.slots t 7).cast nbuf0_7)
abbrev ms9 (t : Fin cfg0.N) : Memref sig .tc .vmem S8x4x512 .f32 := win0_8.stage (cfg0.slots t 8)
abbrev hs9 (t : Fin cfg0.N) : (ms9 t).IsWhole := hstage0_8 ((cfg0.slots t 8).cast nbuf0_8)
abbrev ms10 (t : Fin cfg0.N) : Memref sig .tc .vmem S8x1x128 .f32 := win0_9.stage (cfg0.slots t 9)
abbrev hs10 (t : Fin cfg0.N) : (ms10 t).IsWhole := hstage0_9 ((cfg0.slots t 9).cast nbuf0_9)
abbrev ms11 (t : Fin cfg0.N) : Memref sig .tc .vmem S8x128x128 .bf16 := win0_10.stage (cfg0.slots t 10)
abbrev hs11 (t : Fin cfg0.N) : (ms11 t).IsWhole := hstage0_10 ((cfg0.slots t 10).cast nbuf0_10)
abbrev ms12 (t : Fin cfg0.N) : Memref sig .tc .vmem S8x1x128 .f32 := win0_11.stage (cfg0.slots t 11)
abbrev hs12 (t : Fin cfg0.N) : (ms12 t).IsWhole := hstage0_11 ((cfg0.slots t 11).cast nbuf0_11)
abbrev ms13 (t : Fin cfg0.N) : Memref sig .tc .vmem S15x128x1024 .f32 := win0_12.stage (cfg0.slots t 12)
abbrev hs13 (t : Fin cfg0.N) : (ms13 t).IsWhole := hstage0_12 ((cfg0.slots t 12).cast nbuf0_12)
abbrev ms14 (t : Fin cfg0.N) : Memref sig .tc .vmem S4x256x256 .bf16 := win0_13.stage (cfg0.slots t 13)
abbrev hs14 (t : Fin cfg0.N) : (ms14 t).IsWhole := hstage0_13 ((cfg0.slots t 13).cast nbuf0_13)
abbrev ms15 (t : Fin cfg0.N) : Memref sig .tc .vmem S1x1024 .f32 := win0_14.stage (cfg0.slots t 14)
abbrev hs15 (t : Fin cfg0.N) : (ms15 t).IsWhole := hstage0_14 ((cfg0.slots t 14).cast nbuf0_14)
abbrev ms16 (t : Fin cfg0.N) : Memref sig .tc .vmem S1x1024 .f32 := win0_15.stage (cfg0.slots t 15)
abbrev hs16 (t : Fin cfg0.N) : (ms16 t).IsWhole := hstage0_15 ((cfg0.slots t 15).cast nbuf0_15)
abbrev ms17 (t : Fin cfg0.N) : Memref sig .tc .vmem S128x1024 .f32 := win0_16.stage (cfg0.slots t 16)
abbrev hs17 (t : Fin cfg0.N) : (ms17 t).IsWhole := hstage0_16 ((cfg0.slots t 16).cast nbuf0_16)
abbrev ms18 (t : Fin cfg0.N) : Memref sig .tc .vmem S2048x1024 .bf16 := win0_17.stage (cfg0.slots t 17)
abbrev hs18 (t : Fin cfg0.N) : (ms18 t).IsWhole := hstage0_17 ((cfg0.slots t 17).cast nbuf0_17)
abbrev ms19 (t : Fin cfg0.N) : Memref sig .tc .vmem S128x4096 .f32 := win0_18.stage (cfg0.slots t 18)
abbrev hs19 (t : Fin cfg0.N) : (ms19 t).IsWhole := hstage0_18 ((cfg0.slots t 18).cast nbuf0_18)
abbrev ms20 (t : Fin cfg0.N) : Memref sig .tc .vmem S128x4096 .f32 := win0_19.stage (cfg0.slots t 19)
abbrev hs20 (t : Fin cfg0.N) : (ms20 t).IsWhole := hstage0_19 ((cfg0.slots t 19).cast nbuf0_19)
abbrev ms21 (t : Fin cfg0.N) : Memref sig .tc .vmem S15x128x1024 .f32 := win0_20.stage (cfg0.slots t 20)
abbrev hs21 (t : Fin cfg0.N) : (ms21 t).IsWhole := hstage0_20 ((cfg0.slots t 20).cast nbuf0_20)
abbrev scY : Memref sig .tc .vmem S128x1024 .bf16 := Memref.whole cc0_scratch0
abbrev scP : Memref sig .tc .vmem S128x1024 .bf16 := Memref.whole cc0_scratch1

/-- The two runs, on a point's buffers and blocks. -/
abbrev rA (t : Fin cfg0.N) (h : cond (grid0.coords t)) := runA c (grid0.coords t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) scY (Memref.isWhole_whole _) scP (Memref.isWhole_whole _) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) h
abbrev rB (t : Fin cfg0.N) (h : ¬cond (grid0.coords t)) (y p : Vec F S128x1024 .bf16) := runB c (grid0.coords t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) scY (Memref.isWhole_whole _) scP (Memref.isWhole_whole _) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) h y p

/-- Each covers what it stores into. -/
theorem cover17 (t : Fin cfg0.N) (h : cond (grid0.coords t)) : ∀ y, ∃ p ∈ (rA m c t h).1, y ∈ p.1.set := View.cover_of_tiledL _ S128x1024.size (by sl_kernel_rfl)
theorem cover18 (t : Fin cfg0.N) (h : cond (grid0.coords t)) : ∀ y, ∃ p ∈ (rA m c t h).2.1, y ∈ p.1.set := View.cover_of_tiledL _ S2048x1024.size (by sl_kernel_rfl)
theorem cover19 (t : Fin cfg0.N) (h : cond (grid0.coords t)) : ∀ y, ∃ p ∈ (rA m c t h).2.2.1, y ∈ p.1.set := View.cover_of_tiledL _ S128x512.size (by sl_kernel_rfl)
theorem cover20 (t : Fin cfg0.N) (h : cond (grid0.coords t)) : ∀ y, ∃ p ∈ (rA m c t h).2.2.2.1, y ∈ p.1.set := View.cover_of_tiledL _ S128x512.size (by sl_kernel_rfl)
theorem cover21 (t : Fin cfg0.N) (h : cond (grid0.coords t)) : ∀ y, ∃ p ∈ (rA m c t h).2.2.2.2.1, y ∈ p.1.set := View.cover_of_tiledBy _ ![1, 128, 1024] (by sl_kernel_rfl)
theorem cover22 (t : Fin cfg0.N) (h : cond (grid0.coords t)) : ∀ y, ∃ p ∈ (rA m c t h).2.2.2.2.2.1, y ∈ p.1.set := View.cover_of_tiledL _ S128x128.size (by sl_kernel_rfl)
theorem cover23 (t : Fin cfg0.N) (h : cond (grid0.coords t)) : ∀ y, ∃ p ∈ (rA m c t h).2.2.2.2.2.2.1, y ∈ p.1.set := View.cover_of_tiledL _ S128x256.size (by sl_kernel_rfl)
theorem coverB17 (t : Fin cfg0.N) (h : ¬cond (grid0.coords t)) (y p) : ∀ z, ∃ q ∈ (rB m c t h y p).1, z ∈ q.1.set := View.cover_of_tiledL _ S128x1024.size (by sl_kernel_rfl)
theorem coverB18 (t : Fin cfg0.N) (h : ¬cond (grid0.coords t)) (y p) : ∀ z, ∃ q ∈ (rB m c t h y p).2.1, z ∈ q.1.set := View.cover_of_tiledL _ S2048x1024.size (by sl_kernel_rfl)

/-- The first point. -/
abbrev t0 : Fin cfg0.N := ⟨0, by decide⟩
theorem at0 : cond (grid0.coords t0) := (cond_iff t0).mpr rfl

/-- What the decoding step leaves in the states, the history and scratch. -/
def newRe : Vec F S128x4096 .f32 := View.canon (rA m c t0 at0).2.2.1
def newIm : Vec F S128x4096 .f32 := View.canon (rA m c t0 at0).2.2.2.1
def newHist : Vec F S15x128x1024 .f32 := View.canon (rA m c t0 at0).2.2.2.2.1
def inY : Vec F S128x1024 .bf16 := View.canon (rA m c t0 at0).2.2.2.2.2.1
def inP : Vec F S128x1024 .bf16 := View.canon (rA m c t0 at0).2.2.2.2.2.2.1
/-- A point's columns of the products and of the cast projection. -/
def outO (t : Fin cfg0.N) : Vec F S128x1024 .f32 :=
  if h : cond (grid0.coords t) then View.canon (rA m c t h).1 else View.canon (rB m c t h (inY m c) (inP m c)).1
def outW (t : Fin cfg0.N) : Vec F S2048x1024 .bf16 :=
  if h : cond (grid0.coords t) then View.canon (rA m c t h).2.1 else View.canon (rB m c t h (inY m c) (inP m c)).2.1

/-- Scratch between the points: anything before the first. -/
def Phi : (n : ℕ) → n ≤ cfg0.N → sProp 𝕄
  | 0, _ => Pipeline.ΦA spec0 c
  | _ + 1, _ => iprop((owns (c : Thread nD τ) scY fullShare (inY m c) ∗ owns (c : Thread nD τ) scP fullShare (inP m c)) ∗ (∃ r, prngReg c r))

theorem Phi_succ' (n : ℕ) (hn : n + 1 ≤ cfg0.N) : Phi m c (n + 1) hn
    = iprop((owns (c : Thread nD τ) scY fullShare (inY m c) ∗ owns (c : Thread nD τ) scP fullShare (inP m c)) ∗ (∃ r, prngReg c r)) := rfl

theorem PhiA_eq : (Pipeline.ΦA spec0 c : sProp 𝕄) = iprop(((∃ d, owns (c : Thread nD τ) scY fullShare d) ∗ (∃ d, owns (c : Thread nD τ) scP fullShare d)) ∗ (∃ r, prngReg c r)) := by
  unfold Pipeline.ΦA; rw [scopedRest0_eq]; simp only [scY, scP, owns_whole]; try rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => outO m c t
    | ⟨17, _⟩ => outW m c t
    | ⟨18, _⟩ => newRe m c
    | ⟨19, _⟩ => newIm m c
    | ⟨20, _⟩ => newHist m c
    | ⟨n + 21, h⟩ => absurd (show n + 21 < 21 from h) (by omega)
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (t : Fin cfg0.N) : (dats m 0 c).Φ t.castSucc = Phi m c t.val (Nat.le_of_lt t.isLt) := by
  dsimp only [dats]; exact Dat.Φ_castSucc (Phi m c) t
theorem Phi_succ (t : Fin cfg0.N) : (dats m 0 c).Φ t.succ = Phi m c (t.val + 1) t.isLt := rfl

/-- An output that the second point leaves alone holds there what the first stored. -/
theorem before_kept (w : Fin cfg0.W) (hw : (cfg0.win w).isOut = true) (t : Fin cfg0.N) (ht : t.val ≠ 0)
    (hfl : (cfg0.win w).flush ⟨t.val - 1, Nat.lt_of_le_of_lt (Nat.sub_le _ _) t.isLt⟩ = false)
    (hl : cfg0.idle w (cfg0.grid.coords ⟨t.val - 1, Nat.lt_of_le_of_lt (Nat.sub_le _ _) t.isLt⟩) = false)
    (hclip : ∀ (i : cfg0.grid.Coords) a, (cfg0.win w).clip i a = none) (d) :
    (dats m 0 c).before w t d = (dats m 0 c).after w ⟨t.val - 1, Nat.lt_of_le_of_lt (Nat.sub_le _ _) t.isLt⟩ := by
  rw [(dats m 0 c).before_of_pos w t ht ((cfg0.win w).fetch_out hw t), hfl, if_neg Bool.false_ne_true]
  unfold Dat.left
  rw [hl]
  show (dats m 0 c).kept w _ d = _
  unfold Dat.kept
  rw [Pipeline.fill_of_clip_none w _ (hclip _) d ((dats m 0 c).after w _), Pipeline.Window.fill_cut]

end Cert.Kernel4Ideal.Mix
-- ==== Proof.MixHost.lean ====
/-
  What the call's host code prepares, over the extended reals: the discretised poles and input matrices, and the input
  matrices of eight groups laid out block-diagonally.
-/
module

public import proofs.«01_k».proof.Proof.MixData
public import proofs.«01_k».proof.Proof.Gen.Reference4Ideal.Read
public import Idealize.ShloMosaic.Lib.Pipeline.ValueKit

@[expose] public section
set_option maxRecDepth 16384
noncomputable section
open Idealize.ShloMosaic Idealize.ShloMosaic.TcCoe Idealize.SL.Sem
namespace Cert.Kernel4Ideal.Mix
open Cert.Kernel4Ideal Cert.Kernel4Ideal.Gen

variable (m : (ℓ : Loc nD τ sig) → Buf (Elt Ideal) ℓ) (c : Dev nD)

abbrev A3 : Vec Ideal S128x2048 .f32 := m ((c : Thread nD τ).loc main_arg3)
abbrev A4 : Vec Ideal S128x64x64 .f32 := m ((c : Thread nD τ).loc main_arg4)
abbrev A5 : Vec Ideal S128x64x64 .f32 := m ((c : Thread nD τ).loc main_arg5)
abbrev A6 : Vec Ideal S128x15x1024 .f32 := m ((c : Thread nD τ).loc main_arg6)
abbrev A7 : Vec Ideal S64x64 .f32 := m ((c : Thread nD τ).loc main_arg7)
abbrev A8 : Vec Ideal S64x64 .f32 := m ((c : Thread nD τ).loc main_arg8)
abbrev A9 : Vec Ideal S64 .f32 := m ((c : Thread nD τ).loc main_arg9)
abbrev A10 : Vec Ideal S64x64x16 .f32 := m ((c : Thread nD τ).loc main_arg10)
abbrev A11 : Vec Ideal S64x64x16 .f32 := m ((c : Thread nD τ).loc main_arg11)
abbrev A12 : Vec Ideal S8x896x1024 .f32 := m ((c : Thread nD τ).loc main_arg12)

/-- The poles and the input matrices, discretised as in the reference. -/
def aRe : Vec Ideal S64x64 .f32 := Cert.Reference4Ideal.Read.val_main_v10 (F := Ideal) (A7 m c) (A8 m c) (A9 m c)
def aIm : Vec Ideal S64x64 .f32 := Cert.Reference4Ideal.Read.val_main_v12 (F := Ideal) (A7 m c) (A8 m c) (A9 m c)
def bRe : Vec Ideal S64x64x16 .f32 := Cert.Reference4Ideal.Read.val_main_v32 (F := Ideal) (A7 m c) (A8 m c) (A9 m c) (A10 m c) (A11 m c)
def bIm : Vec Ideal S64x64x16 .f32 := Cert.Reference4Ideal.Read.val_main_v39 (F := Ideal) (A7 m c) (A8 m c) (A9 m c) (A10 m c) (A11 m c)

/-- Eight groups' input matrices, on the diagonal of one. -/
def octet (B : Vec Ideal S64x64x16 .f32) : Vec Ideal S8x128x512 .f32 :=
  shapeCast S8x128x512 (select
    (broadcastInDim S8x8x16x8x64 ![0, 1, 2, 3, 4] bcast_S1x8x1x8x1_S8x8x16x8x64_0_1_2_3_4
      (broadcastInDim S1x8x1x8x1 ![1, 3] bcast_S8x8_S1x8x1x8x1_1_3 (cmpi .eq (iotaInDim S8x8 32 0) (iotaInDim S8x8 32 1))))
    (broadcastInDim S8x8x16x8x64 ![0, 1, 2, 3, 4] bcast_S8x8x16x1x64_S8x8x16x8x64_0_1_2_3_4
      (broadcastInDim S8x8x16x1x64 ![0, 1, 2, 4] bcast_S8x8x16x64_S8x8x16x1x64_0_1_2_4
        (transpose S8x8x16x64 [0, 1, 3, 2] (shapeCast S8x8x64x16 B shapeCasts_S64x64x16_S8x8x64x16) transposes_S8x8x64x16_S8x8x16x64_0_1_3_2)))
    (broadcastInDim S8x8x16x8x64 ![] bcast_S_S8x8x16x8x64 (constant (F := Ideal) S_ .f32 0x00000000#32))) shapeCasts_S8x8x16x8x64_S8x128x512

set_option maxHeartbeats 8000000 in
theorem V_v63 : V m c main_v63 = concatenate S8x4x512 1 [⟨S8x1x512, shapeCast S8x1x512 (aRe m c) shapeCasts_S64x64_S8x1x512⟩, ⟨S8x1x512, shapeCast S8x1x512 (aIm m c) shapeCasts_S64x64_S8x1x512⟩, ⟨S8x1x512, shapeCast S8x1x512 (aRe m c) shapeCasts_S64x64_S8x1x512⟩, ⟨S8x1x512, shapeCast S8x1x512 (aIm m c) shapeCasts_S64x64_S8x1x512⟩] concatenates_S8x1x512_S8x1x512_S8x1x512_S8x1x512_S8x4x512_d1 := by
  simp only [V, hostOps0, hostOps0_1, hostOps0_2, hostOps0_3, hostOps0_4, List.flatten_cons, List.flatten_nil, List.append_nil, List.cons_append, List.nil_append]
  after_results_simp
  rfl
set_option maxHeartbeats 8000000 in
theorem V_v60 : V m c main_v60 = truncf (F := Ideal) (s := S8x1024x1024) (φ := .f32) .bf16 (concatenate S8x1024x1024 1 [⟨S8x896x1024, A12 m c⟩, ⟨S8x128x1024,
    concatenate S8x128x1024 2 [⟨S8x128x512, octet (bRe m c)⟩, ⟨S8x128x512, octet (bIm m c)⟩] concatenates_S8x128x512_S8x128x512_S8x128x1024_d2⟩]
      concatenates_S8x896x1024_S8x128x1024_S8x1024x1024_d1) bitsLt_bf16_f32 := by
  simp only [V, hostOps0, hostOps0_1, hostOps0_2, hostOps0_3, hostOps0_4, List.flatten_cons, List.flatten_nil, List.append_nil, List.cons_append, List.nil_append]
  after_results_simp
  rfl

theorem select_eq {α : Type} (k : Fin 128) (q : Fin 512) (x y : α) :
    Scalar.select (IntOp.cmpi CmpIPredicate.eq (BitVec.ofNat 32 (k.val / 16)) (BitVec.ofNat 32 (q.val / 64))) x y = if k.val / 16 = q.val / 64 then x else y := by
  by_cases h : k.val / 16 = q.val / 64
  · rw [if_pos h, h]; simp [IntOp.cmpi, Scalar.select]
  · have e : BitVec.ofNat 32 (k.val / 16) ≠ BitVec.ofNat 32 (q.val / 64) := fun h' => h (by
      have h' := congrArg BitVec.toNat h'; simp only [BitVec.toNat_ofNat] at h'; omega)
    rw [if_neg h]; simp [IntOp.cmpi, Scalar.select, beq_eq_false_iff_ne.mpr e]

set_option maxHeartbeats 4000000 in
theorem octet_apply (B : Vec Ideal S64x64x16 .f32) (o : Fin 8) (k : Fin 128) (q : Fin 512) :
    octet B (ix3 o k q) = if k.val / 16 = q.val / 64 then B (ix3 ⟨8 * o.val + q.val / 64, by omega⟩ ⟨q.val % 64, by omega⟩ ⟨k.val % 16, by omega⟩) else 0 := by
  unfold octet
  pointwise
  refine (select_eq k q _ _).trans ?_
  by_cases h : k.val / 16 = q.val / 64
  · rw [if_pos h, if_pos h]
    exact congrArg (fun g => B (ix3 g _ _)) (Fin.ext (by show o.val * 8 + k.val / 16 = 8 * o.val + q.val / 64; omega))
  · rw [if_neg h, if_neg h]

/-- Every window's block index, at every grid point. -/
theorem idx : ∀ t : Fin cfg0.N, win0_3.index t = ![0, 0] ∧ win0_4.index t = ![0, 0] ∧ win0_5.index t = ![0, 0] ∧ win0_6.index t = ![0, 7, 0]
    ∧ win0_8.index t = ![0, 0, 0] ∧ win0_12.index t = ![0, 0, 0] ∧ win0_18.index t = ![0, 0] ∧ win0_19.index t = ![0, 0] ∧ win0_20.index t = ![0, 0, 0] :=
  (by decide +kernel : ∀ t : Fin grid0.N, _)

abbrev b3 (t : Fin cfg0.N) : Vec Ideal S128x2048 .f32 := iblk m c 3 t
abbrev b4 (t : Fin cfg0.N) : Vec Ideal S128x4096 .f32 := iblk m c 4 t
abbrev b5 (t : Fin cfg0.N) : Vec Ideal S128x4096 .f32 := iblk m c 5 t
abbrev b6 (t : Fin cfg0.N) : Vec Ideal S8x128x1024 .bf16 := iblk m c 6 t
abbrev b8 (t : Fin cfg0.N) : Vec Ideal S8x4x512 .f32 := iblk m c 8 t
abbrev b12 (t : Fin cfg0.N) : Vec Ideal S15x128x1024 .f32 := iblk m c 12 t

theorem b3_eq (t : Fin cfg0.N) (r : Fin 128) (k : Fin 2048) : b3 m c t (ix2 r k) = A3 m c (ix2 r k) := by
  blk_ext! [b3, iblk, V, idx t]
set_option maxHeartbeats 8000000 in
theorem V_v64 : V m c main_v64 = shapeCast S128x4096 (A4 m c) shapeCasts_S128x64x64_S128x4096 := by
  simp only [V, hostOps0, hostOps0_1, hostOps0_2, hostOps0_3, hostOps0_4, List.flatten_cons, List.flatten_nil, List.append_nil, List.cons_append, List.nil_append]
  after_results_simp
  rfl
set_option maxHeartbeats 8000000 in
theorem V_v65 : V m c main_v65 = shapeCast S128x4096 (A5 m c) shapeCasts_S128x64x64_S128x4096 := by
  simp only [V, hostOps0, hostOps0_1, hostOps0_2, hostOps0_3, hostOps0_4, List.flatten_cons, List.flatten_nil, List.append_nil, List.cons_append, List.nil_append]
  after_results_simp
  rfl
set_option maxHeartbeats 8000000 in
theorem V_v66 : V m c main_v66 = transpose S15x128x1024 [1, 0, 2] (A6 m c) transposes_S128x15x1024_S15x128x1024_1_0_2 := by
  simp only [V, hostOps0, hostOps0_1, hostOps0_2, hostOps0_3, hostOps0_4, List.flatten_cons, List.flatten_nil, List.append_nil, List.cons_append, List.nil_append]
  after_results_simp

theorem read4 (t : Fin cfg0.N) (x : Vec Ideal S128x4096 .f32) (r : Fin 128) (j : Fin 4096) :
    ((cfg0.win 4).blk t).view.read (Elt Ideal) x (ix2 r j) = x (ix2 r j) := by
  blk_ext [idx t]
theorem read5 (t : Fin cfg0.N) (x : Vec Ideal S128x4096 .f32) (r : Fin 128) (j : Fin 4096) :
    ((cfg0.win 5).blk t).view.read (Elt Ideal) x (ix2 r j) = x (ix2 r j) := by
  blk_ext [idx t]
theorem read12 (t : Fin cfg0.N) (x : Vec Ideal S15x128x1024 .f32) (h : Fin 15) (r : Fin 128) (k : Fin 1024) :
    ((cfg0.win 12).blk t).view.read (Elt Ideal) x (ix3 h r k) = x (ix3 h r k) := by
  blk_ext [idx t]

/-- A state's row laid out flat. -/
theorem flat_apply (A : Vec Ideal S128x64x64 .f32) (r : Fin 128) (j : Fin 4096) :
    shapeCast S128x4096 A shapeCasts_S128x64x64_S128x4096 (ix2 r j) = A (ix3 r ⟨j.val / 64, by omega⟩ ⟨j.val % 64, by omega⟩) :=
  shapeCast_apply A shapeCasts_S128x64x64_S128x4096 _ _ (by
    rw [Shape.rowMajor_val_two, Shape.rowMajor_val_three]
    show (r.val * 64 + j.val / 64) * 64 + j.val % 64 = r.val * 4096 + j.val
    omega)
theorem b4_eq (t : Fin cfg0.N) (r : Fin 128) (j : Fin 4096) : b4 m c t (ix2 r j) = A4 m c (ix3 r ⟨j.val / 64, by omega⟩ ⟨j.val % 64, by omega⟩) :=
  (congrFun (congrArg (((cfg0.win 4).blk t).view.read (Elt Ideal)) (V_v64 m c)) _).trans ((read4 t _ r j).trans (flat_apply _ r j))
theorem b5_eq (t : Fin cfg0.N) (r : Fin 128) (j : Fin 4096) : b5 m c t (ix2 r j) = A5 m c (ix3 r ⟨j.val / 64, by omega⟩ ⟨j.val % 64, by omega⟩) :=
  (congrFun (congrArg (((cfg0.win 5).blk t).view.read (Elt Ideal)) (V_v65 m c)) _).trans ((read5 t _ r j).trans (flat_apply _ r j))
theorem b12_eq (t : Fin cfg0.N) (h : Fin 15) (r : Fin 128) (k : Fin 1024) : b12 m c t (ix3 h r k) = A6 m c (ix3 r h k) :=
  (congrFun (congrArg (((cfg0.win 12).blk t).view.read (Elt Ideal)) (V_v66 m c)) _).trans ((read12 t _ h r k).trans (by pointwise))

/-- The poles' block: the real parts, the imaginary parts, and both again. -/
theorem read8 (t : Fin cfg0.N) (x : Vec Ideal S8x4x512 .f32) (o : Fin 8) (z : Fin 4) (q : Fin 512) :
    ((cfg0.win 8).blk t).view.read (Elt Ideal) x (ix3 o z q) = x (ix3 o z q) := by
  blk_ext [idx t]
theorem read6 (t : Fin cfg0.N) (x : Vec Ideal S8x1024x1024 .bf16) (o : Fin 8) (k : Fin 128) (q : Fin 1024) :
    ((cfg0.win 6).blk t).view.read (Elt Ideal) x (ix3 o k q) = x (ix3 o ⟨896 + k.val, by omega⟩ q) := by
  blk_ext [idx t]

theorem pole_apply (A : Vec Ideal S64x64 .f32) (o : Fin 8) (q : Fin 512) :
    shapeCast S8x1x512 A shapeCasts_S64x64_S8x1x512 (ix3 o 0 q) = A (ix2 ⟨8 * o.val + q.val / 64, by omega⟩ ⟨q.val % 64, by omega⟩) :=
  shapeCast_apply A shapeCasts_S64x64_S8x1x512 _ _ (by
    rw [Shape.rowMajor_val_two, Shape.rowMajor_val_three]
    show (8 * o.val + q.val / 64) * 64 + q.val % 64 = (o.val * 1 + 0) * 512 + q.val
    omega)

theorem b8_re (t : Fin cfg0.N) (o : Fin 8) (q : Fin 512) : b8 m c t (ix3 o 0 q) = aRe m c (ix2 ⟨8 * o.val + q.val / 64, by omega⟩ ⟨q.val % 64, by omega⟩) := by
  refine (congrFun (congrArg (((cfg0.win 8).blk t).view.read (Elt Ideal)) (V_v63 m c)) _).trans ((read8 t _ o 0 q).trans ?_)
  refine (concatenate_apply_piece 1 [⟨S8x1x512, shapeCast S8x1x512 (aRe m c) shapeCasts_S64x64_S8x1x512⟩, ⟨S8x1x512, shapeCast S8x1x512 (aIm m c) shapeCasts_S64x64_S8x1x512⟩, ⟨S8x1x512, shapeCast S8x1x512 (aRe m c) shapeCasts_S64x64_S8x1x512⟩, ⟨S8x1x512, shapeCast S8x1x512 (aIm m c) shapeCasts_S64x64_S8x1x512⟩]
    concatenates_S8x1x512_S8x1x512_S8x1x512_S8x1x512_S8x4x512_d1 (ix3 o 0 q) 0 (by simp) S8x1x512 _ rfl rfl 0 rfl (ix3 o 0 q) (fun b hb => ?_) rfl).trans (pole_apply _ o q)
  match b, hb with
  | ⟨0, _⟩, _ => rfl
  | ⟨1, _⟩, h => exact absurd rfl h
  | ⟨2, _⟩, _ => rfl
theorem b8_im (t : Fin cfg0.N) (o : Fin 8) (q : Fin 512) : b8 m c t (ix3 o 1 q) = aIm m c (ix2 ⟨8 * o.val + q.val / 64, by omega⟩ ⟨q.val % 64, by omega⟩) := by
  refine (congrFun (congrArg (((cfg0.win 8).blk t).view.read (Elt Ideal)) (V_v63 m c)) _).trans ((read8 t _ o 1 q).trans ?_)
  refine (concatenate_apply_piece 1 [⟨S8x1x512, shapeCast S8x1x512 (aRe m c) shapeCasts_S64x64_S8x1x512⟩, ⟨S8x1x512, shapeCast S8x1x512 (aIm m c) shapeCasts_S64x64_S8x1x512⟩, ⟨S8x1x512, shapeCast S8x1x512 (aRe m c) shapeCasts_S64x64_S8x1x512⟩, ⟨S8x1x512, shapeCast S8x1x512 (aIm m c) shapeCasts_S64x64_S8x1x512⟩]
    concatenates_S8x1x512_S8x1x512_S8x1x512_S8x1x512_S8x4x512_d1 (ix3 o 1 q) 1 (by simp) S8x1x512 _ rfl rfl 1 rfl (ix3 o 0 q) (fun b hb => ?_) rfl).trans (pole_apply _ o q)
  match b, hb with
  | ⟨0, _⟩, _ => rfl
  | ⟨1, _⟩, h => exact absurd rfl h
  | ⟨2, _⟩, _ => rfl

theorem b6_re (t : Fin cfg0.N) (o : Fin 8) (k : Fin 128) (q : Fin 512) : b6 m c t (ix3 o k ⟨q.val, by omega⟩) = octet (bRe m c) (ix3 o k q) := by
  refine (congrFun (congrArg (((cfg0.win 6).blk t).view.read (Elt Ideal)) (V_v60 m c)) _).trans ((read6 t _ o k _).trans ?_)
  refine (concatenate_pair_apply_right (s₁ := S8x896x1024) (s₂ := S8x128x1024) (t := S8x1024x1024) 1 (A12 m c) _ concatenates_S8x896x1024_S8x128x1024_S8x1024x1024_d1 _ rfl rfl (ix3 o k ⟨q.val, lt_trans q.isLt (by decide)⟩ : S8x128x1024.Idx) (fun b hb => ?_) (Nat.add_comm _ _)).trans ?_
  · match b, hb with
    | ⟨0, _⟩, _ => rfl
    | ⟨1, _⟩, h => exact absurd rfl h
    | ⟨2, _⟩, _ => rfl
  refine concatenate_pair_apply_left (s₁ := S8x128x512) (s₂ := S8x128x512) (t := S8x128x1024) 2 (octet (bRe m c)) (octet (bIm m c)) concatenates_S8x128x512_S8x128x512_S8x128x1024_d2 _ rfl (ix3 o k q) fun b => ?_
  match b with
  | ⟨0, _⟩ => rfl
  | ⟨1, _⟩ => rfl
  | ⟨2, _⟩ => rfl
theorem b6_im (t : Fin cfg0.N) (o : Fin 8) (k : Fin 128) (q : Fin 512) : b6 m c t (ix3 o k ⟨512 + q.val, by omega⟩) = octet (bIm m c) (ix3 o k q) := by
  refine (congrFun (congrArg (((cfg0.win 6).blk t).view.read (Elt Ideal)) (V_v60 m c)) _).trans ((read6 t _ o k _).trans ?_)
  refine (concatenate_pair_apply_right (s₁ := S8x896x1024) (s₂ := S8x128x1024) (t := S8x1024x1024) 1 (A12 m c) _ concatenates_S8x896x1024_S8x128x1024_S8x1024x1024_d1 _ rfl rfl (ix3 o k ⟨512 + q.val, Nat.add_lt_add_left q.isLt 512⟩ : S8x128x1024.Idx) (fun b hb => ?_) (Nat.add_comm _ _)).trans ?_
  · match b, hb with
    | ⟨0, _⟩, _ => rfl
    | ⟨1, _⟩, h => exact absurd rfl h
    | ⟨2, _⟩, _ => rfl
  refine concatenate_pair_apply_right (s₁ := S8x128x512) (s₂ := S8x128x512) (t := S8x128x1024) 2 (octet (bRe m c)) (octet (bIm m c)) concatenates_S8x128x512_S8x128x512_S8x128x1024_d2 _ rfl rfl (ix3 o k q) (fun b hb => ?_) (Nat.add_comm _ _)
  match b, hb with
  | ⟨0, _⟩, _ => rfl
  | ⟨1, _⟩, _ => rfl
  | ⟨2, _⟩, h => exact absurd rfl h

end Cert.Kernel4Ideal.Mix
-- ==== Proof.MixStores.lean ====
/-
  What the decoding step stores: the new state, eight groups of 64 numbers at a time, and the new history, which drops
  the oldest row and takes the current one.
-/
module

public import proofs.«01_k».proof.Proof.MixRun
public import proofs.«01_k».proof.Proof.Stores

@[expose] public section
set_option maxRecDepth 16384
noncomputable section
namespace Cert.Kernel4Ideal.Mix
open Idealize.ShloMosaic Idealize.ShloMosaic.TcCoe Idealize.SL.Sem
open Cert.Kernel4Ideal Cert.Kernel4Ideal.Gen Cert.Stores

section Lists
variable {Val : EltTy → Type} {e : EltTy} [∀ e, Nonempty (Val e)]

/-- The columns `512 o …` of the state, and what else the step reads for them. -/
abbrev cols (o : Fin 8) : Rect S128x4096 := Rect.unit ![0, 512 * o.val] S128x512.size fun k => match k with
  | ⟨0, _⟩ => Nat.le_refl 128
  | ⟨1, _⟩ => by show 512 * o.val + 512 ≤ 4096; omega
abbrev feats (o : Fin 8) : Rect S128x2048 := Rect.unit ![0, 128 * o.val] S128x128.size fun k => match k with
  | ⟨0, _⟩ => Nat.le_refl 128
  | ⟨1, _⟩ => by show 128 * o.val + 128 ≤ 2048; omega
abbrev slab (o : Fin 8) : Rect S8x128x1024 := Rect.unit ![o.val, 0, 0] S1x128x1024.size fun k => match k with
  | ⟨0, _⟩ => by show o.val + 1 ≤ 8; omega
  | ⟨1, _⟩ => Nat.le_refl 128
  | ⟨2, _⟩ => Nat.le_refl 1024
abbrev pole (o : Fin 8) (q : Fin 4) : Rect S8x4x512 := Rect.unit ![o.val, q.val, 0] S1x1x512.size fun k => match k with
  | ⟨0, _⟩ => by show o.val + 1 ≤ 8; omega
  | ⟨1, _⟩ => by show q.val + 1 ≤ 4; omega
  | ⟨2, _⟩ => Nat.le_refl 512
/-- The fourteen later rows of the history, and the last; the pooling half of the features. -/
abbrev later : Rect S15x128x1024 := Rect.unit ![1, 0, 0] S14x128x1024.size inb_S15x128x1024_S14x128x1024_1_0_0
abbrev early : Rect S15x128x1024 := Rect.unit ![0, 0, 0] S14x128x1024.size inb_S15x128x1024_S14x128x1024_0_0_0
abbrev newest : Rect S15x128x1024 := Rect.unit ![14, 0, 0] S1x128x1024.size inb_S15x128x1024_S1x128x1024_14_0_0
abbrev pooled : Rect S128x2048 := Rect.unit ![0, 1024] S128x1024.size inb_S128x2048_S128x1024_0_1024

/-- Stores of 512 columns each, from the left. -/
inductive Cols (f : Fin 8 → S128x512.Idx → Val e) : List (View.Piece Val S128x4096 e) → ℕ → Prop
  | nil : Cols f [] 0
  | cons {L : List (View.Piece Val S128x4096 e)} (o : Fin 8) : Cols f L o.val → Cols f (⟨cols o, f o⟩ :: L) (o.val + 1)

theorem mem_cols (o : Fin 8) (y : S128x4096.Idx) : y ∈ (cols o).set ↔ 512 * o.val ≤ (y 1).val ∧ (y 1).val < 512 * o.val + 512 := by
  rw [Rect.mem_set_unit]
  refine ⟨fun H => H 1, fun H x => ?_⟩
  match x with
  | ⟨0, _⟩ => exact ⟨Nat.zero_le _, by have h1 : (y 0).val < 128 := (y 0).isLt; show (y 0).val < 0 + 128; omega⟩
  | ⟨1, _⟩ => exact H

/-- If every store writes the entries of `G`, the filled columns hold `G`. -/
theorem Cols.canon {f : Fin 8 → S128x512.Idx → Val e} {L : List (View.Piece Val S128x4096 e)} {b : ℕ} (H : Cols f L b)
    (G : S128x4096.Idx → Val e) (hG : ∀ o x, f o x = G ((cols o).emb x)) :
    ∀ y : S128x4096.Idx, (y 1).val < 512 * b → View.canon L y = G y := by
  induction H with
  | nil => exact fun y hy => absurd hy (Nat.not_lt_zero _)
  | @cons L o _ ih =>
    intro y hy
    by_cases hm : (y 1).val < 512 * o.val
    · rw [View.canon_cons_of_not_mem _ _ fun hc => by have := ((mem_cols o y).mp hc).1; omega]
      exact ih y hm
    · obtain ⟨x, rfl⟩ := (cols o).exists_idx_of_mem ((mem_cols o y).mpr ⟨by omega, by omega⟩)
      exact (View.canon_cons_emb _ _ _ x).trans (hG o x)
end Lists

variable {F : FTy → Type} [FloatOps F]
variable (c : Dev nD) (i : grid0.Coords)
variable (a1 : Memref sig .tc .vmem S128x1024 .f32) (h1 : a1.IsWhole)
variable (a2 : Memref sig .tc .vmem S128x1024 .f32) (h2 : a2.IsWhole)
variable (a3 : Memref sig .tc .vmem S2048x1024 .f32) (h3 : a3.IsWhole)
variable (a4 : Memref sig .tc .vmem S128x2048 .f32) (h4 : a4.IsWhole)
variable (a5 : Memref sig .tc .vmem S128x4096 .f32) (h5 : a5.IsWhole)
variable (a6 : Memref sig .tc .vmem S128x4096 .f32) (h6 : a6.IsWhole)
variable (a7 : Memref sig .tc .vmem S8x128x1024 .bf16) (h7 : a7.IsWhole)
variable (a8 : Memref sig .tc .vmem S8x1024x128 .bf16) (h8 : a8.IsWhole)
variable (a9 : Memref sig .tc .vmem S8x4x512 .f32) (h9 : a9.IsWhole)
variable (a10 : Memref sig .tc .vmem S8x1x128 .f32) (h10 : a10.IsWhole)
variable (a11 : Memref sig .tc .vmem S8x128x128 .bf16) (h11 : a11.IsWhole)
variable (a12 : Memref sig .tc .vmem S8x1x128 .f32) (h12 : a12.IsWhole)
variable (a13 : Memref sig .tc .vmem S15x128x1024 .f32) (h13 : a13.IsWhole)
variable (a14 : Memref sig .tc .vmem S4x256x256 .bf16) (h14 : a14.IsWhole)
variable (a15 : Memref sig .tc .vmem S1x1024 .f32) (h15 : a15.IsWhole)
variable (a16 : Memref sig .tc .vmem S1x1024 .f32) (h16 : a16.IsWhole)
variable (a17 : Memref sig .tc .vmem S128x1024 .f32) (h17 : a17.IsWhole)
variable (a18 : Memref sig .tc .vmem S2048x1024 .bf16) (h18 : a18.IsWhole)
variable (a19 : Memref sig .tc .vmem S128x4096 .f32) (h19 : a19.IsWhole)
variable (a20 : Memref sig .tc .vmem S128x4096 .f32) (h20 : a20.IsWhole)
variable (a21 : Memref sig .tc .vmem S15x128x1024 .f32) (h21 : a21.IsWhole)
variable (a22 : Memref sig .tc .vmem S128x1024 .bf16) (h22 : a22.IsWhole)
variable (a23 : Memref sig .tc .vmem S128x1024 .bf16) (h23 : a23.IsWhole)
variable (x1 : Vec F S128x1024 .f32)
variable (x2 : Vec F S128x1024 .f32)
variable (x3 : Vec F S2048x1024 .f32)
variable (x4 : Vec F S128x2048 .f32)
variable (x5 : Vec F S128x4096 .f32)
variable (x6 : Vec F S128x4096 .f32)
variable (x7 : Vec F S8x128x1024 .bf16)
variable (x8 : Vec F S8x1024x128 .bf16)
variable (x9 : Vec F S8x4x512 .f32)
variable (x10 : Vec F S8x1x128 .f32)
variable (x11 : Vec F S8x128x128 .bf16)
variable (x12 : Vec F S8x1x128 .f32)
variable (x13 : Vec F S15x128x1024 .f32)
variable (x14 : Vec F S4x256x256 .bf16)
variable (x15 : Vec F S1x1024 .f32)
variable (x16 : Vec F S1x1024 .f32)

/-- The real and the imaginary parts of the new state's columns. -/
def partRe (o : Fin 8) : Vec F S128x512 .f32 :=
  k0_pay9 (ld a4 h4 (feats o) x4) (ld a7 h7 (slab o) x7) (ld a9 h9 (pole o 0) x9) (ld a9 h9 (pole o 1) x9) (ld a5 h5 (cols o) x5) (ld a6 h6 (cols o) x6)
def partIm (o : Fin 8) : Vec F S128x512 .f32 :=
  k0_pay10 (ld a4 h4 (feats o) x4) (ld a7 h7 (slab o) x7) (ld a9 h9 (pole o 0) x9) (ld a9 h9 (pole o 1) x9) (ld a5 h5 (cols o) x5) (ld a6 h6 (cols o) x6)

theorem storesRe (hc : cond i) : Cols (partRe a4 h4 a5 h5 a6 h6 a7 h7 a9 h9 x4 x5 x6 x7 x9) (runA c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x1 x2 x3 x4 x5 x6 x7 x8 x9 x10 x11 x12 x13 x14 x15 x16 hc).2.2.1 8 :=
  .cons 7 (.cons 6 (.cons 5 (.cons 4 (.cons 3 (.cons 2 (.cons 1 (.cons 0 .nil)))))))
theorem storesIm (hc : cond i) : Cols (partIm a4 h4 a5 h5 a6 h6 a7 h7 a9 h9 x4 x5 x6 x7 x9) (runA c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x1 x2 x3 x4 x5 x6 x7 x8 x9 x10 x11 x12 x13 x14 x15 x16 hc).2.2.2.1 8 :=
  .cons 7 (.cons 6 (.cons 5 (.cons 4 (.cons 3 (.cons 2 (.cons 1 (.cons 0 .nil)))))))
theorem storesHist (hc : cond i) : (runA c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x1 x2 x3 x4 x5 x6 x7 x8 x9 x10 x11 x12 x13 x14 x15 x16 hc).2.2.2.2.1
    = [⟨newest, k0_pay100 (ld a4 h4 pooled x4)⟩, ⟨early, k0_pay99 (ld a13 h13 later x13)⟩] := rfl

end Cert.Kernel4Ideal.Mix
-- ==== Proof.MixFrame.lean ====
/-
  The call's run. The body meets the proof data at both points, and the launch follows, over float values of any type.
-/
module

public import proofs.«01_k».proof.Proof.MixData

@[expose] public section
set_option maxRecDepth 16384
noncomputable section
namespace Cert.Kernel4Ideal.Mix
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel4Ideal Cert.Kernel4Ideal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg) (c : Dev nD)

theorem live18 : ∀ t : Fin cfg0.N, t.val = 0 → cfg0.idle 18 (cfg0.grid.coords t) = false := (by decide +kernel : ∀ t : Fin grid0.N, t.val = 0 → idle0 18 (grid0.coords t) = false)
theorem live19 : ∀ t : Fin cfg0.N, t.val = 0 → cfg0.idle 19 (cfg0.grid.coords t) = false := (by decide +kernel : ∀ t : Fin grid0.N, t.val = 0 → idle0 19 (grid0.coords t) = false)
theorem live20 : ∀ t : Fin cfg0.N, t.val = 0 → cfg0.idle 20 (cfg0.grid.coords t) = false := (by decide +kernel : ∀ t : Fin grid0.N, t.val = 0 → idle0 20 (grid0.coords t) = false)

/-! ## The body at a point -/

/-- The inputs' staging buffers at a point hold their blocks. -/
abbrev insAt (t : Fin cfg0.N) : sProp 𝕄 :=
  ins c (ms1 t) (ms2 t) (ms3 t) (ms4 t) (ms5 t) (ms6 t) (ms7 t) (ms8 t) (ms9 t) (ms10 t) (ms11 t) (ms12 t) (ms13 t) (ms14 t) (ms15 t) (ms16 t) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

set_option maxHeartbeats 8000000 in
theorem gather (t : Fin cfg0.N) :
    iprop((dats m 0 c).Φ t.castSucc ∗ (dats m 0 c).owesAt () t.castSucc
    ∗ (∃ d, owns (c : Thread nD τ) (ms1 t) fullShare ((dats m 0 c).before 0 t d))
    ∗ (∃ d, owns (c : Thread nD τ) (ms2 t) fullShare ((dats m 0 c).before 1 t d))
    ∗ (∃ d, owns (c : Thread nD τ) (ms3 t) fullShare ((dats m 0 c).before 2 t d))
    ∗ (∃ d, owns (c : Thread nD τ) (ms4 t) fullShare ((dats m 0 c).before 3 t d))
    ∗ (∃ d, owns (c : Thread nD τ) (ms5 t) fullShare ((dats m 0 c).before 4 t d))
    ∗ (∃ d, owns (c : Thread nD τ) (ms6 t) fullShare ((dats m 0 c).before 5 t d))
    ∗ (∃ d, owns (c : Thread nD τ) (ms7 t) fullShare ((dats m 0 c).before 6 t d))
    ∗ (∃ d, owns (c : Thread nD τ) (ms8 t) fullShare ((dats m 0 c).before 7 t d))
    ∗ (∃ d, owns (c : Thread nD τ) (ms9 t) fullShare ((dats m 0 c).before 8 t d))
    ∗ (∃ d, owns (c : Thread nD τ) (ms10 t) fullShare ((dats m 0 c).before 9 t d))
    ∗ (∃ d, owns (c : Thread nD τ) (ms11 t) fullShare ((dats m 0 c).before 10 t d))
    ∗ (∃ d, owns (c : Thread nD τ) (ms12 t) fullShare ((dats m 0 c).before 11 t d))
    ∗ (∃ d, owns (c : Thread nD τ) (ms13 t) fullShare ((dats m 0 c).before 12 t d))
    ∗ (∃ d, owns (c : Thread nD τ) (ms14 t) fullShare ((dats m 0 c).before 13 t d))
    ∗ (∃ d, owns (c : Thread nD τ) (ms15 t) fullShare ((dats m 0 c).before 14 t d))
    ∗ (∃ d, owns (c : Thread nD τ) (ms16 t) fullShare ((dats m 0 c).before 15 t d))
    ∗ (∃ d, owns (c : Thread nD τ) (ms17 t) fullShare ((dats m 0 c).before 16 t d))
    ∗ (∃ d, owns (c : Thread nD τ) (ms18 t) fullShare ((dats m 0 c).before 17 t d))
    ∗ (∃ d, owns (c : Thread nD τ) (ms19 t) fullShare ((dats m 0 c).before 18 t d))
    ∗ (∃ d, owns (c : Thread nD τ) (ms20 t) fullShare ((dats m 0 c).before 19 t d))
    ∗ (∃ d, owns (c : Thread nD τ) (ms21 t) fullShare ((dats m 0 c).before 20 t d)))
    ⊢ iprop(Phi m c t.val (Nat.le_of_lt t.isLt) ∗ (dats m 0 c).owesAt () t.castSucc ∗ insAt m c t
    ∗ (∃ d, owns (c : Thread nD τ) (ms17 t) fullShare ((dats m 0 c).before 16 t d))
    ∗ (∃ d, owns (c : Thread nD τ) (ms18 t) fullShare ((dats m 0 c).before 17 t d))
    ∗ (∃ d, owns (c : Thread nD τ) (ms19 t) fullShare ((dats m 0 c).before 18 t d))
    ∗ (∃ d, owns (c : Thread nD τ) (ms20 t) fullShare ((dats m 0 c).before 19 t d))
    ∗ (∃ d, owns (c : Thread nD τ) (ms21 t) fullShare ((dats m 0 c).before 20 t d))) := by
  rw [Phi_castSucc]
  unfold insAt ins
  iintro ⟨HP, Hw, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, Ho⟩
  isplitl [HP]; · iexact HP
  isplitl [Hw]; · iexact Hw
  isplitl [H1 H2 H3 H4 H5 H6 H7 H8 H9 H10 H11 H12 H13 H14 H15 H16]
  · isplitl [H1]; · rw [before0_0_of m (dats m 0 c) rfl (fun _ => rfl)]; iexact H1
    isplitl [H2]; · rw [before0_1_of m (dats m 0 c) rfl (fun _ => rfl)]; iexact H2
    isplitl [H3]; · rw [before0_2_of m (dats m 0 c) rfl (fun _ => rfl)]; iexact H3
    isplitl [H4]; · rw [before0_3_of m (dats m 0 c) rfl (fun _ => rfl)]; iexact H4
    isplitl [H5]; · rw [before0_4_of m (dats m 0 c) rfl (fun _ => rfl)]; iexact H5
    isplitl [H6]; · rw [before0_5_of m (dats m 0 c) rfl (fun _ => rfl)]; iexact H6
    isplitl [H7]; · rw [before0_6_of m (dats m 0 c) rfl (fun _ => rfl)]; iexact H7
    isplitl [H8]; · rw [before0_7_of m (dats m 0 c) rfl (fun _ => rfl)]; iexact H8
    isplitl [H9]; · rw [before0_8_of m (dats m 0 c) rfl (fun _ => rfl)]; iexact H9
    isplitl [H10]; · rw [before0_9_of m (dats m 0 c) rfl (fun _ => rfl)]; iexact H10
    isplitl [H11]; · rw [before0_10_of m (dats m 0 c) rfl (fun _ => rfl)]; iexact H11
    isplitl [H12]; · rw [before0_11_of m (dats m 0 c) rfl (fun _ => rfl)]; iexact H12
    isplitl [H13]; · rw [before0_12_of m (dats m 0 c) rfl (fun _ => rfl)]; iexact H13
    isplitl [H14]; · rw [before0_13_of m (dats m 0 c) rfl (fun _ => rfl)]; iexact H14
    isplitl [H15]; · rw [before0_14_of m (dats m 0 c) rfl (fun _ => rfl)]; iexact H15
    rw [before0_15_of m (dats m 0 c) rfl (fun _ => rfl)]; iexact H16
  iexact Ho

set_option maxHeartbeats 8000000 in
theorem scatter (t : Fin cfg0.N) :
    iprop(Phi m c (t.val + 1) t.isLt ∗ (dats m 0 c).owesAt () t.castSucc ∗ insAt m c t
      ∗ owns (c : Thread nD τ) (ms17 t) fullShare (outO m c t) ∗ owns (c : Thread nD τ) (ms18 t) fullShare (outW m c t) ∗ owns (c : Thread nD τ) (ms19 t) fullShare (newRe m c) ∗ owns (c : Thread nD τ) (ms20 t) fullShare (newIm m c) ∗ owns (c : Thread nD τ) (ms21 t) fullShare (newHist m c))
    ⊢ iprop((dats m 0 c).Φ t.succ ∗ (dats m 0 c).owesAt () t.succ
    ∗ owns (c : Thread nD τ) (ms1 t) fullShare ((dats m 0 c).after 0 t)
    ∗ owns (c : Thread nD τ) (ms2 t) fullShare ((dats m 0 c).after 1 t)
    ∗ owns (c : Thread nD τ) (ms3 t) fullShare ((dats m 0 c).after 2 t)
    ∗ owns (c : Thread nD τ) (ms4 t) fullShare ((dats m 0 c).after 3 t)
    ∗ owns (c : Thread nD τ) (ms5 t) fullShare ((dats m 0 c).after 4 t)
    ∗ owns (c : Thread nD τ) (ms6 t) fullShare ((dats m 0 c).after 5 t)
    ∗ owns (c : Thread nD τ) (ms7 t) fullShare ((dats m 0 c).after 6 t)
    ∗ owns (c : Thread nD τ) (ms8 t) fullShare ((dats m 0 c).after 7 t)
    ∗ owns (c : Thread nD τ) (ms9 t) fullShare ((dats m 0 c).after 8 t)
    ∗ owns (c : Thread nD τ) (ms10 t) fullShare ((dats m 0 c).after 9 t)
    ∗ owns (c : Thread nD τ) (ms11 t) fullShare ((dats m 0 c).after 10 t)
    ∗ owns (c : Thread nD τ) (ms12 t) fullShare ((dats m 0 c).after 11 t)
    ∗ owns (c : Thread nD τ) (ms13 t) fullShare ((dats m 0 c).after 12 t)
    ∗ owns (c : Thread nD τ) (ms14 t) fullShare ((dats m 0 c).after 13 t)
    ∗ owns (c : Thread nD τ) (ms15 t) fullShare ((dats m 0 c).after 14 t)
    ∗ owns (c : Thread nD τ) (ms16 t) fullShare ((dats m 0 c).after 15 t)
    ∗ owns (c : Thread nD τ) (ms17 t) fullShare ((dats m 0 c).after 16 t)
    ∗ owns (c : Thread nD τ) (ms18 t) fullShare ((dats m 0 c).after 17 t)
    ∗ owns (c : Thread nD τ) (ms19 t) fullShare ((dats m 0 c).after 18 t)
    ∗ owns (c : Thread nD τ) (ms20 t) fullShare ((dats m 0 c).after 19 t)
    ∗ owns (c : Thread nD τ) (ms21 t) fullShare ((dats m 0 c).after 20 t)) := by
  rw [Phi_succ]
  unfold insAt ins
  iintro ⟨HP, Hw, ⟨H1, H2, H3, H4, H5, H6, H7, H8, H9, H10, H11, H12, H13, H14, H15, H16⟩, Ho⟩
  isplitl [HP]; · iexact HP
  isplitl [Hw]; · iexact Hw
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact Ho

/-- Stores that cover a buffer leave it at what they stored. -/
theorem stored {s : Shape} {e : EltTy} (a : Memref sig .tc .vmem s e) (L : List (View.Piece (Elt F) s e)) (h : ∀ y, ∃ p ∈ L, y ∈ p.1.set) :
    (iprop(∃ f, a.view.loc (c : Thread nD τ) ↦[a.view.set]{fullShare} a.view.writes (Elt F) f L) : sProp 𝕄)
      ⊢ owns (c : Thread nD τ) a fullShare (View.canon L) := by
  unfold owns
  iintro ⟨%f, Ho⟩
  iexists _; isplitr
  swap; · iexact Ho
  ipureintro; exact View.read_writes_eq_canon _ _ _ h

theorem keyA (K : PUnit → sProp 𝕄) :
    iprop(insAt m c t0 ∗ (∃ d, owns (c : Thread nD τ) (ms17 t0) fullShare d) ∗ (∃ d, owns (c : Thread nD τ) (ms18 t0) fullShare d) ∗ (∃ d, owns (c : Thread nD τ) (ms19 t0) fullShare d) ∗ (∃ d, owns (c : Thread nD τ) (ms20 t0) fullShare d) ∗ (∃ d, owns (c : Thread nD τ) (ms21 t0) fullShare d) ∗ (∃ d, owns (c : Thread nD τ) scY fullShare d) ∗ (∃ d, owns (c : Thread nD τ) scP fullShare d)
      ∗ (iprop(insAt m c t0 ∗ (owns (c : Thread nD τ) (ms17 t0) fullShare (outO m c t0) ∗ owns (c : Thread nD τ) (ms18 t0) fullShare (outW m c t0) ∗ owns (c : Thread nD τ) (ms19 t0) fullShare (newRe m c) ∗ owns (c : Thread nD τ) (ms20 t0) fullShare (newIm m c) ∗ owns (c : Thread nD τ) (ms21 t0) fullShare (newHist m c)) ∗ owns (c : Thread nD τ) scY fullShare (inY m c) ∗ owns (c : Thread nD τ) scP fullShare (inP m c)) -∗ K ⟨⟩))
    ⊢ wp frame (wpE (defs₀ (F := F)) Variants.none c none) Set.univ (bodyAt0 t0) K := by
  refine BIBase.Entails.trans ?_ ((rA m c t0 at0).2.2.2.2.2.2.2 Set.univ K)
  iintro ⟨Hi, H17, H18, H19, H20, H21, H22, H23, Hk⟩
  isplitl [Hi]; · iexact Hi
  isplitl [H17]; · iexact H17
  isplitl [H18]; · iexact H18
  isplitl [H19]; · iexact H19
  isplitl [H20]; · iexact H20
  isplitl [H21]; · iexact H21
  isplitl [H22]; · iexact H22
  isplitl [H23]; · iexact H23
  iintro ⟨Hi, H17, H18, H19, H20, H21, H22, H23⟩
  iapply Hk
  isplitl [Hi]; · iexact Hi
  isplitl [H17 H18 H19 H20 H21]
  · isplitl [H17]; · unfold outO; rw [dif_pos at0]; iapply (stored c (ms17 t0) _ (cover17 m c t0 at0)); iexact H17
    isplitl [H18]; · unfold outW; rw [dif_pos at0]; iapply (stored c (ms18 t0) _ (cover18 m c t0 at0)); iexact H18
    isplitl [H19]; · iapply (stored c (ms19 t0) _ (cover19 m c t0 at0)); iexact H19
    isplitl [H20]; · iapply (stored c (ms20 t0) _ (cover20 m c t0 at0)); iexact H20
    iapply (stored c (ms21 t0) _ (cover21 m c t0 at0)); iexact H21
  isplitl [H22]; · iapply (stored c scY _ (cover22 m c t0 at0)); iexact H22
  iapply (stored c scP _ (cover23 m c t0 at0)); iexact H23

theorem keyB (t : Fin cfg0.N) (h : ¬cond (grid0.coords t)) (K : PUnit → sProp 𝕄) :
    iprop(insAt m c t ∗ (∃ d, owns (c : Thread nD τ) (ms17 t) fullShare d) ∗ (∃ d, owns (c : Thread nD τ) (ms18 t) fullShare d) ∗ owns (c : Thread nD τ) scY fullShare (inY m c) ∗ owns (c : Thread nD τ) scP fullShare (inP m c)
      ∗ (iprop(insAt m c t ∗ (owns (c : Thread nD τ) (ms17 t) fullShare (outO m c t) ∗ owns (c : Thread nD τ) (ms18 t) fullShare (outW m c t)) ∗ owns (c : Thread nD τ) scY fullShare (inY m c) ∗ owns (c : Thread nD τ) scP fullShare (inP m c)) -∗ K ⟨⟩))
    ⊢ wp frame (wpE (defs₀ (F := F)) Variants.none c none) Set.univ (bodyAt0 t) K := by
  refine BIBase.Entails.trans ?_ ((rB m c t h (inY m c) (inP m c)).2.2 Set.univ K)
  unfold outO outW
  rw [dif_neg h, dif_neg h]
  iintro ⟨Hi, H17, H18, H22, H23, Hk⟩
  isplitl [Hi]; · iexact Hi
  isplitl [H17]; · iexact H17
  isplitl [H18]; · iexact H18
  isplitl [H22]; · iexact H22
  isplitl [H23]; · iexact H23
  iintro ⟨Hi, H17, H18, Hs⟩
  iapply Hk
  isplitl [Hi]; · iexact Hi
  isplitl [H17 H18]
  · isplitl [H17]; · iapply (stored c (ms17 t) _ (coverB17 m c t h _ _)); iexact H17
    iapply (stored c (ms18 t) _ (coverB18 m c t h _ _)); iexact H18
  iexact Hs

set_option maxHeartbeats 8000000 in
/-- The body takes the point's buffers from the one state to the next. -/
theorem sound (t : Fin cfg0.N) :
    iprop(Phi m c t.val (Nat.le_of_lt t.isLt) ∗ (dats m 0 c).owesAt () t.castSucc ∗ insAt m c t
      ∗ (∃ d, owns (c : Thread nD τ) (ms17 t) fullShare ((dats m 0 c).before 16 t d)) ∗ (∃ d, owns (c : Thread nD τ) (ms18 t) fullShare ((dats m 0 c).before 17 t d)) ∗ (∃ d, owns (c : Thread nD τ) (ms19 t) fullShare ((dats m 0 c).before 18 t d)) ∗ (∃ d, owns (c : Thread nD τ) (ms20 t) fullShare ((dats m 0 c).before 19 t d)) ∗ (∃ d, owns (c : Thread nD τ) (ms21 t) fullShare ((dats m 0 c).before 20 t d)))
    ⊢ wp frame (wpE (defs₀ (F := F)) Variants.none c none) Set.univ (bodyAt0 t) (fun _ =>
      iprop(Phi m c (t.val + 1) t.isLt ∗ (dats m 0 c).owesAt () t.castSucc ∗ insAt m c t
      ∗ owns (c : Thread nD τ) (ms17 t) fullShare (outO m c t) ∗ owns (c : Thread nD τ) (ms18 t) fullShare (outW m c t) ∗ owns (c : Thread nD τ) (ms19 t) fullShare (newRe m c) ∗ owns (c : Thread nD τ) (ms20 t) fullShare (newIm m c) ∗ owns (c : Thread nD τ) (ms21 t) fullShare (newHist m c))) := by
  rw [Phi_succ']
  by_cases h0 : t.val = 0
  · obtain rfl : t = t0 := Fin.ext h0
    show iprop(Phi m c 0 _ ∗ _) ⊢ _
    rw [show Phi m c 0 _ = Pipeline.ΦA spec0 c from rfl, PhiA_eq]
    iintro ⟨⟨⟨H22, H23⟩, Hg⟩, Hw, Hi, ⟨%d17, H17⟩, ⟨%d18, H18⟩, ⟨%d19, H19⟩, ⟨%d20, H20⟩, ⟨%d21, H21⟩⟩
    iapply (keyA m c _)
    isplitl [Hi]; · iexact Hi
    isplitl [H17]; · iexists _; iexact H17
    isplitl [H18]; · iexists _; iexact H18
    isplitl [H19]; · iexists _; iexact H19
    isplitl [H20]; · iexists _; iexact H20
    isplitl [H21]; · iexists _; iexact H21
    isplitl [H22]; · iexact H22
    isplitl [H23]; · iexact H23
    iintro ⟨Hi, Ho, Hs⟩
    isplitl [Hs Hg]
    · isplitl [Hs]; · iexact Hs
      iexact Hg
    isplitl [Hw]; · iexact Hw
    isplitl [Hi]; · iexact Hi
    iexact Ho
  have hc : ¬cond (grid0.coords t) := fun k => h0 ((cond_iff t).mp k)
  have h1 : t.val - 1 = 0 := by have h2 : t.val < 2 := t.isLt; omega
  have e18 := fun d => before_kept m c 18 rfl t h0 (Bool.eq_false_iff.mpr fun hf => by have := (flush0_18 _).mp hf; simp only [h1] at this; omega) (live18 _ h1) (fun _ _ => rfl) d
  have e19 := fun d => before_kept m c 19 rfl t h0 (Bool.eq_false_iff.mpr fun hf => by have := (flush0_19 _).mp hf; simp only [h1] at this; omega) (live19 _ h1) (fun _ _ => rfl) d
  have e20 := fun d => before_kept m c 20 rfl t h0 (Bool.eq_false_iff.mpr fun hf => by have := (flush0_20 _).mp hf; simp only [h1] at this; omega) (live20 _ h1) (fun _ _ => rfl) d
  rw [show Phi m c t.val _ = Phi m c (t.val - 1 + 1) (by have := t.isLt; omega) by congr 1; omega, Phi_succ']
  iintro ⟨⟨⟨H22, H23⟩, Hg⟩, Hw, Hi, ⟨%d17, H17⟩, ⟨%d18, H18⟩, ⟨%d19, H19⟩, ⟨%d20, H20⟩, ⟨%d21, H21⟩⟩
  rw [e18, e19, e20]
  iapply (keyB m c t hc _)
  isplitl [Hi]; · iexact Hi
  isplitl [H17]; · iexists _; iexact H17
  isplitl [H18]; · iexists _; iexact H18
  isplitl [H22]; · iexact H22
  isplitl [H23]; · iexact H23
  iintro ⟨Hi, ⟨H17, H18⟩, Hs⟩
  isplitl [Hs Hg]
  · isplitl [Hs]; · iexact Hs
    iexact Hg
  isplitl [Hw]; · iexact Hw
  isplitl [Hi]; · iexact Hi
  isplitl [H17]; · iexact H17
  isplitl [H18]; · iexact H18
  isplitl [H19]; · iexact H19
  isplitl [H20]; · iexact H20
  iexact H21

/-! ## The launch -/

theorem defs₀_row (t : Fin cfg0.N) : defs₀ (F := F) .tc cfg0.body (cfg0.bodyArgs t (cfg0.slots t)) = bodyAt0 t := by
  unfold defs₀; rw [Defs.onTc_tc]

/-- The body leaves an output as the proof data says where it stores into it, and where the output is written back. -/
theorem leaves (w : Fin cfg0.W) (t : Fin cfg0.N) (P Q : sProp 𝕄) (h : cfg0.idle w (cfg0.grid.coords t) = false ∨ (cfg0.win w).flush t = true) :
    Q ⊢ (match cfg0.idle w (cfg0.grid.coords t) with
      | true => match (cfg0.win w).flush t with
        | false => P
        | true => Q
      | false => Q) := by
  rcases h with h | h
  · rw [h]
  · rw [h]; cases cfg0.idle w (cfg0.grid.coords t) <;> exact Entails.refl _

theorem body_obligation (c : Dev nD) : BodyObligation (dats (F := F) m 0 c) (defs₀ (F := F)) Variants.none () Set.univ := fun t => by
  rw [bigSep_W0, bigSep_W0, defs₀_row]
  have hor : ∀ n, n < 2 → n = 0 ∨ n % 2 = 1 := fun n hn => by omega
  have l18 := (hor t.val t.isLt).imp (live18 t) (flush0_18 t).mpr
  have l19 := (hor t.val t.isLt).imp (live19 t) (flush0_19 t).mpr
  have l20 := (hor t.val t.isLt).imp (live20 t) (flush0_20 t).mpr
  refine triple_restated (sound m c t) rfl (gather m c t) fun _ => (scatter m c t).trans ?_
  iintro ⟨HP, Hw, H1, H2, H3, H4, H5, H6, H7, H8, H9, H10, H11, H12, H13, H14, H15, H16, H17, H18, H19, H20, H21⟩
  isplitl [HP]; · iexact HP
  isplitl [Hw]; · iexact Hw
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iapply (leaves 18 t _ _ l18); iexact H19
  isplitl [H20]; · iapply (leaves 19 t _ _ l19); iexact H20
  iapply (leaves 20 t _ _ l20); iexact H21

theorem hin (c : Dev nD) : Pipeline.ΦA spec0 c ⊢ (dats m 0 c).Φ 0 := Entails.refl _

theorem hout (c : Dev nD) : (dats m 0 c).Φ (Fin.last cfg0.N) ⊢ Pipeline.ΦA spec0 c := by
  rw [show (dats m 0 c).Φ (Fin.last cfg0.N) = Phi m c (1 + 1) (show 1 + 1 ≤ cfg0.N from Nat.le_refl 2) from rfl, PhiA_eq, Phi_succ' m c 1 (show 1 + 1 ≤ cfg0.N from Nat.le_refl 2)]
  iintro ⟨⟨Hy, Hp⟩, Hg⟩
  isplitl [Hy Hp]
  · isplitl [Hy]; · iexists _; iexact Hy
    iexists _; iexact Hp
  iexact Hg

set_option backward.isDefEq.respectTransparency.types false in
/-- Every run ends, with the arrays at what the proof data says and every semaphore at zero. -/
theorem run : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun _ _ => ite_self _)
    (howed := fun _ _ => rfl) (V := V m) (hmain := hmain m Variants.none) (hA := A_eq m) (hin := hin m) (hout := hout m)

end Cert.Kernel4Ideal.Mix
-- ==== Proof.MixValue.lean ====
/-
  The decoding step's new states and new history, entry by entry.
-/
module

public import proofs.«01_k».proof.Proof.MixHost
public import proofs.«01_k».proof.Proof.MixStores
public import proofs.«01_k».proof.Proof.MixFrame

@[expose] public section
set_option maxRecDepth 16384
noncomputable section
namespace Cert.Kernel4Ideal.Mix
open Idealize.ShloMosaic Idealize.ShloMosaic.TcCoe Idealize.SL.Sem
open Cert.Kernel4Ideal Cert.Kernel4Ideal.Gen Cert.Stores

/-- One group of eight's step, at one number: the drive is a product with all 128 features of the group. -/
theorem pay9_apply (u : Vec Ideal S128x128 .f32) (w : Vec Ideal S1x128x1024 .bf16) (ar ai : Vec Ideal S1x1x512 .f32) (sr si : Vec Ideal S128x512 .f32)
    (r : Fin 128) (q : Fin 512) : k0_pay9 u w ar ai sr si (ix2 r q)
      = (ar (ix3 0 0 q) * sr (ix2 r q) - ai (ix3 0 0 q) * si (ix2 r q)) + ∑ k : Fin 128, u (ix2 r k) * w (ix3 0 k ⟨q.val, by omega⟩) := by
  pointwise [k0_pay9, k0_pay4, k0_pay5, k0_pay6, k0_pay7, k0_pay8]
theorem pay10_apply (u : Vec Ideal S128x128 .f32) (w : Vec Ideal S1x128x1024 .bf16) (ar ai : Vec Ideal S1x1x512 .f32) (sr si : Vec Ideal S128x512 .f32)
    (r : Fin 128) (q : Fin 512) : k0_pay10 u w ar ai sr si (ix2 r q)
      = (ar (ix3 0 0 q) * si (ix2 r q) + ai (ix3 0 0 q) * sr (ix2 r q)) + ∑ k : Fin 128, u (ix2 r k) * w (ix3 0 k ⟨512 + q.val, by omega⟩) := by
  pointwise [k0_pay10, k0_pay4, k0_pay5, k0_pay6, k0_pay7, k0_pay8]

/-- Of a product with a block-diagonal matrix only the group's own sixteen terms remain. -/
theorem drive (B : Vec Ideal S64x64x16 .f32) (u : Fin 128 → EReal) (o : Fin 8) (q : Fin 512) :
    ∑ k : Fin 128, u k * octet B (ix3 o k q)
      = ∑ p : Fin 16, u ⟨16 * (q.val / 64) + p.val, by omega⟩ * B (ix3 ⟨8 * o.val + q.val / 64, by omega⟩ ⟨q.val % 64, by omega⟩ p) := by
  let e : Fin 16 → Fin 128 := fun p => ⟨16 * (q.val / 64) + p.val, by omega⟩
  have hi : Function.Injective e := fun a b h => Fin.ext (by have := congrArg Fin.val h; simp only [e] at this; omega)
  refine ((Finset.sum_subset (Finset.subset_univ (Finset.univ.image e)) fun k _ hk => ?_).symm.trans (Finset.sum_image fun a _ b _ h => hi h)).trans
    (Finset.sum_congr rfl fun p _ => ?_)
  · rw [octet_apply, if_neg fun h => hk (Finset.mem_image.mpr ⟨⟨k.val % 16, by omega⟩, Finset.mem_univ _, Fin.ext (by simp only [e]; omega)⟩), mul_zero]
  · rw [octet_apply, if_pos (by simp only [e]; omega)]
    exact congrArg (fun z => u (e p) * B (ix3 _ _ z)) (Fin.ext (by show (16 * (q.val / 64) + p.val) % 16 = p.val; omega))

variable (m : (ℓ : Loc nD τ sig) → Buf (Elt Ideal) ℓ) (c : Dev nD)

/-- The state one step on: the group's pole times the state, plus the input matrix on the group's sixteen features. -/
def stepRe (r : Fin 128) (g n : Fin 64) : EReal :=
  (aRe m c (ix2 g n) * A4 m c (ix3 r g n) - aIm m c (ix2 g n) * A5 m c (ix3 r g n))
    + ∑ p : Fin 16, A3 m c (ix2 r ⟨16 * g.val + p.val, by omega⟩) * bRe m c (ix3 g n p)
def stepIm (r : Fin 128) (g n : Fin 64) : EReal :=
  (aRe m c (ix2 g n) * A5 m c (ix3 r g n) + aIm m c (ix2 g n) * A4 m c (ix3 r g n))
    + ∑ p : Fin 16, A3 m c (ix2 r ⟨16 * g.val + p.val, by omega⟩) * bIm m c (ix3 g n p)
def outRe : Vec Ideal S128x4096 .f32 := fun y => stepRe m c (y 0) ⟨(y 1).val / 64, by have h : (y 1).val < 4096 := (y 1).isLt; omega⟩ ⟨(y 1).val % 64, by omega⟩
def outIm : Vec Ideal S128x4096 .f32 := fun y => stepIm m c (y 0) ⟨(y 1).val / 64, by have h : (y 1).val < 4096 := (y 1).isLt; omega⟩ ⟨(y 1).val % 64, by omega⟩
/-- The history moves up by one row, and its last row is the pooling half of the features. -/
def outHist : Vec Ideal S15x128x1024 .f32 := fun y =>
  if h : (y 0).val < 14 then A6 m c (ix3 (y 1) ⟨(y 0).val + 1, by omega⟩ (y 2)) else A3 m c (ix2 (y 1) ⟨1024 + (y 2).val, by have h : (y 2).val < 1024 := (y 2).isLt; show 1024 + (y 2).val < 2048; omega⟩)

theorem emb_cols (o : Fin 8) (r : Fin 128) (q : Fin 512) : (cols o).emb (ix2 r q) = ix2 r ⟨512 * o.val + q.val, by omega⟩ := by
  funext a
  match a with
  | ⟨0, _⟩ => exact Fin.ext (by show 0 + 1 * r.val = r.val; omega)
  | ⟨1, _⟩ => exact Fin.ext (by show 512 * o.val + 1 * q.val = 512 * o.val + q.val; omega)
theorem emb_feats (o : Fin 8) (r k : Fin 128) : (feats o).emb (ix2 r k) = ix2 r ⟨128 * o.val + k.val, by omega⟩ := by
  funext a
  match a with
  | ⟨0, _⟩ => exact Fin.ext (by show 0 + 1 * r.val = r.val; omega)
  | ⟨1, _⟩ => exact Fin.ext (by show 128 * o.val + 1 * k.val = 128 * o.val + k.val; omega)
theorem emb_slab (o : Fin 8) (k : Fin 128) (q : Fin 1024) : (slab o).emb (ix3 0 k q) = ix3 o k q := by
  funext a
  match a with
  | ⟨0, _⟩ => exact Fin.ext (by show o.val + 1 * 0 = o.val; omega)
  | ⟨1, _⟩ => exact Fin.ext (by show 0 + 1 * k.val = k.val; omega)
  | ⟨2, _⟩ => exact Fin.ext (by show 0 + 1 * q.val = q.val; omega)
theorem emb_pole (o : Fin 8) (z : Fin 4) (q : Fin 512) : (pole o z).emb (ix3 0 0 q) = ix3 o z q := by
  funext a
  match a with
  | ⟨0, _⟩ => exact Fin.ext (by show o.val + 1 * 0 = o.val; omega)
  | ⟨1, _⟩ => exact Fin.ext (by show z.val + 1 * 0 = z.val; omega)
  | ⟨2, _⟩ => exact Fin.ext (by show 0 + 1 * q.val = q.val; omega)

/-! ## What the step reads for one group of eight -/

theorem group_eq (o : Fin 8) (q : Fin 512) : (⟨(512 * o.val + q.val) / 64, by omega⟩ : Fin 64) = ⟨8 * o.val + q.val / 64, by omega⟩ := Fin.ext (by show (512 * o.val + q.val) / 64 = 8 * o.val + q.val / 64; omega)
theorem entry_eq (o : Fin 8) (q : Fin 512) : (⟨(512 * o.val + q.val) % 64, by omega⟩ : Fin 64) = ⟨q.val % 64, by omega⟩ := Fin.ext (by show (512 * o.val + q.val) % 64 = q.val % 64; omega)

section Reads
variable (t : Fin cfg0.N) (o : Fin 8) (r : Fin 128) (q : Fin 512)
theorem at3 (k : Fin 128) : ld (F := Ideal) (ms4 t) (hs4 t) (feats o) (iblk m c 3 t) (ix2 r k) = A3 m c (ix2 r ⟨128 * o.val + k.val, by omega⟩) :=
  (congrFun (ld_eq _ _ _ _) _).trans ((congrArg _ (emb_feats o r k)).trans (b3_eq m c t r _))
theorem at4 : ld (F := Ideal) (ms5 t) (hs5 t) (cols o) (iblk m c 4 t) (ix2 r q) = A4 m c (ix3 r ⟨8 * o.val + q.val / 64, by omega⟩ ⟨q.val % 64, by omega⟩) :=
  (congrFun (ld_eq _ _ _ _) _).trans ((congrArg _ (emb_cols o r q)).trans ((b4_eq m c t r _).trans
    (congrArg₂ (fun g n => A4 m c (ix3 r g n)) (group_eq o q) (entry_eq o q))))
theorem at5 : ld (F := Ideal) (ms6 t) (hs6 t) (cols o) (iblk m c 5 t) (ix2 r q) = A5 m c (ix3 r ⟨8 * o.val + q.val / 64, by omega⟩ ⟨q.val % 64, by omega⟩) :=
  (congrFun (ld_eq _ _ _ _) _).trans ((congrArg _ (emb_cols o r q)).trans ((b5_eq m c t r _).trans
    (congrArg₂ (fun g n => A5 m c (ix3 r g n)) (group_eq o q) (entry_eq o q))))
theorem at6_re (k : Fin 128) : ld (F := Ideal) (ms7 t) (hs7 t) (slab o) (iblk m c 6 t) (ix3 0 k ⟨q.val, by omega⟩) = octet (bRe m c) (ix3 o k q) :=
  (congrFun (ld_eq _ _ _ _) _).trans ((congrArg _ (emb_slab o k _)).trans (b6_re m c t o k q))
theorem at6_im (k : Fin 128) : ld (F := Ideal) (ms7 t) (hs7 t) (slab o) (iblk m c 6 t) (ix3 0 k ⟨512 + q.val, by omega⟩) = octet (bIm m c) (ix3 o k q) :=
  (congrFun (ld_eq _ _ _ _) _).trans ((congrArg _ (emb_slab o k _)).trans (b6_im m c t o k q))
theorem at8_re : ld (F := Ideal) (ms9 t) (hs9 t) (pole o 0) (iblk m c 8 t) (ix3 0 0 q) = aRe m c (ix2 ⟨8 * o.val + q.val / 64, by omega⟩ ⟨q.val % 64, by omega⟩) :=
  (congrFun (ld_eq _ _ _ _) _).trans ((congrArg _ (emb_pole o 0 q)).trans (b8_re m c t o q))
theorem at8_im : ld (F := Ideal) (ms9 t) (hs9 t) (pole o 1) (iblk m c 8 t) (ix3 0 0 q) = aIm m c (ix2 ⟨8 * o.val + q.val / 64, by omega⟩ ⟨q.val % 64, by omega⟩) :=
  (congrFun (ld_eq _ _ _ _) _).trans ((congrArg _ (emb_pole o 1 q)).trans (b8_im m c t o q))
/-- The drive, as the group's own sixteen terms. -/
theorem drive_at (B : Vec Ideal S64x64x16 .f32) :
    ∑ k : Fin 128, A3 m c (ix2 r ⟨128 * o.val + k.val, by omega⟩) * octet B (ix3 o k q)
      = ∑ p : Fin 16, A3 m c (ix2 r ⟨16 * (8 * o.val + q.val / 64) + p.val, by omega⟩) * B (ix3 ⟨8 * o.val + q.val / 64, by omega⟩ ⟨q.val % 64, by omega⟩ p) :=
  (drive B (fun k => A3 m c (ix2 r ⟨128 * o.val + k.val, by omega⟩)) o q).trans (Finset.sum_congr rfl fun p _ =>
    congrArg (fun z => A3 m c (ix2 r z) * B (ix3 ⟨8 * o.val + q.val / 64, by omega⟩ ⟨q.val % 64, by omega⟩ p))
      (Fin.ext (by show 128 * o.val + (16 * (q.val / 64) + p.val) = 16 * (8 * o.val + q.val / 64) + p.val; omega)))
end Reads

theorem pieceRe (o : Fin 8) (x : S128x512.Idx) : partRe (F := Ideal) (ms4 t0) (hs4 t0) (ms5 t0) (hs5 t0) (ms6 t0) (hs6 t0) (ms7 t0) (hs7 t0) (ms9 t0) (hs9 t0) (iblk m c 3 t0) (iblk m c 4 t0) (iblk m c 5 t0) (iblk m c 6 t0) (iblk m c 8 t0) o x = outRe m c ((cols o).emb x) := by
  obtain ⟨r, q, rfl⟩ : ∃ (r : Fin 128) (q : Fin 512), x = ix2 r q := ⟨x 0, x 1, eq_ix2 x⟩
  rw [emb_cols]
  refine Eq.trans ?_ (congrArg₂ (stepRe m c r) (group_eq o q) (entry_eq o q)).symm
  simp only [partRe, pay9_apply, at3, at4, at5, at6_re, at8_re, at8_im]
  exact congrArg _ (drive_at m c o r q (bRe m c))
theorem pieceIm (o : Fin 8) (x : S128x512.Idx) : partIm (F := Ideal) (ms4 t0) (hs4 t0) (ms5 t0) (hs5 t0) (ms6 t0) (hs6 t0) (ms7 t0) (hs7 t0) (ms9 t0) (hs9 t0) (iblk m c 3 t0) (iblk m c 4 t0) (iblk m c 5 t0) (iblk m c 6 t0) (iblk m c 8 t0) o x = outIm m c ((cols o).emb x) := by
  obtain ⟨r, q, rfl⟩ : ∃ (r : Fin 128) (q : Fin 512), x = ix2 r q := ⟨x 0, x 1, eq_ix2 x⟩
  rw [emb_cols]
  refine Eq.trans ?_ (congrArg₂ (stepIm m c r) (group_eq o q) (entry_eq o q)).symm
  simp only [partIm, pay10_apply, at3, at4, at5, at6_im, at8_re, at8_im]
  exact congrArg _ (drive_at m c o r q (bIm m c))

theorem newRe_eq : newRe m c = outRe m c := by
  funext y
  exact (storesRe (F := Ideal) c (grid0.coords t0) (ms1 t0) (hs1 t0) (ms2 t0) (hs2 t0) (ms3 t0) (hs3 t0) (ms4 t0) (hs4 t0) (ms5 t0) (hs5 t0) (ms6 t0) (hs6 t0) (ms7 t0) (hs7 t0) (ms8 t0) (hs8 t0) (ms9 t0) (hs9 t0) (ms10 t0) (hs10 t0) (ms11 t0) (hs11 t0) (ms12 t0) (hs12 t0) (ms13 t0) (hs13 t0) (ms14 t0) (hs14 t0) (ms15 t0) (hs15 t0) (ms16 t0) (hs16 t0) (ms17 t0) (hs17 t0) (ms18 t0) (hs18 t0) (ms19 t0) (hs19 t0) (ms20 t0) (hs20 t0) (ms21 t0) (hs21 t0) scY (Memref.isWhole_whole _) scP (Memref.isWhole_whole _) (iblk m c 0 t0) (X0_1 m c t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) at0).canon (outRe m c) (pieceRe m c) y (by have h : (y 1).val < 4096 := (y 1).isLt; omega)
theorem newIm_eq : newIm m c = outIm m c := by
  funext y
  exact (storesIm (F := Ideal) c (grid0.coords t0) (ms1 t0) (hs1 t0) (ms2 t0) (hs2 t0) (ms3 t0) (hs3 t0) (ms4 t0) (hs4 t0) (ms5 t0) (hs5 t0) (ms6 t0) (hs6 t0) (ms7 t0) (hs7 t0) (ms8 t0) (hs8 t0) (ms9 t0) (hs9 t0) (ms10 t0) (hs10 t0) (ms11 t0) (hs11 t0) (ms12 t0) (hs12 t0) (ms13 t0) (hs13 t0) (ms14 t0) (hs14 t0) (ms15 t0) (hs15 t0) (ms16 t0) (hs16 t0) (ms17 t0) (hs17 t0) (ms18 t0) (hs18 t0) (ms19 t0) (hs19 t0) (ms20 t0) (hs20 t0) (ms21 t0) (hs21 t0) scY (Memref.isWhole_whole _) scP (Memref.isWhole_whole _) (iblk m c 0 t0) (X0_1 m c t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) at0).canon (outIm m c) (pieceIm m c) y (by have h : (y 1).val < 4096 := (y 1).isLt; omega)

theorem emb_early (s : Fin 14) (r : Fin 128) (k : Fin 1024) : early.emb (ix3 s r k) = ix3 ⟨s.val, by omega⟩ r k := by
  funext a
  match a with
  | ⟨0, _⟩ => exact Fin.ext (by show 0 + 1 * s.val = s.val; omega)
  | ⟨1, _⟩ => exact Fin.ext (by show 0 + 1 * r.val = r.val; omega)
  | ⟨2, _⟩ => exact Fin.ext (by show 0 + 1 * k.val = k.val; omega)
theorem emb_later (s : Fin 14) (r : Fin 128) (k : Fin 1024) : later.emb (ix3 s r k) = ix3 ⟨s.val + 1, by omega⟩ r k := by
  funext a
  match a with
  | ⟨0, _⟩ => exact Fin.ext (by show 1 + 1 * s.val = s.val + 1; omega)
  | ⟨1, _⟩ => exact Fin.ext (by show 0 + 1 * r.val = r.val; omega)
  | ⟨2, _⟩ => exact Fin.ext (by show 0 + 1 * k.val = k.val; omega)
theorem emb_newest (r : Fin 128) (k : Fin 1024) : newest.emb (ix3 0 r k) = ix3 14 r k := by
  funext a
  match a with
  | ⟨0, _⟩ => rfl
  | ⟨1, _⟩ => exact Fin.ext (by show 0 + 1 * r.val = r.val; omega)
  | ⟨2, _⟩ => exact Fin.ext (by show 0 + 1 * k.val = k.val; omega)
theorem emb_pooled (r : Fin 128) (k : Fin 1024) : pooled.emb (ix2 r k) = ix2 r ⟨1024 + k.val, by omega⟩ := by
  funext a
  match a with
  | ⟨0, _⟩ => exact Fin.ext (by show 0 + 1 * r.val = r.val; omega)
  | ⟨1, _⟩ => exact Fin.ext (by show 1024 + 1 * k.val = 1024 + k.val; omega)
theorem pay99_apply (x : Vec Ideal S14x128x1024 .f32) (s : Fin 14) (r : Fin 128) (k : Fin 1024) : k0_pay99 x (ix3 s r k) = x (ix3 s r k) := by
  pointwise [k0_pay99]
theorem pay100_apply (x : Vec Ideal S128x1024 .f32) (r : Fin 128) (k : Fin 1024) : k0_pay100 x (ix3 0 r k) = x (ix2 r k) := by
  pointwise [k0_pay100]

theorem outHist_early (s : Fin 14) (r : Fin 128) (k : Fin 1024) : outHist m c (ix3 ⟨s.val, by omega⟩ r k) = A6 m c (ix3 r ⟨s.val + 1, by omega⟩ k) :=
  dif_pos s.isLt
theorem outHist_newest (r : Fin 128) (k : Fin 1024) : outHist m c (ix3 14 r k) = A3 m c (ix2 r ⟨1024 + k.val, by omega⟩) :=
  dif_neg (Nat.lt_irrefl 14)

theorem not_newest (s : Fin 15) (r : Fin 128) (k : Fin 1024) (h : s.val < 14) : (ix3 s r k : S15x128x1024.Idx) ∉ newest.set := fun hc => by
  rw [Rect.mem_set_unit] at hc
  have e : 14 ≤ s.val := (hc 0).1
  omega

/-- The two stores fill the history. -/
theorem canon_hist (P : Vec Ideal S1x128x1024 .f32) (Q : Vec Ideal S14x128x1024 .f32) (G : Vec Ideal S15x128x1024 .f32)
    (hP : ∀ (r : Fin 128) (k : Fin 1024), P (ix3 0 r k) = G (ix3 14 r k))
    (hQ : ∀ (s : Fin 14) (r : Fin 128) (k : Fin 1024), Q (ix3 s r k) = G (ix3 ⟨s.val, by omega⟩ r k)) :
    View.canon (Val := Elt Ideal) (s := S15x128x1024) (e := .f32) [⟨newest, P⟩, ⟨early, Q⟩] = G := by
  funext y
  obtain ⟨s, r, k, rfl⟩ : ∃ (s : Fin 15) (r : Fin 128) (k : Fin 1024), y = ix3 s r k := ⟨y 0, y 1, y 2, eq_ix3 y⟩
  by_cases h : s.val < 14
  · refine (View.canon_cons_of_not_mem (⟨newest, P⟩ : View.Piece (Elt Ideal) S15x128x1024 .f32) [⟨early, Q⟩] (not_newest s r k h)).trans ?_
    rw [show (ix3 s r k : S15x128x1024.Idx) = early.emb (ix3 ⟨s.val, h⟩ r k) from (emb_early ⟨s.val, h⟩ r k).symm]
    refine (View.canon_cons_emb _ _ _ _).trans ?_
    rw [emb_early]
    exact hQ ⟨s.val, h⟩ r k
  · obtain rfl : s = 14 := Fin.ext (by show s.val = 14; omega)
    rw [← emb_newest]
    refine (View.canon_cons_emb _ _ _ _).trans ?_
    rw [emb_newest]
    exact hP r k

theorem newHist_eq : newHist m c = outHist m c := by
  refine (congrArg View.canon (storesHist (F := Ideal) c (grid0.coords t0) (ms1 t0) (hs1 t0) (ms2 t0) (hs2 t0) (ms3 t0) (hs3 t0) (ms4 t0) (hs4 t0) (ms5 t0) (hs5 t0) (ms6 t0) (hs6 t0) (ms7 t0) (hs7 t0) (ms8 t0) (hs8 t0) (ms9 t0) (hs9 t0) (ms10 t0) (hs10 t0) (ms11 t0) (hs11 t0) (ms12 t0) (hs12 t0) (ms13 t0) (hs13 t0) (ms14 t0) (hs14 t0) (ms15 t0) (hs15 t0) (ms16 t0) (hs16 t0) (ms17 t0) (hs17 t0) (ms18 t0) (hs18 t0) (ms19 t0) (hs19 t0) (ms20 t0) (hs20 t0) (ms21 t0) (hs21 t0) scY (Memref.isWhole_whole _) scP (Memref.isWhole_whole _) (iblk m c 0 t0) (X0_1 m c t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) at0)).trans ?_
  refine canon_hist _ _ (outHist m c) (fun r k => ?_) fun s r k => ?_
  · rw [pay100_apply, ld_eq, outHist_newest]
    exact (congrArg _ (emb_pooled r k)).trans (b3_eq m c t0 r _)
  · rw [pay99_apply, ld_eq, outHist_early]
    exact (congrArg _ (emb_later s r k)).trans (b12_eq m c t0 _ r k)

attribute [local irreducible] newRe newIm newHist outRe outIm outHist

/-! ## The arrays after the run -/

theorem blk18 (t : Fin cfg0.N) (r : Fin 128) (j : Fin 4096) : ((cfg0.win 18).blk t).view.emb (ix2 r j) = (ix2 r j : S128x4096.Idx) := by
  blk_ext [idx t]
theorem blk19 (t : Fin cfg0.N) (r : Fin 128) (j : Fin 4096) : ((cfg0.win 19).blk t).view.emb (ix2 r j) = (ix2 r j : S128x4096.Idx) := by
  blk_ext [idx t]
theorem blk20 (t : Fin cfg0.N) (s : Fin 15) (r : Fin 128) (k : Fin 1024) : ((cfg0.win 20).blk t).view.emb (ix3 s r k) = (ix3 s r k : S15x128x1024.Idx) := by
  blk_ext [idx t]
theorem final18 : (dats m 0 c).arrAt 18 cfg0.N = outRe m c := by
  refine (dats m 0 c).arrAt_eq_of_covers 18 (outRe m c) (by decide +kernel) fun t _ y => ?_
  obtain ⟨r, j, rfl⟩ : ∃ (r : Fin 128) (j : Fin 4096), y = ix2 r j := ⟨y 0, y 1, eq_ix2 y⟩
  have e : (dats m 0 c).after 18 t = newRe m c := rfl
  rw [e, newRe_eq]
  exact (congrArg (outRe m c) (blk18 t r j)).symm
theorem final19 : (dats m 0 c).arrAt 19 cfg0.N = outIm m c := by
  refine (dats m 0 c).arrAt_eq_of_covers 19 (outIm m c) (by decide +kernel) fun t _ y => ?_
  obtain ⟨r, j, rfl⟩ : ∃ (r : Fin 128) (j : Fin 4096), y = ix2 r j := ⟨y 0, y 1, eq_ix2 y⟩
  have e : (dats m 0 c).after 19 t = newIm m c := rfl
  rw [e, newIm_eq]
  exact (congrArg (outIm m c) (blk19 t r j)).symm
theorem final20 : (dats m 0 c).arrAt 20 cfg0.N = outHist m c := by
  refine (dats m 0 c).arrAt_eq_of_covers 20 (outHist m c) (by decide +kernel) fun t _ y => ?_
  obtain ⟨s, r, k, rfl⟩ : ∃ (s : Fin 15) (r : Fin 128) (k : Fin 1024), y = ix3 s r k := ⟨y 0, y 1, y 2, eq_ix3 y⟩
  have e : (dats m 0 c).after 20 t = newHist m c := rfl
  rw [e, newHist_eq]
  exact (congrArg (outHist m c) (blk20 t s r k)).symm

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (frame_of m ρ (dats m) (A_eq m) ((θ_run defs _ _).mono (fun _ h => h.1) (run m ρ)))
    ((θ_run defs _ _).mono (fun _ h => h.2) (run m ρ))

/-- The program ends with the new states and history in its results, the arguments unchanged. -/
theorem value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v74_2) = outRe m c
      ∧ r.2.mem ((c.tc : Thread nD τ).loc main_v74_3) = outIm m c
      ∧ r.2.mem ((c.tc : Thread nD τ).loc main_v74_4) = outHist m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨((h.1.1 c).1 18).trans (final18 m c), ((h.1.1 c).1 19).trans (final19 m c), ((h.1.1 c).1 20).trans (final20 m c), h.2.1 c⟩)
    (θ_run_and (run m ρ) (frame m ρ))

end Cert.Kernel4Ideal.Mix
-- ==== Proof.lean ====
/-
  The certificate. The kernel programs and the references run to quiescence; the idealized kernels are the kernels, no
  operation rewritten; and over the extended reals the kernels' results are the references'. The first kernel is the
  mixer's input projection with the pooling heads (the state-space half of the projection, the pooled heads, the last
  sixteen rows of the pooling half); the second is the second feed-forward part with the final norm; the third is the
  first feed-forward part; the fourth is the decoding step's new states and history.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Gen.ReferenceIdeal.Run
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Read
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Read
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Read
public import proofs.«01_k».proof.Proof.Gen.Reference4Ideal.Run
public import Idealize.ShloMosaic.Adequacy
public import Idealize.ShloMosaic.Init
public import proofs.«01_k».proof.Proof.Fold
public import proofs.«01_k».proof.Proof.RefValue
public import proofs.«01_k».proof.Proof.FfnRef
public import proofs.«01_k».proof.Proof.FfnValue
public import proofs.«01_k».proof.Proof.Ffn1Ref
public import proofs.«01_k».proof.Proof.Ffn1Value
public import proofs.«01_k».proof.Proof.MixRef
public import proofs.«01_k».proof.Proof.MixSame
public import proofs.«01_k».proof.Proof.MixValue

@[expose] public section

noncomputable section

namespace Cert.Proof

open Idealize.ShloMosaic Idealize.SL.Sem Cert.KernelIdeal.Fold

/-- Indices of the pooled heads, by sequence, position, group and channel. -/
theorem ix_pool (i : (⟨2, ![8192, 1024]⟩ : Shape).Idx) : ∃ (n : Fin 4) (p : Fin 2048) (g : Fin 4) (d : Fin 256),
    i = ix2 ⟨n.val * 2048 + p.val, by omega⟩ ⟨g.val * 256 + d.val, by omega⟩ := by
  have h0 : (i 0).val < 8192 := (i 0).isLt
  have h1 : (i 1).val < 1024 := (i 1).isLt
  refine ⟨⟨(i 0).val / 2048, by omega⟩, ⟨(i 0).val % 2048, by omega⟩, ⟨(i 1).val / 256, by omega⟩, ⟨(i 1).val % 256, by omega⟩, ?_⟩
  funext a
  match a with
  | ⟨0, _⟩ => exact Fin.ext (by show (i 0).val = (i 0).val / 2048 * 2048 + (i 0).val % 2048; omega)
  | ⟨1, _⟩ => exact Fin.ext (by show (i 1).val = (i 1).val / 256 * 256 + (i 1).val % 256; omega)

/-- The reference's three results are the kernel's, where the arguments agree. -/
theorem results (m : (ℓ : Loc Cert.KernelIdeal.nD Cert.KernelIdeal.τ Cert.KernelIdeal.sig) → Buf (Elt Ideal) ℓ) (c : Dev Cert.KernelIdeal.nD) :
    Cert.ReferenceIdeal.Read.val_main_v173 (F := Ideal) (A0 m c) (A1 m c) (A2 m c) (A3 m c) = Cert.KernelIdeal.Value.G8 m c
    ∧ Cert.ReferenceIdeal.Read.val_main_v175 (F := Ideal) (A0 m c) (A1 m c) (A2 m c) (A3 m c) (A4 m c) (A5 m c) (A6 m c) = Cert.KernelIdeal.Value.G9 m c
    ∧ Cert.ReferenceIdeal.Read.val_main_v176 (F := Ideal) (A0 m c) (A1 m c) (A2 m c) (A3 m c) = Cert.KernelIdeal.Value.G10 m c := by
  refine ⟨?_, ?_, ?_⟩
  · funext i
    obtain ⟨b, n, s, k, rfl⟩ : ∃ (b : Fin 256) (n : Fin 4) (s : Fin 8) (k : Fin 1024), i = ix4 b n s k := ⟨i 0, i 1, i 2, i 3, eq_ix4 i⟩
    exact (Cert.ReferenceIdeal.Read.out0_eq (A0 m c) (A1 m c) (A2 m c) (A3 m c) b n s k).trans (G8_apply m c b n s k).symm
  · funext i
    obtain ⟨n, p, g, d, rfl⟩ := ix_pool i
    exact (Cert.ReferenceIdeal.Read.out1_eq (A0 m c) (A1 m c) (A2 m c) (A3 m c) (A4 m c) (A5 m c) (A6 m c) n p g d).trans (G9_apply m c n p g d).symm
  · funext i
    obtain ⟨n, r, k, rfl⟩ : ∃ (n : Fin 4) (r : Fin 16) (k : Fin 1024), i = ix3 n r k := ⟨i 0, i 1, i 2, eq_ix3 i⟩
    exact (Cert.ReferenceIdeal.Read.out2_eq (A0 m c) (A1 m c) (A2 m c) (A3 m c) n r k).trans (G10_apply m c n r k).symm

theorem frame_reference : Cert.quiescent_ReferenceIdeal := fun m ρ _ =>
  (θ_run Cert.ReferenceIdeal.defs _ _).mono (fun _ h => ⟨fun c => (h c).2.2.2, funext fun s => nomatch s.2⟩) (Cert.ReferenceIdeal.Value.run (F := Ideal) m ρ)

theorem algebraic : Cert.algebraic_KernelIdeal_ReferenceIdeal := by
  intro m ρ m' ρ' _ hagree
  refine ⟨fun c => Cert.KernelIdeal.Value.G8 m c, fun c => Cert.KernelIdeal.Value.G9 m c, fun c => Cert.KernelIdeal.Value.G10 m c,
    Cert.KernelIdeal.Value.run m ρ, ?_⟩
  refine (θ_run Cert.ReferenceIdeal.defs _ _).mono (fun _ h c => ?_) (Cert.ReferenceIdeal.Value.run (F := Ideal) m' ρ')
  obtain ⟨h0, h1, h2, hrest⟩ := h c
  obtain ⟨a0, a1, a2, a3, a4, a5, a6⟩ := hagree c
  obtain ⟨e0, e1, e2⟩ := results m c
  have l0 : StableHlo.launchContents m' c (Proc.devRef .tc Cert.ReferenceIdeal.main_arg0) = A0 m c := a0
  have l1 : StableHlo.launchContents m' c (Proc.devRef .tc Cert.ReferenceIdeal.main_arg1) = A1 m c := a1
  have l2 : StableHlo.launchContents m' c (Proc.devRef .tc Cert.ReferenceIdeal.main_arg2) = A2 m c := a2
  have l3 : StableHlo.launchContents m' c (Proc.devRef .tc Cert.ReferenceIdeal.main_arg3) = A3 m c := a3
  have l4 : StableHlo.launchContents m' c (Proc.devRef .tc Cert.ReferenceIdeal.main_arg4) = A4 m c := a4
  have l5 : StableHlo.launchContents m' c (Proc.devRef .tc Cert.ReferenceIdeal.main_arg5) = A5 m c := a5
  have l6 : StableHlo.launchContents m' c (Proc.devRef .tc Cert.ReferenceIdeal.main_arg6) = A6 m c := a6
  refine ⟨h0.trans ?_, h1.trans ?_, h2.trans ?_, hrest⟩
  · rw [Cert.ReferenceIdeal.Read.val_main_v173_eq, l0, l1, l2, l3]
    exact e0
  · rw [Cert.ReferenceIdeal.Read.val_main_v175_eq, l0, l1, l2, l3, l4, l5, l6]
    exact e1
  · rw [Cert.ReferenceIdeal.Read.val_main_v176_eq, l0, l1, l2, l3]
    exact e2

/-! ## The second feed-forward part -/

/-- The two kernel programs are one text: their kernel functions are the same, by label. -/
theorem defs_eq2 : Cert.Kernel2Ideal.defs (F := Bits) = Cert.Kernel2.defs (F := Bits) :=
  congrArg (Pipeline.defs Cert.Kernel2.pcfgs) (congrArg Defs.onTc (funext fun p => funext fun a => match p, a with
    | 0, (_, _) => rfl))

/-- So the run over any float values serves both. -/
theorem frame_kernel2 : Cert.quiescent_Kernel2 := fun m ρ _ => by
  have h := Cert.Kernel2Ideal.Ffn.frame (F := Bits) m ρ
  rw [defs_eq2] at h
  exact h

theorem frame_kernel2Ideal : Cert.quiescent_Kernel2Ideal := fun m ρ _ => Cert.Kernel2Ideal.Ffn.frame (F := Ideal) m ρ

theorem frame_reference2 : Cert.quiescent_Reference2Ideal := fun m ρ _ =>
  (θ_run Cert.Reference2Ideal.defs _ _).mono (fun _ h => ⟨fun c => (h c).2, funext fun s => nomatch s.2⟩) (Cert.Reference2Ideal.Value.run (F := Ideal) m ρ)

/-- The reference's result is the kernel's, where the arguments agree. -/
theorem result2 (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v53 (F := Ideal) (Cert.Kernel2Ideal.Ffn.A0 m c) (Cert.Kernel2Ideal.Ffn.A1 m c) (Cert.Kernel2Ideal.Ffn.A2 m c)
      (Cert.Kernel2Ideal.Ffn.A3 m c) (Cert.Kernel2Ideal.Ffn.A4 m c) (Cert.Kernel2Ideal.Ffn.A5 m c) (Cert.Kernel2Ideal.Ffn.A6 m c)
      (Cert.Kernel2Ideal.Ffn.A7 m c) = Cert.Kernel2Ideal.Ffn.out m c := by
  funext i
  obtain ⟨R, k, rfl⟩ : ∃ (R : Fin 8192) (k : Fin 2048), i = ix2 R k := ⟨i 0, i 1, eq_ix2 i⟩
  exact Cert.Reference2Ideal.Read.result_eq _ _ _ _ _ _ _ _ R k

theorem algebraic2 : Cert.algebraic_Kernel2Ideal_Reference2Ideal := by
  intro m ρ m' ρ' _ hagree
  refine ⟨fun c => Cert.Kernel2Ideal.Ffn.out m c, Cert.Kernel2Ideal.Ffn.value m ρ, ?_⟩
  refine (θ_run Cert.Reference2Ideal.defs _ _).mono (fun _ h c => ?_) (Cert.Reference2Ideal.Value.run (F := Ideal) m' ρ')
  obtain ⟨h0, hrest⟩ := h c
  obtain ⟨a0, a1, a2, a3, a4, a5, a6, a7⟩ := hagree c
  refine ⟨h0.trans ?_, hrest⟩
  rw [Cert.Reference2Ideal.Read.val_main_v53_eq, a0, a1, a2, a3, a4, a5, a6, a7]
  exact result2 m c

/-! ## The first feed-forward part -/

/-- The two kernel programs are one text: their kernel functions are the same, by label. -/
theorem defs_eq3 : Cert.Kernel3Ideal.defs (F := Bits) = Cert.Kernel3.defs (F := Bits) :=
  congrArg (Pipeline.defs Cert.Kernel3.pcfgs) (congrArg Defs.onTc (funext fun p => funext fun a => match p, a with
    | 0, (_, _) => rfl))

/-- So the run over any float values serves both. -/
theorem frame_kernel3 : Cert.quiescent_Kernel3 := fun m ρ _ => by
  have h := Cert.Kernel3Ideal.Ffn.frame (F := Bits) m ρ
  rw [defs_eq3] at h
  exact h

theorem frame_kernel3Ideal : Cert.quiescent_Kernel3Ideal := fun m ρ _ => Cert.Kernel3Ideal.Ffn.frame (F := Ideal) m ρ

theorem frame_reference3 : Cert.quiescent_Reference3Ideal := fun m ρ _ =>
  (θ_run Cert.Reference3Ideal.defs _ _).mono (fun _ h => ⟨fun c => (h c).2, funext fun s => nomatch s.2⟩) (Cert.Reference3Ideal.Value.run (F := Ideal) m ρ)

/-- The reference's result is the kernel's, where the arguments agree. -/
theorem result3 (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v40 (F := Ideal) (Cert.Kernel3Ideal.Ffn.A0 m c) (Cert.Kernel3Ideal.Ffn.A1 m c) (Cert.Kernel3Ideal.Ffn.A2 m c)
      (Cert.Kernel3Ideal.Ffn.A3 m c) (Cert.Kernel3Ideal.Ffn.A4 m c) (Cert.Kernel3Ideal.Ffn.A5 m c) (Cert.Kernel3Ideal.Ffn.A7 m c) = Cert.Kernel3Ideal.Ffn.out m c := by
  funext i
  obtain ⟨R, k, rfl⟩ : ∃ (R : Fin 8192) (k : Fin 2048), i = ix2 R k := ⟨i 0, i 1, eq_ix2 i⟩
  exact Cert.Reference3Ideal.Read.result_eq _ _ _ _ _ _ _ R k

theorem algebraic3 : Cert.algebraic_Kernel3Ideal_Reference3Ideal := by
  intro m ρ m' ρ' _ hagree
  refine ⟨fun c => Cert.Kernel3Ideal.Ffn.out m c, Cert.Kernel3Ideal.Ffn.value m ρ, ?_⟩
  refine (θ_run Cert.Reference3Ideal.defs _ _).mono (fun _ h c => ?_) (Cert.Reference3Ideal.Value.run (F := Ideal) m' ρ')
  obtain ⟨h0, hrest⟩ := h c
  obtain ⟨a0, a1, a2, a3, a4, a5, _, a7⟩ := hagree c
  refine ⟨h0.trans ?_, hrest⟩
  rw [Cert.Reference3Ideal.Read.val_main_v40_eq, a0, a1, a2, a3, a4, a5, a7]
  exact result3 m c

/-! ## The decoding step -/

set_option maxHeartbeats 8000000 in
/-- The two kernel programs are one text, so the run over any float values serves both. -/
theorem frame_kernel4 : Cert.quiescent_Kernel4 := fun m ρ _ => by
  have h := Cert.Kernel4Ideal.Mix.frame (F := Bits) m ρ
  rw [defs_eq4] at h
  exact h

theorem frame_kernel4Ideal : Cert.quiescent_Kernel4Ideal := fun m ρ _ => Cert.Kernel4Ideal.Mix.frame (F := Ideal) m ρ

theorem frame_reference4 : Cert.quiescent_Reference4Ideal := fun m ρ _ =>
  (θ_run Cert.Reference4Ideal.defs _ _).mono (fun _ h => ⟨fun c => (h c).2.2.2, funext fun s => nomatch s.2⟩) (Cert.Reference4Ideal.Value.run (F := Ideal) m ρ)

/-- The reference's three results are the kernel's, where the arguments agree. -/
theorem results4 (m : (ℓ : Loc Cert.Kernel4Ideal.nD Cert.Kernel4Ideal.τ Cert.Kernel4Ideal.sig) → Buf (Elt Ideal) ℓ) (c : Dev Cert.Kernel4Ideal.nD) :
    Cert.Reference4Ideal.Read.val_main_v66 (F := Ideal) (Cert.Kernel4Ideal.Mix.A3 m c) (Cert.Kernel4Ideal.Mix.A4 m c) (Cert.Kernel4Ideal.Mix.A5 m c) (Cert.Kernel4Ideal.Mix.A7 m c) (Cert.Kernel4Ideal.Mix.A8 m c) (Cert.Kernel4Ideal.Mix.A9 m c) (Cert.Kernel4Ideal.Mix.A10 m c) (Cert.Kernel4Ideal.Mix.A11 m c) = Cert.Kernel4Ideal.Mix.outRe m c
    ∧ Cert.Reference4Ideal.Read.val_main_v67 (F := Ideal) (Cert.Kernel4Ideal.Mix.A3 m c) (Cert.Kernel4Ideal.Mix.A4 m c) (Cert.Kernel4Ideal.Mix.A5 m c) (Cert.Kernel4Ideal.Mix.A7 m c) (Cert.Kernel4Ideal.Mix.A8 m c) (Cert.Kernel4Ideal.Mix.A9 m c) (Cert.Kernel4Ideal.Mix.A10 m c) (Cert.Kernel4Ideal.Mix.A11 m c) = Cert.Kernel4Ideal.Mix.outIm m c
    ∧ Cert.Reference4Ideal.Read.val_main_v68 (F := Ideal) (Cert.Kernel4Ideal.Mix.A3 m c) (Cert.Kernel4Ideal.Mix.A6 m c) = Cert.Kernel4Ideal.Mix.outHist m c := by
  refine ⟨?_, ?_, ?_⟩
  · funext i
    obtain ⟨r, j, rfl⟩ : ∃ (r : Fin 128) (j : Fin 4096), i = ix2 r j := ⟨i 0, i 1, eq_ix2 i⟩
    rw [Cert.Reference4Ideal.Read.val_main_v66_apply, Cert.Reference4Ideal.Read.idx_flat]
    exact Cert.Reference4Ideal.Read.re_apply _ _ _ _ _ _ _ _ r _ _
  · funext i
    obtain ⟨r, j, rfl⟩ : ∃ (r : Fin 128) (j : Fin 4096), i = ix2 r j := ⟨i 0, i 1, eq_ix2 i⟩
    rw [Cert.Reference4Ideal.Read.val_main_v67_apply]
    exact (congrArg _ (Cert.Reference4Ideal.Read.idx_flat r j)).trans (Cert.Reference4Ideal.Read.im_apply _ _ _ _ _ _ _ _ r _ _)
  · funext i
    obtain ⟨s, r, k, rfl⟩ : ∃ (s : Fin 15) (r : Fin 128) (k : Fin 1024), i = ix3 s r k := ⟨i 0, i 1, i 2, eq_ix3 i⟩
    by_cases h : s.val < 14
    · exact (Cert.Reference4Ideal.Read.hist_early _ _ ⟨s.val, h⟩ r k).trans (Cert.Kernel4Ideal.Mix.outHist_early m c ⟨s.val, h⟩ r k).symm
    · obtain rfl : s = 14 := Fin.ext (by show s.val = 14; omega)
      exact (Cert.Reference4Ideal.Read.hist_newest _ _ r k).trans (Cert.Kernel4Ideal.Mix.outHist_newest m c r k).symm

theorem algebraic4 : Cert.algebraic_Kernel4Ideal_Reference4Ideal := by
  intro m ρ m' ρ' _ hagree
  refine ⟨fun c => Cert.Kernel4Ideal.Mix.outRe m c, fun c => Cert.Kernel4Ideal.Mix.outIm m c, fun c => Cert.Kernel4Ideal.Mix.outHist m c,
    Cert.Kernel4Ideal.Mix.value m ρ, ?_⟩
  refine (θ_run Cert.Reference4Ideal.defs _ _).mono (fun _ h c => ?_) (Cert.Reference4Ideal.Value.run (F := Ideal) m' ρ')
  obtain ⟨h0, h1, h2, hrest⟩ := h c
  obtain ⟨_, _, _, a3, a4, a5, a6, a7, a8, a9, a10, a11, _⟩ := hagree c
  obtain ⟨e0, e1, e2⟩ := results4 m c
  refine ⟨h0.trans ?_, h1.trans ?_, h2.trans ?_, hrest⟩
  · rw [Cert.Reference4Ideal.Read.val_main_v66_eq, a3, a4, a5, a7, a8, a9, a10, a11]
    exact e0
  · rw [Cert.Reference4Ideal.Read.val_main_v67_eq, a3, a4, a5, a7, a8, a9, a10, a11]
    exact e1
  · rw [Cert.Reference4Ideal.Read.val_main_v68_eq, a3, a6]
    exact e2

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  fun m ρ _ => Cert.Kernel.Gen.frame m ρ, fun m ρ _ => Cert.KernelIdeal.Gen.frame m ρ, frame_reference,
  frame_kernel2, frame_kernel2Ideal, frame_reference2,
  frame_kernel3, frame_kernel3Ideal, frame_reference3,
  frame_kernel4, frame_kernel4Ideal, frame_reference4, trivial, algebraic, trivial, algebraic2, trivial, algebraic3, trivial, algebraic4⟩

end Cert.Proof

end
